-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_MergeIdeal (m : (ℓ : Loc Cert.MergeIdeal.nD Cert.MergeIdeal.τ Cert.MergeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def preserves_Kernel_KernelIdeal : Prop :=
  IdealRules.named_const.Statement Cert.KernelIdeal.κ "score_scale" .f32 0x3E0293EE#32 (((Real.sqrt 128)⁻¹ * (Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Finish_FinishIdeal : Prop :=
  IdealRules.named_const.Statement Cert.FinishIdeal.κ "score_scale" .f32 0x3E0293EE#32 (((Real.sqrt 128)⁻¹ * (Real.log 2)⁻¹ : ℝ) : EReal)
  ∧ IdealRules.named_const.Statement Cert.FinishIdeal.κ "ln2" .f32 0x3F317218#32 ((Real.log 2 : ℝ) : EReal)

def algebraic_FinishIdeal_MergeIdeal [hFinishIdeal : Cert.FinishIdeal.Facts] [hMergeIdeal : Cert.MergeIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.MergeIdeal.nD Cert.MergeIdeal.τ Cert.MergeIdeal.sig) → Buf (Elt Ideal) ℓ) (g' : Dev Cert.MergeIdeal.nD → PrngReg), Pre_FinishIdeal m →
    (∀ c : Dev Cert.FinishIdeal.nD,
      m' ((c.tc : Thread Cert.MergeIdeal.nD Cert.MergeIdeal.τ).loc Cert.MergeIdeal.main_arg0) = m ((c.tc : Thread Cert.FinishIdeal.nD Cert.FinishIdeal.τ).loc Cert.FinishIdeal.main_arg0)
      ∧ m' ((c.tc : Thread Cert.MergeIdeal.nD Cert.MergeIdeal.τ).loc Cert.MergeIdeal.main_arg1) = m ((c.tc : Thread Cert.FinishIdeal.nD Cert.FinishIdeal.τ).loc Cert.FinishIdeal.main_arg1)
      ∧ m' ((c.tc : Thread Cert.MergeIdeal.nD Cert.MergeIdeal.τ).loc Cert.MergeIdeal.main_arg2) = m ((c.tc : Thread Cert.FinishIdeal.nD Cert.FinishIdeal.τ).loc Cert.FinishIdeal.main_arg2)
      ∧ m' ((c.tc : Thread Cert.MergeIdeal.nD Cert.MergeIdeal.τ).loc Cert.MergeIdeal.main_arg3) = m ((c.tc : Thread Cert.FinishIdeal.nD Cert.FinishIdeal.τ).loc Cert.FinishIdeal.main_arg3)
      ∧ m' ((c.tc : Thread Cert.MergeIdeal.nD Cert.MergeIdeal.τ).loc Cert.MergeIdeal.main_arg4) = m ((c.tc : Thread Cert.FinishIdeal.nD Cert.FinishIdeal.τ).loc Cert.FinishIdeal.main_arg4)
      ∧ m' ((c.tc : Thread Cert.MergeIdeal.nD Cert.MergeIdeal.τ).loc Cert.MergeIdeal.main_arg5) = m ((c.tc : Thread Cert.FinishIdeal.nD Cert.FinishIdeal.τ).loc Cert.FinishIdeal.main_arg5)
      ∧ m' ((c.tc : Thread Cert.MergeIdeal.nD Cert.MergeIdeal.τ).loc Cert.MergeIdeal.main_arg6) = m ((c.tc : Thread Cert.FinishIdeal.nD Cert.FinishIdeal.τ).loc Cert.FinishIdeal.main_arg6)
      ∧ m' ((c.tc : Thread Cert.MergeIdeal.nD Cert.MergeIdeal.τ).loc Cert.MergeIdeal.main_arg7) = m ((c.tc : Thread Cert.FinishIdeal.nD Cert.FinishIdeal.τ).loc Cert.FinishIdeal.main_arg7)) →
    ∃ (v0 : (c : Dev Cert.FinishIdeal.nD) → Buf (Elt Ideal) ((c.tc : Thread Cert.FinishIdeal.nD Cert.FinishIdeal.τ).loc Cert.FinishIdeal.main_v21)) (v1 : (c : Dev Cert.FinishIdeal.nD) → Buf (Elt Ideal) ((c.tc : Thread Cert.FinishIdeal.nD Cert.FinishIdeal.τ).loc Cert.FinishIdeal.main_v23)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v21) = v0 c
          ∧ r.2.mem ((c.tc : Thread Cert.FinishIdeal.nD Cert.FinishIdeal.τ).loc Cert.FinishIdeal.main_v23) = v1 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7))
      ∧ θ_run (Cert.MergeIdeal.defs (F := Ideal)) (onTc (τ := Cert.MergeIdeal.τ) (Cert.MergeIdeal.main (F := Ideal))) ⟨m', fun _ => 0, g'⟩ (fun r => ∀ c : Dev Cert.MergeIdeal.nD,
          r.2.mem ((c.tc : Thread Cert.MergeIdeal.nD Cert.MergeIdeal.τ).loc Cert.MergeIdeal.main_v35) = v0 c
          ∧ r.2.mem ((c.tc : Thread Cert.MergeIdeal.nD Cert.MergeIdeal.τ).loc Cert.MergeIdeal.main_v36) = v1 c
          ∧ r.2.mem ((c.tc : Thread Cert.MergeIdeal.nD Cert.MergeIdeal.τ).loc Cert.MergeIdeal.main_arg0) = m' ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m' ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m' ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m' ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m' ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m' ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m' ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m' ((c.tc : Thread Cert.MergeIdeal.nD Cert.MergeIdeal.τ).loc Cert.MergeIdeal.main_arg7))

def Claim : Prop :=
  ∃ (hKernel : Cert.Kernel.Facts) (hKernelIdeal : Cert.KernelIdeal.Facts) (hReferenceIdeal : Cert.ReferenceIdeal.Facts) (hFinish : Cert.Finish.Facts) (hFinishIdeal : Cert.FinishIdeal.Facts) (hMergeIdeal : Cert.MergeIdeal.Facts),
    quiescent_Kernel (hKernel := hKernel)
    ∧ quiescent_KernelIdeal (hKernelIdeal := hKernelIdeal)
    ∧ quiescent_ReferenceIdeal (hReferenceIdeal := hReferenceIdeal)
    ∧ quiescent_Finish (hFinish := hFinish)
    ∧ quiescent_FinishIdeal (hFinishIdeal := hFinishIdeal)
    ∧ quiescent_MergeIdeal (hMergeIdeal := hMergeIdeal)
    ∧ preserves_Kernel_KernelIdeal
    ∧ algebraic_KernelIdeal_ReferenceIdeal (hKernelIdeal := hKernelIdeal) (hReferenceIdeal := hReferenceIdeal)
    ∧ preserves_Finish_FinishIdeal
    ∧ algebraic_FinishIdeal_MergeIdeal (hFinishIdeal := hFinishIdeal) (hMergeIdeal := hMergeIdeal)
-- ==== Kernel.lean ====
abbrev S2x1024x32x128 : Shape := ⟨4, ![2, 1024, 32, 128]⟩
abbrev S2x1024x32 : Shape := ⟨3, ![2, 1024, 32]⟩
abbrev S49152x16x128 : Shape := ⟨3, ![49152, 16, 128]⟩
abbrev S49152x16 : Shape := ⟨2, ![49152, 16]⟩
abbrev S2048x32x128 : Shape := ⟨3, ![2048, 32, 128]⟩
abbrev S32x128x2048 : Shape := ⟨3, ![32, 128, 2048]⟩
abbrev S2048x32 : Shape := ⟨2, ![2048, 32]⟩
abbrev S32x2048 : Shape := ⟨2, ![32, 2048]⟩
abbrev S32x1x2048 : Shape := ⟨3, ![32, 1, 2048]⟩
abbrev S16x49152x128 : Shape := ⟨3, ![16, 49152, 128]⟩
abbrev S16x128x49152 : Shape := ⟨3, ![16, 128, 49152]⟩
abbrev S16x49152 : Shape := ⟨2, ![16, 49152]⟩
abbrev S16x1x49152 : Shape := ⟨3, ![16, 1, 49152]⟩
abbrev S2x128x2048 : Shape := ⟨3, ![2, 128, 2048]⟩
abbrev S2x1x2048 : Shape := ⟨3, ![2, 1, 2048]⟩
abbrev S1x4096x128 : Shape := ⟨3, ![1, 4096, 128]⟩
abbrev S1x128x4096 : Shape := ⟨3, ![1, 128, 4096]⟩
abbrev S1x1x4096 : Shape := ⟨3, ![1, 1, 4096]⟩
abbrev S4096x128 : Shape := ⟨2, ![4096, 128]⟩
abbrev S128x4096 : Shape := ⟨2, ![128, 4096]⟩
abbrev S2x2048 : Shape := ⟨2, ![2, 2048]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S1x1024x128 : Shape := ⟨3, ![1, 1024, 128]⟩
abbrev S1024x128 : Shape := ⟨2, ![1024, 128]⟩
abbrev S1024x512 : Shape := ⟨2, ![1024, 512]⟩
abbrev S512 : Shape := ⟨1, ![512]⟩
abbrev S128x1024 : Shape := ⟨2, ![128, 1024]⟩
abbrev S1x2048 : Shape := ⟨2, ![1, 2048]⟩
abbrev S1x1x2048 : Shape := ⟨3, ![1, 1, 2048]⟩
abbrev S1x128x2048 : Shape := ⟨3, ![1, 128, 2048]⟩
abbrev S128x2048 : Shape := ⟨2, ![128, 2048]⟩
abbrev S_ : Shape := ⟨0, ![]⟩

abbrev nBuf : Space → Nat
  | .hbm => 25
  | .vmem => 20
  | .smem => 0
  | _ => 0

abbrev bufTy : (tb : Table) → Fin (tcTables nBuf tb) → BufTy
  | .hbm, ⟨0, _⟩ => ⟨S2x1024x32x128, .fp8e4m3⟩
  | .hbm, ⟨1, _⟩ => ⟨S2x1024x32, .f32⟩
  | .hbm, ⟨2, _⟩ => ⟨S49152x16x128, .fp8e4m3⟩
  | .hbm, ⟨3, _⟩ => ⟨S49152x16x128, .fp8e4m3⟩
  | .hbm, ⟨4, _⟩ => ⟨S49152x16, .f32⟩
  | .hbm, ⟨5, _⟩ => ⟨S49152x16, .f32⟩
  | .hbm, ⟨6, _⟩ => ⟨S2048x32x128, .fp8e4m3⟩
  | .hbm, ⟨7, _⟩ => ⟨S32x128x2048, .fp8e4m3⟩
  | .hbm, ⟨8, _⟩ => ⟨S2048x32, .f32⟩
  | .hbm, ⟨9, _⟩ => ⟨S32x2048, .f32⟩
  | .hbm, ⟨10, _⟩ => ⟨S32x1x2048, .f32⟩
  | .hbm, ⟨11, _⟩ => ⟨S16x49152x128, .fp8e4m3⟩
  | .hbm, ⟨12, _⟩ => ⟨S16x128x49152, .fp8e4m3⟩
  | .hbm, ⟨13, _⟩ => ⟨S16x49152, .f32⟩
  | .hbm, ⟨14, _⟩ => ⟨S16x1x49152, .f32⟩
  | .hbm, ⟨15, _⟩ => ⟨S16x49152, .f32⟩
  | .hbm, ⟨16, _⟩ => ⟨S16x1x49152, .f32⟩
  | .hbm, ⟨17, _⟩ => ⟨S32x128x2048, .f32⟩
  | .hbm, ⟨18, _⟩ => ⟨S32x1x2048, .f32⟩
  | .hbm, ⟨19, _⟩ => ⟨S32x2048, .f32⟩
  | .hbm, ⟨20, _⟩ => ⟨S2048x32, .f32⟩
  | .hbm, ⟨21, _⟩ => ⟨S2x1024x32, .f32⟩
  | .hbm, ⟨22, _⟩ => ⟨S_, .f32⟩
  | .hbm, ⟨23, _⟩ => ⟨S2x1024x32, .f32⟩
  | .hbm, ⟨24, _⟩ => ⟨S2x1024x32, .f32⟩
  | .local _ .vmem, ⟨0, _⟩ => ⟨S2x128x2048, .fp8e4m3⟩
  | .local _ .vmem, ⟨1, _⟩ => ⟨S2x128x2048, .fp8e4m3⟩
  | .local _ .vmem, ⟨2, _⟩ => ⟨S2x1x2048, .f32⟩
  | .local _ .vmem, ⟨3, _⟩ => ⟨S2x1x2048, .f32⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x128x4096, .fp8e4m3⟩
  | .local _ .vmem, ⟨7, _⟩ => ⟨S1x128x4096, .fp8e4m3⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S2x128x2048, .f32⟩
  | .local _ .vmem, ⟨13, _⟩ => ⟨S2x128x2048, .f32⟩
  | .local _ .vmem, ⟨14, _⟩ => ⟨S2x1x2048, .f32⟩
  | .local _ .vmem, ⟨15, _⟩ => ⟨S2x1x2048, .f32⟩
  | .local _ .vmem, ⟨16, _⟩ => ⟨S4096x128, .f32⟩
  | .local _ .vmem, ⟨17, _⟩ => ⟨S128x4096, .bf16⟩
  | .local _ .vmem, ⟨18, _⟩ => ⟨S2x2048, .f32⟩
  | .local _ .vmem, ⟨19, _⟩ => ⟨S2x2048, .f32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 12], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32_12 : BitVec 32 := 0#32
  let c0_i32 : BitVec 32 := 0#32
  let c1_i32 : BitVec 32 := 1#32
  let arg14 : BitVec 32 := Scf.iv c0_i32 c1_i32 k0_t1
  let c1_i32_11 : BitVec 32 := 1#32
  let v9 : BitVec 32 := Scalar.muli arg14 c1_i32_11
  let v10 : BitVec 32 := Scalar.addi c0_i32_12 v9
  let c128_i32 : BitVec 32 := 128#32
  let v11 : BitVec 32 := Scalar.muli v10 c128_i32
  v11
def k0_off1 (k0_t1 : Fin k0_t1_loop.trips) : Fin 3 → Nat :=
  let c0 : Index := 0#32
  let c0_13 : Index := 0#32
  let c0_i32_12 : BitVec 32 := 0#32
  let c0_i32 : BitVec 32 := 0#32
  let c1_i32 : BitVec 32 := 1#32
  let arg14 : BitVec 32 := Scf.iv c0_i32 c1_i32 k0_t1
  let c1_i32_11 : BitVec 32 := 1#32
  let v9 : BitVec 32 := Scalar.muli arg14 c1_i32_11
  let v10 : BitVec 32 := Scalar.addi c0_i32_12 v9
  let c128_i32 : BitVec 32 := 128#32
  let v11 : BitVec 32 := Scalar.muli v10 c128_i32
  let v12 : BitVec 32 := v11
  let v13 : Index := Scalar.indexCast v12
  ![0, 0, v13.toNat]
def k0_off2 (k0_t1 : Fin k0_t1_loop.trips) : Fin 2 → Nat :=
  let c0_i32_12 : BitVec 32 := 0#32
  let c0_i32 : BitVec 32 := 0#32
  let c1_i32 : BitVec 32 := 1#32
  let arg14 : BitVec 32 := Scf.iv c0_i32 c1_i32 k0_t1
  let c1_i32_11 : BitVec 32 := 1#32
  let v9 : BitVec 32 := Scalar.muli arg14 c1_i32_11
  let v10 : BitVec 32 := Scalar.addi c0_i32_12 v9
  let c128_i32 : BitVec 32 := 128#32
  let v11 : BitVec 32 := Scalar.muli v10 c128_i32
  let v12 : BitVec 32 := v11
  let v19 : Index := Scalar.indexCast v12
  let c0_14 : Index := 0#32
  ![v19.toNat, 0]
def k0_off3 (k0_t1 : Fin k0_t1_loop.trips) : Fin 3 → Nat :=
  let c0_15 : Index := 0#32
  let c0_16 : Index := 0#32
  let c0_i32_12 : BitVec 32 := 0#32
  let c0_i32 : BitVec 32 := 0#32
  let c1_i32 : BitVec 32 := 1#32
  let arg14 : BitVec 32 := Scf.iv c0_i32 c1_i32 k0_t1
  let c1_i32_11 : BitVec 32 := 1#32
  let v9 : BitVec 32 := Scalar.muli arg14 c1_i32_11
  let v10 : BitVec 32 := Scalar.addi c0_i32_12 v9
  let c128_i32 : BitVec 32 := 128#32
  let v11 : BitVec 32 := Scalar.muli v10 c128_i32
  let v12 : BitVec 32 := v11
  let v23 : Index := Scalar.indexCast v12
  ![0, 0, v23.toNat]
def k0_off4 (k0_t1 : Fin k0_t1_loop.trips) : Fin 2 → Nat :=
  let c0_19 : Index := 0#32
  let c0_i32_12 : BitVec 32 := 0#32
  let c0_i32 : BitVec 32 := 0#32
  let c1_i32 : BitVec 32 := 1#32
  let arg14 : BitVec 32 := Scf.iv c0_i32 c1_i32 k0_t1
  let c1_i32_11 : BitVec 32 := 1#32
  let v9 : BitVec 32 := Scalar.muli arg14 c1_i32_11
  let v10 : BitVec 32 := Scalar.addi c0_i32_12 v9
  let c128_i32 : BitVec 32 := 128#32
  let v11 : BitVec 32 := Scalar.muli v10 c128_i32
  let v12 : BitVec 32 := v11
  let v33 : Index := Scalar.indexCast v12
  ![0, v33.toNat]
@[reducible] def k0_t2_loop : Scf.Loop 32 :=
  let c0_i32_3 : BitVec 32 := 0#32
  let c4_i32 : BitVec 32 := 4#32
  let v4 : BitVec 32 := Scalar.addi c0_i32_3 c4_i32
  let c1_i32_4 : BitVec 32 := 1#32
  ⟨c0_i32_3, v4, c1_i32_4⟩
def k0_mult2 (k0_t2 : Fin k0_t2_loop.trips) : BitVec 32 :=
  let c0_i32_12 : BitVec 32 := 0#32
  let c0_i32_3 : BitVec 32 := 0#32
  let c1_i32_4 : BitVec 32 := 1#32
  let arg14 : BitVec 32 := Scf.iv c0_i32_3 c1_i32_4 k0_t2
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  v11
def k0_off5 (k0_t2 : Fin k0_t2_loop.trips) : Fin 3 → Nat :=
  let c0 : Index := 0#32
  let c0_13 : Index := 0#32
  let c0_i32_12 : BitVec 32 := 0#32
  let c0_i32_3 : BitVec 32 := 0#32
  let c1_i32_4 : BitVec 32 := 1#32
  let arg14 : BitVec 32 := Scf.iv c0_i32_3 c1_i32_4 k0_t2
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v13 : Index := Scalar.indexCast v12
  ![0, 0, v13.toNat]
def k0_off6 (k0_t2 : Fin k0_t2_loop.trips) : Fin 3 → Nat :=
  let c0_14 : Index := 0#32
  let c0_15 : Index := 0#32
  let c0_i32_12 : BitVec 32 := 0#32
  let c0_i32_3 : BitVec 32 := 0#32
  let c1_i32_4 : BitVec 32 := 1#32
  let arg14 : BitVec 32 := Scf.iv c0_i32_3 c1_i32_4 k0_t2
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v16 : Index := Scalar.indexCast v12
  ![0, 0, v16.toNat]
@[reducible] def k0_t3_loop : Scf.Loop 32 :=
  let c0_i32_16 : BitVec 32 := 0#32
  let c4_i32_17 : BitVec 32 := 4#32
  let v21 : BitVec 32 := Scalar.addi c0_i32_16 c4_i32_17
  let c1_i32_18 : BitVec 32 := 1#32
  ⟨c0_i32_16, v21, c1_i32_18⟩
def k0_mult3 (k0_t3 : Fin k0_t3_loop.trips) : BitVec 32 :=
  let c0_i32_21 : BitVec 32 := 0#32
  let c0_i32_16 : BitVec 32 := 0#32
  let c1_i32_18 : BitVec 32 := 1#32
  let arg15 : BitVec 32 := Scf.iv c0_i32_16 c1_i32_18 k0_t3
  let c1_i32_20 : BitVec 32 := 1#32
  let v22 : BitVec 32 := Scalar.muli arg15 c1_i32_20
  let v23 : BitVec 32 := Scalar.addi c0_i32_21 v22
  let c1024_i32 : BitVec 32 := 1024#32
  let v24 : BitVec 32 := Scalar.muli v23 c1024_i32
  v24
def k0_off7 (k0_t3 : Fin k0_t3_loop.trips) : Fin 3 → Nat :=
  let c0_22 : Index := 0#32
  let c0_i32_21 : BitVec 32 := 0#32
  let c0_i32_16 : BitVec 32 := 0#32
  let c1_i32_18 : BitVec 32 := 1#32
  let arg15 : BitVec 32 := Scf.iv c0_i32_16 c1_i32_18 k0_t3
  let c1_i32_20 : BitVec 32 := 1#32
  let v22 : BitVec 32 := Scalar.muli arg15 c1_i32_20
  let v23 : BitVec 32 := Scalar.addi c0_i32_21 v22
  let c1024_i32 : BitVec 32 := 1024#32
  let v24 : BitVec 32 := Scalar.muli v23 c1024_i32
  let v25 : BitVec 32 := v24
  let v26 : Index := Scalar.indexCast v25
  let c0_23 : Index := 0#32
  ![0, v26.toNat, 0]
def k0_off8 (k0_t3 : Fin k0_t3_loop.trips) : Fin 2 → Nat :=
  let c0_i32_21 : BitVec 32 := 0#32
  let c0_i32_16 : BitVec 32 := 0#32
  let c1_i32_18 : BitVec 32 := 1#32
  let arg15 : BitVec 32 := Scf.iv c0_i32_16 c1_i32_18 k0_t3
  let c1_i32_20 : BitVec 32 := 1#32
  let v22 : BitVec 32 := Scalar.muli arg15 c1_i32_20
  let v23 : BitVec 32 := Scalar.addi c0_i32_21 v22
  let c1024_i32 : BitVec 32 := 1024#32
  let v24 : BitVec 32 := Scalar.muli v23 c1024_i32
  let v25 : BitVec 32 := v24
  let v30 : Index := Scalar.indexCast v25
  let c0_25 : Index := 0#32
  ![v30.toNat, 0]
def k0_off9 (k0_t2 : Fin k0_t2_loop.trips) : Fin 2 → Nat :=
  let c0_26 : Index := 0#32
  let c0_i32_12 : BitVec 32 := 0#32
  let c0_i32_3 : BitVec 32 := 0#32
  let c1_i32_4 : BitVec 32 := 1#32
  let arg14 : BitVec 32 := Scf.iv c0_i32_3 c1_i32_4 k0_t2
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v36 : Index := Scalar.indexCast v12
  ![0, v36.toNat]
def k0_off10 (k0_t3 : Fin k0_t3_loop.trips) : Fin 2 → Nat :=
  let c0_32 : Index := 0#32
  let c0_i32_21 : BitVec 32 := 0#32
  let c0_i32_16 : BitVec 32 := 0#32
  let c1_i32_18 : BitVec 32 := 1#32
  let arg15 : BitVec 32 := Scf.iv c0_i32_16 c1_i32_18 k0_t3
  let c1_i32_20 : BitVec 32 := 1#32
  let v22 : BitVec 32 := Scalar.muli arg15 c1_i32_20
  let v23 : BitVec 32 := Scalar.addi c0_i32_21 v22
  let c1024_i32 : BitVec 32 := 1024#32
  let v24 : BitVec 32 := Scalar.muli v23 c1024_i32
  let v25 : BitVec 32 := v24
  let v60 : Index := Scalar.indexCast v25
  ![0, v60.toNat]
def k0_off11 (k0_t2 : Fin k0_t2_loop.trips) : Fin 3 → Nat :=
  let c0_34 : Index := 0#32
  let c0_35 : Index := 0#32
  let c0_i32_12 : BitVec 32 := 0#32
  let c0_i32_3 : BitVec 32 := 0#32
  let c1_i32_4 : BitVec 32 := 1#32
  let arg14 : BitVec 32 := Scf.iv c0_i32_3 c1_i32_4 k0_t2
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v64 : Index := Scalar.indexCast v12
  ![0, 0, v64.toNat]
@[reducible] def k0_t4_loop : Scf.Loop 32 :=
  let c0_i32_6 : BitVec 32 := 0#32
  let c4_i32_7 : BitVec 32 := 4#32
  let v5 : BitVec 32 := Scalar.addi c0_i32_6 c4_i32_7
  let c1_i32_8 : BitVec 32 := 1#32
  ⟨c0_i32_6, v5, c1_i32_8⟩
def k0_mult4 (k0_t4 : Fin k0_t4_loop.trips) : BitVec 32 :=
  let c0_i32_12 : BitVec 32 := 0#32
  let c0_i32_6 : BitVec 32 := 0#32
  let c1_i32_8 : BitVec 32 := 1#32
  let arg14 : BitVec 32 := Scf.iv c0_i32_6 c1_i32_8 k0_t4
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  v11
def k0_off12 (k0_t4 : Fin k0_t4_loop.trips) : Fin 3 → Nat :=
  let c1 : Index := 1#32
  let c0 : Index := 0#32
  let c0_i32_12 : BitVec 32 := 0#32
  let c0_i32_6 : BitVec 32 := 0#32
  let c1_i32_8 : BitVec 32 := 1#32
  let arg14 : BitVec 32 := Scf.iv c0_i32_6 c1_i32_8 k0_t4
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v13 : Index := Scalar.indexCast v12
  ![1, 0, v13.toNat]
def k0_off13 (k0_t4 : Fin k0_t4_loop.trips) : Fin 3 → Nat :=
  let c1_13 : Index := 1#32
  let c0_14 : Index := 0#32
  let c0_i32_12 : BitVec 32 := 0#32
  let c0_i32_6 : BitVec 32 := 0#32
  let c1_i32_8 : BitVec 32 := 1#32
  let arg14 : BitVec 32 := Scf.iv c0_i32_6 c1_i32_8 k0_t4
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v16 : Index := Scalar.indexCast v12
  ![1, 0, v16.toNat]
@[reducible] def k0_t5_loop : Scf.Loop 32 :=
  let c0_i32_15 : BitVec 32 := 0#32
  let c4_i32_16 : BitVec 32 := 4#32
  let v21 : BitVec 32 := Scalar.addi c0_i32_15 c4_i32_16
  let c1_i32_17 : BitVec 32 := 1#32
  ⟨c0_i32_15, v21, c1_i32_17⟩
def k0_mult5 (k0_t5 : Fin k0_t5_loop.trips) : BitVec 32 :=
  let c0_i32_20 : BitVec 32 := 0#32
  let c0_i32_15 : BitVec 32 := 0#32
  let c1_i32_17 : BitVec 32 := 1#32
  let arg15 : BitVec 32 := Scf.iv c0_i32_15 c1_i32_17 k0_t5
  let c1_i32_19 : BitVec 32 := 1#32
  let v22 : BitVec 32 := Scalar.muli arg15 c1_i32_19
  let v23 : BitVec 32 := Scalar.addi c0_i32_20 v22
  let c1024_i32 : BitVec 32 := 1024#32
  let v24 : BitVec 32 := Scalar.muli v23 c1024_i32
  v24
def k0_off14 (k0_t5 : Fin k0_t5_loop.trips) : Fin 3 → Nat :=
  let c0_21 : Index := 0#32
  let c0_i32_20 : BitVec 32 := 0#32
  let c0_i32_15 : BitVec 32 := 0#32
  let c1_i32_17 : BitVec 32 := 1#32
  let arg15 : BitVec 32 := Scf.iv c0_i32_15 c1_i32_17 k0_t5
  let c1_i32_19 : BitVec 32 := 1#32
  let v22 : BitVec 32 := Scalar.muli arg15 c1_i32_19
  let v23 : BitVec 32 := Scalar.addi c0_i32_20 v22
  let c1024_i32 : BitVec 32 := 1024#32
  let v24 : BitVec 32 := Scalar.muli v23 c1024_i32
  let v25 : BitVec 32 := v24
  let v26 : Index := Scalar.indexCast v25
  let c0_22 : Index := 0#32
  ![0, v26.toNat, 0]
def k0_off15 (k0_t5 : Fin k0_t5_loop.trips) : Fin 2 → Nat :=
  let c0_i32_20 : BitVec 32 := 0#32
  let c0_i32_15 : BitVec 32 := 0#32
  let c1_i32_17 : BitVec 32 := 1#32
  let arg15 : BitVec 32 := Scf.iv c0_i32_15 c1_i32_17 k0_t5
  let c1_i32_19 : BitVec 32 := 1#32
  let v22 : BitVec 32 := Scalar.muli arg15 c1_i32_19
  let v23 : BitVec 32 := Scalar.addi c0_i32_20 v22
  let c1024_i32 : BitVec 32 := 1024#32
  let v24 : BitVec 32 := Scalar.muli v23 c1024_i32
  let v25 : BitVec 32 := v24
  let v30 : Index := Scalar.indexCast v25
  let c0_24 : Index := 0#32
  ![v30.toNat, 0]
def k0_off16 (k0_t4 : Fin k0_t4_loop.trips) : Fin 2 → Nat :=
  let c1_25 : Index := 1#32
  let c0_i32_12 : BitVec 32 := 0#32
  let c0_i32_6 : BitVec 32 := 0#32
  let c1_i32_8 : BitVec 32 := 1#32
  let arg14 : BitVec 32 := Scf.iv c0_i32_6 c1_i32_8 k0_t4
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v36 : Index := Scalar.indexCast v12
  ![1, v36.toNat]
def k0_off17 (k0_t5 : Fin k0_t5_loop.trips) : Fin 2 → Nat :=
  let c0_31 : Index := 0#32
  let c0_i32_20 : BitVec 32 := 0#32
  let c0_i32_15 : BitVec 32 := 0#32
  let c1_i32_17 : BitVec 32 := 1#32
  let arg15 : BitVec 32 := Scf.iv c0_i32_15 c1_i32_17 k0_t5
  let c1_i32_19 : BitVec 32 := 1#32
  let v22 : BitVec 32 := Scalar.muli arg15 c1_i32_19
  let v23 : BitVec 32 := Scalar.addi c0_i32_20 v22
  let c1024_i32 : BitVec 32 := 1024#32
  let v24 : BitVec 32 := Scalar.muli v23 c1024_i32
  let v25 : BitVec 32 := v24
  let v60 : Index := Scalar.indexCast v25
  ![0, v60.toNat]
def k0_off18 (k0_t4 : Fin k0_t4_loop.trips) : Fin 3 → Nat :=
  let c1_33 : Index := 1#32
  let c0_34 : Index := 0#32
  let c0_i32_12 : BitVec 32 := 0#32
  let c0_i32_6 : BitVec 32 := 0#32
  let c1_i32_8 : BitVec 32 := 1#32
  let arg14 : BitVec 32 := Scf.iv c0_i32_6 c1_i32_8 k0_t4
  let c1_i32_11 : BitVec 32 := 1#32
  let v9 : BitVec 32 := Scalar.muli arg14 c1_i32_11
  let v10 : BitVec 32 := Scalar.addi c0_i32_12 v9
  let c512_i32 : BitVec 32 := 512#32
  let v11 : BitVec 32 := Scalar.muli v10 c512_i32
  let v12 : BitVec 32 := v11
  let v64 : Index := Scalar.indexCast v12
  ![1, 0, v64.toNat]
def k0_cond2 (i : grid0.Coords) : BitVec 1 :=
  let arg1 : BitVec 32 := BitVec.ofNat 32 (i 1).val
  let c11_i32 : BitVec 32 := 11#32
  let v6 : BitVec 1 := Scalar.cmpi .eq arg1 c11_i32
  let v7 : BitVec 32 := Scalar.extui v6
  let c0_i32_10 : BitVec 32 := 0#32
  let v8 : BitVec 1 := Scalar.cmpi .ne v7 c0_i32_10
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "ln2" => some ((Real.log 2 : ℝ) : EReal)
  | "score_scale" => some (((Real.sqrt 128)⁻¹ * (Real.log 2)⁻¹ : ℝ) : EReal)
  | _ => none
-- ==== ReferenceIdeal.lean ====
abbrev S2x1024x32x128 : Shape := ⟨4, ![2, 1024, 32, 128]⟩
abbrev S2x1024x32 : Shape := ⟨3, ![2, 1024, 32]⟩
abbrev S49152x16x128 : Shape := ⟨3, ![49152, 16, 128]⟩
abbrev S49152x16 : Shape := ⟨2, ![49152, 16]⟩
abbrev S2048x16x2x128 : Shape := ⟨4, ![2048, 16, 2, 128]⟩
abbrev S16x2x2048x128 : Shape := ⟨4, ![16, 2, 2048, 128]⟩
abbrev S16x4096x128 : Shape := ⟨3, ![16, 4096, 128]⟩
abbrev S2048x16x2 : Shape := ⟨3, ![2048, 16, 2]⟩
abbrev S16x2x2048 : Shape := ⟨3, ![16, 2, 2048]⟩
abbrev S16x4096x1 : Shape := ⟨3, ![16, 4096, 1]⟩
abbrev S16x49152x128 : Shape := ⟨3, ![16, 49152, 128]⟩
abbrev S16x49152 : Shape := ⟨2, ![16, 49152]⟩
abbrev S16x1x49152 : Shape := ⟨3, ![16, 1, 49152]⟩
abbrev S32x128x2048 : Shape := ⟨3, ![32, 128, 2048]⟩
abbrev S16x4096x49152 : Shape := ⟨3, ![16, 4096, 49152]⟩
abbrev S16x4096 : Shape := ⟨2, ![16, 4096]⟩
abbrev S32x2048x128 : Shape := ⟨3, ![32, 2048, 128]⟩
abbrev S32x2048 : Shape := ⟨2, ![32, 2048]⟩
abbrev S2048x32 : Shape := ⟨2, ![2048, 32]⟩

abbrev nBuf : Space → Nat
  | .hbm => 20
  | .vmem => 8
  | .smem => 0
  | _ => 0

abbrev bufTy : (tb : Table) → Fin (tcTables nBuf tb) → BufTy
  | .hbm, ⟨0, _⟩ => ⟨S2x1024x32x128, .fp8e4m3⟩
  | .hbm, ⟨1, _⟩ => ⟨S2x1024x32, .f32⟩
  | .hbm, ⟨2, _⟩ => ⟨S49152x16x128, .fp8e4m3⟩
  | .hbm, ⟨3, _⟩ => ⟨S49152x16x128, .fp8e4m3⟩
  | .hbm, ⟨4, _⟩ => ⟨S49152x16, .f32⟩
  | .hbm, ⟨5, _⟩ => ⟨S49152x16, .f32⟩
  | .hbm, ⟨6, _⟩ => ⟨S2048x16x2x128, .fp8e4m3⟩
  | .hbm, ⟨7, _⟩ => ⟨S16x2x2048x128, .fp8e4m3⟩
  | .hbm, ⟨8, _⟩ => ⟨S16x4096x128, .fp8e4m3⟩
  | .hbm, ⟨9, _⟩ => ⟨S2048x16x2, .f32⟩
  | .hbm, ⟨10, _⟩ => ⟨S16x2x2048, .f32⟩
  | .hbm, ⟨11, _⟩ => ⟨S16x4096x1, .f32⟩
  | .hbm, ⟨12, _⟩ => ⟨S16x49152x128, .fp8e4m3⟩
  | .hbm, ⟨13, _⟩ => ⟨S16x49152x128, .fp8e4m3⟩
  | .hbm, ⟨14, _⟩ => ⟨S16x49152, .f32⟩
  | .hbm, ⟨15, _⟩ => ⟨S16x1x49152, .f32⟩
  | .hbm, ⟨16, _⟩ => ⟨S16x49152, .f32⟩
  | .hbm, ⟨17, _⟩ => ⟨S16x1x49152, .f32⟩
  | .hbm, ⟨18, _⟩ => ⟨S32x128x2048, .f32⟩
  | .hbm, ⟨19, _⟩ => ⟨S2x1024x32, .f32⟩
  | .local _ .vmem, ⟨0, _⟩ => ⟨S16x4096x128, .fp8e4m3⟩
  | .local _ .vmem, ⟨1, _⟩ => ⟨S16x4096x1, .f32⟩
  | .local _ .vmem, ⟨2, _⟩ => ⟨S16x49152x128, .fp8e4m3⟩
  | .local _ .vmem, ⟨3, _⟩ => ⟨S16x49152x128, .fp8e4m3⟩
  | .local _ .vmem, ⟨4, _⟩ => ⟨S16x1x49152, .f32⟩
  | .local _ .vmem, ⟨5, _⟩ => ⟨S16x1x49152, .f32⟩
  | .local _ .vmem, ⟨6, _⟩ => ⟨S32x128x2048, .f32⟩
  | .local _ .vmem, ⟨7, _⟩ => ⟨S2x1024x32, .f32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_sqrt_d" => some (((Real.sqrt 128)⁻¹ : ℝ) : EReal)
  | _ => none

abbrev grid0 : Pipeline.Grid := .none

abbrev stage0_0 : Fin 1 → Memref sig .tc .vmem S16x4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x49152x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x49152x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x49152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x49152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Finish.lean ====
abbrev S2x1024x32x128 : Shape := ⟨4, ![2, 1024, 32, 128]⟩
abbrev S2x1024x32 : Shape := ⟨3, ![2, 1024, 32]⟩
abbrev S2x1024x16x128 : Shape := ⟨4, ![2, 1024, 16, 128]⟩
abbrev S2x1024x16 : Shape := ⟨3, ![2, 1024, 16]⟩
abbrev S32x128x2048 : Shape := ⟨3, ![32, 128, 2048]⟩
abbrev S32x1x2048 : Shape := ⟨3, ![32, 1, 2048]⟩
abbrev S2048x32x128 : Shape := ⟨3, ![2048, 32, 128]⟩
abbrev S2048x32 : Shape := ⟨2, ![2048, 32]⟩
abbrev S32x2048 : Shape := ⟨2, ![32, 2048]⟩
abbrev S2x16x1024x128 : Shape := ⟨4, ![2, 16, 1024, 128]⟩
abbrev S2x16x128x1024 : Shape := ⟨4, ![2, 16, 128, 1024]⟩
abbrev S2x16x1024 : Shape := ⟨3, ![2, 16, 1024]⟩
abbrev S2x16x1x1024 : Shape := ⟨4, ![2, 16, 1, 1024]⟩
abbrev S2x1024x4096 : Shape := ⟨3, ![2, 1024, 4096]⟩
abbrev S2x1024x1 : Shape := ⟨3, ![2, 1024, 1]⟩
abbrev S32x128 : Shape := ⟨2, ![32, 128]⟩
abbrev S2x128x256 : Shape := ⟨3, ![2, 128, 256]⟩
abbrev S2x1x256 : Shape := ⟨3, ![2, 1, 256]⟩
abbrev S1x1x1024x128 : Shape := ⟨4, ![1, 1, 1024, 128]⟩
abbrev S1x1x128x1024 : Shape := ⟨4, ![1, 1, 128, 1024]⟩
abbrev S1x1x1x1024 : Shape := ⟨4, ![1, 1, 1, 1024]⟩
abbrev S1x256x4096 : Shape := ⟨3, ![1, 256, 4096]⟩
abbrev S1x256x1 : Shape := ⟨3, ![1, 256, 1]⟩
abbrev S32x256x128 : Shape := ⟨3, ![32, 256, 128]⟩
abbrev S1x1024 : Shape := ⟨2, ![1, 1024]⟩
abbrev S1x128 : Shape := ⟨2, ![1, 128]⟩
abbrev S128x128 : Shape := ⟨2, ![128, 128]⟩
abbrev S1024x128 : Shape := ⟨2, ![1024, 128]⟩
abbrev S128x1024 : Shape := ⟨2, ![128, 1024]⟩
abbrev S1024x256 : Shape := ⟨2, ![1024, 256]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S256 : Shape := ⟨1, ![256]⟩
abbrev S1 : Shape := ⟨1, ![1]⟩
abbrev S1x1 : Shape := ⟨2, ![1, 1]⟩
abbrev S256x128 : Shape := ⟨2, ![256, 128]⟩
abbrev S1x256x128 : Shape := ⟨3, ![1, 256, 128]⟩
abbrev S256x1 : Shape := ⟨2, ![256, 1]⟩
abbrev S1024 : Shape := ⟨1, ![1024]⟩
abbrev S_ : Shape := ⟨0, ![]⟩
abbrev S1x1024x1 : Shape := ⟨3, ![1, 1024, 1]⟩
abbrev S32x1 : Shape := ⟨2, ![32, 1]⟩
abbrev S32 : Shape := ⟨1, ![32]⟩

abbrev nBuf : Space → Nat
  | .hbm => 36
  | .vmem => 24
  | .smem => 0
  | _ => 0

abbrev bufTy : (tb : Table) → Fin (tcTables nBuf tb) → BufTy
  | .hbm, ⟨0, _⟩ => ⟨S2x1024x32x128, .fp8e4m3⟩
  | .hbm, ⟨1, _⟩ => ⟨S2x1024x32, .f32⟩
  | .hbm, ⟨2, _⟩ => ⟨S2x1024x16x128, .fp8e4m3⟩
  | .hbm, ⟨3, _⟩ => ⟨S2x1024x16x128, .fp8e4m3⟩
  | .hbm, ⟨4, _⟩ => ⟨S2x1024x16, .f32⟩
  | .hbm, ⟨5, _⟩ => ⟨S2x1024x16, .f32⟩
  | .hbm, ⟨6, _⟩ => ⟨S32x128x2048, .f32⟩
  | .hbm, ⟨7, _⟩ => ⟨S32x1x2048, .f32⟩
  | .hbm, ⟨8, _⟩ => ⟨S2048x32x128, .fp8e4m3⟩
  | .hbm, ⟨9, _⟩ => ⟨S32x128x2048, .fp8e4m3⟩
  | .hbm, ⟨10, _⟩ => ⟨S2048x32, .f32⟩
  | .hbm, ⟨11, _⟩ => ⟨S32x2048, .f32⟩
  | .hbm, ⟨12, _⟩ => ⟨S32x1x2048, .f32⟩
  | .hbm, ⟨13, _⟩ => ⟨S2x16x1024x128, .fp8e4m3⟩
  | .hbm, ⟨14, _⟩ => ⟨S2x16x128x1024, .fp8e4m3⟩
  | .hbm, ⟨15, _⟩ => ⟨S2x16x1024, .f32⟩
  | .hbm, ⟨16, _⟩ => ⟨S2x16x1x1024, .f32⟩
  | .hbm, ⟨17, _⟩ => ⟨S2x16x1024, .f32⟩
  | .hbm, ⟨18, _⟩ => ⟨S2x16x1x1024, .f32⟩
  | .hbm, ⟨19, _⟩ => ⟨S2x1024x4096, .fp8e4m3⟩
  | .hbm, ⟨20, _⟩ => ⟨S2x1024x1, .f32⟩
  | .hbm, ⟨21, _⟩ => ⟨S32x1x2048, .f32⟩
  | .hbm, ⟨22, _⟩ => ⟨S32x128, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S32x2048, .f32⟩
  | .hbm, ⟨29, _⟩ => ⟨S2048x32, .f32⟩
  | .hbm, ⟨30, _⟩ => ⟨S2x1024x32, .f32⟩
  | .hbm, ⟨31, _⟩ => ⟨S1x1024x1, .f32⟩
  | .hbm, ⟨32, _⟩ => ⟨S2x1024x32, .f32⟩
  | .hbm, ⟨33, _⟩ => ⟨S2x1024x32, .f32⟩
  | .hbm, ⟨34, _⟩ => ⟨S32x1, .f32⟩
  | .hbm, ⟨35, _⟩ => ⟨S32, .f32⟩
  | .local _ .vmem, ⟨0, _⟩ => ⟨S2x128x256, .fp8e4m3⟩
  | .local _ .vmem, ⟨1, _⟩ => ⟨S2x128x256, .fp8e4m3⟩
  | .local _ .vmem, ⟨2, _⟩ => ⟨S2x1x256, .f32⟩
  | .local _ .vmem, ⟨3, _⟩ => ⟨S2x1x256, .f32⟩
  | .local _ .vmem, ⟨4, _⟩ => ⟨S1x1x1024x128, .fp8e4m3⟩
  | .local _ .vmem, ⟨5, _⟩ => ⟨S1x1x1024x128, .fp8e4m3⟩
  | .local _ .vmem, ⟨6, _⟩ => ⟨S1x1x128x1024, .fp8e4m3⟩
  | .local _ .vmem, ⟨7, _⟩ => ⟨S1x1x128x1024, .fp8e4m3⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S2x128x256, .f32⟩
  | .local _ .vmem, ⟨13, _⟩ => ⟨S2x128x256, .f32⟩
  | .local _ .vmem, ⟨14, _⟩ => ⟨S2x1x256, .f32⟩
  | .local _ .vmem, ⟨15, _⟩ => ⟨S2x1x256, .f32⟩
  | .local _ .vmem, ⟨16, _⟩ => ⟨S1x256x4096, .fp8e4m3⟩
  | .local _ .vmem, ⟨17, _⟩ => ⟨S1x256x4096, .fp8e4m3⟩
  | .local _ .vmem, ⟨18, _⟩ => ⟨S1x256x1, .f32⟩
  | .local _ .vmem, ⟨19, _⟩ => ⟨S1x256x1, .f32⟩
  | .local _ .vmem, ⟨20, _⟩ => ⟨S2x1x256, .f32⟩
  | .local _ .vmem, ⟨21, _⟩ => ⟨S2x1x256, .f32⟩
  | .local _ .vmem, ⟨22, _⟩ => ⟨S32x128, .f32⟩
  | .local _ .vmem, ⟨23, _⟩ => ⟨S32x256x128, .f32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨3, ![2, 4, 16], ![false, false, false]⟩

def k0_off1 (i : grid0.Coords) (c0_i32_41 : BitVec 32) : Fin 2 → Nat :=
  let arg2 : BitVec 32 := BitVec.ofNat 32 (i 2).val
  let c2_i32 : BitVec 32 := 2#32
  let v115 : BitVec 32 := Scalar.muli arg2 c2_i32
  let v116 : BitVec 32 := Scalar.addi v115 c0_i32_41
  let v117 : Index := Scalar.indexCast v116
  let c0_42 : Index := 0#32
  ![v117.toNat, 0]
def k0_off2 (i : grid0.Coords) (c0_i32_41 : BitVec 32) : Fin 3 → Nat :=
  let arg2 : BitVec 32 := BitVec.ofNat 32 (i 2).val
  let c2_i32 : BitVec 32 := 2#32
  let v115 : BitVec 32 := Scalar.muli arg2 c2_i32
  let v116 : BitVec 32 := Scalar.addi v115 c0_i32_41
  let v126 : Index := Scalar.indexCast v116
  let c0_44 : Index := 0#32
  let c0_45 : Index := 0#32
  ![v126.toNat, 0, 0]
def k0_cond2 (i : grid0.Coords) : BitVec 1 :=
  let arg2 : BitVec 32 := BitVec.ofNat 32 (i 2).val
  let c15_i32 : BitVec 32 := 15#32
  let v205 : BitVec 1 := Scalar.cmpi .eq arg2 c15_i32
  let v206 : BitVec 32 := Scalar.extui v205
  let c0_i32_78 : BitVec 32 := 0#32
  let v207 : BitVec 1 := Scalar.cmpi .ne v206 c0_i32_78
  v207

@[reducible] def k0_t1_loop : Scf.Loop 32 :=
  let c1_i32_149 : BitVec 32 := 1#32
  let c255_i32 : BitVec 32 := 255#32
  let v342 : BitVec 32 := Scalar.addi c1_i32_149 c255_i32
  let c1_i32_150 : BitVec 32 := 1#32
  ⟨c1_i32_149, v342, c1_i32_150⟩
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![arg2.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![arg2.toNat, c0_i32.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![arg2.toNat, c0_i32.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![arg2.toNat, c0_i32.toNat, v1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![arg2.toNat, c0_i32.toNat, v1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x128x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S2x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]
-- ==== FinishIdeal.lean ====
variable {F : FTy → Type} [FloatOps F] [Named F]
def κ : String → Option EReal := fun
  | "ln2" => some ((Real.log 2 : ℝ) : EReal)
  | "score_scale" => some (((Real.sqrt 128)⁻¹ * (Real.log 2)⁻¹ : ℝ) : EReal)
  | _ => none
-- ==== MergeIdeal.lean ====
abbrev S2x1024x32x128 : Shape := ⟨4, ![2, 1024, 32, 128]⟩
abbrev S2x1024x32 : Shape := ⟨3, ![2, 1024, 32]⟩
abbrev S2x1024x16x128 : Shape := ⟨4, ![2, 1024, 16, 128]⟩
abbrev S2x1024x16 : Shape := ⟨3, ![2, 1024, 16]⟩
abbrev S32x128x2048 : Shape := ⟨3, ![32, 128, 2048]⟩
abbrev S32x1x2048 : Shape := ⟨3, ![32, 1, 2048]⟩
abbrev S2x32x1024x128 : Shape := ⟨4, ![2, 32, 1024, 128]⟩
abbrev S2x32x1024 : Shape := ⟨3, ![2, 32, 1024]⟩
abbrev S2x32x1024x1 : Shape := ⟨4, ![2, 32, 1024, 1]⟩
abbrev S2x16x1024x128 : Shape := ⟨4, ![2, 16, 1024, 128]⟩
abbrev S2x16x1x1024x128 : Shape := ⟨5, ![2, 16, 1, 1024, 128]⟩
abbrev S2x16x2x1024x128 : Shape := ⟨5, ![2, 16, 2, 1024, 128]⟩
abbrev S2x16x1024 : Shape := ⟨3, ![2, 16, 1024]⟩
abbrev S2x16x1x1024 : Shape := ⟨4, ![2, 16, 1, 1024]⟩
abbrev S2x16x1x1x1024 : Shape := ⟨5, ![2, 16, 1, 1, 1024]⟩
abbrev S2x16x2x1x1024 : Shape := ⟨5, ![2, 16, 2, 1, 1024]⟩
abbrev S2x32x1x1024 : Shape := ⟨4, ![2, 32, 1, 1024]⟩
abbrev S32x128x2x1024 : Shape := ⟨4, ![32, 128, 2, 1024]⟩
abbrev S32x2x1024 : Shape := ⟨3, ![32, 2, 1024]⟩
abbrev S1x32x1x1 : Shape := ⟨4, ![1, 32, 1, 1]⟩
abbrev S2x32x1024x1024 : Shape := ⟨4, ![2, 32, 1024, 1024]⟩
abbrev S2x32x1 : Shape := ⟨3, ![2, 32, 1]⟩
abbrev S2x32x1x1 : Shape := ⟨4, ![2, 32, 1, 1]⟩
abbrev S32x1x1 : Shape := ⟨3, ![32, 1, 1]⟩
abbrev S1024 : Shape := ⟨1, ![1024]⟩
abbrev S_ : Shape := ⟨0, ![]⟩
abbrev S1x1024x1 : Shape := ⟨3, ![1, 1024, 1]⟩
abbrev S32 : Shape := ⟨1, ![32]⟩

abbrev nBuf : Space → Nat
  | .hbm => 47
  | .vmem => 10
  | .smem => 0
  | _ => 0

abbrev bufTy : (tb : Table) → Fin (tcTables nBuf tb) → BufTy
  | .hbm, ⟨0, _⟩ => ⟨S2x1024x32x128, .fp8e4m3⟩
  | .hbm, ⟨1, _⟩ => ⟨S2x1024x32, .f32⟩
  | .hbm, ⟨2, _⟩ => ⟨S2x1024x16x128, .fp8e4m3⟩
  | .hbm, ⟨3, _⟩ => ⟨S2x1024x16x128, .fp8e4m3⟩
  | .hbm, ⟨4, _⟩ => ⟨S2x1024x16, .f32⟩
  | .hbm, ⟨5, _⟩ => ⟨S2x1024x16, .f32⟩
  | .hbm, ⟨6, _⟩ => ⟨S32x128x2048, .f32⟩
  | .hbm, ⟨7, _⟩ => ⟨S32x1x2048, .f32⟩
  | .hbm, ⟨8, _⟩ => ⟨S2x32x1024x128, .fp8e4m3⟩
  | .hbm, ⟨9, _⟩ => ⟨S2x32x1024, .f32⟩
  | .hbm, ⟨10, _⟩ => ⟨S2x32x1024x1, .f32⟩
  | .hbm, ⟨11, _⟩ => ⟨S2x16x1024x128, .fp8e4m3⟩
  | .hbm, ⟨12, _⟩ => ⟨S2x16x1x1024x128, .fp8e4m3⟩
  | .hbm, ⟨13, _⟩ => ⟨S2x16x2x1024x128, .fp8e4m3⟩
  | .hbm, ⟨14, _⟩ => ⟨S2x32x1024x128, .fp8e4m3⟩
  | .hbm, ⟨15, _⟩ => ⟨S2x16x1024x128, .fp8e4m3⟩
  | .hbm, ⟨16, _⟩ => ⟨S2x16x1x1024x128, .fp8e4m3⟩
  | .hbm, ⟨17, _⟩ => ⟨S2x16x2x1024x128, .fp8e4m3⟩
  | .hbm, ⟨18, _⟩ => ⟨S2x32x1024x128, .fp8e4m3⟩
  | .hbm, ⟨19, _⟩ => ⟨S2x16x1024, .f32⟩
  | .hbm, ⟨20, _⟩ => ⟨S2x16x1x1024, .f32⟩
  | .hbm, ⟨21, _⟩ => ⟨S2x16x1x1x1024, .f32⟩
  | .hbm, ⟨22, _⟩ => ⟨S2x16x2x1x1024, .f32⟩
  | .hbm, ⟨23, _⟩ => ⟨S2x32x1x1024, .f32⟩
  | .hbm, ⟨24, _⟩ => ⟨S2x16x1024, .f32⟩
  | .hbm, ⟨25, _⟩ => ⟨S2x16x1x1024, .f32⟩
  | .hbm, ⟨26, _⟩ => ⟨S2x16x1x1x1024, .f32⟩
  | .hbm, ⟨27, _⟩ => ⟨S2x16x2x1x1024, .f32⟩
  | .hbm, ⟨28, _⟩ => ⟨S2x32x1x1024, .f32⟩
  | .hbm, ⟨29, _⟩ => ⟨S32x128x2x1024, .f32⟩
  | .hbm, ⟨30, _⟩ => ⟨S2x32x1024x128, .f32⟩
  | .hbm, ⟨31, _⟩ => ⟨S32x2x1024, .f32⟩
  | .hbm, ⟨32, _⟩ => ⟨S2x32x1024, .f32⟩
  | .hbm, ⟨33, _⟩ => ⟨S2x32x1024x1, .f32⟩
  | .hbm, ⟨34, _⟩ => ⟨S2x32x1024x1, .f32⟩
  | .hbm, ⟨35, _⟩ => ⟨S1x32x1x1, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S2x32x1024, .f32⟩
  | .hbm, ⟨42, _⟩ => ⟨S2x1024x32, .f32⟩
  | .hbm, ⟨43, _⟩ => ⟨S1x1024x1, .f32⟩
  | .hbm, ⟨44, _⟩ => ⟨S2x1024x32, .f32⟩
  | .hbm, ⟨45, _⟩ => ⟨S2x1024x32, .f32⟩
  | .hbm, ⟨46, _⟩ => ⟨S32, .f32⟩
  | .local _ .vmem, ⟨0, _⟩ => ⟨S2x32x1024x128, .fp8e4m3⟩
  | .local _ .vmem, ⟨1, _⟩ => ⟨S2x32x1024x1, .f32⟩
  | .local _ .vmem, ⟨2, _⟩ => ⟨S2x32x1024x128, .fp8e4m3⟩
  | .local _ .vmem, ⟨3, _⟩ => ⟨S2x32x1024x128, .fp8e4m3⟩
  | .local _ .vmem, ⟨4, _⟩ => ⟨S2x32x1x1024, .f32⟩
  | .local _ .vmem, ⟨5, _⟩ => ⟨S2x32x1x1024, .f32⟩
  | .local _ .vmem, ⟨6, _⟩ => ⟨S2x32x1024x128, .f32⟩
  | .local _ .vmem, ⟨7, _⟩ => ⟨S2x32x1024x1, .f32⟩
  | .local _ .vmem, ⟨8, _⟩ => ⟨S2x32x1024x1, .f32⟩
  | .local _ .vmem, ⟨9, _⟩ => ⟨S1x32x1x1, .f32⟩
  | _, _ => ⟨S2x1024x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "inv_sqrt_d" => some (((Real.sqrt 128)⁻¹ : ℝ) : EReal)
  | _ => none

abbrev grid0 : Pipeline.Grid := .none

abbrev stage0_0 : Fin 1 → Memref sig .tc .vmem S2x32x1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x32x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x1024x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32x1024x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x32x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32x1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x32x1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x32x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KModel.lean ====
module

public import proofs.«01_k».proof.Proof.Gen.Kernel.Frame
public import proofs.«01_k».proof.Proof.Gen.Kernel.Skeleton
public import Idealize.ShloMosaic.Lib.VecWindow

@[expose] public section

noncomputable section

/-! What one grid point of the kernel does to its buffers, as plain functions of vectors: the prologue loop that
    prepares the scales and the scaled values, the two loops over query tiles (each over four key tiles), and the
    final division. -/

namespace Cert.Kernel.Flash

open Cert.Kernel.Gen
open Idealize.ShloMosaic Idealize.ShloMosaic.TcCoe
open Idealize.ShloMosaic.VecWindow (window put)

variable {F : FTy → Type} [FloatOps F]

/-- `k` trips of a loop of `n`. -/
def upTo {σ : Type} {n : ℕ} (f : Fin n → σ → σ) (s : σ) : ℕ → σ
  | 0 => s
  | k + 1 => if h : k < n then f ⟨k, h⟩ (upTo f s k) else upTo f s k

theorem upTo_succ {σ : Type} {n : ℕ} (f : Fin n → σ → σ) (s : σ) (k : Fin n) : upTo f s (k.val + 1) = f k (upTo f s k.val) := by
  rw [upTo]; exact dif_pos k.isLt

/-- The scales spread over lanes, and the scaled values. -/
abbrev Prep (F : FTy → Type) : Type := Vec F S4096x128 .f32 × Vec F S128x4096 .bf16

/-- The unnormalised output, the running maximum and the running sum. -/
abbrev St (F : FTy → Type) : Type := Vec F S2x128x2048 .f32 × Vec F S2x2048 .f32 × Vec F S2x2048 .f32

/-- One trip of the prologue loop. -/
def prep1 (x3 : Vec F S1x128x4096 .fp8e4m3) (x4 x5 : Vec F S1x1x4096 .f32) (k : Fin k0_t1_loop.trips) (s : Prep F) : Prep F :=
  (put (s := S4096x128) s.1 (k0_off2 k) S128x128.size (k0_pay1 (window (s := S1x1x4096) x4 (k0_off1 k) S1x1x128.size (k0_off1_inb k))),
   put (s := S128x4096) s.2 (k0_off4 k) S128x128.size (k0_pay2 (window (s := S1x128x4096) x3 (k0_off3 k) S1x128x128.size (k0_off3_inb k)) (window (s := S1x1x4096) x5 (k0_off1 k) S1x1x128.size (k0_off1_inb k))))

/-- The prologue loop, from whatever the two buffers hold. -/
def prepFrom (x3 : Vec F S1x128x4096 .fp8e4m3) (x4 x5 : Vec F S1x1x4096 .f32) (s : Prep F) : Prep F :=
  upTo (prep1 x3 x4 x5) s k0_t1_loop.trips

/-- The prologue loop's result. -/
def prep (x3 : Vec F S1x128x4096 .fp8e4m3) (x4 x5 : Vec F S1x1x4096 .f32) : Prep F :=
  prepFrom x3 x4 x5 (constant S4096x128 .f32 0x00000000#32, constant S128x4096 .bf16 0x0000#16)

/-- One key tile for the first query head of the group. -/
def tile0 (x2 : Vec F S1x4096x128 .fp8e4m3) (p : Prep F) (v14 : Vec F S1x128x512 .fp8e4m3) (v17 : Vec F S1x1x512 .f32)
    (t : Fin k0_t2_loop.trips) (j : Fin k0_t3_loop.trips) (s : St F) : St F :=
  let v25 := window (s := S1x4096x128) x2 (k0_off7 j) S1x1024x128.size (k0_off7_inb j)
  let v29 := window (s := S4096x128) p.1 (k0_off8 j) S1024x128.size (k0_off8_inb j)
  let v59 := window (s := S128x4096) p.2 (k0_off10 j) S128x1024.size (k0_off10_inb j)
  let v35 := window (s := S2x2048) s.2.1 (k0_off9 t) S1x512.size (k0_off9_inb t)
  let v49 := window (s := S2x2048) s.2.2 (k0_off9 t) S1x512.size (k0_off9_inb t)
  let v63 := window (s := S2x128x2048) s.1 (k0_off11 t) S1x128x512.size (k0_off11_inb t)
  (put (s := S2x128x2048) s.1 (k0_off11 t) S1x128x512.size (k0_pay8 (k0_pay15 (k0_pay6 v14) (k0_pay7 v17) v25 v29 v35) (k0_pay19 (k0_pay6 v14) (k0_pay7 v17) v25 v29 v35 v59) v63),
   put (s := S2x2048) s.2.1 (k0_off9 t) S1x512.size (k0_pay17 (k0_pay6 v14) (k0_pay7 v17) v25 v29 v35),
   put (s := S2x2048) s.2.2 (k0_off9 t) S1x512.size (k0_pay18 (k0_pay6 v14) (k0_pay7 v17) v25 v29 v35 v49))

/-- One key tile for the second query head of the group. -/
def tile1 (x2 : Vec F S1x4096x128 .fp8e4m3) (p : Prep F) (v14 : Vec F S1x128x512 .fp8e4m3) (v17 : Vec F S1x1x512 .f32)
    (t : Fin k0_t4_loop.trips) (j : Fin k0_t5_loop.trips) (s : St F) : St F :=
  let v25 := window (s := S1x4096x128) x2 (k0_off14 j) S1x1024x128.size (k0_off14_inb j)
  let v29 := window (s := S4096x128) p.1 (k0_off15 j) S1024x128.size (k0_off15_inb j)
  let v59 := window (s := S128x4096) p.2 (k0_off17 j) S128x1024.size (k0_off17_inb j)
  let v35 := window (s := S2x2048) s.2.1 (k0_off16 t) S1x512.size (k0_off16_inb t)
  let v49 := window (s := S2x2048) s.2.2 (k0_off16 t) S1x512.size (k0_off16_inb t)
  let v63 := window (s := S2x128x2048) s.1 (k0_off18 t) S1x128x512.size (k0_off18_inb t)
  (put (s := S2x128x2048) s.1 (k0_off18 t) S1x128x512.size (k0_pay11 (k0_pay22 (k0_pay9 v14) (k0_pay10 v17) v25 v29 v35) (k0_pay26 (k0_pay9 v14) (k0_pay10 v17) v25 v29 v35 v59) v63),
   put (s := S2x2048) s.2.1 (k0_off16 t) S1x512.size (k0_pay24 (k0_pay9 v14) (k0_pay10 v17) v25 v29 v35),
   put (s := S2x2048) s.2.2 (k0_off16 t) S1x512.size (k0_pay25 (k0_pay9 v14) (k0_pay10 v17) v25 v29 v35 v49))

/-- One query tile of the first head: its four key tiles. -/
def row0 (x0 : Vec F S2x128x2048 .fp8e4m3) (x1 : Vec F S2x1x2048 .f32) (x2 : Vec F S1x4096x128 .fp8e4m3) (p : Prep F)
    (t : Fin k0_t2_loop.trips) (s : St F) : St F :=
  upTo (tile0 x2 p (window (s := S2x128x2048) x0 (k0_off5 t) S1x128x512.size (k0_off5_inb t)) (window (s := S2x1x2048) x1 (k0_off6 t) S1x1x512.size (k0_off6_inb t)) t) s k0_t3_loop.trips

/-- One query tile of the second head: its four key tiles. -/
def row1 (x0 : Vec F S2x128x2048 .fp8e4m3) (x1 : Vec F S2x1x2048 .f32) (x2 : Vec F S1x4096x128 .fp8e4m3) (p : Prep F)
    (t : Fin k0_t4_loop.trips) (s : St F) : St F :=
  upTo (tile1 x2 p (window (s := S2x128x2048) x0 (k0_off12 t) S1x128x512.size (k0_off12_inb t)) (window (s := S2x1x2048) x1 (k0_off13 t) S1x1x512.size (k0_off13_inb t)) t) s k0_t5_loop.trips

def head0 (x0 : Vec F S2x128x2048 .fp8e4m3) (x1 : Vec F S2x1x2048 .f32) (x2 : Vec F S1x4096x128 .fp8e4m3) (p : Prep F) (s : St F) : St F :=
  upTo (row0 x0 x1 x2 p) s k0_t2_loop.trips
def head1 (x0 : Vec F S2x128x2048 .fp8e4m3) (x1 : Vec F S2x1x2048 .f32) (x2 : Vec F S1x4096x128 .fp8e4m3) (p : Prep F) (s : St F) : St F :=
  upTo (row1 x0 x1 x2 p) s k0_t4_loop.trips

/-- One chunk of keys over all the queries of the group. -/
def chunk (x0 : Vec F S2x128x2048 .fp8e4m3) (x1 : Vec F S2x1x2048 .f32) (x2 : Vec F S1x4096x128 .fp8e4m3) (x3 : Vec F S1x128x4096 .fp8e4m3)
    (x4 x5 : Vec F S1x1x4096 .f32) (s : St F) : St F :=
  head1 x0 x1 x2 (prep x3 x4 x5) (head0 x0 x1 x2 (prep x3 x4 x5) s)

/-- The state before the first chunk. -/
def start : St F := (k0_pay5, k0_pay3, k0_pay4)

/-- The log-sum-exp block the last chunk stores, over whatever the buffer held. -/
def lseFrom (a : Vec F S2x1x2048 .f32) (s : St F) : Vec F S2x1x2048 .f32 :=
  put (s := S2x1x2048) (put (s := S2x1x2048) a ![0, 0, 0] S1x1x2048.size
      (k0_pay27 (window (s := S2x2048) s.2.2 ![0, 0] S1x2048.size inb_S2x2048_S1x2048_0_0) (window (s := S2x2048) s.2.1 ![0, 0] S1x2048.size inb_S2x2048_S1x2048_0_0)))
    ![1, 0, 0] S1x1x2048.size
    (k0_pay29 (window (s := S2x2048) s.2.2 ![1, 0] S1x2048.size inb_S2x2048_S1x2048_1_0) (window (s := S2x2048) s.2.1 ![1, 0] S1x2048.size inb_S2x2048_S1x2048_1_0))

def lse (s : St F) : Vec F S2x1x2048 .f32 := lseFrom (constant S2x1x2048 .f32 0x00000000#32) s

/-- The output block's first half divided. -/
def half (s : St F) : Vec F S2x128x2048 .f32 :=
  put (s := S2x128x2048) s.1 ![0, 0, 0] S1x128x2048.size
      (k0_pay28 (window (s := S2x2048) s.2.2 ![0, 0] S1x2048.size inb_S2x2048_S1x2048_0_0) (window (s := S2x128x2048) s.1 ![0, 0, 0] S1x128x2048.size inb_S2x128x2048_S1x128x2048_0_0_0))

/-- The output block the last chunk stores. -/
def quot (s : St F) : Vec F S2x128x2048 .f32 :=
  put (s := S2x128x2048) (half s) ![1, 0, 0] S1x128x2048.size
    (k0_pay12 (k0_pay30 (window (s := S2x2048) s.2.2 ![1, 0] S1x2048.size inb_S2x2048_S1x2048_1_0) (window (s := S2x128x2048) s.1 ![1, 0, 0] S1x128x2048.size inb_S2x128x2048_S1x128x2048_1_0_0)))

theorem off2_eq (k : Fin k0_t1_loop.trips) : k0_off2 k = ![128 * k.val, 0] := by revert k; decide +kernel
theorem off4_eq (k : Fin k0_t1_loop.trips) : k0_off4 k = ![0, 128 * k.val] := by revert k; decide +kernel
theorem trips1 : k0_t1_loop.trips = 32 := by decide +kernel

/-- The prologue's result does not depend on what the buffers held: its stores cover them. -/
theorem prepFrom_eq (x3 : Vec F S1x128x4096 .fp8e4m3) (x4 x5 : Vec F S1x1x4096 .f32) (s s' : Prep F) :
    prepFrom x3 x4 x5 s = prepFrom x3 x4 x5 s' := by
  have key : ∀ k, k ≤ k0_t1_loop.trips →
      (∀ y : S4096x128.Idx, (y 0).val < 128 * k → (upTo (prep1 x3 x4 x5) s k).1 y = (upTo (prep1 x3 x4 x5) s' k).1 y)
      ∧ (∀ y : S128x4096.Idx, (y 1).val < 128 * k → (upTo (prep1 x3 x4 x5) s k).2 y = (upTo (prep1 x3 x4 x5) s' k).2 y) := by
    intro k
    induction k with
    | zero => intro _; exact ⟨fun y h => absurd h (by omega), fun y h => absurd h (by omega)⟩
    | succ k ih =>
      intro hk
      obtain ⟨h1, h2⟩ := ih (by omega)
      have e1 := upTo_succ (prep1 x3 x4 x5) s ⟨k, by omega⟩
      have e2 := upTo_succ (prep1 x3 x4 x5) s' ⟨k, by omega⟩
      rw [show (⟨k, by omega⟩ : Fin k0_t1_loop.trips).val = k from rfl] at e1 e2
      rw [e1, e2]
      constructor
      · intro y hy
        unfold prep1 put
        rw [off2_eq]
        dsimp only
        split
        · rfl
        · rename_i hn
          apply h1
          by_contra hc
          refine hn fun a => ?_
          fin_cases a
          · show 128 * k ≤ (y 0).val ∧ (y 0).val < 128 * k + 128
            omega
          · show 0 ≤ (y 1).val ∧ (y 1).val < 0 + 128
            have := (y 1).isLt
            exact ⟨Nat.zero_le _, by have h : S4096x128.size 1 = 128 := rfl; omega⟩
      · intro y hy
        unfold prep1 put
        rw [off4_eq]
        dsimp only
        split
        · rfl
        · rename_i hn
          apply h2
          by_contra hc
          refine hn fun a => ?_
          fin_cases a
          · show 0 ≤ (y 0).val ∧ (y 0).val < 0 + 128
            have := (y 0).isLt
            exact ⟨Nat.zero_le _, by have h : S128x4096.size 0 = 128 := rfl; omega⟩
          · show 128 * k ≤ (y 1).val ∧ (y 1).val < 128 * k + 128
            omega
  obtain ⟨h1, h2⟩ := key _ le_rfl
  unfold prepFrom
  refine Prod.ext (funext fun y => h1 y ?_) (funext fun y => h2 y ?_)
  · have := (y 0).isLt
    have h : S4096x128.size 0 = 4096 := rfl
    rw [trips1]; omega
  · have := (y 1).isLt
    have h : S128x4096.size 1 = 4096 := rfl
    rw [trips1]; omega

/-- The log-sum-exp block does not depend on what the buffer held. -/
theorem lseFrom_eq (a a' : Vec F S2x1x2048 .f32) (s : St F) : lseFrom a s = lseFrom a' s := by
  funext y
  unfold lseFrom put
  dsimp only
  split
  · rfl
  · rename_i h1
    split
    · rfl
    · rename_i h0
      exfalso
      have hy0 : (y 0).val < 2 := (y 0).isLt
      have hy1 : (y 1).val < 1 := (y 1).isLt
      have hy2 : (y 2).val < 2048 := (y 2).isLt
      rcases Nat.lt_or_ge (y 0).val 1 with h | h
      · refine h0 fun a => ?_
        fin_cases a
        · show 0 ≤ (y 0).val ∧ (y 0).val < 0 + 1
          omega
        · show 0 ≤ (y 1).val ∧ (y 1).val < 0 + 1
          omega
        · show 0 ≤ (y 2).val ∧ (y 2).val < 0 + 2048
          omega
      · refine h1 fun a => ?_
        fin_cases a
        · show 1 ≤ (y 0).val ∧ (y 0).val < 1 + 1
          omega
        · show 0 ≤ (y 1).val ∧ (y 1).val < 0 + 1
          omega
        · show 0 ≤ (y 2).val ∧ (y 2).val < 0 + 2048
          omega

end Cert.Kernel.Flash

end
-- ==== Proof.KBody1.lean ====
module

public import proofs.«01_k».proof.Proof.KModel
public import proofs.«01_k».proof.Proof.Gen.Kernel.Loops

@[expose] public section

noncomputable section

/-! One grid point of the kernel, run: the buffers it owns before and after, by the plain functions of
    `KModel`. Every loop goes by its own invariant, one trip at a symbolic index. -/

namespace Cert.Kernel.Flash

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The resource algebra of the runs. -/
local notation "𝕄G" => MT nD τ sig Unit (Elt F) ℕ (UR sig nD τ) ℕ

/-- One trip of the prologue. -/
theorem trip1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x3 : Vec F S1x128x4096 .fp8e4m3) (x4 x5 : Vec F S1x1x4096 .f32) (p1 : Vec F S4096x128 .f32) (p2 : Vec F S128x4096 .bf16) (k : Fin k0_t1_loop.trips) :
    (iprop(owns (c : Thread nD τ) arg5 fullShare x3 ∗ owns (c : Thread nD τ) arg6 fullShare x4 ∗ owns (c : Thread nD τ) arg7 fullShare x5 ∗ owns (c : Thread nD τ) arg10 fullShare p1 ∗ owns (c : Thread nD τ) arg11 fullShare p2) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k PUnit.unit)
          (fun _ => iprop(owns (c : Thread nD τ) arg5 fullShare x3 ∗ owns (c : Thread nD τ) arg6 fullShare x4 ∗ owns (c : Thread nD τ) arg7 fullShare x5 ∗ owns (c : Thread nD τ) arg10 fullShare (prep1 x3 x4 x5 k (p1, p2)).1 ∗ owns (c : Thread nD τ) arg11 fullShare (prep1 x3 x4 x5 k (p1, p2)).2)) := by
  have hk : k.val < 32 := Nat.lt_of_lt_of_le k.isLt k0_t1_abs.2.1
  unfold k0_t1_body
  unfold owns
  iintro ⟨⟨%f5, %h5, H5⟩, ⟨%f6, %h6, H6⟩, ⟨%f7, %h7, H7⟩, ⟨%f10, %h10, H10⟩, ⟨%f11, %h11, H11⟩⟩
  subst h5
  subst h6
  subst h7
  subst h10
  subst h11
  sl_exec
  sl_step
  isplitl [H5]
  · iexists _; isplitr
    swap; · iexact H5
    ipureintro; first | rfl | exact View.read_writes_cons_put _ _ _ _ _ rfl
  isplitl [H6]
  · iexists _; isplitr
    swap; · iexact H6
    ipureintro; first | rfl | exact View.read_writes_cons_put _ _ _ _ _ rfl
  isplitl [H7]
  · iexists _; isplitr
    swap; · iexact H7
    ipureintro; first | rfl | exact View.read_writes_cons_put _ _ _ _ _ rfl
  isplitl [H10]
  · iexists _; isplitr
    swap; · iexact H10
    ipureintro; first | rfl | exact View.read_writes_cons_put _ _ _ _ _ rfl
  iexists _; isplitr
  swap; · iexact H11
  ipureintro; first | rfl | exact View.read_writes_cons_put _ _ _ _ _ rfl

/-- One key tile. -/
theorem trip_tile0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p1 : Vec F S4096x128 .f32) (p2 : Vec F S128x4096 .bf16)
    (o : Vec F S2x128x2048 .f32) (m l : Vec F S2x2048 .f32) (t : Fin k0_t2_loop.trips) (j : Fin k0_t3_loop.trips) :
    (iprop(owns (c : Thread nD τ) arg4 fullShare x2 ∗ owns (c : Thread nD τ) arg10 fullShare p1 ∗ owns (c : Thread nD τ) arg11 fullShare p2 ∗ owns (c : Thread nD τ) arg8 fullShare o ∗ owns (c : Thread nD τ) arg12 fullShare m ∗ owns (c : Thread nD τ) arg13 fullShare l) : sProp 𝕄G)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 t v12 v14 v17 j PUnit.unit)
          (fun _ => iprop(owns (c : Thread nD τ) arg4 fullShare x2 ∗ owns (c : Thread nD τ) arg10 fullShare p1 ∗ owns (c : Thread nD τ) arg11 fullShare p2 ∗ owns (c : Thread nD τ) arg8 fullShare (tile0 x2 (p1, p2) v14 v17 t j (o, m, l)).1 ∗ owns (c : Thread nD τ) arg12 fullShare (tile0 x2 (p1, p2) v14 v17 t j (o, m, l)).2.1 ∗ owns (c : Thread nD τ) arg13 fullShare (tile0 x2 (p1, p2) v14 v17 t j (o, m, l)).2.2)) := by
  have ht : t.val < 4 := Nat.lt_of_lt_of_le t.isLt k0_t2_abs.2.1
  have hj : j.val < 4 := Nat.lt_of_lt_of_le j.isLt k0_t3_abs.2.1
  unfold k0_t3_body
  unfold owns
  iintro ⟨⟨%f4, %h4, H4⟩, ⟨%f10, %h10, H10⟩, ⟨%f11, %h11, H11⟩, ⟨%f8, %h8, H8⟩, ⟨%f12, %h12, H12⟩, ⟨%f13, %h13, H13⟩⟩
  subst h4
  subst h10
  subst h11
  subst h8
  subst h12
  subst h13
  sl_exec
  sl_step
  isplitl [H4]
  · iexists _; isplitr
    swap; · iexact H4
    ipureintro; first | rfl | exact View.read_writes_cons_put _ _ _ _ _ rfl
  isplitl [H10]
  · iexists _; isplitr
    swap; · iexact H10
    ipureintro; first | rfl | exact View.read_writes_cons_put _ _ _ _ _ rfl
  isplitl [H11]
  · iexists _; isplitr
    swap; · iexact H11
    ipureintro; first | rfl | exact View.read_writes_cons_put _ _ _ _ _ rfl
  isplitl [H8]
  · iexists _; isplitr
    swap; · iexact H8
    ipureintro; first | rfl | exact View.read_writes_cons_put _ _ _ _ _ rfl
  isplitl [H12]
  · iexists _; isplitr
    swap; · iexact H12
    ipureintro; first | rfl | exact View.read_writes_cons_put _ _ _ _ _ rfl
  iexists _; isplitr
  swap; · iexact H13
  ipureintro; first | rfl | exact View.read_writes_cons_put _ _ _ _ _ rfl

/-- One key tile. -/
theorem trip_tile1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p1 : Vec F S4096x128 .f32) (p2 : Vec F S128x4096 .bf16)
    (o : Vec F S2x128x2048 .f32) (m l : Vec F S2x2048 .f32) (t : Fin k0_t4_loop.trips) (j : Fin k0_t5_loop.trips) :
    (iprop(owns (c : Thread nD τ) arg4 fullShare x2 ∗ owns (c : Thread nD τ) arg10 fullShare p1 ∗ owns (c : Thread nD τ) arg11 fullShare p2 ∗ owns (c : Thread nD τ) arg8 fullShare o ∗ owns (c : Thread nD τ) arg12 fullShare m ∗ owns (c : Thread nD τ) arg13 fullShare l) : sProp 𝕄G)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 t v12 v14 v17 j PUnit.unit)
          (fun _ => iprop(owns (c : Thread nD τ) arg4 fullShare x2 ∗ owns (c : Thread nD τ) arg10 fullShare p1 ∗ owns (c : Thread nD τ) arg11 fullShare p2 ∗ owns (c : Thread nD τ) arg8 fullShare (tile1 x2 (p1, p2) v14 v17 t j (o, m, l)).1 ∗ owns (c : Thread nD τ) arg12 fullShare (tile1 x2 (p1, p2) v14 v17 t j (o, m, l)).2.1 ∗ owns (c : Thread nD τ) arg13 fullShare (tile1 x2 (p1, p2) v14 v17 t j (o, m, l)).2.2)) := by
  have ht : t.val < 4 := Nat.lt_of_lt_of_le t.isLt k0_t4_abs.2.1
  have hj : j.val < 4 := Nat.lt_of_lt_of_le j.isLt k0_t5_abs.2.1
  unfold k0_t5_body
  unfold owns
  iintro ⟨⟨%f4, %h4, H4⟩, ⟨%f10, %h10, H10⟩, ⟨%f11, %h11, H11⟩, ⟨%f8, %h8, H8⟩, ⟨%f12, %h12, H12⟩, ⟨%f13, %h13, H13⟩⟩
  subst h4
  subst h10
  subst h11
  subst h8
  subst h12
  subst h13
  sl_exec
  sl_step
  isplitl [H4]
  · iexists _; isplitr
    swap; · iexact H4
    ipureintro; first | rfl | exact View.read_writes_cons_put _ _ _ _ _ rfl
  isplitl [H10]
  · iexists _; isplitr
    swap; · iexact H10
    ipureintro; first | rfl | exact View.read_writes_cons_put _ _ _ _ _ rfl
  isplitl [H11]
  · iexists _; isplitr
    swap; · iexact H11
    ipureintro; first | rfl | exact View.read_writes_cons_put _ _ _ _ _ rfl
  isplitl [H8]
  · iexists _; isplitr
    swap; · iexact H8
    ipureintro; first | rfl | exact View.read_writes_cons_put _ _ _ _ _ rfl
  isplitl [H12]
  · iexists _; isplitr
    swap; · iexact H12
    ipureintro; first | rfl | exact View.read_writes_cons_put _ _ _ _ _ rfl
  iexists _; isplitr
  swap; · iexact H13
  ipureintro; first | rfl | exact View.read_writes_cons_put _ _ _ _ _ rfl

end Cert.Kernel.Flash

end
-- ==== Proof.KBody2.lean ====
module

public import proofs.«01_k».proof.Proof.KBody1
public import proofs.«01_k».proof.Proof.Gen.Kernel.Loops

@[expose] public section

noncomputable section

/-! One grid point of the kernel, run: the buffers it owns before and after, by the plain functions of
    `KModel`. Every loop goes by its own invariant, one trip at a symbolic index. -/

namespace Cert.Kernel.Flash

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The resource algebra of the runs. -/
local notation "𝕄G" => MT nD τ sig Unit (Elt F) ℕ (UR sig nD τ) ℕ

/-- The prologue loop by its invariant. -/
@[instance_reducible] def inv1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x3 : Vec F S1x128x4096 .fp8e4m3) (x4 x5 : Vec F S1x1x4096 .f32) (s : Prep F) :
    LoopInv (M := 𝕄G) frame (wpE (defs₀ (F := F)) 𝒱 (c : Thread nD τ) bd) E k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13) where
  inv := fun k _ => iprop(owns (c : Thread nD τ) arg5 fullShare x3 ∗ owns (c : Thread nD τ) arg6 fullShare x4 ∗ owns (c : Thread nD τ) arg7 fullShare x5 ∗ owns (c : Thread nD τ) arg10 fullShare (upTo (prep1 x3 x4 x5) s k).1 ∗ owns (c : Thread nD τ) arg11 fullShare (upTo (prep1 x3 x4 x5) s k).2)
  step := by
    intro k acc
    rw [upTo_succ (prep1 x3 x4 x5) s k]
    exact trip1 𝒱 c bd E i arg2 harg2 arg3 harg3 arg4 harg4 arg5 harg5 arg6 harg6 arg7 harg7 arg8 harg8 arg9 harg9 arg10 harg10 arg11 harg11 arg12 harg12 arg13 harg13 x3 x4 x5 _ _ k

/-- The loop, whatever follows it. -/
theorem loop_prep (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x3 : Vec F S1x128x4096 .fp8e4m3) (x4 x5 : Vec F S1x1x4096 .f32) (s : Prep F) {β : Type} {kk : Unit → Prog (TpuEff nD τ sig (Elt F) Λ₀ .tc) β} {Q : β → sProp 𝕄G} :
    (iprop(owns (c : Thread nD τ) arg5 fullShare x3 ∗ owns (c : Thread nD τ) arg6 fullShare x4 ∗ owns (c : Thread nD τ) arg7 fullShare x5 ∗ owns (c : Thread nD τ) arg10 fullShare s.1 ∗ owns (c : Thread nD τ) arg11 fullShare s.2) : sProp 𝕄G)
      ⊢ iprop((∀ acc, (owns (c : Thread nD τ) arg5 fullShare x3 ∗ owns (c : Thread nD τ) arg6 fullShare x4 ∗ owns (c : Thread nD τ) arg7 fullShare x5 ∗ owns (c : Thread nD τ) arg10 fullShare (prep x3 x4 x5).1 ∗ owns (c : Thread nD τ) arg11 fullShare (prep x3 x4 x5).2) -∗ wp frame (wpE (defs₀ (F := F)) 𝒱 (c : Thread nD τ) bd) E (kk acc) Q)
        -∗ wp frame (wpE (defs₀ (F := F)) 𝒱 (c : Thread nD τ) bd) E (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13) >>= kk) Q) := by
  unfold prep; rw [prepFrom_eq x3 x4 x5 _ s]
  exact exec_loop Idealize.ShloMosaic.frame (wpE (defs₀ (F := F)) 𝒱 (c : Thread nD τ) bd) E _ _ _ _ _ _ (inv1 𝒱 c bd E i arg2 harg2 arg3 harg3 arg4 harg4 arg5 harg5 arg6 harg6 arg7 harg7 arg8 harg8 arg9 harg9 arg10 harg10 arg11 harg11 arg12 harg12 arg13 harg13 x3 x4 x5 s)

/-- The loop over key tiles by its invariant. -/
@[instance_reducible] def inv_tile0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F)
    (t : Fin k0_t2_loop.trips) (s : St F) :
    LoopInv (M := 𝕄G) frame (wpE (defs₀ (F := F)) 𝒱 (c : Thread nD τ) bd) E k0_t3_loop.lb k0_t3_loop.ub k0_t3_loop.st k0_t3_ok () (k0_t3_body (F := F) i arg2 harg2 arg3 harg3 arg4 harg4 arg5 harg5 arg6 harg6 arg7 harg7 arg8 harg8 arg9 harg9 arg10 harg10 arg11 harg11 arg12 harg12 arg13 harg13 t v12 v14 v17) where
  inv := fun k _ => iprop(owns (c : Thread nD τ) arg4 fullShare x2 ∗ owns (c : Thread nD τ) arg10 fullShare p.1 ∗ owns (c : Thread nD τ) arg11 fullShare p.2 ∗ owns (c : Thread nD τ) arg8 fullShare (upTo (tile0 x2 p v14 v17 t) s k).1 ∗ owns (c : Thread nD τ) arg12 fullShare (upTo (tile0 x2 p v14 v17 t) s k).2.1 ∗ owns (c : Thread nD τ) arg13 fullShare (upTo (tile0 x2 p v14 v17 t) s k).2.2)
  step := by
    intro k acc
    rw [upTo_succ (tile0 x2 p v14 v17 t) s k]
    exact trip_tile0 𝒱 c bd E i arg2 harg2 arg3 harg3 arg4 harg4 arg5 harg5 arg6 harg6 arg7 harg7 arg8 harg8 arg9 harg9 arg10 harg10 arg11 harg11 arg12 harg12 arg13 harg13 v12 v14 v17 x2 p.1 p.2 _ _ _ t k

/-- The loop, whatever follows it. -/
theorem loop_tile0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F) (t : Fin k0_t2_loop.trips) (s : St F) {β : Type} {kk : Unit → Prog (TpuEff nD τ sig (Elt F) Λ₀ .tc) β} {Q : β → sProp 𝕄G} :
    (iprop(owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg4 fullShare x2 ∗ owns (c : Thread nD τ) arg10 fullShare p.1 ∗ owns (c : Thread nD τ) arg11 fullShare p.2 ∗ owns (c : Thread nD τ) arg8 fullShare (upTo (tile0 x2 p v14 v17 t) s k0_t3_loop.trips).1 ∗ owns (c : Thread nD τ) arg12 fullShare (upTo (tile0 x2 p v14 v17 t) s k0_t3_loop.trips).2.1 ∗ owns (c : Thread nD τ) arg13 fullShare (upTo (tile0 x2 p v14 v17 t) s k0_t3_loop.trips).2.2) -∗ wp frame (wpE (defs₀ (F := F)) 𝒱 (c : Thread nD τ) bd) E (kk acc) Q)
        -∗ wp frame (wpE (defs₀ (F := F)) 𝒱 (c : Thread nD τ) bd) E (Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 t v12 v14 v17) >>= kk) Q) :=
  exec_loop Idealize.ShloMosaic.frame (wpE (defs₀ (F := F)) 𝒱 (c : Thread nD τ) bd) E _ _ _ _ _ _ (inv_tile0 𝒱 c bd E i arg2 harg2 arg3 harg3 arg4 harg4 arg5 harg5 arg6 harg6 arg7 harg7 arg8 harg8 arg9 harg9 arg10 harg10 arg11 harg11 arg12 harg12 arg13 harg13 v12 v14 v17 x2 p t s)

/-- One query tile. -/
theorem trip_row0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) (t : Fin k0_t2_loop.trips) :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 t PUnit.unit)
          (fun _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (row0 x0 x1 x2 p t s).1 ∗ owns (c : Thread nD τ) arg12 fullShare (row0 x0 x1 x2 p t s).2.1 ∗ owns (c : Thread nD τ) arg13 fullShare (row0 x0 x1 x2 p t s).2.2)) := by
  have ht : t.val < 4 := Nat.lt_of_lt_of_le t.isLt k0_t2_abs.2.1
  unfold k0_t2_body
  have e2 : (owns (c : Thread nD τ) arg2 fullShare x0 : sProp 𝕄G) = iprop(∃ f, ⌜arg2.view.read (Elt F) f = x0⌝ ∗ (arg2.view.loc (c : Thread nD τ) ↦[arg2.view.set]{fullShare} f)) := rfl
  have e3 : (owns (c : Thread nD τ) arg3 fullShare x1 : sProp 𝕄G) = iprop(∃ f, ⌜arg3.view.read (Elt F) f = x1⌝ ∗ (arg3.view.loc (c : Thread nD τ) ↦[arg3.view.set]{fullShare} f)) := rfl
  rw [e2, e3]
  clear e2 e3
  iintro ⟨⟨%f2, %h2, H2⟩, ⟨%f3, %h3, H3⟩, H4, H10, H11, H8, H12, H13⟩
  subst h2
  subst h3
  sl_exec
  iapply (loop_tile0 𝒱 c bd E i arg2 harg2 arg3 harg3 arg4 harg4 arg5 harg5 arg6 harg6 arg7 harg7 arg8 harg8 arg9 harg9 arg10 harg10 arg11 harg11 arg12 harg12 arg13 harg13 _ _ _ x2 p t s) $$ [H4 H10 H11 H8 H12 H13]
  · isplitl [H4]; · iexact H4
    isplitl [H10]; · iexact H10
    isplitl [H11]; · iexact H11
    isplitl [H8]; · iexact H8
    isplitl [H12]; · iexact H12
    iexact H13
  iintro %acc ⟨H4, H10, H11, H8, H12, H13⟩
  sl_step
  isplitl [H2]
  · iexists _; isplitr
    swap; · iexact H2
    ipureintro; rfl
  isplitl [H3]
  · iexists _; isplitr
    swap; · iexact H3
    ipureintro; rfl
  isplitl [H4]; · iexact H4
  isplitl [H10]; · iexact H10
  isplitl [H11]; · iexact H11
  isplitl [H8]; · iexact H8
  isplitl [H12]; · iexact H12
  iexact H13

/-- The loop over query tiles by its invariant. -/
@[instance_reducible] def inv_row0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) :
    LoopInv (M := 𝕄G) frame (wpE (defs₀ (F := F)) 𝒱 (c : Thread nD τ) bd) E k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13) where
  inv := fun k _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (upTo (row0 x0 x1 x2 p) s k).1 ∗ owns (c : Thread nD τ) arg12 fullShare (upTo (row0 x0 x1 x2 p) s k).2.1 ∗ owns (c : Thread nD τ) arg13 fullShare (upTo (row0 x0 x1 x2 p) s k).2.2)
  step := by
    intro k acc
    rw [upTo_succ (row0 x0 x1 x2 p) s k]
    exact trip_row0 𝒱 c bd E i arg2 harg2 arg3 harg3 arg4 harg4 arg5 harg5 arg6 harg6 arg7 harg7 arg8 harg8 arg9 harg9 arg10 harg10 arg11 harg11 arg12 harg12 arg13 harg13 x0 x1 x2 p _ k

/-- The loop, whatever follows it. -/
theorem loop_row0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) {β : Type} {kk : Unit → Prog (TpuEff nD τ sig (Elt F) Λ₀ .tc) β} {Q : β → sProp 𝕄G} :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (head0 x0 x1 x2 p s).1 ∗ owns (c : Thread nD τ) arg12 fullShare (head0 x0 x1 x2 p s).2.1 ∗ owns (c : Thread nD τ) arg13 fullShare (head0 x0 x1 x2 p s).2.2) -∗ wp frame (wpE (defs₀ (F := F)) 𝒱 (c : Thread nD τ) bd) E (kk acc) Q)
        -∗ wp frame (wpE (defs₀ (F := F)) 𝒱 (c : Thread nD τ) bd) E (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13) >>= kk) Q) :=
  exec_loop Idealize.ShloMosaic.frame (wpE (defs₀ (F := F)) 𝒱 (c : Thread nD τ) bd) E _ _ _ _ _ _ (inv_row0 𝒱 c bd E i arg2 harg2 arg3 harg3 arg4 harg4 arg5 harg5 arg6 harg6 arg7 harg7 arg8 harg8 arg9 harg9 arg10 harg10 arg11 harg11 arg12 harg12 arg13 harg13 x0 x1 x2 p s)

/-- The loop over key tiles by its invariant. -/
@[instance_reducible] def inv_tile1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F)
    (t : Fin k0_t4_loop.trips) (s : St F) :
    LoopInv (M := 𝕄G) frame (wpE (defs₀ (F := F)) 𝒱 (c : Thread nD τ) bd) E k0_t5_loop.lb k0_t5_loop.ub k0_t5_loop.st k0_t5_ok () (k0_t5_body (F := F) i arg2 harg2 arg3 harg3 arg4 harg4 arg5 harg5 arg6 harg6 arg7 harg7 arg8 harg8 arg9 harg9 arg10 harg10 arg11 harg11 arg12 harg12 arg13 harg13 t v12 v14 v17) where
  inv := fun k _ => iprop(owns (c : Thread nD τ) arg4 fullShare x2 ∗ owns (c : Thread nD τ) arg10 fullShare p.1 ∗ owns (c : Thread nD τ) arg11 fullShare p.2 ∗ owns (c : Thread nD τ) arg8 fullShare (upTo (tile1 x2 p v14 v17 t) s k).1 ∗ owns (c : Thread nD τ) arg12 fullShare (upTo (tile1 x2 p v14 v17 t) s k).2.1 ∗ owns (c : Thread nD τ) arg13 fullShare (upTo (tile1 x2 p v14 v17 t) s k).2.2)
  step := by
    intro k acc
    rw [upTo_succ (tile1 x2 p v14 v17 t) s k]
    exact trip_tile1 𝒱 c bd E i arg2 harg2 arg3 harg3 arg4 harg4 arg5 harg5 arg6 harg6 arg7 harg7 arg8 harg8 arg9 harg9 arg10 harg10 arg11 harg11 arg12 harg12 arg13 harg13 v12 v14 v17 x2 p.1 p.2 _ _ _ t k

/-- The loop, whatever follows it. -/
theorem loop_tile1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F) (t : Fin k0_t4_loop.trips) (s : St F) {β : Type} {kk : Unit → Prog (TpuEff nD τ sig (Elt F) Λ₀ .tc) β} {Q : β → sProp 𝕄G} :
    (iprop(owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg4 fullShare x2 ∗ owns (c : Thread nD τ) arg10 fullShare p.1 ∗ owns (c : Thread nD τ) arg11 fullShare p.2 ∗ owns (c : Thread nD τ) arg8 fullShare (upTo (tile1 x2 p v14 v17 t) s k0_t5_loop.trips).1 ∗ owns (c : Thread nD τ) arg12 fullShare (upTo (tile1 x2 p v14 v17 t) s k0_t5_loop.trips).2.1 ∗ owns (c : Thread nD τ) arg13 fullShare (upTo (tile1 x2 p v14 v17 t) s k0_t5_loop.trips).2.2) -∗ wp frame (wpE (defs₀ (F := F)) 𝒱 (c : Thread nD τ) bd) E (kk acc) Q)
        -∗ wp frame (wpE (defs₀ (F := F)) 𝒱 (c : Thread nD τ) bd) E (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 t v12 v14 v17) >>= kk) Q) :=
  exec_loop Idealize.ShloMosaic.frame (wpE (defs₀ (F := F)) 𝒱 (c : Thread nD τ) bd) E _ _ _ _ _ _ (inv_tile1 𝒱 c bd E i arg2 harg2 arg3 harg3 arg4 harg4 arg5 harg5 arg6 harg6 arg7 harg7 arg8 harg8 arg9 harg9 arg10 harg10 arg11 harg11 arg12 harg12 arg13 harg13 v12 v14 v17 x2 p t s)

/-- One query tile. -/
theorem trip_row1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) (t : Fin k0_t4_loop.trips) :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 t PUnit.unit)
          (fun _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (row1 x0 x1 x2 p t s).1 ∗ owns (c : Thread nD τ) arg12 fullShare (row1 x0 x1 x2 p t s).2.1 ∗ owns (c : Thread nD τ) arg13 fullShare (row1 x0 x1 x2 p t s).2.2)) := by
  have ht : t.val < 4 := Nat.lt_of_lt_of_le t.isLt k0_t4_abs.2.1
  unfold k0_t4_body
  have e2 : (owns (c : Thread nD τ) arg2 fullShare x0 : sProp 𝕄G) = iprop(∃ f, ⌜arg2.view.read (Elt F) f = x0⌝ ∗ (arg2.view.loc (c : Thread nD τ) ↦[arg2.view.set]{fullShare} f)) := rfl
  have e3 : (owns (c : Thread nD τ) arg3 fullShare x1 : sProp 𝕄G) = iprop(∃ f, ⌜arg3.view.read (Elt F) f = x1⌝ ∗ (arg3.view.loc (c : Thread nD τ) ↦[arg3.view.set]{fullShare} f)) := rfl
  rw [e2, e3]
  clear e2 e3
  iintro ⟨⟨%f2, %h2, H2⟩, ⟨%f3, %h3, H3⟩, H4, H10, H11, H8, H12, H13⟩
  subst h2
  subst h3
  sl_exec
  iapply (loop_tile1 𝒱 c bd E i arg2 harg2 arg3 harg3 arg4 harg4 arg5 harg5 arg6 harg6 arg7 harg7 arg8 harg8 arg9 harg9 arg10 harg10 arg11 harg11 arg12 harg12 arg13 harg13 _ _ _ x2 p t s) $$ [H4 H10 H11 H8 H12 H13]
  · isplitl [H4]; · iexact H4
    isplitl [H10]; · iexact H10
    isplitl [H11]; · iexact H11
    isplitl [H8]; · iexact H8
    isplitl [H12]; · iexact H12
    iexact H13
  iintro %acc ⟨H4, H10, H11, H8, H12, H13⟩
  sl_step
  isplitl [H2]
  · iexists _; isplitr
    swap; · iexact H2
    ipureintro; rfl
  isplitl [H3]
  · iexists _; isplitr
    swap; · iexact H3
    ipureintro; rfl
  isplitl [H4]; · iexact H4
  isplitl [H10]; · iexact H10
  isplitl [H11]; · iexact H11
  isplitl [H8]; · iexact H8
  isplitl [H12]; · iexact H12
  iexact H13

/-- The loop over query tiles by its invariant. -/
@[instance_reducible] def inv_row1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) :
    LoopInv (M := 𝕄G) frame (wpE (defs₀ (F := F)) 𝒱 (c : Thread nD τ) bd) E k0_t4_loop.lb k0_t4_loop.ub k0_t4_loop.st k0_t4_ok () (k0_t4_body (F := F) i arg2 harg2 arg3 harg3 arg4 harg4 arg5 harg5 arg6 harg6 arg7 harg7 arg8 harg8 arg9 harg9 arg10 harg10 arg11 harg11 arg12 harg12 arg13 harg13) where
  inv := fun k _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (upTo (row1 x0 x1 x2 p) s k).1 ∗ owns (c : Thread nD τ) arg12 fullShare (upTo (row1 x0 x1 x2 p) s k).2.1 ∗ owns (c : Thread nD τ) arg13 fullShare (upTo (row1 x0 x1 x2 p) s k).2.2)
  step := by
    intro k acc
    rw [upTo_succ (row1 x0 x1 x2 p) s k]
    exact trip_row1 𝒱 c bd E i arg2 harg2 arg3 harg3 arg4 harg4 arg5 harg5 arg6 harg6 arg7 harg7 arg8 harg8 arg9 harg9 arg10 harg10 arg11 harg11 arg12 harg12 arg13 harg13 x0 x1 x2 p _ k

/-- The loop, whatever follows it. -/
theorem loop_row1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) {β : Type} {kk : Unit → Prog (TpuEff nD τ sig (Elt F) Λ₀ .tc) β} {Q : β → sProp 𝕄G} :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (head1 x0 x1 x2 p s).1 ∗ owns (c : Thread nD τ) arg12 fullShare (head1 x0 x1 x2 p s).2.1 ∗ owns (c : Thread nD τ) arg13 fullShare (head1 x0 x1 x2 p s).2.2) -∗ wp frame (wpE (defs₀ (F := F)) 𝒱 (c : Thread nD τ) bd) E (kk acc) Q)
        -∗ wp frame (wpE (defs₀ (F := F)) 𝒱 (c : Thread nD τ) bd) E (Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13) >>= kk) Q) :=
  exec_loop Idealize.ShloMosaic.frame (wpE (defs₀ (F := F)) 𝒱 (c : Thread nD τ) bd) E _ _ _ _ _ _ (inv_row1 𝒱 c bd E i arg2 harg2 arg3 harg3 arg4 harg4 arg5 harg5 arg6 harg6 arg7 harg7 arg8 harg8 arg9 harg9 arg10 harg10 arg11 harg11 arg12 harg12 arg13 harg13 x0 x1 x2 p s)

end Cert.Kernel.Flash

end
-- ==== Proof.KRuns.lean ====
module

public import proofs.«01_k».proof.Proof.Gen.Kernel.Frame
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin cfg0.N, cond0_0 (grid0.coords t) ↔ t.val % 12 = 0 :=
  (fun t => by
    have ht : t.val < 192 := Nat.lt_of_lt_of_eq t.isLt N_0
    have e0 : (grid0.coords t 0).val = t.val / 12 % 16 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points ≡ 11 (mod 12) — by arithmetic of the point. -/
theorem hcond0_1 : ∀ t : Fin cfg0.N, cond0_1 (grid0.coords t) ↔ t.val % 12 = 11 :=
  (fun t => by
    have ht : t.val < 192 := Nat.lt_of_lt_of_eq t.isLt N_0
    have e0 : (grid0.coords t 0).val = t.val / 12 % 16 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 6, through which its contents are stated (`View.read_writes_of_cover`: the
    choice does not matter). -/
abbrev VO0_6 : View sig .tc .vmem S2x128x2048 .f32 := (Memref.whole cc0_stg6_0 : Memref sig .tc .vmem S2x128x2048 .f32).view
/-- One staging buffer of output window 7, through which its contents are stated (`View.read_writes_of_cover`: the
    choice does not matter). -/
abbrev VO0_7 : View sig .tc .vmem S2x1x2048 .f32 := (Memref.whole cc0_stg7_0 : Memref sig .tc .vmem S2x1x2048 .f32).view
/-- Each window's current staging memref at point `t`, spelled as the pipeline passes it (`bodyAt0`), and its wholeness. -/
abbrev ms0_0 (t : Fin cfg0.N) : Memref sig .tc .vmem S2x128x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4096x128 .f32 := Memref.whole cc0_scratch0
abbrev scM0_1 : Memref sig .tc .vmem S128x4096 .bf16 := Memref.whole cc0_scratch1
abbrev scM0_2 : Memref sig .tc .vmem S2x2048 .f32 := Memref.whole cc0_scratch2
abbrev scM0_3 : Memref sig .tc .vmem S2x2048 .f32 := Memref.whole cc0_scratch3
/-- The scratch `arg12` the kernel carries between points, as a view: what it holds is stated through it. -/
abbrev VS0_2 : View sig .tc .vmem S2x2048 .f32 := scM0_2.view
/-- The scratch `arg13` the kernel carries between points, as a view: what it holds is stated through it. -/
abbrev VS0_3 : View sig .tc .vmem S2x2048 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KBody3.lean ====
module

public import proofs.«01_k».proof.Proof.KBody2
public import proofs.«01_k».proof.Proof.KRuns
public import proofs.«01_k».proof.Proof.Gen.Kernel.Loops

@[expose] public section

noncomputable section

/-! One grid point of the kernel, run: the buffers it owns before and after, by the plain functions of
    `KModel`. Every loop goes by its own invariant, one trip at a symbolic index. -/

namespace Cert.Kernel.Flash

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The resource algebra of the runs. -/
local notation "𝕄G" => MT nD τ sig Unit (Elt F) ℕ (UR sig nD τ) ℕ

/-- The last chunk's division: the log-sum-exp block stored, and the output divided by the sum. -/
theorem finish (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc1 : cond0_1 i) (s : St F) (d9 : Vec F S2x1x2048 .f32) (K : PUnit → sProp 𝕄G) :
    (iprop(owns (c : Thread nD τ) arg8 fullShare s.1 ∗ owns (c : Thread nD τ) arg9 fullShare d9 ∗ owns (c : Thread nD τ) arg12 fullShare s.2.1 ∗ owns (c : Thread nD τ) arg13 fullShare s.2.2 ∗ (iprop(owns (c : Thread nD τ) arg8 fullShare (quot s) ∗ owns (c : Thread nD τ) arg9 fullShare (lse s) ∗ owns (c : Thread nD τ) arg12 fullShare s.2.1 ∗ owns (c : Thread nD τ) arg13 fullShare s.2.2) -∗ K ⟨⟩)) : sProp 𝕄G)
      ⊢ wp frame (wpE (defs₀ (F := F)) 𝒱 (c : Thread nD τ) bd) E (do
        if k0_h2 : k0_cond2 i = 1#1 then do
          let v37 : FVec F S128x2048 .f32 ← k0_part3 i arg2 harg2 arg3 harg3 arg4 harg4 arg5 harg5 arg6 harg6 arg7 harg7 arg8 harg8 arg9 harg9 arg10 harg10 arg11 harg11 arg12 harg12 arg13 harg13
          let v38 : Vec F S1x128x2048 .f32 ← Prog.lift (.load arg8 (Rect.unit (s := S2x128x2048) ![1, 0, 0] S1x128x2048.size inb_S2x128x2048_S1x128x2048_1_0_0).toLoadRect (View.loadsAt_vmem h_S1x128x2048))
          Prog.lift (.store arg8 (Rect.unit (s := S2x128x2048) ![1, 0, 0] S1x128x2048.size inb_S2x128x2048_S1x128x2048_1_0_0) (k0_pay12 v37) Finset.univ (View.stores_vmem_bits_univ h_S1x128x2048 rfl) (.inl rfl))
          pure ⟨⟩
        else do
          pure ⟨⟩
        pure ⟨⟩) K := by
  obtain ⟨o, m, l⟩ := s
  have eq9 : lse (o, m, l) = lseFrom d9 (o, m, l) := lseFrom_eq _ _ _
  rw [eq9]
  unfold owns
  iintro ⟨⟨%f8, %h8, H8⟩, ⟨%f9, %h9, H9⟩, ⟨%f12, %h12, H12⟩, ⟨%f13, %h13, H13⟩, Hk⟩
  subst h8
  subst h9
  subst h12
  subst h13
  sl_exec (disch := sl_exact hc1)
  sl_step
  iapply Hk
  isplitl [H8]
  · iexists _; isplitr
    swap; · iexact H8
    ipureintro
    refine (View.read_writes_cons_put _ _ _ _ _ rfl).trans ?_
    rw [View.read_writes_cons_put _ _ _ _ _ rfl]
    rfl
  isplitl [H9]
  · iexists _; isplitr
    swap; · iexact H9
    ipureintro
    refine (View.read_writes_cons_put _ _ _ _ _ rfl).trans ?_
    rw [View.read_writes_cons_put _ _ _ _ _ rfl]
    rfl
  isplitl [H12]
  · iexists _; isplitr
    swap; · iexact H12
    ipureintro; rfl
  iexists _; isplitr
  swap; · iexact H13
  ipureintro; rfl

/-- The first chunk: the state starts afresh. -/
theorem bodyA (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc0 : cond0_0 i) (hc1 : ¬cond0_1 i) (x0 : Vec F S2x128x2048 .fp8e4m3) (x1 : Vec F S2x1x2048 .f32) (x2 : Vec F S1x4096x128 .fp8e4m3) (x3 : Vec F S1x128x4096 .fp8e4m3) (x4 x5 : Vec F S1x1x4096 .f32) (p : Prep F)
    (d8 : Vec F S2x128x2048 .f32) (d9 : Vec F S2x1x2048 .f32) (d12 d13 : Vec F S2x2048 .f32) (K : PUnit → sProp 𝕄G) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg10 fullShare p.1 ∗ owns (c : Thread nD τ) arg11 fullShare p.2 ∗ owns (c : Thread nD τ) arg12 fullShare d12 ∗ owns (c : Thread nD τ) arg13 fullShare d13 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (chunk x0 x1 x2 x3 x4 x5 start).1 ∗ owns (c : Thread nD τ) arg10 fullShare (prep x3 x4 x5).1 ∗ owns (c : Thread nD τ) arg11 fullShare (prep x3 x4 x5).2 ∗ owns (c : Thread nD τ) arg12 fullShare (chunk x0 x1 x2 x3 x4 x5 start).2.1 ∗ owns (c : Thread nD τ) arg13 fullShare (chunk x0 x1 x2 x3 x4 x5 start).2.2) -∗ K ⟨⟩)) : sProp 𝕄G)
      ⊢ wp frame (wpE (defs₀ (F := F)) 𝒱 (c : Thread nD τ) bd) E (cc0_prompt (F := F) i arg2 harg2 arg3 harg3 arg4 harg4 arg5 harg5 arg6 harg6 arg7 harg7 arg8 harg8 arg9 harg9 arg10 harg10 arg11 harg11 arg12 harg12 arg13 harg13) K := by
  simp only [cc0_prompt_eq_skeleton]; unfold cc0_prompt_skel
  have e8 : (owns (c : Thread nD τ) arg8 fullShare d8 : sProp 𝕄G) = iprop(∃ f, ⌜arg8.view.read (Elt F) f = d8⌝ ∗ (arg8.view.loc (c : Thread nD τ) ↦[arg8.view.set]{fullShare} f)) := rfl
  have e12 : (owns (c : Thread nD τ) arg12 fullShare d12 : sProp 𝕄G) = iprop(∃ f, ⌜arg12.view.read (Elt F) f = d12⌝ ∗ (arg12.view.loc (c : Thread nD τ) ↦[arg12.view.set]{fullShare} f)) := rfl
  have e13 : (owns (c : Thread nD τ) arg13 fullShare d13 : sProp 𝕄G) = iprop(∃ f, ⌜arg13.view.read (Elt F) f = d13⌝ ∗ (arg13.view.loc (c : Thread nD τ) ↦[arg13.view.set]{fullShare} f)) := rfl
  rw [e8, e12, e13]
  clear e8 e12 e13
  iintro ⟨H2, H3, H4, H5, H6, H7, ⟨%f8, %h8, H8⟩, H10, H11, ⟨%f12, %h12, H12⟩, ⟨%f13, %h13, H13⟩, Hk⟩
  subst h8
  subst h12
  subst h13
  iapply (loop_prep 𝒱 c bd E i arg2 harg2 arg3 harg3 arg4 harg4 arg5 harg5 arg6 harg6 arg7 harg7 arg8 harg8 arg9 harg9 arg10 harg10 arg11 harg11 arg12 harg12 arg13 harg13 x3 x4 x5 p) $$ [H5 H6 H7 H10 H11]
  · isplitl [H5]; · iexact H5
    isplitl [H6]; · iexact H6
    isplitl [H7]; · iexact H7
    isplitl [H10]; · iexact H10
    iexact H11
  iintro %acc ⟨H5, H6, H7, H10, H11⟩
  sl_exec (disch := first | sl_exact hc0 | sl_exact hc1)
  iapply (loop_row0 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) start) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]
    · unfold owns; iexists _; isplitr
      swap; · iexact H8
      ipureintro; exact View.read_writes_full _ _ _ _ _
    isplitl [H12]
    · unfold owns; iexists _; isplitr
      swap; · iexact H12
      ipureintro; exact View.read_writes_full _ _ _ _ _
    unfold owns; iexists _; isplitr
    swap; · iexact H13
    ipureintro; exact View.read_writes_full _ _ _ _ _
  iintro %acc ⟨H2, H3, H4, H10, H11, H8, H12, H13⟩
  iapply (loop_row1 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (head0 x0 x1 x2 (prep x3 x4 x5) start)) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  sl_exec (disch := first | sl_exact hc0 | sl_exact hc1)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  iexact H13

/-- A chunk in the middle. -/
theorem bodyB (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc0 : ¬cond0_0 i) (hc1 : ¬cond0_1 i) (x0 : Vec F S2x128x2048 .fp8e4m3) (x1 : Vec F S2x1x2048 .f32) (x2 : Vec F S1x4096x128 .fp8e4m3) (x3 : Vec F S1x128x4096 .fp8e4m3) (x4 x5 : Vec F S1x1x4096 .f32) (p : Prep F)
    (d8 : Vec F S2x128x2048 .f32) (d9 : Vec F S2x1x2048 .f32) (d12 d13 : Vec F S2x2048 .f32) (K : PUnit → sProp 𝕄G) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg10 fullShare p.1 ∗ owns (c : Thread nD τ) arg11 fullShare p.2 ∗ owns (c : Thread nD τ) arg12 fullShare d12 ∗ owns (c : Thread nD τ) arg13 fullShare d13 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (chunk x0 x1 x2 x3 x4 x5 (d8, d12, d13)).1 ∗ owns (c : Thread nD τ) arg10 fullShare (prep x3 x4 x5).1 ∗ owns (c : Thread nD τ) arg11 fullShare (prep x3 x4 x5).2 ∗ owns (c : Thread nD τ) arg12 fullShare (chunk x0 x1 x2 x3 x4 x5 (d8, d12, d13)).2.1 ∗ owns (c : Thread nD τ) arg13 fullShare (chunk x0 x1 x2 x3 x4 x5 (d8, d12, d13)).2.2) -∗ K ⟨⟩)) : sProp 𝕄G)
      ⊢ wp frame (wpE (defs₀ (F := F)) 𝒱 (c : Thread nD τ) bd) E (cc0_prompt (F := F) i arg2 harg2 arg3 harg3 arg4 harg4 arg5 harg5 arg6 harg6 arg7 harg7 arg8 harg8 arg9 harg9 arg10 harg10 arg11 harg11 arg12 harg12 arg13 harg13) K := by
  simp only [cc0_prompt_eq_skeleton]; unfold cc0_prompt_skel
  iintro ⟨H2, H3, H4, H5, H6, H7, H8, H10, H11, H12, H13, Hk⟩
  iapply (loop_prep 𝒱 c bd E i arg2 harg2 arg3 harg3 arg4 harg4 arg5 harg5 arg6 harg6 arg7 harg7 arg8 harg8 arg9 harg9 arg10 harg10 arg11 harg11 arg12 harg12 arg13 harg13 x3 x4 x5 p) $$ [H5 H6 H7 H10 H11]
  · isplitl [H5]; · iexact H5
    isplitl [H6]; · iexact H6
    isplitl [H7]; · iexact H7
    isplitl [H10]; · iexact H10
    iexact H11
  iintro %acc ⟨H5, H6, H7, H10, H11⟩
  sl_exec (disch := first | sl_exact hc0 | sl_exact hc1)
  iapply (loop_row0 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (d8, d12, d13)) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  iapply (loop_row1 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (head0 x0 x1 x2 (prep x3 x4 x5) (d8, d12, d13))) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  sl_exec (disch := first | sl_exact hc0 | sl_exact hc1)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  iexact H13

/-- The last chunk. -/
theorem bodyC (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc0 : ¬cond0_0 i) (hc1 : cond0_1 i) (x0 : Vec F S2x128x2048 .fp8e4m3) (x1 : Vec F S2x1x2048 .f32) (x2 : Vec F S1x4096x128 .fp8e4m3) (x3 : Vec F S1x128x4096 .fp8e4m3) (x4 x5 : Vec F S1x1x4096 .f32) (p : Prep F)
    (d8 : Vec F S2x128x2048 .f32) (d9 : Vec F S2x1x2048 .f32) (d12 d13 : Vec F S2x2048 .f32) (K : PUnit → sProp 𝕄G) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare p.1 ∗ owns (c : Thread nD τ) arg11 fullShare p.2 ∗ owns (c : Thread nD τ) arg12 fullShare d12 ∗ owns (c : Thread nD τ) arg13 fullShare d13 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (quot (chunk x0 x1 x2 x3 x4 x5 (d8, d12, d13))) ∗ owns (c : Thread nD τ) arg9 fullShare (lse (chunk x0 x1 x2 x3 x4 x5 (d8, d12, d13))) ∗ owns (c : Thread nD τ) arg10 fullShare (prep x3 x4 x5).1 ∗ owns (c : Thread nD τ) arg11 fullShare (prep x3 x4 x5).2 ∗ owns (c : Thread nD τ) arg12 fullShare (chunk x0 x1 x2 x3 x4 x5 (d8, d12, d13)).2.1 ∗ owns (c : Thread nD τ) arg13 fullShare (chunk x0 x1 x2 x3 x4 x5 (d8, d12, d13)).2.2) -∗ K ⟨⟩)) : sProp 𝕄G)
      ⊢ wp frame (wpE (defs₀ (F := F)) 𝒱 (c : Thread nD τ) bd) E (cc0_prompt (F := F) i arg2 harg2 arg3 harg3 arg4 harg4 arg5 harg5 arg6 harg6 arg7 harg7 arg8 harg8 arg9 harg9 arg10 harg10 arg11 harg11 arg12 harg12 arg13 harg13) K := by
  simp only [cc0_prompt_eq_skeleton]; unfold cc0_prompt_skel
  iintro ⟨H2, H3, H4, H5, H6, H7, H8, H9, H10, H11, H12, H13, Hk⟩
  iapply (loop_prep 𝒱 c bd E i arg2 harg2 arg3 harg3 arg4 harg4 arg5 harg5 arg6 harg6 arg7 harg7 arg8 harg8 arg9 harg9 arg10 harg10 arg11 harg11 arg12 harg12 arg13 harg13 x3 x4 x5 p) $$ [H5 H6 H7 H10 H11]
  · isplitl [H5]; · iexact H5
    isplitl [H6]; · iexact H6
    isplitl [H7]; · iexact H7
    isplitl [H10]; · iexact H10
    iexact H11
  iintro %acc ⟨H5, H6, H7, H10, H11⟩
  sl_exec (disch := first | sl_exact hc0 | sl_exact hc1)
  iapply (loop_row0 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (d8, d12, d13)) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  iapply (loop_row1 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (head0 x0 x1 x2 (prep x3 x4 x5) (d8, d12, d13))) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  iapply (finish 𝒱 c bd E i arg2 harg2 arg3 harg3 arg4 harg4 arg5 harg5 arg6 harg6 arg7 harg7 arg8 harg8 arg9 harg9 arg10 harg10 arg11 harg11 arg12 harg12 arg13 harg13 hc1 (chunk x0 x1 x2 x3 x4 x5 (d8, d12, d13)) d9) $$ [-]
  isplitl [H8]; · iexact H8
  isplitl [H9]; · iexact H9
  isplitl [H12]; · iexact H12
  isplitl [H13]; · iexact H13
  iintro ⟨H8, H9, H12, H13⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Kernel.Flash

end
-- ==== Proof.KFrame.lean ====
module

public import proofs.«01_k».proof.Proof.KBody3
public import Idealize.ShloMosaic.Lib.Claim

@[expose] public section

set_option maxRecDepth 16384

noncomputable section

/-! The pipeline's run: what every staging buffer and every carried scratch buffer holds after each grid point, the
    body's triple at a point, and the launch. -/

namespace Cert.Kernel.Flash

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The chunk of keys of grid point `t`, over the blocks the pipeline stages there. -/
def chunkAt (c : Dev nD) (t : Fin cfg0.N) (s : St F) : St F :=
  chunk (iblk m c 0 t) (iblk m c 1 t) (iblk m c 2 t) (iblk m c 3 t) (iblk m c 4 t) (iblk m c 5 t) s

/-- The running state after grid point `n`: a group's first chunk starts afresh. -/
def stateAt (c : Dev nD) : (n : ℕ) → n < cfg0.N → St F
  | 0, hn => chunkAt m c ⟨0, hn⟩ start
  | n + 1, hn => chunkAt m c ⟨n + 1, hn⟩ (if (n + 1) % 12 = 0 then start else stateAt c n (Nat.lt_of_succ_lt hn))

/-- At a group's first chunk. -/
theorem stateAt_first (c : Dev nD) (t : Fin cfg0.N) (h0 : t.val % 12 = 0) : stateAt m c t.val t.isLt = chunkAt m c t start := by
  obtain ⟨n, hn⟩ := t
  cases n with
  | zero => rfl
  | succ n => rw [stateAt, if_pos h0]

/-- At a later chunk. -/
theorem stateAt_next (c : Dev nD) (t : Fin cfg0.N) (h0 : ¬t.val % 12 = 0) :
    stateAt m c t.val t.isLt = chunkAt m c t (stateAt m c (t.val - 1) (Nat.lt_of_le_of_lt (Nat.sub_le _ _) t.isLt)) := by
  obtain ⟨n, hn⟩ := t
  cases n with
  | zero => exact absurd rfl h0
  | succ n => rw [stateAt, if_neg h0]; rfl

/-- The output block's staging buffer after grid point `n`: divided at a group's last chunk. -/
def oAt (c : Dev nD) (n : ℕ) (hn : n < cfg0.N) : Vec F S2x128x2048 .f32 :=
  if n % 12 = 11 then quot (stateAt m c n hn) else (stateAt m c n hn).1

/-- The region invariant before position `n` with a scratch the kernel CARRIES between points: before the first point the
    class's (Lib/Pipeline/Frame.lean `ΦA`: every scratch at anything); afterwards the scoped rest with each carried scratch
    at what the point before left in it (`the state's components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((stateAt m c n hn).2.1) ∗ owns (c : Thread nD τ) scM0_3 fullShare ((stateAt m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((stateAt m c n hn).2.1) ∗ owns (c : Thread nD τ) scM0_3 fullShare ((stateAt m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((stateAt m c (n - 1) (by omega)).2.1) ∗ owns (c : Thread nD τ) scM0_3 fullShare ((stateAt m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `stateAt`; the invariant the class's
    (`PhiS`: the class's `ΦA` before the first point, then the scoped rest with the carried scratch at `stateAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t.val t.isLt
    | ⟨7, _⟩ => lse (stateAt m c t.val t.isLt)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oAt m c t.val t.isLt := by dsimp only [dats]
theorem after0_7 (c : Dev nD) (t : Fin cfg0.N) : (dats m 0 c).after 7 t = lse (stateAt m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point that is not a first chunk the output's staging buffer holds what the body left at the point before. -/
theorem before0_6 (c : Dev nD) (t : Fin cfg0.N) (h0 : ¬t.val % 12 = 0) (d) :
    (dats m 0 c).before 6 t d = (stateAt m c (t.val - 1) (Nat.lt_of_le_of_lt (Nat.sub_le _ _) t.isLt)).1 := by
  have hN : t.val < 192 := lt_of_lt_of_eq t.isLt (show cfg0.N = 192 from N_0)
  rw [Dat.before_out_kept _ 6 rfl t (by omega) (Bool.eq_false_iff.mpr fun h => by have := (flush0_6 _).mp h; dsimp only at this; omega)
    (fun _ => rfl) (fun _ _ => rfl)]
  dsimp only [dats]
  unfold oAt
  rw [if_neg (show ¬(t.val - 1) % 12 = 11 by omega)]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2000000 in
/-- The body's triple at a point, case A. -/
theorem sound_body_A (c : Dev nD) (t : Fin cfg0.N) (h0 : t.val % 12 = 0) (h1 : ¬t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
  rw [stateAt_first m c t h0, show oAt m c t.val t.isLt = (chunkAt m c t start).1 from by unfold oAt; rw [if_neg h1, stateAt_first m c t h0]]
  by_cases hz : t.val = 0
  · rw [PhiS_castSucc m c t, PhiS_zero m c _ _ hz, PhiA0_eq]
    iintro ⟨⟨⟨⟨%ds0, HS0⟩, ⟨%ds1, HS1⟩, ⟨%ds2, HS2⟩, ⟨%ds3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (ds0, ds1) _ (constant S2x1x2048 .f32 0x00000000#32) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS_castSucc m c t, PhiS_pos m c _ _ hz]
    iintro ⟨⟨⟨⟨%ds0, HS0⟩, ⟨%ds1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (ds0, ds1) _ (constant S2x1x2048 .f32 0x00000000#32) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

set_option maxHeartbeats 2000000 in
/-- The body's triple at a point, case B. -/
theorem sound_body_B (c : Dev nD) (t : Fin cfg0.N) (h0 : ¬t.val % 12 = 0) (h1 : ¬t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
  rw [stateAt_next m c t h0, show oAt m c t.val t.isLt = (chunkAt m c t (stateAt m c (t.val - 1) (Nat.lt_of_le_of_lt (Nat.sub_le _ _) t.isLt))).1 from by unfold oAt; rw [if_neg h1, stateAt_next m c t h0]]
  by_cases hz : t.val = 0
  · exfalso; omega
  · rw [PhiS_castSucc m c t, PhiS_pos m c _ _ hz]
    simp only [before0_6 m c t h0]
    iintro ⟨⟨⟨⟨%ds0, HS0⟩, ⟨%ds1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (ds0, ds1) (stateAt m c (t.val - 1) (Nat.lt_of_le_of_lt (Nat.sub_le _ _) t.isLt)).1 (constant S2x1x2048 .f32 0x00000000#32) (stateAt m c (t.val - 1) (Nat.lt_of_le_of_lt (Nat.sub_le _ _) t.isLt)).2.1 (stateAt m c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

set_option maxHeartbeats 2000000 in
/-- The body's triple at a point, case C. -/
theorem sound_body_C (c : Dev nD) (t : Fin cfg0.N) (h0 : ¬t.val % 12 = 0) (h1 : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1)], after0_7]
  rw [stateAt_next m c t h0, show oAt m c t.val t.isLt = quot (chunkAt m c t (stateAt m c (t.val - 1) (Nat.lt_of_le_of_lt (Nat.sub_le _ _) t.isLt))) from by unfold oAt; rw [if_pos h1, stateAt_next m c t h0]]
  by_cases hz : t.val = 0
  · exfalso; omega
  · rw [PhiS_castSucc m c t, PhiS_pos m c _ _ hz]
    simp only [before0_6 m c t h0]
    iintro ⟨⟨⟨⟨%ds0, HS0⟩, ⟨%ds1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyC Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (ds0, ds1) (stateAt m c (t.val - 1) (Nat.lt_of_le_of_lt (Nat.sub_le _ _) t.isLt)).1 _ (stateAt m c (t.val - 1) (Nat.lt_of_le_of_lt (Nat.sub_le _ _) t.isLt)).2.1 (stateAt m c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_body_A m c t h0 (by omega)
  · by_cases h1 : t.val % 12 = 11
    · exact sound_body_C m c t h0 h1
    · exact sound_body_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the host operations after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Flash

end
-- ==== Proof.KIModel.lean ====
module

public import proofs.«01_k».proof.Proof.Gen.KernelIdeal.Frame
public import proofs.«01_k».proof.Proof.Gen.KernelIdeal.Skeleton
public import Idealize.ShloMosaic.Lib.VecWindow

@[expose] public section

noncomputable section

/-! What one grid point of the kernel does to its buffers, as plain functions of vectors: the prologue loop that
    prepares the scales and the scaled values, the two loops over query tiles (each over four key tiles), and the
    final division. -/

namespace Cert.KernelIdeal.Flash

open Cert.KernelIdeal.Gen
open Idealize.ShloMosaic Idealize.ShloMosaic.TcCoe
open Idealize.ShloMosaic.VecWindow (window put)

variable {F : FTy → Type} [FloatOps F] [Named F]

/-- `k` trips of a loop of `n`. -/
def upTo {σ : Type} {n : ℕ} (f : Fin n → σ → σ) (s : σ) : ℕ → σ
  | 0 => s
  | k + 1 => if h : k < n then f ⟨k, h⟩ (upTo f s k) else upTo f s k

theorem upTo_succ {σ : Type} {n : ℕ} (f : Fin n → σ → σ) (s : σ) (k : Fin n) : upTo f s (k.val + 1) = f k (upTo f s k.val) := by
  rw [upTo]; exact dif_pos k.isLt

/-- The scales spread over lanes, and the scaled values. -/
abbrev Prep (F : FTy → Type) : Type := Vec F S4096x128 .f32 × Vec F S128x4096 .bf16

/-- The unnormalised output, the running maximum and the running sum. -/
abbrev St (F : FTy → Type) : Type := Vec F S2x128x2048 .f32 × Vec F S2x2048 .f32 × Vec F S2x2048 .f32

/-- One trip of the prologue loop. -/
def prep1 (x3 : Vec F S1x128x4096 .fp8e4m3) (x4 x5 : Vec F S1x1x4096 .f32) (k : Fin k0_t1_loop.trips) (s : Prep F) : Prep F :=
  (put (s := S4096x128) s.1 (k0_off2 k) S128x128.size (k0_pay1 (window (s := S1x1x4096) x4 (k0_off1 k) S1x1x128.size (k0_off1_inb k))),
   put (s := S128x4096) s.2 (k0_off4 k) S128x128.size (k0_pay2 (window (s := S1x128x4096) x3 (k0_off3 k) S1x128x128.size (k0_off3_inb k)) (window (s := S1x1x4096) x5 (k0_off1 k) S1x1x128.size (k0_off1_inb k))))

/-- The prologue loop, from whatever the two buffers hold. -/
def prepFrom (x3 : Vec F S1x128x4096 .fp8e4m3) (x4 x5 : Vec F S1x1x4096 .f32) (s : Prep F) : Prep F :=
  upTo (prep1 x3 x4 x5) s k0_t1_loop.trips

/-- The prologue loop's result. -/
def prep (x3 : Vec F S1x128x4096 .fp8e4m3) (x4 x5 : Vec F S1x1x4096 .f32) : Prep F :=
  prepFrom x3 x4 x5 (constant S4096x128 .f32 0x00000000#32, constant S128x4096 .bf16 0x0000#16)

/-- One key tile for the first query head of the group. -/
def tile0 (x2 : Vec F S1x4096x128 .fp8e4m3) (p : Prep F) (v14 : Vec F S1x128x512 .fp8e4m3) (v17 : Vec F S1x1x512 .f32)
    (t : Fin k0_t2_loop.trips) (j : Fin k0_t3_loop.trips) (s : St F) : St F :=
  let v25 := window (s := S1x4096x128) x2 (k0_off7 j) S1x1024x128.size (k0_off7_inb j)
  let v29 := window (s := S4096x128) p.1 (k0_off8 j) S1024x128.size (k0_off8_inb j)
  let v59 := window (s := S128x4096) p.2 (k0_off10 j) S128x1024.size (k0_off10_inb j)
  let v35 := window (s := S2x2048) s.2.1 (k0_off9 t) S1x512.size (k0_off9_inb t)
  let v49 := window (s := S2x2048) s.2.2 (k0_off9 t) S1x512.size (k0_off9_inb t)
  let v63 := window (s := S2x128x2048) s.1 (k0_off11 t) S1x128x512.size (k0_off11_inb t)
  (put (s := S2x128x2048) s.1 (k0_off11 t) S1x128x512.size (k0_pay8 (k0_pay15 (k0_pay6 v14) (k0_pay7 v17) v25 v29 v35) (k0_pay19 (k0_pay6 v14) (k0_pay7 v17) v25 v29 v35 v59) v63),
   put (s := S2x2048) s.2.1 (k0_off9 t) S1x512.size (k0_pay17 (k0_pay6 v14) (k0_pay7 v17) v25 v29 v35),
   put (s := S2x2048) s.2.2 (k0_off9 t) S1x512.size (k0_pay18 (k0_pay6 v14) (k0_pay7 v17) v25 v29 v35 v49))

/-- One key tile for the second query head of the group. -/
def tile1 (x2 : Vec F S1x4096x128 .fp8e4m3) (p : Prep F) (v14 : Vec F S1x128x512 .fp8e4m3) (v17 : Vec F S1x1x512 .f32)
    (t : Fin k0_t4_loop.trips) (j : Fin k0_t5_loop.trips) (s : St F) : St F :=
  let v25 := window (s := S1x4096x128) x2 (k0_off14 j) S1x1024x128.size (k0_off14_inb j)
  let v29 := window (s := S4096x128) p.1 (k0_off15 j) S1024x128.size (k0_off15_inb j)
  let v59 := window (s := S128x4096) p.2 (k0_off17 j) S128x1024.size (k0_off17_inb j)
  let v35 := window (s := S2x2048) s.2.1 (k0_off16 t) S1x512.size (k0_off16_inb t)
  let v49 := window (s := S2x2048) s.2.2 (k0_off16 t) S1x512.size (k0_off16_inb t)
  let v63 := window (s := S2x128x2048) s.1 (k0_off18 t) S1x128x512.size (k0_off18_inb t)
  (put (s := S2x128x2048) s.1 (k0_off18 t) S1x128x512.size (k0_pay11 (k0_pay22 (k0_pay9 v14) (k0_pay10 v17) v25 v29 v35) (k0_pay26 (k0_pay9 v14) (k0_pay10 v17) v25 v29 v35 v59) v63),
   put (s := S2x2048) s.2.1 (k0_off16 t) S1x512.size (k0_pay24 (k0_pay9 v14) (k0_pay10 v17) v25 v29 v35),
   put (s := S2x2048) s.2.2 (k0_off16 t) S1x512.size (k0_pay25 (k0_pay9 v14) (k0_pay10 v17) v25 v29 v35 v49))

/-- One query tile of the first head: its four key tiles. -/
def row0 (x0 : Vec F S2x128x2048 .fp8e4m3) (x1 : Vec F S2x1x2048 .f32) (x2 : Vec F S1x4096x128 .fp8e4m3) (p : Prep F)
    (t : Fin k0_t2_loop.trips) (s : St F) : St F :=
  upTo (tile0 x2 p (window (s := S2x128x2048) x0 (k0_off5 t) S1x128x512.size (k0_off5_inb t)) (window (s := S2x1x2048) x1 (k0_off6 t) S1x1x512.size (k0_off6_inb t)) t) s k0_t3_loop.trips

/-- One query tile of the second head: its four key tiles. -/
def row1 (x0 : Vec F S2x128x2048 .fp8e4m3) (x1 : Vec F S2x1x2048 .f32) (x2 : Vec F S1x4096x128 .fp8e4m3) (p : Prep F)
    (t : Fin k0_t4_loop.trips) (s : St F) : St F :=
  upTo (tile1 x2 p (window (s := S2x128x2048) x0 (k0_off12 t) S1x128x512.size (k0_off12_inb t)) (window (s := S2x1x2048) x1 (k0_off13 t) S1x1x512.size (k0_off13_inb t)) t) s k0_t5_loop.trips

def head0 (x0 : Vec F S2x128x2048 .fp8e4m3) (x1 : Vec F S2x1x2048 .f32) (x2 : Vec F S1x4096x128 .fp8e4m3) (p : Prep F) (s : St F) : St F :=
  upTo (row0 x0 x1 x2 p) s k0_t2_loop.trips
def head1 (x0 : Vec F S2x128x2048 .fp8e4m3) (x1 : Vec F S2x1x2048 .f32) (x2 : Vec F S1x4096x128 .fp8e4m3) (p : Prep F) (s : St F) : St F :=
  upTo (row1 x0 x1 x2 p) s k0_t4_loop.trips

/-- One chunk of keys over all the queries of the group. -/
def chunk (x0 : Vec F S2x128x2048 .fp8e4m3) (x1 : Vec F S2x1x2048 .f32) (x2 : Vec F S1x4096x128 .fp8e4m3) (x3 : Vec F S1x128x4096 .fp8e4m3)
    (x4 x5 : Vec F S1x1x4096 .f32) (s : St F) : St F :=
  head1 x0 x1 x2 (prep x3 x4 x5) (head0 x0 x1 x2 (prep x3 x4 x5) s)

/-- The state before the first chunk. -/
def start : St F := (k0_pay5, k0_pay3, k0_pay4)

/-- The log-sum-exp block the last chunk stores, over whatever the buffer held. -/
def lseFrom (a : Vec F S2x1x2048 .f32) (s : St F) : Vec F S2x1x2048 .f32 :=
  put (s := S2x1x2048) (put (s := S2x1x2048) a ![0, 0, 0] S1x1x2048.size
      (k0_pay27 (window (s := S2x2048) s.2.2 ![0, 0] S1x2048.size inb_S2x2048_S1x2048_0_0) (window (s := S2x2048) s.2.1 ![0, 0] S1x2048.size inb_S2x2048_S1x2048_0_0)))
    ![1, 0, 0] S1x1x2048.size
    (k0_pay29 (window (s := S2x2048) s.2.2 ![1, 0] S1x2048.size inb_S2x2048_S1x2048_1_0) (window (s := S2x2048) s.2.1 ![1, 0] S1x2048.size inb_S2x2048_S1x2048_1_0))

def lse (s : St F) : Vec F S2x1x2048 .f32 := lseFrom (constant S2x1x2048 .f32 0x00000000#32) s

/-- The output block's first half divided. -/
def half (s : St F) : Vec F S2x128x2048 .f32 :=
  put (s := S2x128x2048) s.1 ![0, 0, 0] S1x128x2048.size
      (k0_pay28 (window (s := S2x2048) s.2.2 ![0, 0] S1x2048.size inb_S2x2048_S1x2048_0_0) (window (s := S2x128x2048) s.1 ![0, 0, 0] S1x128x2048.size inb_S2x128x2048_S1x128x2048_0_0_0))

/-- The output block the last chunk stores. -/
def quot (s : St F) : Vec F S2x128x2048 .f32 :=
  put (s := S2x128x2048) (half s) ![1, 0, 0] S1x128x2048.size
    (k0_pay12 (k0_pay30 (window (s := S2x2048) s.2.2 ![1, 0] S1x2048.size inb_S2x2048_S1x2048_1_0) (window (s := S2x128x2048) s.1 ![1, 0, 0] S1x128x2048.size inb_S2x128x2048_S1x128x2048_1_0_0)))

theorem off2_eq (k : Fin k0_t1_loop.trips) : k0_off2 k = ![128 * k.val, 0] := by revert k; decide +kernel
theorem off4_eq (k : Fin k0_t1_loop.trips) : k0_off4 k = ![0, 128 * k.val] := by revert k; decide +kernel
theorem trips1 : k0_t1_loop.trips = 32 := by decide +kernel

/-- The prologue's result does not depend on what the buffers held: its stores cover them. -/
theorem prepFrom_eq (x3 : Vec F S1x128x4096 .fp8e4m3) (x4 x5 : Vec F S1x1x4096 .f32) (s s' : Prep F) :
    prepFrom x3 x4 x5 s = prepFrom x3 x4 x5 s' := by
  have key : ∀ k, k ≤ k0_t1_loop.trips →
      (∀ y : S4096x128.Idx, (y 0).val < 128 * k → (upTo (prep1 x3 x4 x5) s k).1 y = (upTo (prep1 x3 x4 x5) s' k).1 y)
      ∧ (∀ y : S128x4096.Idx, (y 1).val < 128 * k → (upTo (prep1 x3 x4 x5) s k).2 y = (upTo (prep1 x3 x4 x5) s' k).2 y) := by
    intro k
    induction k with
    | zero => intro _; exact ⟨fun y h => absurd h (by omega), fun y h => absurd h (by omega)⟩
    | succ k ih =>
      intro hk
      obtain ⟨h1, h2⟩ := ih (by omega)
      have e1 := upTo_succ (prep1 x3 x4 x5) s ⟨k, by omega⟩
      have e2 := upTo_succ (prep1 x3 x4 x5) s' ⟨k, by omega⟩
      rw [show (⟨k, by omega⟩ : Fin k0_t1_loop.trips).val = k from rfl] at e1 e2
      rw [e1, e2]
      constructor
      · intro y hy
        unfold prep1 put
        rw [off2_eq]
        dsimp only
        split
        · rfl
        · rename_i hn
          apply h1
          by_contra hc
          refine hn fun a => ?_
          fin_cases a
          · show 128 * k ≤ (y 0).val ∧ (y 0).val < 128 * k + 128
            omega
          · show 0 ≤ (y 1).val ∧ (y 1).val < 0 + 128
            have := (y 1).isLt
            exact ⟨Nat.zero_le _, by have h : S4096x128.size 1 = 128 := rfl; omega⟩
      · intro y hy
        unfold prep1 put
        rw [off4_eq]
        dsimp only
        split
        · rfl
        · rename_i hn
          apply h2
          by_contra hc
          refine hn fun a => ?_
          fin_cases a
          · show 0 ≤ (y 0).val ∧ (y 0).val < 0 + 128
            have := (y 0).isLt
            exact ⟨Nat.zero_le _, by have h : S128x4096.size 0 = 128 := rfl; omega⟩
          · show 128 * k ≤ (y 1).val ∧ (y 1).val < 128 * k + 128
            omega
  obtain ⟨h1, h2⟩ := key _ le_rfl
  unfold prepFrom
  refine Prod.ext (funext fun y => h1 y ?_) (funext fun y => h2 y ?_)
  · have := (y 0).isLt
    have h : S4096x128.size 0 = 4096 := rfl
    rw [trips1]; omega
  · have := (y 1).isLt
    have h : S128x4096.size 1 = 4096 := rfl
    rw [trips1]; omega

/-- The log-sum-exp block does not depend on what the buffer held. -/
theorem lseFrom_eq (a a' : Vec F S2x1x2048 .f32) (s : St F) : lseFrom a s = lseFrom a' s := by
  funext y
  unfold lseFrom put
  dsimp only
  split
  · rfl
  · rename_i h1
    split
    · rfl
    · rename_i h0
      exfalso
      have hy0 : (y 0).val < 2 := (y 0).isLt
      have hy1 : (y 1).val < 1 := (y 1).isLt
      have hy2 : (y 2).val < 2048 := (y 2).isLt
      rcases Nat.lt_or_ge (y 0).val 1 with h | h
      · refine h0 fun a => ?_
        fin_cases a
        · show 0 ≤ (y 0).val ∧ (y 0).val < 0 + 1
          omega
        · show 0 ≤ (y 1).val ∧ (y 1).val < 0 + 1
          omega
        · show 0 ≤ (y 2).val ∧ (y 2).val < 0 + 2048
          omega
      · refine h1 fun a => ?_
        fin_cases a
        · show 1 ≤ (y 0).val ∧ (y 0).val < 1 + 1
          omega
        · show 0 ≤ (y 1).val ∧ (y 1).val < 0 + 1
          omega
        · show 0 ≤ (y 2).val ∧ (y 2).val < 0 + 2048
          omega

end Cert.KernelIdeal.Flash

end
-- ==== Proof.KIBody1.lean ====
module

public import proofs.«01_k».proof.Proof.KIModel
public import proofs.«01_k».proof.Proof.Gen.KernelIdeal.Loops

@[expose] public section

noncomputable section

/-! One grid point of the kernel, run: the buffers it owns before and after, by the plain functions of
    `KIModel`. Every loop goes by its own invariant, one trip at a symbolic index. -/

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

/-- The resource algebra of the runs. -/
local notation "𝕄G" => MT nD τ sig Unit (Elt F) ℕ (UR sig nD τ) ℕ

/-- One trip of the prologue. -/
theorem trip1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x3 : Vec F S1x128x4096 .fp8e4m3) (x4 x5 : Vec F S1x1x4096 .f32) (p1 : Vec F S4096x128 .f32) (p2 : Vec F S128x4096 .bf16) (k : Fin k0_t1_loop.trips) :
    (iprop(owns (c : Thread nD τ) arg5 fullShare x3 ∗ owns (c : Thread nD τ) arg6 fullShare x4 ∗ owns (c : Thread nD τ) arg7 fullShare x5 ∗ owns (c : Thread nD τ) arg10 fullShare p1 ∗ owns (c : Thread nD τ) arg11 fullShare p2) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 k PUnit.unit)
          (fun _ => iprop(owns (c : Thread nD τ) arg5 fullShare x3 ∗ owns (c : Thread nD τ) arg6 fullShare x4 ∗ owns (c : Thread nD τ) arg7 fullShare x5 ∗ owns (c : Thread nD τ) arg10 fullShare (prep1 x3 x4 x5 k (p1, p2)).1 ∗ owns (c : Thread nD τ) arg11 fullShare (prep1 x3 x4 x5 k (p1, p2)).2)) := by
  have hk : k.val < 32 := Nat.lt_of_lt_of_le k.isLt k0_t1_abs.2.1
  unfold k0_t1_body
  unfold owns
  iintro ⟨⟨%f5, %h5, H5⟩, ⟨%f6, %h6, H6⟩, ⟨%f7, %h7, H7⟩, ⟨%f10, %h10, H10⟩, ⟨%f11, %h11, H11⟩⟩
  subst h5
  subst h6
  subst h7
  subst h10
  subst h11
  sl_exec
  sl_step
  isplitl [H5]
  · iexists _; isplitr
    swap; · iexact H5
    ipureintro; first | rfl | exact View.read_writes_cons_put _ _ _ _ _ rfl
  isplitl [H6]
  · iexists _; isplitr
    swap; · iexact H6
    ipureintro; first | rfl | exact View.read_writes_cons_put _ _ _ _ _ rfl
  isplitl [H7]
  · iexists _; isplitr
    swap; · iexact H7
    ipureintro; first | rfl | exact View.read_writes_cons_put _ _ _ _ _ rfl
  isplitl [H10]
  · iexists _; isplitr
    swap; · iexact H10
    ipureintro; first | rfl | exact View.read_writes_cons_put _ _ _ _ _ rfl
  iexists _; isplitr
  swap; · iexact H11
  ipureintro; first | rfl | exact View.read_writes_cons_put _ _ _ _ _ rfl

/-- One key tile. -/
theorem trip_tile0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p1 : Vec F S4096x128 .f32) (p2 : Vec F S128x4096 .bf16)
    (o : Vec F S2x128x2048 .f32) (m l : Vec F S2x2048 .f32) (t : Fin k0_t2_loop.trips) (j : Fin k0_t3_loop.trips) :
    (iprop(owns (c : Thread nD τ) arg4 fullShare x2 ∗ owns (c : Thread nD τ) arg10 fullShare p1 ∗ owns (c : Thread nD τ) arg11 fullShare p2 ∗ owns (c : Thread nD τ) arg8 fullShare o ∗ owns (c : Thread nD τ) arg12 fullShare m ∗ owns (c : Thread nD τ) arg13 fullShare l) : sProp 𝕄G)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 t v12 v14 v17 j PUnit.unit)
          (fun _ => iprop(owns (c : Thread nD τ) arg4 fullShare x2 ∗ owns (c : Thread nD τ) arg10 fullShare p1 ∗ owns (c : Thread nD τ) arg11 fullShare p2 ∗ owns (c : Thread nD τ) arg8 fullShare (tile0 x2 (p1, p2) v14 v17 t j (o, m, l)).1 ∗ owns (c : Thread nD τ) arg12 fullShare (tile0 x2 (p1, p2) v14 v17 t j (o, m, l)).2.1 ∗ owns (c : Thread nD τ) arg13 fullShare (tile0 x2 (p1, p2) v14 v17 t j (o, m, l)).2.2)) := by
  have ht : t.val < 4 := Nat.lt_of_lt_of_le t.isLt k0_t2_abs.2.1
  have hj : j.val < 4 := Nat.lt_of_lt_of_le j.isLt k0_t3_abs.2.1
  unfold k0_t3_body
  unfold owns
  iintro ⟨⟨%f4, %h4, H4⟩, ⟨%f10, %h10, H10⟩, ⟨%f11, %h11, H11⟩, ⟨%f8, %h8, H8⟩, ⟨%f12, %h12, H12⟩, ⟨%f13, %h13, H13⟩⟩
  subst h4
  subst h10
  subst h11
  subst h8
  subst h12
  subst h13
  sl_exec
  sl_step
  isplitl [H4]
  · iexists _; isplitr
    swap; · iexact H4
    ipureintro; first | rfl | exact View.read_writes_cons_put _ _ _ _ _ rfl
  isplitl [H10]
  · iexists _; isplitr
    swap; · iexact H10
    ipureintro; first | rfl | exact View.read_writes_cons_put _ _ _ _ _ rfl
  isplitl [H11]
  · iexists _; isplitr
    swap; · iexact H11
    ipureintro; first | rfl | exact View.read_writes_cons_put _ _ _ _ _ rfl
  isplitl [H8]
  · iexists _; isplitr
    swap; · iexact H8
    ipureintro; first | rfl | exact View.read_writes_cons_put _ _ _ _ _ rfl
  isplitl [H12]
  · iexists _; isplitr
    swap; · iexact H12
    ipureintro; first | rfl | exact View.read_writes_cons_put _ _ _ _ _ rfl
  iexists _; isplitr
  swap; · iexact H13
  ipureintro; first | rfl | exact View.read_writes_cons_put _ _ _ _ _ rfl

/-- One key tile. -/
theorem trip_tile1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p1 : Vec F S4096x128 .f32) (p2 : Vec F S128x4096 .bf16)
    (o : Vec F S2x128x2048 .f32) (m l : Vec F S2x2048 .f32) (t : Fin k0_t4_loop.trips) (j : Fin k0_t5_loop.trips) :
    (iprop(owns (c : Thread nD τ) arg4 fullShare x2 ∗ owns (c : Thread nD τ) arg10 fullShare p1 ∗ owns (c : Thread nD τ) arg11 fullShare p2 ∗ owns (c : Thread nD τ) arg8 fullShare o ∗ owns (c : Thread nD τ) arg12 fullShare m ∗ owns (c : Thread nD τ) arg13 fullShare l) : sProp 𝕄G)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 t v12 v14 v17 j PUnit.unit)
          (fun _ => iprop(owns (c : Thread nD τ) arg4 fullShare x2 ∗ owns (c : Thread nD τ) arg10 fullShare p1 ∗ owns (c : Thread nD τ) arg11 fullShare p2 ∗ owns (c : Thread nD τ) arg8 fullShare (tile1 x2 (p1, p2) v14 v17 t j (o, m, l)).1 ∗ owns (c : Thread nD τ) arg12 fullShare (tile1 x2 (p1, p2) v14 v17 t j (o, m, l)).2.1 ∗ owns (c : Thread nD τ) arg13 fullShare (tile1 x2 (p1, p2) v14 v17 t j (o, m, l)).2.2)) := by
  have ht : t.val < 4 := Nat.lt_of_lt_of_le t.isLt k0_t4_abs.2.1
  have hj : j.val < 4 := Nat.lt_of_lt_of_le j.isLt k0_t5_abs.2.1
  unfold k0_t5_body
  unfold owns
  iintro ⟨⟨%f4, %h4, H4⟩, ⟨%f10, %h10, H10⟩, ⟨%f11, %h11, H11⟩, ⟨%f8, %h8, H8⟩, ⟨%f12, %h12, H12⟩, ⟨%f13, %h13, H13⟩⟩
  subst h4
  subst h10
  subst h11
  subst h8
  subst h12
  subst h13
  sl_exec
  sl_step
  isplitl [H4]
  · iexists _; isplitr
    swap; · iexact H4
    ipureintro; first | rfl | exact View.read_writes_cons_put _ _ _ _ _ rfl
  isplitl [H10]
  · iexists _; isplitr
    swap; · iexact H10
    ipureintro; first | rfl | exact View.read_writes_cons_put _ _ _ _ _ rfl
  isplitl [H11]
  · iexists _; isplitr
    swap; · iexact H11
    ipureintro; first | rfl | exact View.read_writes_cons_put _ _ _ _ _ rfl
  isplitl [H8]
  · iexists _; isplitr
    swap; · iexact H8
    ipureintro; first | rfl | exact View.read_writes_cons_put _ _ _ _ _ rfl
  isplitl [H12]
  · iexists _; isplitr
    swap; · iexact H12
    ipureintro; first | rfl | exact View.read_writes_cons_put _ _ _ _ _ rfl
  iexists _; isplitr
  swap; · iexact H13
  ipureintro; first | rfl | exact View.read_writes_cons_put _ _ _ _ _ rfl

end Cert.KernelIdeal.Flash

end
-- ==== Proof.KIBody2.lean ====
module

public import proofs.«01_k».proof.Proof.KIBody1
public import proofs.«01_k».proof.Proof.Gen.KernelIdeal.Loops

@[expose] public section

noncomputable section

/-! One grid point of the kernel, run: the buffers it owns before and after, by the plain functions of
    `KIModel`. Every loop goes by its own invariant, one trip at a symbolic index. -/

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

/-- The resource algebra of the runs. -/
local notation "𝕄G" => MT nD τ sig Unit (Elt F) ℕ (UR sig nD τ) ℕ

/-- The prologue loop by its invariant. -/
@[instance_reducible] def inv1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x3 : Vec F S1x128x4096 .fp8e4m3) (x4 x5 : Vec F S1x1x4096 .f32) (s : Prep F) :
    LoopInv (M := 𝕄G) frame (wpE (defs₀ (F := F)) 𝒱 (c : Thread nD τ) bd) E k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13) where
  inv := fun k _ => iprop(owns (c : Thread nD τ) arg5 fullShare x3 ∗ owns (c : Thread nD τ) arg6 fullShare x4 ∗ owns (c : Thread nD τ) arg7 fullShare x5 ∗ owns (c : Thread nD τ) arg10 fullShare (upTo (prep1 x3 x4 x5) s k).1 ∗ owns (c : Thread nD τ) arg11 fullShare (upTo (prep1 x3 x4 x5) s k).2)
  step := by
    intro k acc
    rw [upTo_succ (prep1 x3 x4 x5) s k]
    exact trip1 𝒱 c bd E i arg2 harg2 arg3 harg3 arg4 harg4 arg5 harg5 arg6 harg6 arg7 harg7 arg8 harg8 arg9 harg9 arg10 harg10 arg11 harg11 arg12 harg12 arg13 harg13 x3 x4 x5 _ _ k

/-- The loop, whatever follows it. -/
theorem loop_prep (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x3 : Vec F S1x128x4096 .fp8e4m3) (x4 x5 : Vec F S1x1x4096 .f32) (s : Prep F) {β : Type} {kk : Unit → Prog (TpuEff nD τ sig (Elt F) Λ₀ .tc) β} {Q : β → sProp 𝕄G} :
    (iprop(owns (c : Thread nD τ) arg5 fullShare x3 ∗ owns (c : Thread nD τ) arg6 fullShare x4 ∗ owns (c : Thread nD τ) arg7 fullShare x5 ∗ owns (c : Thread nD τ) arg10 fullShare s.1 ∗ owns (c : Thread nD τ) arg11 fullShare s.2) : sProp 𝕄G)
      ⊢ iprop((∀ acc, (owns (c : Thread nD τ) arg5 fullShare x3 ∗ owns (c : Thread nD τ) arg6 fullShare x4 ∗ owns (c : Thread nD τ) arg7 fullShare x5 ∗ owns (c : Thread nD τ) arg10 fullShare (prep x3 x4 x5).1 ∗ owns (c : Thread nD τ) arg11 fullShare (prep x3 x4 x5).2) -∗ wp frame (wpE (defs₀ (F := F)) 𝒱 (c : Thread nD τ) bd) E (kk acc) Q)
        -∗ wp frame (wpE (defs₀ (F := F)) 𝒱 (c : Thread nD τ) bd) E (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13) >>= kk) Q) := by
  unfold prep; rw [prepFrom_eq x3 x4 x5 _ s]
  exact exec_loop Idealize.ShloMosaic.frame (wpE (defs₀ (F := F)) 𝒱 (c : Thread nD τ) bd) E _ _ _ _ _ _ (inv1 𝒱 c bd E i arg2 harg2 arg3 harg3 arg4 harg4 arg5 harg5 arg6 harg6 arg7 harg7 arg8 harg8 arg9 harg9 arg10 harg10 arg11 harg11 arg12 harg12 arg13 harg13 x3 x4 x5 s)

/-- The loop over key tiles by its invariant. -/
@[instance_reducible] def inv_tile0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F)
    (t : Fin k0_t2_loop.trips) (s : St F) :
    LoopInv (M := 𝕄G) frame (wpE (defs₀ (F := F)) 𝒱 (c : Thread nD τ) bd) E k0_t3_loop.lb k0_t3_loop.ub k0_t3_loop.st k0_t3_ok () (k0_t3_body (F := F) i arg2 harg2 arg3 harg3 arg4 harg4 arg5 harg5 arg6 harg6 arg7 harg7 arg8 harg8 arg9 harg9 arg10 harg10 arg11 harg11 arg12 harg12 arg13 harg13 t v12 v14 v17) where
  inv := fun k _ => iprop(owns (c : Thread nD τ) arg4 fullShare x2 ∗ owns (c : Thread nD τ) arg10 fullShare p.1 ∗ owns (c : Thread nD τ) arg11 fullShare p.2 ∗ owns (c : Thread nD τ) arg8 fullShare (upTo (tile0 x2 p v14 v17 t) s k).1 ∗ owns (c : Thread nD τ) arg12 fullShare (upTo (tile0 x2 p v14 v17 t) s k).2.1 ∗ owns (c : Thread nD τ) arg13 fullShare (upTo (tile0 x2 p v14 v17 t) s k).2.2)
  step := by
    intro k acc
    rw [upTo_succ (tile0 x2 p v14 v17 t) s k]
    exact trip_tile0 𝒱 c bd E i arg2 harg2 arg3 harg3 arg4 harg4 arg5 harg5 arg6 harg6 arg7 harg7 arg8 harg8 arg9 harg9 arg10 harg10 arg11 harg11 arg12 harg12 arg13 harg13 v12 v14 v17 x2 p.1 p.2 _ _ _ t k

/-- The loop, whatever follows it. -/
theorem loop_tile0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F) (t : Fin k0_t2_loop.trips) (s : St F) {β : Type} {kk : Unit → Prog (TpuEff nD τ sig (Elt F) Λ₀ .tc) β} {Q : β → sProp 𝕄G} :
    (iprop(owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg4 fullShare x2 ∗ owns (c : Thread nD τ) arg10 fullShare p.1 ∗ owns (c : Thread nD τ) arg11 fullShare p.2 ∗ owns (c : Thread nD τ) arg8 fullShare (upTo (tile0 x2 p v14 v17 t) s k0_t3_loop.trips).1 ∗ owns (c : Thread nD τ) arg12 fullShare (upTo (tile0 x2 p v14 v17 t) s k0_t3_loop.trips).2.1 ∗ owns (c : Thread nD τ) arg13 fullShare (upTo (tile0 x2 p v14 v17 t) s k0_t3_loop.trips).2.2) -∗ wp frame (wpE (defs₀ (F := F)) 𝒱 (c : Thread nD τ) bd) E (kk acc) Q)
        -∗ wp frame (wpE (defs₀ (F := F)) 𝒱 (c : Thread nD τ) bd) E (Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 t v12 v14 v17) >>= kk) Q) :=
  exec_loop Idealize.ShloMosaic.frame (wpE (defs₀ (F := F)) 𝒱 (c : Thread nD τ) bd) E _ _ _ _ _ _ (inv_tile0 𝒱 c bd E i arg2 harg2 arg3 harg3 arg4 harg4 arg5 harg5 arg6 harg6 arg7 harg7 arg8 harg8 arg9 harg9 arg10 harg10 arg11 harg11 arg12 harg12 arg13 harg13 v12 v14 v17 x2 p t s)

/-- One query tile. -/
theorem trip_row0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) (t : Fin k0_t2_loop.trips) :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 t PUnit.unit)
          (fun _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (row0 x0 x1 x2 p t s).1 ∗ owns (c : Thread nD τ) arg12 fullShare (row0 x0 x1 x2 p t s).2.1 ∗ owns (c : Thread nD τ) arg13 fullShare (row0 x0 x1 x2 p t s).2.2)) := by
  have ht : t.val < 4 := Nat.lt_of_lt_of_le t.isLt k0_t2_abs.2.1
  unfold k0_t2_body
  have e2 : (owns (c : Thread nD τ) arg2 fullShare x0 : sProp 𝕄G) = iprop(∃ f, ⌜arg2.view.read (Elt F) f = x0⌝ ∗ (arg2.view.loc (c : Thread nD τ) ↦[arg2.view.set]{fullShare} f)) := rfl
  have e3 : (owns (c : Thread nD τ) arg3 fullShare x1 : sProp 𝕄G) = iprop(∃ f, ⌜arg3.view.read (Elt F) f = x1⌝ ∗ (arg3.view.loc (c : Thread nD τ) ↦[arg3.view.set]{fullShare} f)) := rfl
  rw [e2, e3]
  clear e2 e3
  iintro ⟨⟨%f2, %h2, H2⟩, ⟨%f3, %h3, H3⟩, H4, H10, H11, H8, H12, H13⟩
  subst h2
  subst h3
  sl_exec
  iapply (loop_tile0 𝒱 c bd E i arg2 harg2 arg3 harg3 arg4 harg4 arg5 harg5 arg6 harg6 arg7 harg7 arg8 harg8 arg9 harg9 arg10 harg10 arg11 harg11 arg12 harg12 arg13 harg13 _ _ _ x2 p t s) $$ [H4 H10 H11 H8 H12 H13]
  · isplitl [H4]; · iexact H4
    isplitl [H10]; · iexact H10
    isplitl [H11]; · iexact H11
    isplitl [H8]; · iexact H8
    isplitl [H12]; · iexact H12
    iexact H13
  iintro %acc ⟨H4, H10, H11, H8, H12, H13⟩
  sl_step
  isplitl [H2]
  · iexists _; isplitr
    swap; · iexact H2
    ipureintro; rfl
  isplitl [H3]
  · iexists _; isplitr
    swap; · iexact H3
    ipureintro; rfl
  isplitl [H4]; · iexact H4
  isplitl [H10]; · iexact H10
  isplitl [H11]; · iexact H11
  isplitl [H8]; · iexact H8
  isplitl [H12]; · iexact H12
  iexact H13

/-- The loop over query tiles by its invariant. -/
@[instance_reducible] def inv_row0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) :
    LoopInv (M := 𝕄G) frame (wpE (defs₀ (F := F)) 𝒱 (c : Thread nD τ) bd) E k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13) where
  inv := fun k _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (upTo (row0 x0 x1 x2 p) s k).1 ∗ owns (c : Thread nD τ) arg12 fullShare (upTo (row0 x0 x1 x2 p) s k).2.1 ∗ owns (c : Thread nD τ) arg13 fullShare (upTo (row0 x0 x1 x2 p) s k).2.2)
  step := by
    intro k acc
    rw [upTo_succ (row0 x0 x1 x2 p) s k]
    exact trip_row0 𝒱 c bd E i arg2 harg2 arg3 harg3 arg4 harg4 arg5 harg5 arg6 harg6 arg7 harg7 arg8 harg8 arg9 harg9 arg10 harg10 arg11 harg11 arg12 harg12 arg13 harg13 x0 x1 x2 p _ k

/-- The loop, whatever follows it. -/
theorem loop_row0 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) {β : Type} {kk : Unit → Prog (TpuEff nD τ sig (Elt F) Λ₀ .tc) β} {Q : β → sProp 𝕄G} :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (head0 x0 x1 x2 p s).1 ∗ owns (c : Thread nD τ) arg12 fullShare (head0 x0 x1 x2 p s).2.1 ∗ owns (c : Thread nD τ) arg13 fullShare (head0 x0 x1 x2 p s).2.2) -∗ wp frame (wpE (defs₀ (F := F)) 𝒱 (c : Thread nD τ) bd) E (kk acc) Q)
        -∗ wp frame (wpE (defs₀ (F := F)) 𝒱 (c : Thread nD τ) bd) E (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13) >>= kk) Q) :=
  exec_loop Idealize.ShloMosaic.frame (wpE (defs₀ (F := F)) 𝒱 (c : Thread nD τ) bd) E _ _ _ _ _ _ (inv_row0 𝒱 c bd E i arg2 harg2 arg3 harg3 arg4 harg4 arg5 harg5 arg6 harg6 arg7 harg7 arg8 harg8 arg9 harg9 arg10 harg10 arg11 harg11 arg12 harg12 arg13 harg13 x0 x1 x2 p s)

/-- The loop over key tiles by its invariant. -/
@[instance_reducible] def inv_tile1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F)
    (t : Fin k0_t4_loop.trips) (s : St F) :
    LoopInv (M := 𝕄G) frame (wpE (defs₀ (F := F)) 𝒱 (c : Thread nD τ) bd) E k0_t5_loop.lb k0_t5_loop.ub k0_t5_loop.st k0_t5_ok () (k0_t5_body (F := F) i arg2 harg2 arg3 harg3 arg4 harg4 arg5 harg5 arg6 harg6 arg7 harg7 arg8 harg8 arg9 harg9 arg10 harg10 arg11 harg11 arg12 harg12 arg13 harg13 t v12 v14 v17) where
  inv := fun k _ => iprop(owns (c : Thread nD τ) arg4 fullShare x2 ∗ owns (c : Thread nD τ) arg10 fullShare p.1 ∗ owns (c : Thread nD τ) arg11 fullShare p.2 ∗ owns (c : Thread nD τ) arg8 fullShare (upTo (tile1 x2 p v14 v17 t) s k).1 ∗ owns (c : Thread nD τ) arg12 fullShare (upTo (tile1 x2 p v14 v17 t) s k).2.1 ∗ owns (c : Thread nD τ) arg13 fullShare (upTo (tile1 x2 p v14 v17 t) s k).2.2)
  step := by
    intro k acc
    rw [upTo_succ (tile1 x2 p v14 v17 t) s k]
    exact trip_tile1 𝒱 c bd E i arg2 harg2 arg3 harg3 arg4 harg4 arg5 harg5 arg6 harg6 arg7 harg7 arg8 harg8 arg9 harg9 arg10 harg10 arg11 harg11 arg12 harg12 arg13 harg13 v12 v14 v17 x2 p.1 p.2 _ _ _ t k

/-- The loop, whatever follows it. -/
theorem loop_tile1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (v12 : BitVec 32) (v14 : Vec F S1x128x512 .fp8e4m3) (v17 : Vec F S1x1x512 .f32) (x2 : Vec F S1x4096x128 .fp8e4m3) (p : Prep F) (t : Fin k0_t4_loop.trips) (s : St F) {β : Type} {kk : Unit → Prog (TpuEff nD τ sig (Elt F) Λ₀ .tc) β} {Q : β → sProp 𝕄G} :
    (iprop(owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg4 fullShare x2 ∗ owns (c : Thread nD τ) arg10 fullShare p.1 ∗ owns (c : Thread nD τ) arg11 fullShare p.2 ∗ owns (c : Thread nD τ) arg8 fullShare (upTo (tile1 x2 p v14 v17 t) s k0_t5_loop.trips).1 ∗ owns (c : Thread nD τ) arg12 fullShare (upTo (tile1 x2 p v14 v17 t) s k0_t5_loop.trips).2.1 ∗ owns (c : Thread nD τ) arg13 fullShare (upTo (tile1 x2 p v14 v17 t) s k0_t5_loop.trips).2.2) -∗ wp frame (wpE (defs₀ (F := F)) 𝒱 (c : Thread nD τ) bd) E (kk acc) Q)
        -∗ wp frame (wpE (defs₀ (F := F)) 𝒱 (c : Thread nD τ) bd) E (Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 t v12 v14 v17) >>= kk) Q) :=
  exec_loop Idealize.ShloMosaic.frame (wpE (defs₀ (F := F)) 𝒱 (c : Thread nD τ) bd) E _ _ _ _ _ _ (inv_tile1 𝒱 c bd E i arg2 harg2 arg3 harg3 arg4 harg4 arg5 harg5 arg6 harg6 arg7 harg7 arg8 harg8 arg9 harg9 arg10 harg10 arg11 harg11 arg12 harg12 arg13 harg13 v12 v14 v17 x2 p t s)

/-- One query tile. -/
theorem trip_row1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) (t : Fin k0_t4_loop.trips) :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 t PUnit.unit)
          (fun _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (row1 x0 x1 x2 p t s).1 ∗ owns (c : Thread nD τ) arg12 fullShare (row1 x0 x1 x2 p t s).2.1 ∗ owns (c : Thread nD τ) arg13 fullShare (row1 x0 x1 x2 p t s).2.2)) := by
  have ht : t.val < 4 := Nat.lt_of_lt_of_le t.isLt k0_t4_abs.2.1
  unfold k0_t4_body
  have e2 : (owns (c : Thread nD τ) arg2 fullShare x0 : sProp 𝕄G) = iprop(∃ f, ⌜arg2.view.read (Elt F) f = x0⌝ ∗ (arg2.view.loc (c : Thread nD τ) ↦[arg2.view.set]{fullShare} f)) := rfl
  have e3 : (owns (c : Thread nD τ) arg3 fullShare x1 : sProp 𝕄G) = iprop(∃ f, ⌜arg3.view.read (Elt F) f = x1⌝ ∗ (arg3.view.loc (c : Thread nD τ) ↦[arg3.view.set]{fullShare} f)) := rfl
  rw [e2, e3]
  clear e2 e3
  iintro ⟨⟨%f2, %h2, H2⟩, ⟨%f3, %h3, H3⟩, H4, H10, H11, H8, H12, H13⟩
  subst h2
  subst h3
  sl_exec
  iapply (loop_tile1 𝒱 c bd E i arg2 harg2 arg3 harg3 arg4 harg4 arg5 harg5 arg6 harg6 arg7 harg7 arg8 harg8 arg9 harg9 arg10 harg10 arg11 harg11 arg12 harg12 arg13 harg13 _ _ _ x2 p t s) $$ [H4 H10 H11 H8 H12 H13]
  · isplitl [H4]; · iexact H4
    isplitl [H10]; · iexact H10
    isplitl [H11]; · iexact H11
    isplitl [H8]; · iexact H8
    isplitl [H12]; · iexact H12
    iexact H13
  iintro %acc ⟨H4, H10, H11, H8, H12, H13⟩
  sl_step
  isplitl [H2]
  · iexists _; isplitr
    swap; · iexact H2
    ipureintro; rfl
  isplitl [H3]
  · iexists _; isplitr
    swap; · iexact H3
    ipureintro; rfl
  isplitl [H4]; · iexact H4
  isplitl [H10]; · iexact H10
  isplitl [H11]; · iexact H11
  isplitl [H8]; · iexact H8
  isplitl [H12]; · iexact H12
  iexact H13

/-- The loop over query tiles by its invariant. -/
@[instance_reducible] def inv_row1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) :
    LoopInv (M := 𝕄G) frame (wpE (defs₀ (F := F)) 𝒱 (c : Thread nD τ) bd) E k0_t4_loop.lb k0_t4_loop.ub k0_t4_loop.st k0_t4_ok () (k0_t4_body (F := F) i arg2 harg2 arg3 harg3 arg4 harg4 arg5 harg5 arg6 harg6 arg7 harg7 arg8 harg8 arg9 harg9 arg10 harg10 arg11 harg11 arg12 harg12 arg13 harg13) where
  inv := fun k _ => iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (upTo (row1 x0 x1 x2 p) s k).1 ∗ owns (c : Thread nD τ) arg12 fullShare (upTo (row1 x0 x1 x2 p) s k).2.1 ∗ owns (c : Thread nD τ) arg13 fullShare (upTo (row1 x0 x1 x2 p) s k).2.2)
  step := by
    intro k acc
    rw [upTo_succ (row1 x0 x1 x2 p) s k]
    exact trip_row1 𝒱 c bd E i arg2 harg2 arg3 harg3 arg4 harg4 arg5 harg5 arg6 harg6 arg7 harg7 arg8 harg8 arg9 harg9 arg10 harg10 arg11 harg11 arg12 harg12 arg13 harg13 x0 x1 x2 p _ k

/-- The loop, whatever follows it. -/
theorem loop_row1 (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (x0 : Vec F S2x128x2048 .fp8e4m3) (x1 : Vec F S2x1x2048 .f32) (x2 : Vec F S1x4096x128 .fp8e4m3) (p : Prep F) (s : St F) {β : Type} {kk : Unit → Prog (TpuEff nD τ sig (Elt F) Λ₀ .tc) β} {Q : β → sProp 𝕄G} :
    (iprop(owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare s.1 ∗ owns (c : Thread nD τ) arg12 fullShare s.2.1 ∗ owns (c : Thread nD τ) arg13 fullShare s.2.2) : sProp 𝕄G)
      ⊢ iprop((∀ acc, (owns (c : Thread nD τ) arg2 fullShare x0 ∗ owns (c : Thread nD τ) arg3 fullShare x1 ∗ owns (c : Thread nD τ) arg4 fullShare x2 ∗ owns (c : Thread nD τ) arg10 fullShare p.1 ∗ owns (c : Thread nD τ) arg11 fullShare p.2 ∗ owns (c : Thread nD τ) arg8 fullShare (head1 x0 x1 x2 p s).1 ∗ owns (c : Thread nD τ) arg12 fullShare (head1 x0 x1 x2 p s).2.1 ∗ owns (c : Thread nD τ) arg13 fullShare (head1 x0 x1 x2 p s).2.2) -∗ wp frame (wpE (defs₀ (F := F)) 𝒱 (c : Thread nD τ) bd) E (kk acc) Q)
        -∗ wp frame (wpE (defs₀ (F := F)) 𝒱 (c : Thread nD τ) bd) E (Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13) >>= kk) Q) :=
  exec_loop Idealize.ShloMosaic.frame (wpE (defs₀ (F := F)) 𝒱 (c : Thread nD τ) bd) E _ _ _ _ _ _ (inv_row1 𝒱 c bd E i arg2 harg2 arg3 harg3 arg4 harg4 arg5 harg5 arg6 harg6 arg7 harg7 arg8 harg8 arg9 harg9 arg10 harg10 arg11 harg11 arg12 harg12 arg13 harg13 x0 x1 x2 p s)

end Cert.KernelIdeal.Flash

end
-- ==== Proof.KIRuns.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin cfg0.N, cond0_0 (grid0.coords t) ↔ t.val % 12 = 0 :=
  (fun t => by
    have ht : t.val < 192 := Nat.lt_of_lt_of_eq t.isLt N_0
    have e0 : (grid0.coords t 0).val = t.val / 12 % 16 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the points ≡ 11 (mod 12) — by arithmetic of the point. -/
theorem hcond0_1 : ∀ t : Fin cfg0.N, cond0_1 (grid0.coords t) ↔ t.val % 12 = 11 :=
  (fun t => by
    have ht : t.val < 192 := Nat.lt_of_lt_of_eq t.isLt N_0
    have e0 : (grid0.coords t 0).val = t.val / 12 % 16 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 6, through which its contents are stated (`View.read_writes_of_cover`: the
    choice does not matter). -/
abbrev VO0_6 : View sig .tc .vmem S2x128x2048 .f32 := (Memref.whole cc0_stg6_0 : Memref sig .tc .vmem S2x128x2048 .f32).view
/-- One staging buffer of output window 7, through which its contents are stated (`View.read_writes_of_cover`: the
    choice does not matter). -/
abbrev VO0_7 : View sig .tc .vmem S2x1x2048 .f32 := (Memref.whole cc0_stg7_0 : Memref sig .tc .vmem S2x1x2048 .f32).view
/-- Each window's current staging memref at point `t`, spelled as the pipeline passes it (`bodyAt0`), and its wholeness. -/
abbrev ms0_0 (t : Fin cfg0.N) : Memref sig .tc .vmem S2x128x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4096x128 .f32 := Memref.whole cc0_scratch0
abbrev scM0_1 : Memref sig .tc .vmem S128x4096 .bf16 := Memref.whole cc0_scratch1
abbrev scM0_2 : Memref sig .tc .vmem S2x2048 .f32 := Memref.whole cc0_scratch2
abbrev scM0_3 : Memref sig .tc .vmem S2x2048 .f32 := Memref.whole cc0_scratch3
/-- The scratch `arg12` the kernel carries between points, as a view: what it holds is stated through it. -/
abbrev VS0_2 : View sig .tc .vmem S2x2048 .f32 := scM0_2.view
/-- The scratch `arg13` the kernel carries between points, as a view: what it holds is stated through it. -/
abbrev VS0_3 : View sig .tc .vmem S2x2048 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KIBody3.lean ====
module

public import proofs.«01_k».proof.Proof.KIBody2
public import proofs.«01_k».proof.Proof.KIRuns
public import proofs.«01_k».proof.Proof.Gen.KernelIdeal.Loops

@[expose] public section

noncomputable section

/-! One grid point of the kernel, run: the buffers it owns before and after, by the plain functions of
    `KIModel`. Every loop goes by its own invariant, one trip at a symbolic index. -/

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

/-- The resource algebra of the runs. -/
local notation "𝕄G" => MT nD τ sig Unit (Elt F) ℕ (UR sig nD τ) ℕ

/-- The last chunk's division: the log-sum-exp block stored, and the output divided by the sum. -/
theorem finish (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc1 : cond0_1 i) (s : St F) (d9 : Vec F S2x1x2048 .f32) (K : PUnit → sProp 𝕄G) :
    (iprop(owns (c : Thread nD τ) arg8 fullShare s.1 ∗ owns (c : Thread nD τ) arg9 fullShare d9 ∗ owns (c : Thread nD τ) arg12 fullShare s.2.1 ∗ owns (c : Thread nD τ) arg13 fullShare s.2.2 ∗ (iprop(owns (c : Thread nD τ) arg8 fullShare (quot s) ∗ owns (c : Thread nD τ) arg9 fullShare (lse s) ∗ owns (c : Thread nD τ) arg12 fullShare s.2.1 ∗ owns (c : Thread nD τ) arg13 fullShare s.2.2) -∗ K ⟨⟩)) : sProp 𝕄G)
      ⊢ wp frame (wpE (defs₀ (F := F)) 𝒱 (c : Thread nD τ) bd) E (do
        if k0_h2 : k0_cond2 i = 1#1 then do
          let v37 : FVec F S128x2048 .f32 ← k0_part3 i arg2 harg2 arg3 harg3 arg4 harg4 arg5 harg5 arg6 harg6 arg7 harg7 arg8 harg8 arg9 harg9 arg10 harg10 arg11 harg11 arg12 harg12 arg13 harg13
          let v38 : Vec F S1x128x2048 .f32 ← Prog.lift (.load arg8 (Rect.unit (s := S2x128x2048) ![1, 0, 0] S1x128x2048.size inb_S2x128x2048_S1x128x2048_1_0_0).toLoadRect (View.loadsAt_vmem h_S1x128x2048))
          Prog.lift (.store arg8 (Rect.unit (s := S2x128x2048) ![1, 0, 0] S1x128x2048.size inb_S2x128x2048_S1x128x2048_1_0_0) (k0_pay12 v37) Finset.univ (View.stores_vmem_bits_univ h_S1x128x2048 rfl) (.inl rfl))
          pure ⟨⟩
        else do
          pure ⟨⟩
        pure ⟨⟩) K := by
  obtain ⟨o, m, l⟩ := s
  have eq9 : lse (o, m, l) = lseFrom d9 (o, m, l) := lseFrom_eq _ _ _
  rw [eq9]
  unfold owns
  iintro ⟨⟨%f8, %h8, H8⟩, ⟨%f9, %h9, H9⟩, ⟨%f12, %h12, H12⟩, ⟨%f13, %h13, H13⟩, Hk⟩
  subst h8
  subst h9
  subst h12
  subst h13
  sl_exec (disch := sl_exact hc1)
  sl_step
  iapply Hk
  isplitl [H8]
  · iexists _; isplitr
    swap; · iexact H8
    ipureintro
    refine (View.read_writes_cons_put _ _ _ _ _ rfl).trans ?_
    rw [View.read_writes_cons_put _ _ _ _ _ rfl]
    rfl
  isplitl [H9]
  · iexists _; isplitr
    swap; · iexact H9
    ipureintro
    refine (View.read_writes_cons_put _ _ _ _ _ rfl).trans ?_
    rw [View.read_writes_cons_put _ _ _ _ _ rfl]
    rfl
  isplitl [H12]
  · iexists _; isplitr
    swap; · iexact H12
    ipureintro; rfl
  iexists _; isplitr
  swap; · iexact H13
  ipureintro; rfl

/-- The first chunk: the state starts afresh. -/
theorem bodyA (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc0 : cond0_0 i) (hc1 : ¬cond0_1 i) (x0 : Vec F S2x128x2048 .fp8e4m3) (x1 : Vec F S2x1x2048 .f32) (x2 : Vec F S1x4096x128 .fp8e4m3) (x3 : Vec F S1x128x4096 .fp8e4m3) (x4 x5 : Vec F S1x1x4096 .f32) (p : Prep F)
    (d8 : Vec F S2x128x2048 .f32) (d9 : Vec F S2x1x2048 .f32) (d12 d13 : Vec F S2x2048 .f32) (K : PUnit → sProp 𝕄G) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg10 fullShare p.1 ∗ owns (c : Thread nD τ) arg11 fullShare p.2 ∗ owns (c : Thread nD τ) arg12 fullShare d12 ∗ owns (c : Thread nD τ) arg13 fullShare d13 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (chunk x0 x1 x2 x3 x4 x5 start).1 ∗ owns (c : Thread nD τ) arg10 fullShare (prep x3 x4 x5).1 ∗ owns (c : Thread nD τ) arg11 fullShare (prep x3 x4 x5).2 ∗ owns (c : Thread nD τ) arg12 fullShare (chunk x0 x1 x2 x3 x4 x5 start).2.1 ∗ owns (c : Thread nD τ) arg13 fullShare (chunk x0 x1 x2 x3 x4 x5 start).2.2) -∗ K ⟨⟩)) : sProp 𝕄G)
      ⊢ wp frame (wpE (defs₀ (F := F)) 𝒱 (c : Thread nD τ) bd) E (cc0_prompt (F := F) i arg2 harg2 arg3 harg3 arg4 harg4 arg5 harg5 arg6 harg6 arg7 harg7 arg8 harg8 arg9 harg9 arg10 harg10 arg11 harg11 arg12 harg12 arg13 harg13) K := by
  simp only [cc0_prompt_eq_skeleton]; unfold cc0_prompt_skel
  have e8 : (owns (c : Thread nD τ) arg8 fullShare d8 : sProp 𝕄G) = iprop(∃ f, ⌜arg8.view.read (Elt F) f = d8⌝ ∗ (arg8.view.loc (c : Thread nD τ) ↦[arg8.view.set]{fullShare} f)) := rfl
  have e12 : (owns (c : Thread nD τ) arg12 fullShare d12 : sProp 𝕄G) = iprop(∃ f, ⌜arg12.view.read (Elt F) f = d12⌝ ∗ (arg12.view.loc (c : Thread nD τ) ↦[arg12.view.set]{fullShare} f)) := rfl
  have e13 : (owns (c : Thread nD τ) arg13 fullShare d13 : sProp 𝕄G) = iprop(∃ f, ⌜arg13.view.read (Elt F) f = d13⌝ ∗ (arg13.view.loc (c : Thread nD τ) ↦[arg13.view.set]{fullShare} f)) := rfl
  rw [e8, e12, e13]
  clear e8 e12 e13
  iintro ⟨H2, H3, H4, H5, H6, H7, ⟨%f8, %h8, H8⟩, H10, H11, ⟨%f12, %h12, H12⟩, ⟨%f13, %h13, H13⟩, Hk⟩
  subst h8
  subst h12
  subst h13
  iapply (loop_prep 𝒱 c bd E i arg2 harg2 arg3 harg3 arg4 harg4 arg5 harg5 arg6 harg6 arg7 harg7 arg8 harg8 arg9 harg9 arg10 harg10 arg11 harg11 arg12 harg12 arg13 harg13 x3 x4 x5 p) $$ [H5 H6 H7 H10 H11]
  · isplitl [H5]; · iexact H5
    isplitl [H6]; · iexact H6
    isplitl [H7]; · iexact H7
    isplitl [H10]; · iexact H10
    iexact H11
  iintro %acc ⟨H5, H6, H7, H10, H11⟩
  sl_exec (disch := first | sl_exact hc0 | sl_exact hc1)
  iapply (loop_row0 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) start) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]
    · unfold owns; iexists _; isplitr
      swap; · iexact H8
      ipureintro; exact View.read_writes_full _ _ _ _ _
    isplitl [H12]
    · unfold owns; iexists _; isplitr
      swap; · iexact H12
      ipureintro; exact View.read_writes_full _ _ _ _ _
    unfold owns; iexists _; isplitr
    swap; · iexact H13
    ipureintro; exact View.read_writes_full _ _ _ _ _
  iintro %acc ⟨H2, H3, H4, H10, H11, H8, H12, H13⟩
  iapply (loop_row1 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (head0 x0 x1 x2 (prep x3 x4 x5) start)) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  sl_exec (disch := first | sl_exact hc0 | sl_exact hc1)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  iexact H13

/-- A chunk in the middle. -/
theorem bodyB (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc0 : ¬cond0_0 i) (hc1 : ¬cond0_1 i) (x0 : Vec F S2x128x2048 .fp8e4m3) (x1 : Vec F S2x1x2048 .f32) (x2 : Vec F S1x4096x128 .fp8e4m3) (x3 : Vec F S1x128x4096 .fp8e4m3) (x4 x5 : Vec F S1x1x4096 .f32) (p : Prep F)
    (d8 : Vec F S2x128x2048 .f32) (d9 : Vec F S2x1x2048 .f32) (d12 d13 : Vec F S2x2048 .f32) (K : PUnit → sProp 𝕄G) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg10 fullShare p.1 ∗ owns (c : Thread nD τ) arg11 fullShare p.2 ∗ owns (c : Thread nD τ) arg12 fullShare d12 ∗ owns (c : Thread nD τ) arg13 fullShare d13 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (chunk x0 x1 x2 x3 x4 x5 (d8, d12, d13)).1 ∗ owns (c : Thread nD τ) arg10 fullShare (prep x3 x4 x5).1 ∗ owns (c : Thread nD τ) arg11 fullShare (prep x3 x4 x5).2 ∗ owns (c : Thread nD τ) arg12 fullShare (chunk x0 x1 x2 x3 x4 x5 (d8, d12, d13)).2.1 ∗ owns (c : Thread nD τ) arg13 fullShare (chunk x0 x1 x2 x3 x4 x5 (d8, d12, d13)).2.2) -∗ K ⟨⟩)) : sProp 𝕄G)
      ⊢ wp frame (wpE (defs₀ (F := F)) 𝒱 (c : Thread nD τ) bd) E (cc0_prompt (F := F) i arg2 harg2 arg3 harg3 arg4 harg4 arg5 harg5 arg6 harg6 arg7 harg7 arg8 harg8 arg9 harg9 arg10 harg10 arg11 harg11 arg12 harg12 arg13 harg13) K := by
  simp only [cc0_prompt_eq_skeleton]; unfold cc0_prompt_skel
  iintro ⟨H2, H3, H4, H5, H6, H7, H8, H10, H11, H12, H13, Hk⟩
  iapply (loop_prep 𝒱 c bd E i arg2 harg2 arg3 harg3 arg4 harg4 arg5 harg5 arg6 harg6 arg7 harg7 arg8 harg8 arg9 harg9 arg10 harg10 arg11 harg11 arg12 harg12 arg13 harg13 x3 x4 x5 p) $$ [H5 H6 H7 H10 H11]
  · isplitl [H5]; · iexact H5
    isplitl [H6]; · iexact H6
    isplitl [H7]; · iexact H7
    isplitl [H10]; · iexact H10
    iexact H11
  iintro %acc ⟨H5, H6, H7, H10, H11⟩
  sl_exec (disch := first | sl_exact hc0 | sl_exact hc1)
  iapply (loop_row0 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (d8, d12, d13)) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  iapply (loop_row1 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (head0 x0 x1 x2 (prep x3 x4 x5) (d8, d12, d13))) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  sl_exec (disch := first | sl_exact hc0 | sl_exact hc1)
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  iexact H13

/-- The last chunk. -/
theorem bodyC (𝒱 : Variants) (c : Dev nD) (bd : Option 𝒱.V) (E : Set ℕ) (i : grid0.Coords) (arg2 : Memref sig .tc .vmem S2x128x2048 .fp8e4m3) (harg2 : arg2.IsWhole) (arg3 : Memref sig .tc .vmem S2x1x2048 .f32) (harg3 : arg3.IsWhole) (arg4 : Memref sig .tc .vmem S1x4096x128 .fp8e4m3) (harg4 : arg4.IsWhole) (arg5 : Memref sig .tc .vmem S1x128x4096 .fp8e4m3) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S2x128x2048 .f32) (harg8 : arg8.IsWhole) (arg9 : Memref sig .tc .vmem S2x1x2048 .f32) (harg9 : arg9.IsWhole) (arg10 : Memref sig .tc .vmem S4096x128 .f32) (harg10 : arg10.IsWhole) (arg11 : Memref sig .tc .vmem S128x4096 .bf16) (harg11 : arg11.IsWhole) (arg12 : Memref sig .tc .vmem S2x2048 .f32) (harg12 : arg12.IsWhole) (arg13 : Memref sig .tc .vmem S2x2048 .f32) (harg13 : arg13.IsWhole) (hc0 : ¬cond0_0 i) (hc1 : cond0_1 i) (x0 : Vec F S2x128x2048 .fp8e4m3) (x1 : Vec F S2x1x2048 .f32) (x2 : Vec F S1x4096x128 .fp8e4m3) (x3 : Vec F S1x128x4096 .fp8e4m3) (x4 x5 : Vec F S1x1x4096 .f32) (p : Prep F)
    (d8 : Vec F S2x128x2048 .f32) (d9 : Vec F S2x1x2048 .f32) (d12 d13 : Vec F S2x2048 .f32) (K : PUnit → sProp 𝕄G) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare d9 ∗ owns (c : Thread nD τ) arg10 fullShare p.1 ∗ owns (c : Thread nD τ) arg11 fullShare p.2 ∗ owns (c : Thread nD τ) arg12 fullShare d12 ∗ owns (c : Thread nD τ) arg13 fullShare d13 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (quot (chunk x0 x1 x2 x3 x4 x5 (d8, d12, d13))) ∗ owns (c : Thread nD τ) arg9 fullShare (lse (chunk x0 x1 x2 x3 x4 x5 (d8, d12, d13))) ∗ owns (c : Thread nD τ) arg10 fullShare (prep x3 x4 x5).1 ∗ owns (c : Thread nD τ) arg11 fullShare (prep x3 x4 x5).2 ∗ owns (c : Thread nD τ) arg12 fullShare (chunk x0 x1 x2 x3 x4 x5 (d8, d12, d13)).2.1 ∗ owns (c : Thread nD τ) arg13 fullShare (chunk x0 x1 x2 x3 x4 x5 (d8, d12, d13)).2.2) -∗ K ⟨⟩)) : sProp 𝕄G)
      ⊢ wp frame (wpE (defs₀ (F := F)) 𝒱 (c : Thread nD τ) bd) E (cc0_prompt (F := F) i arg2 harg2 arg3 harg3 arg4 harg4 arg5 harg5 arg6 harg6 arg7 harg7 arg8 harg8 arg9 harg9 arg10 harg10 arg11 harg11 arg12 harg12 arg13 harg13) K := by
  simp only [cc0_prompt_eq_skeleton]; unfold cc0_prompt_skel
  iintro ⟨H2, H3, H4, H5, H6, H7, H8, H9, H10, H11, H12, H13, Hk⟩
  iapply (loop_prep 𝒱 c bd E i arg2 harg2 arg3 harg3 arg4 harg4 arg5 harg5 arg6 harg6 arg7 harg7 arg8 harg8 arg9 harg9 arg10 harg10 arg11 harg11 arg12 harg12 arg13 harg13 x3 x4 x5 p) $$ [H5 H6 H7 H10 H11]
  · isplitl [H5]; · iexact H5
    isplitl [H6]; · iexact H6
    isplitl [H7]; · iexact H7
    isplitl [H10]; · iexact H10
    iexact H11
  iintro %acc ⟨H5, H6, H7, H10, H11⟩
  sl_exec (disch := first | sl_exact hc0 | sl_exact hc1)
  iapply (loop_row0 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (d8, d12, d13)) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  iapply (loop_row1 𝒱 c bd E i arg2 harg2 arg3 harg3 arg4 harg4 arg5 harg5 arg6 harg6 arg7 harg7 arg8 harg8 arg9 harg9 arg10 harg10 arg11 harg11 arg12 harg12 arg13 harg13 x0 x1 x2 (prep x3 x4 x5) (head0 x0 x1 x2 (prep x3 x4 x5) (d8, d12, d13))) $$ [H2 H3 H4 H10 H11 H8 H12 H13]
  · isplitl [H2]; · iexact H2
    isplitl [H3]; · iexact H3
    isplitl [H4]; · iexact H4
    isplitl [H10]; · iexact H10
    isplitl [H11]; · iexact H11
    isplitl [H8]; · iexact H8
    isplitl [H12]; · iexact H12
    iexact H13
  iintro %acc ⟨H2, H3, H4, H10, H11, H8, H12, H13⟩
  iapply (finish 𝒱 c bd E i arg2 harg2 arg3 harg3 arg4 harg4 arg5 harg5 arg6 harg6 arg7 harg7 arg8 harg8 arg9 harg9 arg10 harg10 arg11 harg11 arg12 harg12 arg13 harg13 hc1 (chunk x0 x1 x2 x3 x4 x5 (d8, d12, d13)) d9) $$ [-]
  isplitl [H8]; · iexact H8
  isplitl [H9]; · iexact H9
  isplitl [H12]; · iexact H12
  isplitl [H13]; · iexact H13
  iintro ⟨H8, H9, H12, H13⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Flash

end
-- ==== Proof.KIFrame.lean ====
module

public import proofs.«01_k».proof.Proof.KIBody3
public import Idealize.ShloMosaic.Lib.Claim

@[expose] public section

set_option maxRecDepth 16384

noncomputable section

/-! The pipeline's run: what every staging buffer and every carried scratch buffer holds after each grid point, the
    body's triple at a point, and the launch. -/

namespace Cert.KernelIdeal.Flash

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The chunk of keys of grid point `t`, over the blocks the pipeline stages there. -/
def chunkAt (c : Dev nD) (t : Fin cfg0.N) (s : St F) : St F :=
  chunk (iblk m c 0 t) (iblk m c 1 t) (iblk m c 2 t) (iblk m c 3 t) (iblk m c 4 t) (iblk m c 5 t) s

/-- The running state after grid point `n`: a group's first chunk starts afresh. -/
def stateAt (c : Dev nD) : (n : ℕ) → n < cfg0.N → St F
  | 0, hn => chunkAt m c ⟨0, hn⟩ start
  | n + 1, hn => chunkAt m c ⟨n + 1, hn⟩ (if (n + 1) % 12 = 0 then start else stateAt c n (Nat.lt_of_succ_lt hn))

/-- At a group's first chunk. -/
theorem stateAt_first (c : Dev nD) (t : Fin cfg0.N) (h0 : t.val % 12 = 0) : stateAt m c t.val t.isLt = chunkAt m c t start := by
  obtain ⟨n, hn⟩ := t
  cases n with
  | zero => rfl
  | succ n => rw [stateAt, if_pos h0]

/-- At a later chunk. -/
theorem stateAt_next (c : Dev nD) (t : Fin cfg0.N) (h0 : ¬t.val % 12 = 0) :
    stateAt m c t.val t.isLt = chunkAt m c t (stateAt m c (t.val - 1) (Nat.lt_of_le_of_lt (Nat.sub_le _ _) t.isLt)) := by
  obtain ⟨n, hn⟩ := t
  cases n with
  | zero => exact absurd rfl h0
  | succ n => rw [stateAt, if_neg h0]; rfl

/-- The output block's staging buffer after grid point `n`: divided at a group's last chunk. -/
def oAt (c : Dev nD) (n : ℕ) (hn : n < cfg0.N) : Vec F S2x128x2048 .f32 :=
  if n % 12 = 11 then quot (stateAt m c n hn) else (stateAt m c n hn).1

/-- The region invariant before position `n` with a scratch the kernel CARRIES between points: before the first point the
    class's (Lib/Pipeline/Frame.lean `ΦA`: every scratch at anything); afterwards the scoped rest with each carried scratch
    at what the point before left in it (`the state's components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare ((stateAt m c n hn).2.1) ∗ owns (c : Thread nD τ) scM0_3 fullShare ((stateAt m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare ((stateAt m c n hn).2.1) ∗ owns (c : Thread nD τ) scM0_3 fullShare ((stateAt m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare ((stateAt m c (n - 1) (by omega)).2.1) ∗ owns (c : Thread nD τ) scM0_3 fullShare ((stateAt m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `stateAt`; the invariant the class's
    (`PhiS`: the class's `ΦA` before the first point, then the scoped rest with the carried scratch at `stateAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t.val t.isLt
    | ⟨7, _⟩ => lse (stateAt m c t.val t.isLt)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oAt m c t.val t.isLt := by dsimp only [dats]
theorem after0_7 (c : Dev nD) (t : Fin cfg0.N) : (dats m 0 c).after 7 t = lse (stateAt m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- At a point that is not a first chunk the output's staging buffer holds what the body left at the point before. -/
theorem before0_6 (c : Dev nD) (t : Fin cfg0.N) (h0 : ¬t.val % 12 = 0) (d) :
    (dats m 0 c).before 6 t d = (stateAt m c (t.val - 1) (Nat.lt_of_le_of_lt (Nat.sub_le _ _) t.isLt)).1 := by
  have hN : t.val < 192 := lt_of_lt_of_eq t.isLt (show cfg0.N = 192 from N_0)
  rw [Dat.before_out_kept _ 6 rfl t (by omega) (Bool.eq_false_iff.mpr fun h => by have := (flush0_6 _).mp h; dsimp only at this; omega)
    (fun _ => rfl) (fun _ _ => rfl)]
  dsimp only [dats]
  unfold oAt
  rw [if_neg (show ¬(t.val - 1) % 12 = 11 by omega)]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2000000 in
/-- The body's triple at a point, case A. -/
theorem sound_body_A (c : Dev nD) (t : Fin cfg0.N) (h0 : t.val % 12 = 0) (h1 : ¬t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
  rw [stateAt_first m c t h0, show oAt m c t.val t.isLt = (chunkAt m c t start).1 from by unfold oAt; rw [if_neg h1, stateAt_first m c t h0]]
  by_cases hz : t.val = 0
  · rw [PhiS_castSucc m c t, PhiS_zero m c _ _ hz, PhiA0_eq]
    iintro ⟨⟨⟨⟨%ds0, HS0⟩, ⟨%ds1, HS1⟩, ⟨%ds2, HS2⟩, ⟨%ds3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (ds0, ds1) _ (constant S2x1x2048 .f32 0x00000000#32) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [PhiS_castSucc m c t, PhiS_pos m c _ _ hz]
    iintro ⟨⟨⟨⟨%ds0, HS0⟩, ⟨%ds1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (ds0, ds1) _ (constant S2x1x2048 .f32 0x00000000#32) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

set_option maxHeartbeats 2000000 in
/-- The body's triple at a point, case B. -/
theorem sound_body_B (c : Dev nD) (t : Fin cfg0.N) (h0 : ¬t.val % 12 = 0) (h1 : ¬t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
  rw [stateAt_next m c t h0, show oAt m c t.val t.isLt = (chunkAt m c t (stateAt m c (t.val - 1) (Nat.lt_of_le_of_lt (Nat.sub_le _ _) t.isLt))).1 from by unfold oAt; rw [if_neg h1, stateAt_next m c t h0]]
  by_cases hz : t.val = 0
  · exfalso; omega
  · rw [PhiS_castSucc m c t, PhiS_pos m c _ _ hz]
    simp only [before0_6 m c t h0]
    iintro ⟨⟨⟨⟨%ds0, HS0⟩, ⟨%ds1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (ds0, ds1) (stateAt m c (t.val - 1) (Nat.lt_of_le_of_lt (Nat.sub_le _ _) t.isLt)).1 (constant S2x1x2048 .f32 0x00000000#32) (stateAt m c (t.val - 1) (Nat.lt_of_le_of_lt (Nat.sub_le _ _) t.isLt)).2.1 (stateAt m c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

set_option maxHeartbeats 2000000 in
/-- The body's triple at a point, case C. -/
theorem sound_body_C (c : Dev nD) (t : Fin cfg0.N) (h0 : ¬t.val % 12 = 0) (h1 : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7_C t (fun h => h0 ((hcond0_0 t).mp h)) ((hcond0_1 t).mpr h1)], after0_7]
  rw [stateAt_next m c t h0, show oAt m c t.val t.isLt = quot (chunkAt m c t (stateAt m c (t.val - 1) (Nat.lt_of_le_of_lt (Nat.sub_le _ _) t.isLt))) from by unfold oAt; rw [if_pos h1, stateAt_next m c t h0]]
  by_cases hz : t.val = 0
  · exfalso; omega
  · rw [PhiS_castSucc m c t, PhiS_pos m c _ _ hz]
    simp only [before0_6 m c t h0]
    iintro ⟨⟨⟨⟨%ds0, HS0⟩, ⟨%ds1, HS1⟩, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyC Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (ds0, ds1) (stateAt m c (t.val - 1) (Nat.lt_of_le_of_lt (Nat.sub_le _ _) t.isLt)).1 _ (stateAt m c (t.val - 1) (Nat.lt_of_le_of_lt (Nat.sub_le _ _) t.isLt)).2.1 (stateAt m c (t.val - 1) (Nat.lt_of_le_of_lt (Nat.sub_le _ _) t.isLt)).2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]
        · iexists _; iexact HS0
        isplitl [HS1]
        · iexists _; iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_body_A m c t h0 (by omega)
  · by_cases h1 : t.val % 12 = 11
    · exact sound_body_C m c t h0 h1
    · exact sound_body_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the host operations after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Flash

end
-- ==== Proof.Online.lean ====
module

public import Idealize.ShloMosaic.PureOps.Ideal
public import Idealize.ShloMosaic.PureOps.Ideal.Laws

@[expose] public section

noncomputable section

/-! Softmax by running maximum, over the extended reals. A state is a running maximum, a running sum of `2^(s - m)` and a running
    weighted sum; one step takes a block of scores. Whatever the block size, the final state gives the same quotient and the same
    log-sum-exp as the two-pass softmax at base `e`, on every extended real input. -/

namespace Cert.Online

open Idealize.ShloMosaic

/-- The finite number the running maximum starts from. -/
def floor : EReal := Ideal.ofBits .f32 0xF149F2CA#32

theorem floor_real : ∃ r : ℝ, floor = (r : EReal) := by
  unfold floor Ideal.ofBits Ideal.ieee
  dsimp only
  rw [if_neg (by decide), if_neg (by decide)]
  exact ⟨_, rfl⟩

theorem exp2_bot : Ideal.exp2 ⊥ = 0 := rfl
theorem exp_bot : Ideal.exp ⊥ = 0 := rfl
theorem exp2_coe (r : ℝ) : Ideal.exp2 (r : EReal) = ((Real.rpow 2 r : ℝ) : EReal) := rfl
theorem exp_coe (r : ℝ) : Ideal.exp (r : EReal) = ((Real.exp r : ℝ) : EReal) := rfl
theorem sub_top (x : EReal) : x - ⊤ = ⊥ := by
  rw [sub_eq_add_neg, EReal.neg_top, EReal.add_bot]

/-- A factor that is neither negative nor infinite distributes over a sum. -/
theorem mul_sum {ι : Type} (S : Finset ι) (f : ι → EReal) {a : EReal} (h0 : 0 ≤ a) (ht : a ≠ ⊤) :
    a * ∑ i ∈ S, f i = ∑ i ∈ S, a * f i := by
  classical
  induction S using Finset.induction_on with
  | empty => simp
  | insert i S hi ih => rw [Finset.sum_insert hi, Finset.sum_insert hi, EReal.left_distrib_of_nonneg_of_ne_top h0 ht, ih]

/-- The factor one step scales the old sums by. -/
theorem scale_nonneg (m m' : EReal) (hf : floor ≤ m) (h : m ≤ m') : 0 ≤ Ideal.exp2 (m - m') ∧ Ideal.exp2 (m - m') ≠ ⊤ := by
  obtain ⟨r, hr⟩ := floor_real
  induction m' with
  | bot => rw [le_bot_iff] at h; subst h; rw [hr, le_bot_iff] at hf; exact absurd hf (EReal.coe_ne_bot r)
  | top => rw [sub_top, exp2_bot]; exact ⟨le_rfl, EReal.zero_ne_top⟩
  | coe b =>
    induction m with
    | bot => rw [hr, le_bot_iff] at hf; exact absurd hf (EReal.coe_ne_bot r)
    | top => rw [top_le_iff] at h; exact absurd h (EReal.coe_ne_top b)
    | coe a =>
      rw [← EReal.coe_sub, exp2_coe]
      exact ⟨EReal.coe_nonneg.2 (Real.rpow_nonneg (by norm_num) _), EReal.coe_ne_top _⟩

/-- A term under the old maximum, scaled, is the term under the new one. -/
theorem scale_term (m m' s : EReal) (hf : floor ≤ m) (h : m ≤ m') (hs : s ≤ m) :
    Ideal.exp2 (m - m') * Ideal.exp2 (s - m) = Ideal.exp2 (s - m') := by
  obtain ⟨r, hr⟩ := floor_real
  induction m' with
  | bot => rw [le_bot_iff] at h; subst h; rw [hr, le_bot_iff] at hf; exact absurd hf (EReal.coe_ne_bot r)
  | top => rw [sub_top, sub_top, exp2_bot, zero_mul]
  | coe b =>
    induction m with
    | bot => rw [hr, le_bot_iff] at hf; exact absurd hf (EReal.coe_ne_bot r)
    | top => rw [top_le_iff] at h; exact absurd h (EReal.coe_ne_top b)
    | coe a =>
      induction s with
      | bot => rw [EReal.bot_sub, EReal.bot_sub, exp2_bot, mul_zero]
      | top => rw [top_le_iff] at hs; exact absurd hs (EReal.coe_ne_top a)
      | coe x =>
        rw [← EReal.coe_sub, ← EReal.coe_sub, ← EReal.coe_sub, exp2_coe, exp2_coe, exp2_coe, ← EReal.coe_mul]
        refine congrArg _ ?_
        show (2 : ℝ) ^ (a - b) * (2 : ℝ) ^ (x - a) = (2 : ℝ) ^ (x - b)
        rw [← Real.rpow_add (by norm_num)]
        congr 1; ring

/-- The running maximum over the first `n` scores. -/
def top (s : ℕ → EReal) (n : ℕ) : EReal := max floor ((Finset.range n).sup s)

theorem floor_le_top (s : ℕ → EReal) (n : ℕ) : floor ≤ top s n := le_max_left _ _

theorem le_top (s : ℕ → EReal) (n : ℕ) {i : ℕ} (h : i < n) : s i ≤ top s n :=
  (Finset.le_sup (f := s) (Finset.mem_range.2 h)).trans (le_max_right _ _)

/-- The maximum over the first `n + b` scores from the maximum over `n` and that of the block that follows. -/
theorem top_add (s : ℕ → EReal) (n b : ℕ) :
    top s (n + b) = max (top s n) (Finset.univ.fold max ⊥ fun k : Fin b => s (n + k.val)) := by
  have hfold : (Finset.univ.fold max ⊥ fun k : Fin b => s (n + k.val)) = (Finset.univ : Finset (Fin b)).sup fun k => s (n + k.val) := rfl
  rw [hfold, top, top, max_assoc]
  congr 1
  apply le_antisymm
  · refine Finset.sup_le fun i hi => ?_
    rw [Finset.mem_range] at hi
    rcases Nat.lt_or_ge i n with h | h
    · exact (Finset.le_sup (f := s) (Finset.mem_range.2 h)).trans (le_max_left _ _)
    · have := Finset.le_sup (f := fun k : Fin b => s (n + k.val)) (Finset.mem_univ (⟨i - n, by omega⟩ : Fin b))
      rw [show n + (⟨i - n, by omega⟩ : Fin b).val = i from by show n + (i - n) = i; omega] at this
      exact this.trans (le_max_right _ _)
  · refine max_le (Finset.sup_mono fun i hi => ?_) (Finset.sup_le fun k _ => ?_)
    · rw [Finset.mem_range] at hi ⊢; omega
    · exact Finset.le_sup (f := s) (Finset.mem_range.2 (by have := k.isLt; omega))

/-- A sum over the first `n` keys, weighted by `u`. -/
def part (s u : ℕ → EReal) (n : ℕ) : EReal := ∑ i ∈ Finset.range n, u i * Ideal.exp2 (s i - top s n)

/-- One step of a weighted sum. -/
theorem part_add (s u : ℕ → EReal) (n b : ℕ) :
    part s u (n + b) = Ideal.exp2 (top s n - top s (n + b)) * part s u n
      + ∑ k : Fin b, u (n + k.val) * Ideal.exp2 (s (n + k.val) - top s (n + b)) := by
  have hle : top s n ≤ top s (n + b) := by rw [top_add]; exact le_max_left _ _
  obtain ⟨h0, ht⟩ := scale_nonneg (top s n) (top s (n + b)) (floor_le_top s n) hle
  rw [part, part, mul_sum _ _ h0 ht, Finset.sum_range_add, Finset.sum_range (fun x => u (n + x) * Ideal.exp2 (s (n + x) - top s (n + b)))]
  congr 1
  refine Finset.sum_congr rfl fun i hi => ?_
  rw [mul_left_comm, scale_term _ _ _ (floor_le_top s n) hle (le_top s n (Finset.mem_range.1 hi))]

/-- The plain sum. -/
theorem part_one_add (s : ℕ → EReal) (n b : ℕ) :
    part s (fun _ => 1) (n + b) = Ideal.exp2 (top s n - top s (n + b)) * part s (fun _ => 1) n
      + ∑ k : Fin b, Ideal.exp2 (s (n + k.val) - top s (n + b)) := by
  rw [part_add]; simp only [one_mul]

theorem top_zero (s : ℕ → EReal) : top s 0 = floor := by
  rw [top, Finset.range_zero, Finset.sup_empty]; exact max_eq_left bot_le
theorem part_zero (s u : ℕ → EReal) : part s u 0 = 0 := by rw [part, Finset.range_zero, Finset.sum_empty]

/-- The two-pass softmax's maximum over `N` scores. -/
def peak {N : ℕ} (s : Fin N → EReal) : EReal := Finset.univ.fold max ⊥ s

/-- Its weights. -/
def weight {N : ℕ} (s : Fin N → EReal) (i : Fin N) : EReal := Ideal.exp (s i - peak s)

theorem peak_eq_sup {N : ℕ} (s : Fin N → EReal) : peak s = Finset.univ.sup s := rfl

/-- The maximum of `s` in terms of that of `s` at another base. -/
theorem sup_scaled {N : ℕ} (s : ℕ → EReal) (s' : Fin N → EReal) (r : ℝ) (hr : 0 < r) (hs : ∀ i : Fin N, s i.val = s' i * ((r : ℝ) : EReal)) (hN : 0 < N) :
    (Finset.range N).sup s = peak s' * ((r : ℝ) : EReal) := by
  have h0 : (0 : EReal) ≤ ((r : ℝ) : EReal) := EReal.coe_nonneg.2 hr.le
  apply le_antisymm
  · refine Finset.sup_le fun i hi => ?_
    rw [Finset.mem_range] at hi
    rw [show s i = s' ⟨i, hi⟩ * ((r : ℝ) : EReal) from hs ⟨i, hi⟩]
    exact mul_le_mul_of_nonneg_right (Finset.le_sup (f := s') (Finset.mem_univ _)) h0
  · obtain ⟨i, _, hi⟩ := Finset.exists_mem_eq_sup (Finset.univ : Finset (Fin N)) ⟨⟨0, hN⟩, Finset.mem_univ _⟩ s'
    rw [peak_eq_sup, hi, ← hs i]
    exact Finset.le_sup (f := s) (Finset.mem_range.2 i.isLt)

theorem div_zero_zero : Ideal.div 0 0 = ⊥ := by
  unfold Ideal.div; rw [if_pos rfl, if_neg (lt_irrefl _)]

theorem log_zero : Ideal.log 0 = ⊥ := by
  show (if (0 : ℝ) ≤ 0 then (⊥ : EReal) else _) = ⊥
  rw [if_pos le_rfl]

/-- A sum of reals, as extended reals. -/
theorem sum_coe {ι : Type} (S : Finset ι) (f : ι → ℝ) : ((∑ i ∈ S, f i : ℝ) : EReal) = ∑ i ∈ S, (f i : EReal) := by
  classical
  induction S using Finset.induction_on with
  | empty => rfl
  | insert i S hi ih => rw [Finset.sum_insert hi, Finset.sum_insert hi, EReal.coe_add, ih]

/-- What the two ways of summing give, side by side: either every weight of both is zero and the maxima are infinite or `⊥`, or
    the weights of one are a positive real multiple of those of the other. -/
theorem compare {N : ℕ} (hN : 0 < N) (s : ℕ → EReal) (s' : Fin N → EReal)
    (hs : ∀ i : Fin N, s i.val = s' i * (((Real.log 2)⁻¹ : ℝ) : EReal)) :
    ((∀ i : Fin N, Ideal.exp2 (s i.val - top s N) = 0) ∧ (∀ i, weight s' i = 0))
    ∨ ∃ c p t L : ℝ, 0 < c ∧ 1 ≤ L ∧ peak s' = (p : EReal) ∧ top s N = (t : EReal) ∧ (∀ i : Fin N, Ideal.exp2 (s i.val - top s N) = (c : EReal) * weight s' i)
        ∧ ∑ i, weight s' i = (L : EReal) ∧ t * Real.log 2 + Real.log c = p := by
  have hl : 0 < Real.log 2 := Real.log_pos (by norm_num)
  have hsup := sup_scaled s s' (Real.log 2)⁻¹ (inv_pos.2 hl) hs hN
  have hle : ∀ i, s' i ≤ peak s' := fun i => Finset.le_sup (f := s') (Finset.mem_univ i)
  obtain ⟨f, hf⟩ := floor_real
  generalize hp : peak s' = P at *
  induction P with
  | bot =>
    left
    have hb : ∀ i, s' i = ⊥ := fun i => le_bot_iff.1 (hle i)
    have hs0 : ∀ i : Fin N, s i.val = ⊥ := fun i => by rw [hs, hb, EReal.bot_mul_coe_of_pos (inv_pos.2 hl)]
    exact ⟨fun i => by rw [hs0, EReal.bot_sub, exp2_bot], fun i => by rw [weight, hb, EReal.bot_sub, exp_bot]⟩
  | top =>
    left
    have ht : top s N = ⊤ := by
      rw [top, hsup, EReal.top_mul_coe_of_pos (inv_pos.2 hl)]; exact max_eq_right (_root_.le_top)
    exact ⟨fun i => by rw [ht, sub_top, exp2_bot], fun i => by rw [weight, hp, sub_top, exp_bot]⟩
  | coe p =>
    right
    have ht : top s N = ((max f (p * (Real.log 2)⁻¹) : ℝ) : EReal) := by
      rw [top, hsup, hf, ← EReal.coe_mul]; exact (EReal.coe_strictMono.monotone.map_max).symm
    generalize max f (p * (Real.log 2)⁻¹) = t at ht
    have hw : ∀ i, ∃ w : ℝ, 0 ≤ w ∧ weight s' i = (w : EReal) := fun i => by
      rw [weight, hp]
      have := hle i
      generalize s' i = x at this
      induction x with
      | bot => exact ⟨0, le_rfl, by rw [EReal.bot_sub, exp_bot]; rfl⟩
      | top => rw [top_le_iff] at this; exact absurd this (EReal.coe_ne_top p)
      | coe x => exact ⟨Real.exp (x - p), (Real.exp_pos _).le, by rw [← EReal.coe_sub, exp_coe]⟩
    choose w hw0 hw using hw
    obtain ⟨k, _, hk⟩ := Finset.exists_mem_eq_sup (Finset.univ : Finset (Fin N)) ⟨⟨0, hN⟩, Finset.mem_univ _⟩ s'
    have hk' : s' k = (p : EReal) := by rw [← hk, ← peak_eq_sup, hp]
    have hwk : w k = 1 := by
      have h := hw k
      rw [weight, hp, hk', ← EReal.coe_sub, exp_coe, sub_self, Real.exp_zero] at h
      exact (EReal.coe_injective h).symm
    refine ⟨Real.exp (p - t * Real.log 2), p, t, ∑ i, w i, Real.exp_pos _, ?_, rfl, ht, fun i => ?_, ?_, ?_⟩
    · rw [← hwk]; exact Finset.single_le_sum (fun i _ => hw0 i) (Finset.mem_univ k)
    · rw [ht, weight, hp, hs]
      have := hle i
      generalize s' i = x at this
      induction x with
      | bot => rw [EReal.bot_mul_coe_of_pos (inv_pos.2 hl), EReal.bot_sub, EReal.bot_sub, exp_bot, exp2_bot, mul_zero]
      | top => rw [top_le_iff] at this; exact absurd this (EReal.coe_ne_top p)
      | coe x =>
        rw [← EReal.coe_mul, ← EReal.coe_sub, ← EReal.coe_sub, exp_coe, exp2_coe, ← EReal.coe_mul, ← Real.exp_add]
        refine congrArg _ ?_
        show (2 : ℝ) ^ (x * (Real.log 2)⁻¹ - t) = _
        rw [Real.rpow_def_of_pos (by norm_num)]
        congr 1
        field_simp
        ring
    · rw [Finset.sum_congr rfl fun i _ => hw i]
      exact (sum_coe _ _).symm
    · rw [Real.log_exp]; ring

theorem sum_range_fin {N : ℕ} (f : ℕ → EReal) : ∑ i ∈ Finset.range N, f i = ∑ i : Fin N, f i.val := Finset.sum_range f

/-- The quotient of the running sums is the softmax average. -/
theorem quotient_eq {N : ℕ} (hN : 0 < N) (s u : ℕ → EReal) (s' u' : Fin N → EReal)
    (hs : ∀ i : Fin N, s i.val = s' i * (((Real.log 2)⁻¹ : ℝ) : EReal)) (hu : ∀ i : Fin N, u i.val = u' i) :
    Ideal.div (part s u N) (part s (fun _ => 1) N) = Ideal.div (∑ i, weight s' i * u' i) (∑ i, weight s' i) := by
  rw [part, part, sum_range_fin, sum_range_fin]
  rcases compare hN s s' hs with ⟨h, h'⟩ | ⟨c, p, t, L, hc, hL, _, _, hw, hsum, _⟩
  · simp only [h, h', mul_zero, zero_mul, Finset.sum_const_zero]
  · have h0 : (0 : EReal) ≤ (c : EReal) := EReal.coe_nonneg.2 hc.le
    have e1 : ∑ i : Fin N, u i.val * Ideal.exp2 (s i.val - top s N) = (c : EReal) * ∑ i, weight s' i * u' i := by
      rw [mul_sum _ _ h0 (EReal.coe_ne_top c)]
      exact Finset.sum_congr rfl fun i _ => by rw [hw, hu, mul_left_comm, mul_comm (u' i)]
    have e2 : ∑ i : Fin N, (1 : EReal) * Ideal.exp2 (s i.val - top s N) = ((c * L : ℝ) : EReal) := by
      rw [EReal.coe_mul, ← hsum, mul_sum _ _ h0 (EReal.coe_ne_top c)]
      exact Finset.sum_congr rfl fun i _ => by rw [hw, one_mul]
    rw [e1, e2, hsum]
    have hL0 : L ≠ 0 := by intro h; rw [h] at hL; norm_num at hL
    unfold Ideal.div
    rw [if_neg (show ¬ ((c * L : ℝ) : EReal) = 0 from fun h => (mul_ne_zero hc.ne' hL0) (EReal.coe_injective h)), if_neg (show ¬ (L : EReal) = 0 from fun h => hL0 (EReal.coe_injective h)),
      ← EReal.coe_inv, ← EReal.coe_inv, mul_comm (c : EReal), mul_assoc, ← EReal.coe_mul]
    congr 2
    field_simp

/-- The log-sum-exp of the running state is that of the softmax. -/
theorem lse_eq {N : ℕ} (hN : 0 < N) (s : ℕ → EReal) (s' : Fin N → EReal)
    (hs : ∀ i : Fin N, s i.val = s' i * (((Real.log 2)⁻¹ : ℝ) : EReal)) :
    top s N * ((Real.log 2 : ℝ) : EReal) + Ideal.log (part s (fun _ => 1) N) = peak s' + Ideal.log (∑ i, weight s' i) := by
  rw [part, sum_range_fin]
  rcases compare hN s s' hs with ⟨h, h'⟩ | ⟨c, p, t, L, hc, hL, hp, ht, hw, hsum, hcp⟩
  · simp only [h, h', mul_zero, Finset.sum_const_zero, log_zero, EReal.add_bot]
  · have h0 : (0 : EReal) ≤ (c : EReal) := EReal.coe_nonneg.2 hc.le
    have e2 : ∑ i : Fin N, (1 : EReal) * Ideal.exp2 (s i.val - top s N) = ((c * L : ℝ) : EReal) := by
      rw [EReal.coe_mul, ← hsum, mul_sum _ _ h0 (EReal.coe_ne_top c)]
      exact Finset.sum_congr rfl fun i _ => by rw [hw, one_mul]
    have hL0 : 0 < L := lt_of_lt_of_le one_pos hL
    have hlog : ∀ x : ℝ, 0 < x → Ideal.log (x : EReal) = ((Real.log x : ℝ) : EReal) := fun x hx => by
      show (if x ≤ 0 then (⊥ : EReal) else _) = _
      rw [if_neg (not_le.2 hx)]
    rw [e2, hsum, hp, ht, hlog _ (mul_pos hc hL0), hlog _ hL0, ← EReal.coe_mul, ← EReal.coe_add, ← EReal.coe_add,
      Real.log_mul hc.ne' hL0.ne', ← hcp]
    congr 1; ring

end Cert.Online

end
-- ==== Proof.KIPay.lean ====
module

public import proofs.«01_k».proof.Proof.KIModel
public import proofs.«01_k».proof.Proof.Online
public import Idealize.ShloMosaic.Lib.Pointwise

@[expose] public section

set_option maxRecDepth 16384

noncomputable section

/-! The kernel's pure values over the extended reals, each read at one index. -/

namespace Cert.KernelIdeal.Flash

open Cert.KernelIdeal.Gen Cert.Online
open Idealize.ShloMosaic Idealize.ShloMosaic.TcCoe

theorem score_scale : Named.named (F := Ideal) Cert.KernelIdeal.κ "score_scale" (φ := .f32) 0x3E0293EE#32 = (((Real.sqrt 128)⁻¹ * (Real.log 2)⁻¹ : ℝ) : EReal) :=
  IdealRules.named_const.ideal_named_scalar _ _ _ _ rfl
theorem ln2 : Named.named (F := Ideal) Cert.KernelIdeal.κ "ln2" (φ := .f32) 0x3F317218#32 = ((Real.log 2 : ℝ) : EReal) :=
  IdealRules.named_const.ideal_named_scalar _ _ _ _ rfl

/-- The maximum's starting point. -/
theorem ofBits_neg_inf : Ideal.ofBits .f32 0xFF800000#32 = ⊥ := by
  unfold Ideal.ofBits Ideal.ieee
  dsimp only
  rw [if_pos (by decide), if_pos (by decide), if_pos (by decide)]

theorem pay1_at (v : Vec Ideal S1x1x128 .f32) (a b : Fin 128) : k0_pay1 v (ix2 a b) = v (ix3 0 0 a) := by
  pointwise [k0_pay1]

theorem pay2_at (v : Vec Ideal S1x128x128 .fp8e4m3) (w : Vec Ideal S1x1x128 .f32) (a b : Fin 128) :
    k0_pay2 v w (ix2 a b) = v (ix3 0 a b) * w (ix3 0 0 b) := by
  pointwise [k0_pay2]

theorem pay3_at (i : S2x2048.Idx) : k0_pay3 (F := Ideal) i = Online.floor := by
  pointwise [k0_pay3]; rfl
theorem pay4_at (i : S2x2048.Idx) : k0_pay4 (F := Ideal) i = 0 := by
  pointwise [k0_pay4]
theorem pay5_at (i : S2x128x2048.Idx) : k0_pay5 (F := Ideal) i = 0 := by
  pointwise [k0_pay5]

theorem pay6_at (v : Vec Ideal S1x128x512 .fp8e4m3) (d : Fin 128) (r : Fin 512) : k0_pay6 v (ix2 d r) = v (ix3 0 d r) := by
  pointwise [k0_pay6]
theorem pay7_at (v : Vec Ideal S1x1x512 .f32) (r : Fin 512) :
    k0_pay7 v (ix2 0 r) = v (ix3 0 0 r) * (((Real.sqrt 128)⁻¹ * (Real.log 2)⁻¹ : ℝ) : EReal) := by
  pointwise [k0_pay7]; rw [score_scale]

/-- A score: the product of a key row and a query column, under the key's and the query's scales. -/
theorem pay13_at (v15 : FVec Ideal S128x512 .fp8e4m3) (v20 : FVec Ideal S1x512 .f32) (v27 : Vec Ideal S1x1024x128 .fp8e4m3) (v31 : Vec Ideal S1024x128 .f32)
    (ks : Fin 1024 → EReal) (hks : ∀ k l, v31 (ix2 k l) = ks k) (k : Fin 1024) (r : Fin 512) :
    k0_pay13 v15 v20 v27 v31 (ix2 k r) = (∑ d : Fin 128, v27 (ix3 0 k d) * v15 (ix2 d r)) * ks k * v20 (ix2 0 r) := by
  pointwise [k0_pay13]
  simp only [hks]
  split_ifs <;> rfl

theorem pay14_at (v15 : FVec Ideal S128x512 .fp8e4m3) (v20 : FVec Ideal S1x512 .f32) (v27 : Vec Ideal S1x1024x128 .fp8e4m3) (v31 : Vec Ideal S1024x128 .f32)
    (v37 : Vec Ideal S1x512 .f32) (r : Fin 512) :
    k0_pay14 v15 v20 v27 v31 v37 (ix2 0 r) = max (v37 (ix2 0 r)) (Finset.univ.fold max ⊥ fun k : Fin 1024 => k0_pay13 v15 v20 v27 v31 (ix2 k r)) := by
  pointwise [k0_pay14]
  rw [ofBits_neg_inf]

theorem pay15_at (v15 : FVec Ideal S128x512 .fp8e4m3) (v20 : FVec Ideal S1x512 .f32) (v27 : Vec Ideal S1x1024x128 .fp8e4m3) (v31 : Vec Ideal S1024x128 .f32)
    (v37 : Vec Ideal S1x512 .f32) (r : Fin 512) :
    k0_pay15 v15 v20 v27 v31 v37 (ix2 0 r) = Ideal.exp2 (v37 (ix2 0 r) - k0_pay14 v15 v20 v27 v31 v37 (ix2 0 r)) := by
  pointwise [k0_pay15]; rfl

theorem pay16_at (v15 : FVec Ideal S128x512 .fp8e4m3) (v20 : FVec Ideal S1x512 .f32) (v27 : Vec Ideal S1x1024x128 .fp8e4m3) (v31 : Vec Ideal S1024x128 .f32)
    (v37 : Vec Ideal S1x512 .f32) (k : Fin 1024) (r : Fin 512) :
    k0_pay16 v15 v20 v27 v31 v37 (ix2 k r) = Ideal.exp2 (k0_pay13 v15 v20 v27 v31 (ix2 k r) - k0_pay14 v15 v20 v27 v31 v37 (ix2 0 r)) := by
  pointwise [k0_pay16]; rfl

theorem pay17_at (v15 : FVec Ideal S128x512 .fp8e4m3) (v20 : FVec Ideal S1x512 .f32) (v27 : Vec Ideal S1x1024x128 .fp8e4m3) (v31 : Vec Ideal S1024x128 .f32)
    (v37 : Vec Ideal S1x512 .f32) (r : Fin 512) :
    k0_pay17 v15 v20 v27 v31 v37 (ix2 0 r) = k0_pay14 v15 v20 v27 v31 v37 (ix2 0 r) := by
  pointwise [k0_pay17]

theorem pay18_at (v15 : FVec Ideal S128x512 .fp8e4m3) (v20 : FVec Ideal S1x512 .f32) (v27 : Vec Ideal S1x1024x128 .fp8e4m3) (v31 : Vec Ideal S1024x128 .f32)
    (v37 v51 : Vec Ideal S1x512 .f32) (r : Fin 512) :
    k0_pay18 v15 v20 v27 v31 v37 v51 (ix2 0 r) = k0_pay15 v15 v20 v27 v31 v37 (ix2 0 r) * v51 (ix2 0 r) + ∑ k : Fin 1024, k0_pay16 v15 v20 v27 v31 v37 (ix2 k r) := by
  pointwise [k0_pay18]

theorem pay19_at (v15 : FVec Ideal S128x512 .fp8e4m3) (v20 : FVec Ideal S1x512 .f32) (v27 : Vec Ideal S1x1024x128 .fp8e4m3) (v31 : Vec Ideal S1024x128 .f32)
    (v37 : Vec Ideal S1x512 .f32) (v61 : Vec Ideal S128x1024 .bf16) (d : Fin 128) (r : Fin 512) :
    k0_pay19 v15 v20 v27 v31 v37 v61 (ix2 d r) = ∑ k : Fin 1024, v61 (ix2 d k) * k0_pay16 v15 v20 v27 v31 v37 (ix2 k r) := by
  pointwise [k0_pay19]

theorem pay8_at (v42 : FVec Ideal S1x512 .f32) (v63 : FVec Ideal S128x512 .f32) (v65 : Vec Ideal S1x128x512 .f32) (d : Fin 128) (r : Fin 512) :
    k0_pay8 v42 v63 v65 (ix3 0 d r) = v42 (ix2 0 r) * v65 (ix3 0 d r) + v63 (ix2 d r) := by
  pointwise [k0_pay8]

theorem pay12_at (v : FVec Ideal S128x2048 .f32) (d : Fin 128) (r : Fin 2048) : k0_pay12 v (ix3 0 d r) = v (ix2 d r) := by
  pointwise [k0_pay12]
theorem pay27_at (l m : Vec Ideal S1x2048 .f32) (r : Fin 2048) :
    k0_pay27 l m (ix3 0 0 r) = m (ix2 0 r) * ((Real.log 2 : ℝ) : EReal) + Ideal.log (l (ix2 0 r)) := by
  pointwise [k0_pay27]; rw [ln2]
theorem pay29_at (l m : Vec Ideal S1x2048 .f32) (r : Fin 2048) :
    k0_pay29 l m (ix3 0 0 r) = m (ix2 0 r) * ((Real.log 2 : ℝ) : EReal) + Ideal.log (l (ix2 0 r)) := by
  pointwise [k0_pay29]; rw [ln2]
theorem pay28_at (l : Vec Ideal S1x2048 .f32) (o : Vec Ideal S1x128x2048 .f32) (d : Fin 128) (r : Fin 2048) :
    k0_pay28 l o (ix3 0 d r) = Ideal.div (o (ix3 0 d r)) (l (ix2 0 r)) := by
  pointwise [k0_pay28]
theorem pay30_at (l : Vec Ideal S1x2048 .f32) (o : Vec Ideal S1x128x2048 .f32) (d : Fin 128) (r : Fin 2048) :
    k0_pay30 l o (ix2 d r) = Ideal.div (o (ix3 0 d r)) (l (ix2 0 r)) := by
  pointwise [k0_pay30]

/-- The two heads' updates are one function. -/
theorem pay9_eq : @k0_pay9 = @k0_pay6 := rfl
theorem pay10_eq : @k0_pay10 = @k0_pay7 := rfl
theorem pay11_eq : @k0_pay11 = @k0_pay8 := rfl
theorem pay22_eq : @k0_pay22 = @k0_pay15 := rfl
theorem pay24_eq : @k0_pay24 = @k0_pay17 := rfl
theorem pay25_eq : @k0_pay25 = @k0_pay18 := rfl
theorem pay26_eq : @k0_pay26 = @k0_pay19 := rfl

end Cert.KernelIdeal.Flash

end
-- ==== Proof.KILane.lean ====
module

public import proofs.«01_k».proof.Proof.KIPay

@[expose] public section

set_option maxRecDepth 16384

noncomputable section

/-! One query's lane through the kernel's loops, over the extended reals: every key tile is one step of the running softmax for
    the queries of its tile and leaves the others alone. -/

namespace Cert.KernelIdeal.Flash

open Cert.KernelIdeal.Gen Cert.Online
open Idealize.ShloMosaic Idealize.ShloMosaic.TcCoe
open Idealize.ShloMosaic.VecWindow (window put)

/-! ## Windows and puts read at an index -/

theorem window_at2 {α : Type} {n0 n1 m0 m1 : ℕ} (x : (⟨2, ![n0, n1]⟩ : Shape).Idx → α) (off : Fin 2 → ℕ)
    (inb : ∀ a, off a + (![m0, m1] : Fin 2 → ℕ) a ≤ (⟨2, ![n0, n1]⟩ : Shape).size a) (a : Fin m0) (b : Fin m1) (a' : Fin n0) (b' : Fin n1)
    (h0 : off 0 + a.val = a'.val) (h1 : off 1 + b.val = b'.val) :
    window (s := ⟨2, ![n0, n1]⟩) x off ![m0, m1] inb (ix2 a b) = x (ix2 a' b') := by
  refine congrArg x (funext fun k => Fin.ext ?_)
  fin_cases k
  · show off 0 + 1 * a.val = a'.val
    omega
  · show off 1 + 1 * b.val = b'.val
    omega

theorem window_at3 {α : Type} {n0 n1 n2 m0 m1 m2 : ℕ} (x : (⟨3, ![n0, n1, n2]⟩ : Shape).Idx → α) (off : Fin 3 → ℕ)
    (inb : ∀ a, off a + (![m0, m1, m2] : Fin 3 → ℕ) a ≤ (⟨3, ![n0, n1, n2]⟩ : Shape).size a) (a : Fin m0) (b : Fin m1) (c : Fin m2)
    (a' : Fin n0) (b' : Fin n1) (c' : Fin n2) (h0 : off 0 + a.val = a'.val) (h1 : off 1 + b.val = b'.val) (h2 : off 2 + c.val = c'.val) :
    window (s := ⟨3, ![n0, n1, n2]⟩) x off ![m0, m1, m2] inb (ix3 a b c) = x (ix3 a' b' c') := by
  refine congrArg x (funext fun k => Fin.ext ?_)
  fin_cases k
  · show off 0 + 1 * a.val = a'.val
    omega
  · show off 1 + 1 * b.val = b'.val
    omega
  · show off 2 + 1 * c.val = c'.val
    omega

theorem put_at2 {α : Type} {n0 n1 m0 m1 : ℕ} (x : (⟨2, ![n0, n1]⟩ : Shape).Idx → α) (off : Fin 2 → ℕ)
    (w : (⟨2, ![m0, m1]⟩ : Shape).Idx → α) (a : Fin m0) (b : Fin m1) (a' : Fin n0) (b' : Fin n1)
    (h0 : off 0 + a.val = a'.val) (h1 : off 1 + b.val = b'.val) :
    put (s := ⟨2, ![n0, n1]⟩) x off ![m0, m1] w (ix2 a' b') = w (ix2 a b) := by
  unfold put
  rw [dif_pos (fun k => by
    fin_cases k
    · show off 0 ≤ a'.val ∧ a'.val < off 0 + m0
      have := a.isLt; omega
    · show off 1 ≤ b'.val ∧ b'.val < off 1 + m1
      have := b.isLt; omega)]
  refine congrArg w (funext fun k => Fin.ext ?_)
  fin_cases k
  · show a'.val - off 0 = a.val
    omega
  · show b'.val - off 1 = b.val
    omega

theorem put_at3 {α : Type} {n0 n1 n2 m0 m1 m2 : ℕ} (x : (⟨3, ![n0, n1, n2]⟩ : Shape).Idx → α) (off : Fin 3 → ℕ)
    (w : (⟨3, ![m0, m1, m2]⟩ : Shape).Idx → α) (a : Fin m0) (b : Fin m1) (c : Fin m2) (a' : Fin n0) (b' : Fin n1) (c' : Fin n2)
    (h0 : off 0 + a.val = a'.val) (h1 : off 1 + b.val = b'.val) (h2 : off 2 + c.val = c'.val) :
    put (s := ⟨3, ![n0, n1, n2]⟩) x off ![m0, m1, m2] w (ix3 a' b' c') = w (ix3 a b c) := by
  unfold put
  rw [dif_pos (fun k => by
    fin_cases k
    · show off 0 ≤ a'.val ∧ a'.val < off 0 + m0
      have := a.isLt; omega
    · show off 1 ≤ b'.val ∧ b'.val < off 1 + m1
      have := b.isLt; omega
    · show off 2 ≤ c'.val ∧ c'.val < off 2 + m2
      have := c.isLt; omega)]
  refine congrArg w (funext fun k => Fin.ext ?_)
  fin_cases k
  · show a'.val - off 0 = a.val
    omega
  · show b'.val - off 1 = b.val
    omega
  · show c'.val - off 2 = c.val
    omega

/-- Off the window on some axis nothing changes. -/
theorem put_off {α : Type} {s : Shape} (x : s.Idx → α) (off size : Fin s.rank → ℕ) (w : ((a : Fin s.rank) → Fin (size a)) → α) (y : s.Idx) (k : Fin s.rank)
    (h : ¬(off k ≤ (y k).val ∧ (y k).val < off k + size k)) : put x off size w y = x y := by
  unfold put
  exact dif_neg fun hall => h (hall k)

/-! ## The offsets -/

theorem off1_eq (k : Fin k0_t1_loop.trips) : k0_off1 k = ![0, 0, 128 * k.val] := by revert k; decide +kernel
theorem off3_eq (k : Fin k0_t1_loop.trips) : k0_off3 k = ![0, 0, 128 * k.val] := by revert k; decide +kernel
theorem off5_eq (t : Fin k0_t2_loop.trips) : k0_off5 t = ![0, 0, 512 * t.val] := by revert t; decide +kernel
theorem off6_eq (t : Fin k0_t2_loop.trips) : k0_off6 t = ![0, 0, 512 * t.val] := by revert t; decide +kernel
theorem off7_eq (j : Fin k0_t3_loop.trips) : k0_off7 j = ![0, 1024 * j.val, 0] := by revert j; decide +kernel
theorem off8_eq (j : Fin k0_t3_loop.trips) : k0_off8 j = ![1024 * j.val, 0] := by revert j; decide +kernel
theorem off9_eq (t : Fin k0_t2_loop.trips) : k0_off9 t = ![0, 512 * t.val] := by revert t; decide +kernel
theorem off10_eq (j : Fin k0_t3_loop.trips) : k0_off10 j = ![0, 1024 * j.val] := by revert j; decide +kernel
theorem off11_eq (t : Fin k0_t2_loop.trips) : k0_off11 t = ![0, 0, 512 * t.val] := by revert t; decide +kernel
theorem off12_eq (t : Fin k0_t4_loop.trips) : k0_off12 t = ![1, 0, 512 * t.val] := by revert t; decide +kernel
theorem off13_eq (t : Fin k0_t4_loop.trips) : k0_off13 t = ![1, 0, 512 * t.val] := by revert t; decide +kernel
theorem off14_eq (j : Fin k0_t5_loop.trips) : k0_off14 j = ![0, 1024 * j.val, 0] := by revert j; decide +kernel
theorem off15_eq (j : Fin k0_t5_loop.trips) : k0_off15 j = ![1024 * j.val, 0] := by revert j; decide +kernel
theorem off16_eq (t : Fin k0_t4_loop.trips) : k0_off16 t = ![1, 512 * t.val] := by revert t; decide +kernel
theorem off17_eq (j : Fin k0_t5_loop.trips) : k0_off17 j = ![0, 1024 * j.val] := by revert j; decide +kernel
theorem off18_eq (t : Fin k0_t4_loop.trips) : k0_off18 t = ![1, 0, 512 * t.val] := by revert t; decide +kernel
theorem trips2 : k0_t2_loop.trips = 4 := by decide +kernel
theorem trips3 : k0_t3_loop.trips = 4 := by decide +kernel
theorem trips4 : k0_t4_loop.trips = 4 := by decide +kernel
theorem trips5 : k0_t5_loop.trips = 4 := by decide +kernel

/-! ## The prologue -/

/-- What the prologue leaves, at an index. -/
theorem prepFrom_at (x3 : Vec Ideal S1x128x4096 .fp8e4m3) (x4 x5 : Vec Ideal S1x1x4096 .f32) (s0 : Prep Ideal) :
    (∀ (i : Fin 4096) (l : Fin 128), (prepFrom x3 x4 x5 s0).1 (ix2 i l) = x4 (ix3 0 0 i))
    ∧ (∀ (d : Fin 128) (i : Fin 4096), (prepFrom x3 x4 x5 s0).2 (ix2 d i) = x3 (ix3 0 d i) * x5 (ix3 0 0 i)) := by
  unfold prepFrom
  have key : ∀ k, k ≤ k0_t1_loop.trips →
      (∀ (i : Fin 4096) (l : Fin 128), i.val < 128 * k → (upTo (prep1 x3 x4 x5) s0 k).1 (ix2 i l) = x4 (ix3 0 0 i))
      ∧ (∀ (d : Fin 128) (i : Fin 4096), i.val < 128 * k → (upTo (prep1 x3 x4 x5) s0 k).2 (ix2 d i) = x3 (ix3 0 d i) * x5 (ix3 0 0 i)) := by
    intro k
    induction k with
    | zero => intro _; exact ⟨fun i l h => absurd h (by omega), fun d i h => absurd h (by omega)⟩
    | succ k ih =>
      intro hk
      obtain ⟨h1, h2⟩ := ih (by omega)
      have e1 := upTo_succ (prep1 x3 x4 x5) s0 ⟨k, by omega⟩
      rw [show (⟨k, by omega⟩ : Fin k0_t1_loop.trips).val = k from rfl] at e1
      rw [e1]
      unfold prep1
      dsimp only
      refine ⟨fun i l hi => ?_, fun d i hi => ?_⟩
      · rcases Nat.lt_or_ge i.val (128 * k) with h | h
        · refine (put_off _ _ _ _ _ 0 ?_).trans (h1 i l h)
          rw [off2_eq]
          show ¬(128 * k ≤ i.val ∧ i.val < 128 * k + 128)
          omega
        · have hb : i.val - 128 * k < 128 := by omega
          refine (put_at2 _ _ _ ⟨i.val - 128 * k, hb⟩ l i l ?_ ?_).trans ?_
          · rw [off2_eq]
            show 128 * k + (i.val - 128 * k) = i.val
            omega
          · rw [off2_eq]; exact Nat.zero_add _
          · rw [pay1_at]
            refine window_at3 _ _ _ _ _ _ 0 0 i ?_ ?_ ?_
            · rw [off1_eq]; rfl
            · rw [off1_eq]; rfl
            · rw [off1_eq]
              show 128 * k + (i.val - 128 * k) = i.val
              omega
      · rcases Nat.lt_or_ge i.val (128 * k) with h | h
        · refine (put_off _ _ _ _ _ 1 ?_).trans (h2 d i h)
          rw [off4_eq]
          show ¬(128 * k ≤ i.val ∧ i.val < 128 * k + 128)
          omega
        · have hb : i.val - 128 * k < 128 := by omega
          refine (put_at2 _ _ _ d ⟨i.val - 128 * k, hb⟩ d i ?_ ?_).trans ?_
          · rw [off4_eq]; exact Nat.zero_add _
          · rw [off4_eq]
            show 128 * k + (i.val - 128 * k) = i.val
            omega
          · rw [pay2_at]
            refine congrArg₂ (· * ·) (window_at3 _ _ _ _ _ _ 0 d i ?_ ?_ ?_) (window_at3 _ _ _ _ _ _ 0 0 i ?_ ?_ ?_)
            · rw [off3_eq]; rfl
            · rw [off3_eq]; exact Nat.zero_add _
            · rw [off3_eq]
              show 128 * k + (i.val - 128 * k) = i.val
              omega
            · rw [off1_eq]; rfl
            · rw [off1_eq]; rfl
            · rw [off1_eq]
              show 128 * k + (i.val - 128 * k) = i.val
              omega
  obtain ⟨h1, h2⟩ := key _ le_rfl
  refine ⟨fun i l => h1 i l ?_, fun d i => h2 d i ?_⟩ <;> rw [trips1] <;> have := i.isLt <;> omega

theorem prep_at (x3 : Vec Ideal S1x128x4096 .fp8e4m3) (x4 x5 : Vec Ideal S1x1x4096 .f32) :
    (∀ (i : Fin 4096) (l : Fin 128), (prep x3 x4 x5).1 (ix2 i l) = x4 (ix3 0 0 i))
    ∧ (∀ (d : Fin 128) (i : Fin 4096), (prep x3 x4 x5).2 (ix2 d i) = x3 (ix3 0 d i) * x5 (ix3 0 0 i)) := by
  unfold prep; exact prepFrom_at x3 x4 x5 _

/-! ## The running state -/

/-- The state of query `r` of head `g` is the running softmax over the first `n` keys. -/
def Inv (s : ℕ → EReal) (u : Fin 128 → ℕ → EReal) (n : ℕ) (st : St Ideal) (g : Fin 2) (r : Fin 2048) : Prop :=
  st.2.1 (ix2 g r) = top s n ∧ st.2.2 (ix2 g r) = part s (fun _ => 1) n ∧ ∀ d : Fin 128, st.1 (ix3 g d r) = part s (u d) n

theorem Inv_start (s : ℕ → EReal) (u : Fin 128 → ℕ → EReal) (g : Fin 2) (r : Fin 2048) : Inv s u 0 start g r :=
  ⟨(pay3_at (ix2 g r)).trans (top_zero s).symm, (pay4_at (ix2 g r)).trans (part_zero s _).symm, fun d => (pay5_at (ix3 g d r)).trans (part_zero s _).symm⟩

/-- One tile of 1024 keys, for one query: a step of the running softmax. -/
theorem block_step (v15 : FVec Ideal S128x512 .fp8e4m3) (v20 : FVec Ideal S1x512 .f32) (v27 : Vec Ideal S1x1024x128 .fp8e4m3) (v31 : Vec Ideal S1024x128 .f32)
    (v37 v51 : Vec Ideal S1x512 .f32) (v61 : Vec Ideal S128x1024 .bf16) (v65 : Vec Ideal S1x128x512 .f32)
    (s : ℕ → EReal) (u : Fin 128 → ℕ → EReal) (n : ℕ) (r : Fin 512)
    (hs : ∀ k : Fin 1024, k0_pay13 v15 v20 v27 v31 (ix2 k r) = s (n + k.val)) (hu : ∀ d (k : Fin 1024), v61 (ix2 d k) = u d (n + k.val))
    (hm : v37 (ix2 0 r) = top s n) (hl : v51 (ix2 0 r) = part s (fun _ => 1) n) (ho : ∀ d, v65 (ix3 0 d r) = part s (u d) n) :
    k0_pay17 v15 v20 v27 v31 v37 (ix2 0 r) = top s (n + 1024)
    ∧ k0_pay18 v15 v20 v27 v31 v37 v51 (ix2 0 r) = part s (fun _ => 1) (n + 1024)
    ∧ ∀ d : Fin 128, k0_pay8 (k0_pay15 v15 v20 v27 v31 v37) (k0_pay19 v15 v20 v27 v31 v37 v61) v65 (ix3 0 d r) = part s (u d) (n + 1024) := by
  have h14 : k0_pay14 v15 v20 v27 v31 v37 (ix2 0 r) = top s (n + 1024) := by
    rw [pay14_at, hm, top_add]; simp only [hs]
  have h15 : k0_pay15 v15 v20 v27 v31 v37 (ix2 0 r) = Ideal.exp2 (top s n - top s (n + 1024)) := by rw [pay15_at, h14, hm]
  have h16 : ∀ k : Fin 1024, k0_pay16 v15 v20 v27 v31 v37 (ix2 k r) = Ideal.exp2 (s (n + k.val) - top s (n + 1024)) := fun k => by rw [pay16_at, h14, hs]
  refine ⟨(pay17_at _ _ _ _ _ _).trans h14, ?_, fun d => ?_⟩
  · rw [pay18_at, h15, hl, part_one_add]; simp only [h16]
  · rw [pay8_at, pay19_at, h15, ho, part_add]; simp only [h16, hu]

/-- The number the query's scale is multiplied by. -/
def kappa : EReal := (((Real.sqrt 128)⁻¹ * (Real.log 2)⁻¹ : ℝ) : EReal)

section Tile

variable (x0 : Vec Ideal S2x128x2048 .fp8e4m3) (x1 : Vec Ideal S2x1x2048 .f32) (x2 : Vec Ideal S1x4096x128 .fp8e4m3) (x3 : Vec Ideal S1x128x4096 .fp8e4m3)
  (x4 x5 : Vec Ideal S1x1x4096 .f32)

/-- The score of key `i` of the chunk against query `r` of head `g`. -/
def scoreAt (g : Fin 2) (r : Fin 2048) (i : Fin 4096) : EReal :=
  (∑ d : Fin 128, x2 (ix3 0 i d) * x0 (ix3 g d r)) * x4 (ix3 0 0 i) * (x1 (ix3 g 0 r) * kappa)

variable (s : ℕ → EReal) (u : Fin 128 → ℕ → EReal)

theorem tile0_in (t : Fin k0_t2_loop.trips) (j : Fin k0_t3_loop.trips) (n : ℕ) (r : Fin 2048) (hr : 512 * t.val ≤ r.val ∧ r.val < 512 * t.val + 512)
    (hs : ∀ i : Fin 4096, scoreAt x0 x1 x2 x4 0 r i = s (n + i.val)) (hu : ∀ d (i : Fin 4096), x3 (ix3 0 d i) * x5 (ix3 0 0 i) = u d (n + i.val))
    (st : St Ideal) (h : Inv s u (n + 1024 * j.val) st 0 r) :
    Inv s u (n + 1024 * j.val + 1024)
      (tile0 x2 (prep x3 x4 x5) (window (s := S2x128x2048) x0 (k0_off5 t) S1x128x512.size (k0_off5_inb t)) (window (s := S2x1x2048) x1 (k0_off6 t) S1x1x512.size (k0_off6_inb t)) t j st) 0 r := by
  obtain ⟨hp1, hp2⟩ := prep_at x3 x4 x5
  obtain ⟨hm, hl, ho⟩ := h
  have hj : j.val < 4 := lt_of_lt_of_eq j.isLt trips3
  have hb : r.val - 512 * t.val < 512 := by omega
  have e : 512 * t.val + (r.val - 512 * t.val) = r.val := by omega
  have w9 : ∀ (x : Vec Ideal S2x2048 .f32), window (s := S2x2048) x (k0_off9 t) S1x512.size (k0_off9_inb t) (ix2 0 ⟨r.val - 512 * t.val, hb⟩) = x (ix2 0 r) := fun x =>
    window_at2 _ _ _ _ _ 0 r (by rw [off9_eq]; rfl) (by rw [off9_eq]; exact e)
  have w11 : ∀ d, window (s := S2x128x2048) st.1 (k0_off11 t) S1x128x512.size (k0_off11_inb t) (ix3 0 d ⟨r.val - 512 * t.val, hb⟩) = st.1 (ix3 0 d r) := fun d =>
    window_at3 _ _ _ _ _ _ 0 d r (by rw [off11_eq]; rfl) (by rw [off11_eq]; exact Nat.zero_add _) (by rw [off11_eq]; exact e)
  have B := block_step (k0_pay6 (window (s := S2x128x2048) x0 (k0_off5 t) S1x128x512.size (k0_off5_inb t))) (k0_pay7 (window (s := S2x1x2048) x1 (k0_off6 t) S1x1x512.size (k0_off6_inb t)))
    (window (s := S1x4096x128) x2 (k0_off7 j) S1x1024x128.size (k0_off7_inb j)) (window (s := S4096x128) (prep x3 x4 x5).1 (k0_off8 j) S1024x128.size (k0_off8_inb j))
    (window (s := S2x2048) st.2.1 (k0_off9 t) S1x512.size (k0_off9_inb t)) (window (s := S2x2048) st.2.2 (k0_off9 t) S1x512.size (k0_off9_inb t))
    (window (s := S128x4096) (prep x3 x4 x5).2 (k0_off10 j) S128x1024.size (k0_off10_inb j)) (window (s := S2x128x2048) st.1 (k0_off11 t) S1x128x512.size (k0_off11_inb t))
    s u (n + 1024 * j.val) ⟨r.val - 512 * t.val, hb⟩ (fun k => ?_) (fun d k => ?_) ((w9 _).trans hm) ((w9 _).trans hl) (fun d => (w11 d).trans (ho d))
  · obtain ⟨b1, b2, b3⟩ := B
    unfold tile0
    refine ⟨?_, ?_, fun d => ?_⟩
    · exact (put_at2 _ _ _ 0 ⟨r.val - 512 * t.val, hb⟩ 0 r (by rw [off9_eq]; rfl) (by rw [off9_eq]; exact e)).trans b1
    · exact (put_at2 _ _ _ 0 ⟨r.val - 512 * t.val, hb⟩ 0 r (by rw [off9_eq]; rfl) (by rw [off9_eq]; exact e)).trans b2
    · exact (put_at3 _ _ _ 0 d ⟨r.val - 512 * t.val, hb⟩ 0 d r (by rw [off11_eq]; rfl) (by rw [off11_eq]; exact Nat.zero_add _) (by rw [off11_eq]; exact e)).trans (b3 d)
  · have hk : 1024 * j.val + k.val < 4096 := by have := k.isLt; omega
    have h1 := hs ⟨1024 * j.val + k.val, hk⟩
    rw [show n + (⟨1024 * j.val + k.val, hk⟩ : Fin 4096).val = n + 1024 * j.val + k.val from (Nat.add_assoc _ _ _).symm] at h1
    rw [← h1]
    refine (pay13_at _ _ _ _ (fun k => x4 (ix3 0 0 ⟨1024 * j.val + k.val, by have := k.isLt; omega⟩)) (fun k l => ?_) k _).trans ?_
    · refine (window_at2 _ _ _ _ _ ⟨1024 * j.val + k.val, by have := k.isLt; omega⟩ l ?_ ?_).trans (hp1 _ _)
      · rw [off8_eq]; rfl
      · rw [off8_eq]; exact Nat.zero_add _
    · unfold scoreAt
      refine congrArg₂ (· * ·) (congrArg₂ (· * ·) (Finset.sum_congr rfl fun d _ => congrArg₂ (· * ·) ?_ ?_) rfl) ?_
      · exact window_at3 _ _ _ _ _ _ 0 ⟨1024 * j.val + k.val, hk⟩ d (by rw [off7_eq]; rfl) (by rw [off7_eq]; rfl) (by rw [off7_eq]; exact Nat.zero_add _)
      · exact (pay6_at _ _ _).trans (window_at3 _ _ _ _ _ _ 0 d r (by rw [off5_eq]; rfl) (by rw [off5_eq]; exact Nat.zero_add _) (by rw [off5_eq]; exact e))
      · refine (pay7_at _ _).trans (congrArg₂ (· * ·) ?_ rfl)
        exact window_at3 _ _ _ _ _ _ 0 0 r (by rw [off6_eq]; rfl) (by rw [off6_eq]; rfl) (by rw [off6_eq]; exact e)
  · have hk : 1024 * j.val + k.val < 4096 := by have := k.isLt; omega
    refine (window_at2 _ _ _ _ _ d ⟨1024 * j.val + k.val, hk⟩ (by rw [off10_eq]; exact Nat.zero_add _) (by rw [off10_eq]; rfl)).trans ?_
    rw [hp2, hu]
    exact congrArg (u d) (Nat.add_assoc _ _ _).symm

theorem tile0_out (p : Prep Ideal) (v14 : Vec Ideal S1x128x512 .fp8e4m3) (v17 : Vec Ideal S1x1x512 .f32) (t : Fin k0_t2_loop.trips) (j : Fin k0_t3_loop.trips) (n : ℕ)
    (g : Fin 2) (r : Fin 2048) (hr : g = 1 ∨ ¬(512 * t.val ≤ r.val ∧ r.val < 512 * t.val + 512)) (st : St Ideal) (h : Inv s u n st g r) :
    Inv s u n (tile0 x2 p v14 v17 t j st) g r := by
  obtain ⟨hm, hl, ho⟩ := h
  unfold tile0 Inv
  dsimp only
  rcases hr with rfl | hr
  · refine ⟨(put_off _ _ _ _ _ 0 ?_).trans hm, (put_off _ _ _ _ _ 0 ?_).trans hl, fun d => (put_off _ _ _ _ _ 0 ?_).trans (ho d)⟩
    · rw [off9_eq]; show ¬(0 ≤ 1 ∧ 1 < 0 + 1); omega
    · rw [off9_eq]; show ¬(0 ≤ 1 ∧ 1 < 0 + 1); omega
    · rw [off11_eq]; show ¬(0 ≤ 1 ∧ 1 < 0 + 1); omega
  · refine ⟨(put_off _ _ _ _ _ 1 ?_).trans hm, (put_off _ _ _ _ _ 1 ?_).trans hl, fun d => (put_off _ _ _ _ _ 2 ?_).trans (ho d)⟩
    · rw [off9_eq]; exact hr
    · rw [off9_eq]; exact hr
    · rw [off11_eq]; exact hr

theorem row0_in (t : Fin k0_t2_loop.trips) (n : ℕ) (r : Fin 2048) (hr : 512 * t.val ≤ r.val ∧ r.val < 512 * t.val + 512)
    (hs : ∀ i : Fin 4096, scoreAt x0 x1 x2 x4 0 r i = s (n + i.val)) (hu : ∀ d (i : Fin 4096), x3 (ix3 0 d i) * x5 (ix3 0 0 i) = u d (n + i.val))
    (st : St Ideal) (h : Inv s u n st 0 r) : Inv s u (n + 4096) (row0 x0 x1 x2 (prep x3 x4 x5) t st) 0 r := by
  unfold row0
  have key : ∀ k, k ≤ k0_t3_loop.trips → Inv s u (n + 1024 * k) (upTo (tile0 x2 (prep x3 x4 x5) (window (s := S2x128x2048) x0 (k0_off5 t) S1x128x512.size (k0_off5_inb t)) (window (s := S2x1x2048) x1 (k0_off6 t) S1x1x512.size (k0_off6_inb t)) t) st k) 0 r := by
    intro k
    induction k with
    | zero => intro _; exact h
    | succ k ih =>
      intro hk
      rw [show upTo _ st (k + 1) = _ from upTo_succ _ st ⟨k, by omega⟩]
      exact tile0_in x0 x1 x2 x3 x4 x5 s u t ⟨k, by omega⟩ n r hr hs hu _ (ih (by omega))
  have := key _ le_rfl
  rwa [show n + 1024 * k0_t3_loop.trips = n + 4096 from by rw [trips3]] at this

theorem row0_out (p : Prep Ideal) (t : Fin k0_t2_loop.trips) (n : ℕ) (g : Fin 2) (r : Fin 2048) (hr : g = 1 ∨ ¬(512 * t.val ≤ r.val ∧ r.val < 512 * t.val + 512))
    (st : St Ideal) (h : Inv s u n st g r) : Inv s u n (row0 x0 x1 x2 p t st) g r := by
  unfold row0
  have key : ∀ k, k ≤ k0_t3_loop.trips → Inv s u n (upTo (tile0 x2 p (window (s := S2x128x2048) x0 (k0_off5 t) S1x128x512.size (k0_off5_inb t)) (window (s := S2x1x2048) x1 (k0_off6 t) S1x1x512.size (k0_off6_inb t)) t) st k) g r := by
    intro k
    induction k with
    | zero => intro _; exact h
    | succ k ih =>
      intro hk
      rw [show upTo _ st (k + 1) = _ from upTo_succ _ st ⟨k, by omega⟩]
      exact tile0_out x2 s u p _ _ t _ n g r hr _ (ih (by omega))
  exact key _ le_rfl

/-- The first head's queries see the chunk. -/
theorem head0_in (n : ℕ) (r : Fin 2048)
    (hs : ∀ i : Fin 4096, scoreAt x0 x1 x2 x4 0 r i = s (n + i.val)) (hu : ∀ d (i : Fin 4096), x3 (ix3 0 d i) * x5 (ix3 0 0 i) = u d (n + i.val))
    (st : St Ideal) (h : Inv s u n st 0 r) : Inv s u (n + 4096) (head0 x0 x1 x2 (prep x3 x4 x5) st) 0 r := by
  unfold head0
  have key : ∀ k, k ≤ k0_t2_loop.trips → Inv s u (if r.val < 512 * k then n + 4096 else n) (upTo (row0 x0 x1 x2 (prep x3 x4 x5)) st k) 0 r := by
    intro k
    induction k with
    | zero => intro _; rw [if_neg (by omega)]; exact h
    | succ k ih =>
      intro hk
      have ih := ih (by omega)
      rw [show upTo _ st (k + 1) = _ from upTo_succ _ st ⟨k, by omega⟩]
      by_cases h1 : r.val < 512 * k
      · rw [if_pos h1] at ih
        rw [if_pos (by omega)]
        exact row0_out x0 x1 x2 s u _ _ _ 0 r (.inr (by show ¬(512 * k ≤ r.val ∧ r.val < 512 * k + 512); omega)) _ ih
      · rw [if_neg h1] at ih
        by_cases h2 : r.val < 512 * (k + 1)
        · rw [if_pos h2]
          exact row0_in x0 x1 x2 x3 x4 x5 s u _ n r (by show 512 * k ≤ r.val ∧ r.val < 512 * k + 512; omega) hs hu _ ih
        · rw [if_neg h2]
          exact row0_out x0 x1 x2 s u _ _ _ 0 r (.inr (by show ¬(512 * k ≤ r.val ∧ r.val < 512 * k + 512); omega)) _ ih
  have := key _ le_rfl
  rwa [if_pos (by rw [trips2]; have := r.isLt; omega)] at this

/-- They leave the second head's alone. -/
theorem head0_out (p : Prep Ideal) (n : ℕ) (r : Fin 2048) (st : St Ideal) (h : Inv s u n st 1 r) : Inv s u n (head0 x0 x1 x2 p st) 1 r := by
  unfold head0
  have key : ∀ k, k ≤ k0_t2_loop.trips → Inv s u n (upTo (row0 x0 x1 x2 p) st k) 1 r := by
    intro k
    induction k with
    | zero => intro _; exact h
    | succ k ih =>
      intro hk
      rw [show upTo _ st (k + 1) = _ from upTo_succ _ st ⟨k, by omega⟩]
      exact row0_out x0 x1 x2 s u _ _ _ 1 r (.inl rfl) _ (ih (by omega))
  exact key _ le_rfl

theorem tile1_in (t : Fin k0_t4_loop.trips) (j : Fin k0_t5_loop.trips) (n : ℕ) (r : Fin 2048) (hr : 512 * t.val ≤ r.val ∧ r.val < 512 * t.val + 512)
    (hs : ∀ i : Fin 4096, scoreAt x0 x1 x2 x4 1 r i = s (n + i.val)) (hu : ∀ d (i : Fin 4096), x3 (ix3 0 d i) * x5 (ix3 0 0 i) = u d (n + i.val))
    (st : St Ideal) (h : Inv s u (n + 1024 * j.val) st 1 r) :
    Inv s u (n + 1024 * j.val + 1024)
      (tile1 x2 (prep x3 x4 x5) (window (s := S2x128x2048) x0 (k0_off12 t) S1x128x512.size (k0_off12_inb t)) (window (s := S2x1x2048) x1 (k0_off13 t) S1x1x512.size (k0_off13_inb t)) t j st) 1 r := by
  obtain ⟨hp1, hp2⟩ := prep_at x3 x4 x5
  obtain ⟨hm, hl, ho⟩ := h
  have hj : j.val < 4 := lt_of_lt_of_eq j.isLt trips5
  have hb : r.val - 512 * t.val < 512 := by omega
  have e : 512 * t.val + (r.val - 512 * t.val) = r.val := by omega
  have w9 : ∀ (x : Vec Ideal S2x2048 .f32), window (s := S2x2048) x (k0_off16 t) S1x512.size (k0_off16_inb t) (ix2 0 ⟨r.val - 512 * t.val, hb⟩) = x (ix2 1 r) := fun x =>
    window_at2 _ _ _ _ _ 1 r (by rw [off16_eq]; rfl) (by rw [off16_eq]; exact e)
  have w11 : ∀ d, window (s := S2x128x2048) st.1 (k0_off18 t) S1x128x512.size (k0_off18_inb t) (ix3 0 d ⟨r.val - 512 * t.val, hb⟩) = st.1 (ix3 1 d r) := fun d =>
    window_at3 _ _ _ _ _ _ 1 d r (by rw [off18_eq]; rfl) (by rw [off18_eq]; exact Nat.zero_add _) (by rw [off18_eq]; exact e)
  have B := block_step (k0_pay6 (window (s := S2x128x2048) x0 (k0_off12 t) S1x128x512.size (k0_off12_inb t))) (k0_pay7 (window (s := S2x1x2048) x1 (k0_off13 t) S1x1x512.size (k0_off13_inb t)))
    (window (s := S1x4096x128) x2 (k0_off14 j) S1x1024x128.size (k0_off14_inb j)) (window (s := S4096x128) (prep x3 x4 x5).1 (k0_off15 j) S1024x128.size (k0_off15_inb j))
    (window (s := S2x2048) st.2.1 (k0_off16 t) S1x512.size (k0_off16_inb t)) (window (s := S2x2048) st.2.2 (k0_off16 t) S1x512.size (k0_off16_inb t))
    (window (s := S128x4096) (prep x3 x4 x5).2 (k0_off17 j) S128x1024.size (k0_off17_inb j)) (window (s := S2x128x2048) st.1 (k0_off18 t) S1x128x512.size (k0_off18_inb t))
    s u (n + 1024 * j.val) ⟨r.val - 512 * t.val, hb⟩ (fun k => ?_) (fun d k => ?_) ((w9 _).trans hm) ((w9 _).trans hl) (fun d => (w11 d).trans (ho d))
  · obtain ⟨b1, b2, b3⟩ := B
    unfold tile1
    simp only [pay9_eq, pay10_eq, pay11_eq, pay22_eq, pay24_eq, pay25_eq, pay26_eq]
    refine ⟨?_, ?_, fun d => ?_⟩
    · exact (put_at2 _ _ _ 0 ⟨r.val - 512 * t.val, hb⟩ 1 r (by rw [off16_eq]; rfl) (by rw [off16_eq]; exact e)).trans b1
    · exact (put_at2 _ _ _ 0 ⟨r.val - 512 * t.val, hb⟩ 1 r (by rw [off16_eq]; rfl) (by rw [off16_eq]; exact e)).trans b2
    · exact (put_at3 _ _ _ 0 d ⟨r.val - 512 * t.val, hb⟩ 1 d r (by rw [off18_eq]; rfl) (by rw [off18_eq]; exact Nat.zero_add _) (by rw [off18_eq]; exact e)).trans (b3 d)
  · have hk : 1024 * j.val + k.val < 4096 := by have := k.isLt; omega
    have h1 := hs ⟨1024 * j.val + k.val, hk⟩
    rw [show n + (⟨1024 * j.val + k.val, hk⟩ : Fin 4096).val = n + 1024 * j.val + k.val from (Nat.add_assoc _ _ _).symm] at h1
    rw [← h1]
    refine (pay13_at _ _ _ _ (fun k => x4 (ix3 0 0 ⟨1024 * j.val + k.val, by have := k.isLt; omega⟩)) (fun k l => ?_) k _).trans ?_
    · refine (window_at2 _ _ _ _ _ ⟨1024 * j.val + k.val, by have := k.isLt; omega⟩ l ?_ ?_).trans (hp1 _ _)
      · rw [off15_eq]; rfl
      · rw [off15_eq]; exact Nat.zero_add _
    · unfold scoreAt
      refine congrArg₂ (· * ·) (congrArg₂ (· * ·) (Finset.sum_congr rfl fun d _ => congrArg₂ (· * ·) ?_ ?_) rfl) ?_
      · exact window_at3 _ _ _ _ _ _ 0 ⟨1024 * j.val + k.val, hk⟩ d (by rw [off14_eq]; rfl) (by rw [off14_eq]; rfl) (by rw [off14_eq]; exact Nat.zero_add _)
      · exact (pay6_at _ _ _).trans (window_at3 _ _ _ _ _ _ 1 d r (by rw [off12_eq]; rfl) (by rw [off12_eq]; exact Nat.zero_add _) (by rw [off12_eq]; exact e))
      · refine (pay7_at _ _).trans (congrArg₂ (· * ·) ?_ rfl)
        exact window_at3 _ _ _ _ _ _ 1 0 r (by rw [off13_eq]; rfl) (by rw [off13_eq]; rfl) (by rw [off13_eq]; exact e)
  · have hk : 1024 * j.val + k.val < 4096 := by have := k.isLt; omega
    refine (window_at2 _ _ _ _ _ d ⟨1024 * j.val + k.val, hk⟩ (by rw [off17_eq]; exact Nat.zero_add _) (by rw [off17_eq]; rfl)).trans ?_
    rw [hp2, hu]
    exact congrArg (u d) (Nat.add_assoc _ _ _).symm

theorem tile1_out (p : Prep Ideal) (v14 : Vec Ideal S1x128x512 .fp8e4m3) (v17 : Vec Ideal S1x1x512 .f32) (t : Fin k0_t4_loop.trips) (j : Fin k0_t5_loop.trips) (n : ℕ)
    (g : Fin 2) (r : Fin 2048) (hr : g = 0 ∨ ¬(512 * t.val ≤ r.val ∧ r.val < 512 * t.val + 512)) (st : St Ideal) (h : Inv s u n st g r) :
    Inv s u n (tile1 x2 p v14 v17 t j st) g r := by
  obtain ⟨hm, hl, ho⟩ := h
  unfold tile1 Inv
  dsimp only
  rcases hr with rfl | hr
  · refine ⟨(put_off _ _ _ _ _ 0 ?_).trans hm, (put_off _ _ _ _ _ 0 ?_).trans hl, fun d => (put_off _ _ _ _ _ 0 ?_).trans (ho d)⟩
    · rw [off16_eq]; show ¬(1 ≤ 0 ∧ 0 < 1 + 1); omega
    · rw [off16_eq]; show ¬(1 ≤ 0 ∧ 0 < 1 + 1); omega
    · rw [off18_eq]; show ¬(1 ≤ 0 ∧ 0 < 1 + 1); omega
  · refine ⟨(put_off _ _ _ _ _ 1 ?_).trans hm, (put_off _ _ _ _ _ 1 ?_).trans hl, fun d => (put_off _ _ _ _ _ 2 ?_).trans (ho d)⟩
    · rw [off16_eq]; exact hr
    · rw [off16_eq]; exact hr
    · rw [off18_eq]; exact hr

theorem row1_in (t : Fin k0_t4_loop.trips) (n : ℕ) (r : Fin 2048) (hr : 512 * t.val ≤ r.val ∧ r.val < 512 * t.val + 512)
    (hs : ∀ i : Fin 4096, scoreAt x0 x1 x2 x4 1 r i = s (n + i.val)) (hu : ∀ d (i : Fin 4096), x3 (ix3 0 d i) * x5 (ix3 0 0 i) = u d (n + i.val))
    (st : St Ideal) (h : Inv s u n st 1 r) : Inv s u (n + 4096) (row1 x0 x1 x2 (prep x3 x4 x5) t st) 1 r := by
  unfold row1
  have key : ∀ k, k ≤ k0_t5_loop.trips → Inv s u (n + 1024 * k) (upTo (tile1 x2 (prep x3 x4 x5) (window (s := S2x128x2048) x0 (k0_off12 t) S1x128x512.size (k0_off12_inb t)) (window (s := S2x1x2048) x1 (k0_off13 t) S1x1x512.size (k0_off13_inb t)) t) st k) 1 r := by
    intro k
    induction k with
    | zero => intro _; exact h
    | succ k ih =>
      intro hk
      rw [show upTo _ st (k + 1) = _ from upTo_succ _ st ⟨k, by omega⟩]
      exact tile1_in x0 x1 x2 x3 x4 x5 s u t ⟨k, by omega⟩ n r hr hs hu _ (ih (by omega))
  have := key _ le_rfl
  rwa [show n + 1024 * k0_t5_loop.trips = n + 4096 from by rw [trips5]] at this

theorem row1_out (p : Prep Ideal) (t : Fin k0_t4_loop.trips) (n : ℕ) (g : Fin 2) (r : Fin 2048) (hr : g = 0 ∨ ¬(512 * t.val ≤ r.val ∧ r.val < 512 * t.val + 512))
    (st : St Ideal) (h : Inv s u n st g r) : Inv s u n (row1 x0 x1 x2 p t st) g r := by
  unfold row1
  have key : ∀ k, k ≤ k0_t5_loop.trips → Inv s u n (upTo (tile1 x2 p (window (s := S2x128x2048) x0 (k0_off12 t) S1x128x512.size (k0_off12_inb t)) (window (s := S2x1x2048) x1 (k0_off13 t) S1x1x512.size (k0_off13_inb t)) t) st k) g r := by
    intro k
    induction k with
    | zero => intro _; exact h
    | succ k ih =>
      intro hk
      rw [show upTo _ st (k + 1) = _ from upTo_succ _ st ⟨k, by omega⟩]
      exact tile1_out x2 s u p _ _ t _ n g r hr _ (ih (by omega))
  exact key _ le_rfl

/-- The second head's queries see the chunk. -/
theorem head1_in (n : ℕ) (r : Fin 2048)
    (hs : ∀ i : Fin 4096, scoreAt x0 x1 x2 x4 1 r i = s (n + i.val)) (hu : ∀ d (i : Fin 4096), x3 (ix3 0 d i) * x5 (ix3 0 0 i) = u d (n + i.val))
    (st : St Ideal) (h : Inv s u n st 1 r) : Inv s u (n + 4096) (head1 x0 x1 x2 (prep x3 x4 x5) st) 1 r := by
  unfold head1
  have key : ∀ k, k ≤ k0_t4_loop.trips → Inv s u (if r.val < 512 * k then n + 4096 else n) (upTo (row1 x0 x1 x2 (prep x3 x4 x5)) st k) 1 r := by
    intro k
    induction k with
    | zero => intro _; rw [if_neg (by omega)]; exact h
    | succ k ih =>
      intro hk
      have ih := ih (by omega)
      rw [show upTo _ st (k + 1) = _ from upTo_succ _ st ⟨k, by omega⟩]
      by_cases h1 : r.val < 512 * k
      · rw [if_pos h1] at ih
        rw [if_pos (by omega)]
        exact row1_out x0 x1 x2 s u _ _ _ 1 r (.inr (by show ¬(512 * k ≤ r.val ∧ r.val < 512 * k + 512); omega)) _ ih
      · rw [if_neg h1] at ih
        by_cases h2 : r.val < 512 * (k + 1)
        · rw [if_pos h2]
          exact row1_in x0 x1 x2 x3 x4 x5 s u _ n r (by show 512 * k ≤ r.val ∧ r.val < 512 * k + 512; omega) hs hu _ ih
        · rw [if_neg h2]
          exact row1_out x0 x1 x2 s u _ _ _ 1 r (.inr (by show ¬(512 * k ≤ r.val ∧ r.val < 512 * k + 512); omega)) _ ih
  have := key _ le_rfl
  rwa [if_pos (by rw [trips4]; have := r.isLt; omega)] at this

/-- They leave the first head's alone. -/
theorem head1_out (p : Prep Ideal) (n : ℕ) (r : Fin 2048) (st : St Ideal) (h : Inv s u n st 0 r) : Inv s u n (head1 x0 x1 x2 p st) 0 r := by
  unfold head1
  have key : ∀ k, k ≤ k0_t4_loop.trips → Inv s u n (upTo (row1 x0 x1 x2 p) st k) 0 r := by
    intro k
    induction k with
    | zero => intro _; exact h
    | succ k ih =>
      intro hk
      rw [show upTo _ st (k + 1) = _ from upTo_succ _ st ⟨k, by omega⟩]
      exact row1_out x0 x1 x2 s u _ _ _ 0 r (.inl rfl) _ (ih (by omega))
  exact key _ le_rfl

/-- One chunk of keys is a step for every query of the group. -/
theorem chunk_inv (n : ℕ) (g : Fin 2) (r : Fin 2048)
    (hs : ∀ i : Fin 4096, scoreAt x0 x1 x2 x4 g r i = s (n + i.val)) (hu : ∀ d (i : Fin 4096), x3 (ix3 0 d i) * x5 (ix3 0 0 i) = u d (n + i.val))
    (st : St Ideal) (h : Inv s u n st g r) : Inv s u (n + 4096) (chunk x0 x1 x2 x3 x4 x5 st) g r := by
  unfold chunk
  match g, hs, h with
  | 0, hs, h => exact head1_out x0 x1 x2 s u _ _ r _ (head0_in x0 x1 x2 x3 x4 x5 s u n r hs hu st h)
  | 1, hs, h => exact head1_in x0 x1 x2 x3 x4 x5 s u n r hs hu _ (head0_out x0 x1 x2 s u _ n r st h)

end Tile

/-! ## What the last chunk stores -/

theorem lse_at (st : St Ideal) (g : Fin 2) (r : Fin 2048) :
    lse st (ix3 g 0 r) = st.2.1 (ix2 g r) * ((Real.log 2 : ℝ) : EReal) + Ideal.log (st.2.2 (ix2 g r)) := by
  unfold lse lseFrom
  match g with
  | 0 =>
    refine (put_off _ _ _ _ _ 0 (by show ¬(1 ≤ 0 ∧ 0 < 1 + 1); omega)).trans ?_
    refine (put_at3 _ _ _ 0 0 r 0 0 r rfl rfl (Nat.zero_add _)).trans ((pay27_at _ _ _).trans ?_)
    exact congrArg₂ (fun a b => a * _ + Ideal.log b) (window_at2 _ _ _ _ _ 0 r rfl (Nat.zero_add _)) (window_at2 _ _ _ _ _ 0 r rfl (Nat.zero_add _))
  | 1 =>
    refine (put_at3 _ _ _ 0 0 r 1 0 r rfl rfl (Nat.zero_add _)).trans ((pay29_at _ _ _).trans ?_)
    exact congrArg₂ (fun a b => a * _ + Ideal.log b) (window_at2 _ _ _ _ _ 1 r rfl (Nat.zero_add _)) (window_at2 _ _ _ _ _ 1 r rfl (Nat.zero_add _))

theorem quot_at (st : St Ideal) (g : Fin 2) (d : Fin 128) (r : Fin 2048) :
    quot st (ix3 g d r) = Ideal.div (st.1 (ix3 g d r)) (st.2.2 (ix2 g r)) := by
  unfold quot half
  match g with
  | 0 =>
    refine (put_off _ _ _ _ _ 0 (by show ¬(1 ≤ 0 ∧ 0 < 1 + 1); omega)).trans ?_
    refine (put_at3 _ _ _ 0 d r 0 d r rfl (Nat.zero_add _) (Nat.zero_add _)).trans ((pay28_at _ _ _ _).trans ?_)
    exact congrArg₂ Ideal.div (window_at3 _ _ _ _ _ _ 0 d r rfl (Nat.zero_add _) (Nat.zero_add _)) (window_at2 _ _ _ _ _ 0 r rfl (Nat.zero_add _))
  | 1 =>
    refine (put_at3 _ _ _ 0 d r 1 d r rfl (Nat.zero_add _) (Nat.zero_add _)).trans ((pay12_at _ _ _).trans ((pay30_at _ _ _ _).trans ?_))
    exact congrArg₂ Ideal.div (window_at3 _ _ _ _ _ _ 1 d r rfl (Nat.zero_add _) (Nat.zero_add _)) (window_at2 _ _ _ _ _ 1 r rfl (Nat.zero_add _))

end Cert.KernelIdeal.Flash

end
-- ==== Proof.Rows.lean ====
module

public import Mathlib.Data.Fin.Basic

@[expose] public section

/-! A query row is a batch and a position in the sequence. -/

namespace Cert.Rows

/-- The batch of query row `r`. -/
def hi (r : Fin 2048) : Fin 2 := ⟨r.val / 1024, by have := r.isLt; omega⟩
/-- Its position in the sequence. -/
def lo (r : Fin 2048) : Fin 1024 := ⟨r.val % 1024, Nat.mod_lt _ (by decide)⟩
/-- The query row of batch `b`, position `i`. -/
def join (b : Fin 2) (i : Fin 1024) : Fin 2048 := ⟨b.val * 1024 + i.val, by have := b.isLt; have := i.isLt; omega⟩

end Cert.Rows
-- ==== Proof.KIHost.lean ====
module

public import proofs.«01_k».proof.Proof.Gen.KernelIdeal.Frame
public import Idealize.ShloMosaic.Lib.StableHlo.ReadAt
public import Idealize.ShloMosaic.Lib.Pointwise
public import proofs.«01_k».proof.Proof.Rows

@[expose] public section

set_option maxRecDepth 16384

noncomputable section

/-! What the host operations before the kernel's region leave in the arrays it stages, read at an index of the arguments. -/

namespace Cert.KernelIdeal.Flash

open Cert.KernelIdeal.Gen Cert.Rows
open Idealize.ShloMosaic Idealize.ShloMosaic.TcCoe

variable (m : (ℓ : Loc nD τ sig) → Buf (Elt Ideal) ℓ) (c : Dev nD)

theorem V_q (h : Fin 32) (d : Fin 128) (r : Fin 2048) :
    V m c main_v1 (ix3 h d r) = m ((c.tc : Thread nD τ).loc main_arg0) (ix4 (hi r) (lo r) h d) := by
  unfold V
  after_reads_at
  rfl

theorem V_qs (h : Fin 32) (r : Fin 2048) :
    V m c main_v4 (ix3 h 0 r) = m ((c.tc : Thread nD τ).loc main_arg1) (ix3 (hi r) (lo r) h) := by
  unfold V
  after_reads_at
  rfl

theorem V_k (i : Fin 16) (p : Fin 49152) (d : Fin 128) :
    V m c main_v5 (ix3 i p d) = m ((c.tc : Thread nD τ).loc main_arg2) (ix3 p i d) := by
  unfold V
  after_reads_at

theorem V_v (i : Fin 16) (d : Fin 128) (p : Fin 49152) :
    V m c main_v6 (ix3 i d p) = m ((c.tc : Thread nD τ).loc main_arg3) (ix3 p i d) := by
  unfold V
  after_reads_at

theorem V_ks (i : Fin 16) (p : Fin 49152) :
    V m c main_v8 (ix3 i 0 p) = m ((c.tc : Thread nD τ).loc main_arg4) (ix2 p i) := by
  unfold V
  after_reads_at

theorem V_vs (i : Fin 16) (p : Fin 49152) :
    V m c main_v10 (ix3 i 0 p) = m ((c.tc : Thread nD τ).loc main_arg5) (ix2 p i) := by
  unfold V
  after_reads_at

end Cert.KernelIdeal.Flash

end
-- ==== Proof.Attn.lean ====
module

public import proofs.«01_k».proof.Proof.Online
public import proofs.«01_k».proof.Proof.Rows
public import Idealize.ShloMosaic.Lib.Pointwise

@[expose] public section

noncomputable section

/-! Softmax attention of every query head and row over the prompt's keys, as functions of the six argument arrays:
    the output, and the logarithm of the sum (and of the mean) of the exponentials. -/

namespace Cert.Attn

open Cert.Rows Cert.Online
open Idealize.ShloMosaic

/-- The key-value head that query head `h` shares. -/
def kv (h : Fin 32) : Fin 16 := ⟨h.val / 2, by have := h.isLt; omega⟩

variable (a0 : (⟨4, ![2, 1024, 32, 128]⟩ : Shape).Idx → EReal) (a1 : (⟨3, ![2, 1024, 32]⟩ : Shape).Idx → EReal)
  (a2 a3 : (⟨3, ![49152, 16, 128]⟩ : Shape).Idx → EReal) (a4 a5 : (⟨2, ![49152, 16]⟩ : Shape).Idx → EReal)

/-- The scaled score of query row `r` of head `h` against key `p`. -/
def score (h : Fin 32) (r : Fin 2048) (p : Fin 49152) : EReal :=
  (∑ d : Fin 128, a0 (ix4 (hi r) (lo r) h d) * a2 (ix3 p (kv h) d)) * (a1 (ix3 (hi r) (lo r) h) * (((Real.sqrt 128)⁻¹ : ℝ) : EReal)) * a4 (ix2 p (kv h))

/-- Component `d` of key `p`'s value, as head `h` sees it. -/
def value (h : Fin 32) (d : Fin 128) (p : Fin 49152) : EReal := a3 (ix3 p (kv h) d) * a5 (ix2 p (kv h))

/-- The attention output. -/
def out : (⟨3, ![32, 128, 2048]⟩ : Shape).Idx → EReal := fun j =>
  Ideal.div (∑ p, weight (score a0 a1 a2 a4 (j 0) (j 2)) p * value a3 a5 (j 0) (j 1) p) (∑ p, weight (score a0 a1 a2 a4 (j 0) (j 2)) p)

/-- The logarithm of the sum of the exponentials of the scores. -/
def logsum : (⟨3, ![32, 1, 2048]⟩ : Shape).Idx → EReal := fun j =>
  peak (score a0 a1 a2 a4 (j 0) (j 2)) + Ideal.log (∑ p, weight (score a0 a1 a2 a4 (j 0) (j 2)) p)

/-- The same per batch, position and head, less the logarithm of the number of keys (rounded to 32 bits). -/
def logmean : (⟨3, ![2, 1024, 32]⟩ : Shape).Idx → EReal := fun j =>
  logsum a0 a1 a2 a4 (ix3 (j 2) 0 (join (j 0) (j 1))) - Ideal.ofBits .f32 0x412CD7BF#32

end Cert.Attn

end
-- ==== Proof.KIValue.lean ====
module

public import proofs.«01_k».proof.Proof.KIFrame
public import proofs.«01_k».proof.Proof.KILane
public import proofs.«01_k».proof.Proof.KIHost
public import proofs.«01_k».proof.Proof.Attn
public import Idealize.ShloMosaic.Lib.Pipeline.ValueKit

@[expose] public section

set_option maxRecDepth 16384

noncomputable section

/-! The kernel's two arrays after its run, over the extended reals: softmax attention of the arguments. -/

namespace Cert.KernelIdeal.Flash

open Cert.KernelIdeal.Gen Cert.Online Cert.Rows
open Idealize.ShloMosaic Idealize.ShloMosaic.TcCoe Idealize.SL.Sem

variable (m : (ℓ : Loc nD τ sig) → Buf (Elt Ideal) ℓ) (ρ : Dev nD → PrngReg) (c : Dev nD)

/-- The windows' block indices at a grid point. -/
theorem idx : ∀ t : Fin cfg0.N, win0_0.index t = ![t.val / 12, 0, 0] ∧ win0_1.index t = ![t.val / 12, 0, 0] ∧ win0_2.index t = ![t.val / 12, t.val % 12, 0]
    ∧ win0_3.index t = ![t.val / 12, 0, t.val % 12] ∧ win0_4.index t = ![t.val / 12, 0, t.val % 12] ∧ win0_5.index t = ![t.val / 12, 0, t.val % 12]
    ∧ win0_6.index t = ![t.val / 12, 0, 0] ∧ win0_7.index t = ![t.val / 12, 0, 0] :=
  (by decide +kernel : ∀ t : Fin grid0.N, win0_0.index t = ![t.val / 12, 0, 0] ∧ win0_1.index t = ![t.val / 12, 0, 0] ∧ win0_2.index t = ![t.val / 12, t.val % 12, 0]
    ∧ win0_3.index t = ![t.val / 12, 0, t.val % 12] ∧ win0_4.index t = ![t.val / 12, 0, t.val % 12] ∧ win0_5.index t = ![t.val / 12, 0, t.val % 12]
    ∧ win0_6.index t = ![t.val / 12, 0, 0] ∧ win0_7.index t = ![t.val / 12, 0, 0])

theorem lt192 (t : Fin cfg0.N) : t.val < 192 := lt_of_lt_of_eq t.isLt N_0

/-- The query head of group member `g` at grid point `t`. -/
def headAt (t : Fin cfg0.N) (g : Fin 2) : Fin 32 := ⟨2 * (t.val / 12) + g.val, by have := lt192 t; have := g.isLt; omega⟩
/-- The key-value head. -/
def kvAt (t : Fin cfg0.N) : Fin 16 := ⟨t.val / 12, by have := lt192 t; omega⟩
/-- Key `j` of grid point `t`'s chunk. -/
def keyAt (t : Fin cfg0.N) (j : Fin 4096) : Fin 49152 := ⟨4096 * (t.val % 12) + j.val, by have := j.isLt; omega⟩

theorem kv_headAt (t : Fin cfg0.N) (g : Fin 2) : Cert.Attn.kv (headAt t g) = kvAt t :=
  Fin.ext (by have := g.isLt; show (2 * (t.val / 12) + g.val) / 2 = t.val / 12; omega)

theorem blk_q (t : Fin cfg0.N) (g : Fin 2) (d : Fin 128) (r : Fin 2048) :
    iblk m c 0 t (ix3 g d r) = m ((c.tc : Thread nD τ).loc main_arg0) (ix4 (hi r) (lo r) (headAt t g) d) := by
  refine Eq.trans ?_ (V_q m c (headAt t g) d r)
  blk_ext [iblk, headAt, idx t]

theorem blk_qs (t : Fin cfg0.N) (g : Fin 2) (r : Fin 2048) :
    iblk m c 1 t (ix3 g 0 r) = m ((c.tc : Thread nD τ).loc main_arg1) (ix3 (hi r) (lo r) (headAt t g)) := by
  refine Eq.trans ?_ (V_qs m c (headAt t g) r)
  blk_ext [iblk, headAt, idx t]

theorem blk_k (t : Fin cfg0.N) (j : Fin 4096) (d : Fin 128) :
    iblk m c 2 t (ix3 0 j d) = m ((c.tc : Thread nD τ).loc main_arg2) (ix3 (keyAt t j) (kvAt t) d) := by
  refine Eq.trans ?_ (V_k m c (kvAt t) (keyAt t j) d)
  blk_ext [iblk, keyAt, kvAt, idx t]

theorem blk_v (t : Fin cfg0.N) (d : Fin 128) (j : Fin 4096) :
    iblk m c 3 t (ix3 0 d j) = m ((c.tc : Thread nD τ).loc main_arg3) (ix3 (keyAt t j) (kvAt t) d) := by
  refine Eq.trans ?_ (V_v m c (kvAt t) d (keyAt t j))
  blk_ext [iblk, keyAt, kvAt, idx t]

theorem blk_ks (t : Fin cfg0.N) (j : Fin 4096) :
    iblk m c 4 t (ix3 0 0 j) = m ((c.tc : Thread nD τ).loc main_arg4) (ix2 (keyAt t j) (kvAt t)) := by
  refine Eq.trans ?_ (V_ks m c (kvAt t) (keyAt t j))
  blk_ext [iblk, keyAt, kvAt, idx t]

theorem blk_vs (t : Fin cfg0.N) (j : Fin 4096) :
    iblk m c 5 t (ix3 0 0 j) = m ((c.tc : Thread nD τ).loc main_arg5) (ix2 (keyAt t j) (kvAt t)) := by
  refine Eq.trans ?_ (V_vs m c (kvAt t) (keyAt t j))
  blk_ext [iblk, keyAt, kvAt, idx t]

/-! ## The running state at every grid point -/

/-- A function of the keys, at every natural number. -/
def over (f : Fin 49152 → EReal) (n : ℕ) : EReal := if h : n < 49152 then f ⟨n, h⟩ else 0

theorem over_key (f : Fin 49152 → EReal) (t : Fin cfg0.N) (j : Fin 4096) : over f (4096 * (t.val % 12) + j.val) = f (keyAt t j) :=
  dif_pos (keyAt t j).isLt

theorem over_val (f : Fin 49152 → EReal) (p : Fin 49152) : over f p.val = f p := dif_pos p.isLt

/-- The scores of the arguments. -/
def scoreOf (h : Fin 32) (r : Fin 2048) : Fin 49152 → EReal :=
  Cert.Attn.score (m ((c.tc : Thread nD τ).loc main_arg0)) (m ((c.tc : Thread nD τ).loc main_arg1)) (m ((c.tc : Thread nD τ).loc main_arg2)) (m ((c.tc : Thread nD τ).loc main_arg4)) h r

/-- Their values. -/
def valueOf (h : Fin 32) (d : Fin 128) : Fin 49152 → EReal :=
  Cert.Attn.value (m ((c.tc : Thread nD τ).loc main_arg3)) (m ((c.tc : Thread nD τ).loc main_arg5)) h d

/-- The kernel's scores: in units of the logarithm of 2. -/
def scaled (h : Fin 32) (r : Fin 2048) : ℕ → EReal := over fun p => scoreOf m c h r p * (((Real.log 2)⁻¹ : ℝ) : EReal)

theorem score_chunk (t : Fin cfg0.N) (g : Fin 2) (r : Fin 2048) (i : Fin 4096) :
    scoreAt (iblk m c 0 t) (iblk m c 1 t) (iblk m c 2 t) (iblk m c 4 t) g r i = scaled m c (headAt t g) r (4096 * (t.val % 12) + i.val) := by
  unfold scaled
  rw [over_key]
  unfold scoreAt scoreOf Cert.Attn.score kappa
  rw [kv_headAt, EReal.coe_mul]
  simp only [blk_q, blk_qs, blk_k, blk_ks]
  rw [Finset.sum_congr rfl fun d _ => mul_comm _ _]
  ac_rfl

/-- The value of key `i` of a chunk, component `d`. -/
def valueAt (x3 : Vec Ideal S1x128x4096 .fp8e4m3) (x5 : Vec Ideal S1x1x4096 .f32) (d : Fin 128) (i : Fin 4096) : EReal := x3 (ix3 0 d i) * x5 (ix3 0 0 i)

theorem value_chunk (t : Fin cfg0.N) (g : Fin 2) (d : Fin 128) (i : Fin 4096) :
    valueAt (iblk m c 3 t) (iblk m c 5 t) d i = over (valueOf m c (headAt t g) d) (4096 * (t.val % 12) + i.val) := by
  rw [over_key]
  unfold valueAt valueOf Cert.Attn.value
  rw [kv_headAt, blk_v, blk_vs]

theorem chunkAt_inv (t : Fin cfg0.N) (g : Fin 2) (r : Fin 2048) (st : St Ideal)
    (h : Inv (scaled m c (headAt t g) r) (fun d => over (valueOf m c (headAt t g) d)) (4096 * (t.val % 12)) st g r) :
    Inv (scaled m c (headAt t g) r) (fun d => over (valueOf m c (headAt t g) d)) (4096 * (t.val % 12 + 1)) (chunkAt m c t st) g r :=
  chunk_inv (iblk m c 0 t) (iblk m c 1 t) (iblk m c 2 t) (iblk m c 3 t) (iblk m c 4 t) (iblk m c 5 t) _ _ _ g r
    (fun i => score_chunk m c t g r i) (fun d i => value_chunk m c t g d i) st h

theorem stateAt_inv (g : Fin 2) (r : Fin 2048) : ∀ (n : ℕ) (hn : n < cfg0.N),
    Inv (scaled m c (headAt ⟨n, hn⟩ g) r) (fun d => over (valueOf m c (headAt ⟨n, hn⟩ g) d)) (4096 * (n % 12 + 1)) (stateAt m c n hn) g r := by
  intro n
  induction n with
  | zero => exact fun hn => chunkAt_inv m c ⟨0, hn⟩ g r _ (Inv_start _ _ g r)
  | succ n ih =>
    intro hn
    by_cases h0 : (n + 1) % 12 = 0
    · rw [show stateAt m c (n + 1) hn = _ from stateAt_first m c ⟨n + 1, hn⟩ h0]
      refine chunkAt_inv m c ⟨n + 1, hn⟩ g r _ ?_
      rw [show 4096 * ((⟨n + 1, hn⟩ : Fin cfg0.N).val % 12) = 0 from by rw [show (⟨n + 1, hn⟩ : Fin cfg0.N).val % 12 = 0 from h0]]
      exact Inv_start _ _ g r
    · rw [show stateAt m c (n + 1) hn = _ from stateAt_next m c ⟨n + 1, hn⟩ h0]
      refine chunkAt_inv m c ⟨n + 1, hn⟩ g r _ ?_
      have := ih (Nat.lt_of_succ_lt hn)
      rw [show headAt ⟨n, Nat.lt_of_succ_lt hn⟩ g = headAt ⟨n + 1, hn⟩ g from Fin.ext (by show 2 * (n / 12) + g.val = 2 * ((n + 1) / 12) + g.val; omega),
        show n % 12 + 1 = (n + 1) % 12 from by omega] at this
      exact this

/-- A group's last chunk leaves the whole prompt's softmax. -/
theorem stateAt_last (t : Fin cfg0.N) (h : t.val % 12 = 11) (g : Fin 2) (r : Fin 2048) :
    Inv (scaled m c (headAt t g) r) (fun d => over (valueOf m c (headAt t g) d)) 49152 (stateAt m c t.val t.isLt) g r := by
  have := stateAt_inv m c g r t.val t.isLt
  rwa [h] at this

theorem quot_last (t : Fin cfg0.N) (h : t.val % 12 = 11) (g : Fin 2) (d : Fin 128) (r : Fin 2048) :
    quot (stateAt m c t.val t.isLt) (ix3 g d r)
      = Ideal.div (∑ p, weight (scoreOf m c (headAt t g) r) p * valueOf m c (headAt t g) d p) (∑ p, weight (scoreOf m c (headAt t g) r) p) := by
  obtain ⟨hm, hl, ho⟩ := stateAt_last m c t h g r
  rw [quot_at, hl, ho]
  exact quotient_eq (by decide) _ _ _ _ (fun p => over_val _ p) (fun p => over_val _ p)

theorem lse_last (t : Fin cfg0.N) (h : t.val % 12 = 11) (g : Fin 2) (r : Fin 2048) :
    lse (stateAt m c t.val t.isLt) (ix3 g 0 r)
      = peak (scoreOf m c (headAt t g) r) + Ideal.log (∑ p, weight (scoreOf m c (headAt t g) r) p) := by
  obtain ⟨hm, hl, ho⟩ := stateAt_last m c t h g r
  rw [lse_at, hl, hm]
  exact lse_eq (by decide) _ _ (fun p => over_val _ p)

/-! ## The arrays after the run -/

/-- The attention output of the arguments. -/
def outOf : S32x128x2048.Idx → EReal :=
  Cert.Attn.out (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- Their logarithm of the sum of the exponentials. -/
def logsumOf : S32x1x2048.Idx → EReal :=
  Cert.Attn.logsum (m ((c.tc : Thread nD τ).loc main_arg0)) (m ((c.tc : Thread nD τ).loc main_arg1)) (m ((c.tc : Thread nD τ).loc main_arg2)) (m ((c.tc : Thread nD τ).loc main_arg4))

theorem arr_out : (dats m 0 c).arrAt 6 cfg0.N = outOf m c := by
  refine (dats m 0 c).arrAt_eq_of_covers 6 _ (by decide +kernel) fun t hf y => ?_
  have h := (flush0_6 t).mp hf
  blk_simp
  rw [after0_6]
  unfold oAt
  rw [if_pos h]
  have e : (win0_6.blk t).view.emb y = ix3 (headAt t (y 0)) (y 1) (y 2) := by blk_ext [headAt, idx t]
  rw [e]
  exact (congrArg (quot (stateAt m c t.val t.isLt)) (eq_ix3 (n0 := 2) (n1 := 128) (n2 := 2048) y)).trans (quot_last m c t h (y 0) (y 1) (y 2))

theorem arr_logsum : (dats m 0 c).arrAt 7 cfg0.N = logsumOf m c := by
  refine (dats m 0 c).arrAt_eq_of_covers 7 _ (by decide +kernel) fun t hf y => ?_
  have h := (flush0_7 t).mp hf
  blk_simp
  rw [after0_7]
  have e : (win0_7.blk t).view.emb y = ix3 (headAt t (y 0)) 0 (y 2) := by blk_ext [headAt, idx t]
  have e' : y = ix3 (n0 := 2) (n1 := 1) (n2 := 2048) (y 0) 0 (y 2) := by blk_ext
  rw [e]
  exact (congrArg (lse (stateAt m c t.val t.isLt)) e').trans (lse_last m c t h (y 0) (y 2))

/-- The logarithm of the mean of the exponentials. -/
def logmeanOf : S2x1024x32.Idx → EReal :=
  Cert.Attn.logmean (m ((c.tc : Thread nD τ).loc main_arg0)) (m ((c.tc : Thread nD τ).loc main_arg1)) (m ((c.tc : Thread nD τ).loc main_arg2)) (m ((c.tc : Thread nD τ).loc main_arg4))

/-- What the host operations after the region make of the second array. -/
theorem tail_logmean_at (b : Fin 2) (i : Fin 1024) (h : Fin 32) :
    Pipeline.afterTail₀ cfgs (dats m) 0 (V0 m) [hostOps1] c main_v16 (ix3 b i h) = logmeanOf m c (ix3 b i h) := by
  unfold Pipeline.afterTail₀
  after_reads_at
  erw [Pipeline.withArrays_arr spec0 launch0.win.arr_inj c (V0 m c) _ 7]
  have e := arr_logsum m c
  erw [e]
  unfold logmeanOf Cert.Attn.logmean logsumOf
  rfl

theorem tail_logmean : Pipeline.afterTail₀ cfgs (dats m) 0 (V0 m) [hostOps1] c main_v16 = logmeanOf m c := by
  funext j
  rw [eq_ix3 (n0 := 2) (n1 := 1024) (n2 := 32) j]
  exact tail_logmean_at m c _ _ _

/-- The kernel's run: both arrays are the arguments' attention (the logarithms less that of the number of keys), and the arguments are unchanged. -/
theorem run_value : θ_run defs (onTc (τ := τ) (main (F := Ideal))) ⟨m, fun _ => 0, ρ⟩ (fun r => ∀ c : Dev nD,
      r.2.mem ((c.tc : Thread nD τ).loc main_v11_0) = outOf m c
      ∧ r.2.mem ((c.tc : Thread nD τ).loc main_v16) = logmeanOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (arr_out m c), ((h c).2 main_v16 (Pipeline.mem_restRefs_of main_v16 (by decide) (by decide))).trans (tail_logmean m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Flash

end
-- ==== Proof.RIHost.lean ====
module

public import proofs.«01_k».proof.Proof.Gen.ReferenceIdeal.Frame
public import Idealize.ShloMosaic.Lib.StableHlo.ReadAt
public import Idealize.ShloMosaic.Lib.Pointwise
public import proofs.«01_k».proof.Proof.Rows

@[expose] public section

set_option maxRecDepth 16384

noncomputable section

/-! What the host operations before the reference's call leave in the arrays it stages, read at an index of the arguments. -/

namespace Cert.ReferenceIdeal.Soft

open Cert.ReferenceIdeal.Gen Cert.Rows
open Idealize.ShloMosaic Idealize.ShloMosaic.TcCoe

/-- Row `q` of a key-value head's queries: the row of its query head. -/
def row (q : Fin 4096) : Fin 2048 := ⟨q.val % 2048, Nat.mod_lt _ (by decide)⟩
/-- Its query head. -/
def head (i : Fin 16) (q : Fin 4096) : Fin 32 := ⟨i.val * 2 + q.val / 2048, by have := i.isLt; have := q.isLt; omega⟩

variable (m : (ℓ : Loc nD τ sig) → Buf (Elt Ideal) ℓ) (c : Dev nD)

theorem V_q (i : Fin 16) (q : Fin 4096) (d : Fin 128) :
    V m c main_v2 (ix3 i q d) = m ((c.tc : Thread nD τ).loc main_arg0) (ix4 (hi (row q)) (lo (row q)) (head i q) d) := by
  unfold V
  after_reads_at
  rfl

theorem V_qs (i : Fin 16) (q : Fin 4096) :
    V m c main_v5 (ix3 i q 0) = m ((c.tc : Thread nD τ).loc main_arg1) (ix3 (hi (row q)) (lo (row q)) (head i q)) := by
  unfold V
  after_reads_at
  rfl

theorem V_k (i : Fin 16) (p : Fin 49152) (d : Fin 128) :
    V m c main_v6 (ix3 i p d) = m ((c.tc : Thread nD τ).loc main_arg2) (ix3 p i d) := by
  unfold V
  after_reads_at

theorem V_v (i : Fin 16) (p : Fin 49152) (d : Fin 128) :
    V m c main_v7 (ix3 i p d) = m ((c.tc : Thread nD τ).loc main_arg3) (ix3 p i d) := by
  unfold V
  after_reads_at

theorem V_ks (i : Fin 16) (p : Fin 49152) :
    V m c main_v9 (ix3 i 0 p) = m ((c.tc : Thread nD τ).loc main_arg4) (ix2 p i) := by
  unfold V
  after_reads_at

theorem V_vs (i : Fin 16) (p : Fin 49152) :
    V m c main_v11 (ix3 i 0 p) = m ((c.tc : Thread nD τ).loc main_arg5) (ix2 p i) := by
  unfold V
  after_reads_at

end Cert.ReferenceIdeal.Soft

end
-- ==== Proof.RIValue.lean ====
module

public import proofs.«01_k».proof.Proof.Gen.ReferenceIdeal.Value
public import proofs.«01_k».proof.Proof.RIHost
public import proofs.«01_k».proof.Proof.Attn
public import Idealize.ShloMosaic.Lib.Pipeline.ValueKit

@[expose] public section

set_option maxRecDepth 16384

noncomputable section

/-! The reference's two arrays after its run, over the extended reals: softmax attention of the arguments. -/

namespace Cert.ReferenceIdeal.Soft

open Cert.ReferenceIdeal.Gen Cert.Online Cert.Rows
open Idealize.ShloMosaic Idealize.ShloMosaic.TcCoe Idealize.SL.Sem

theorem inv_sqrt_d : Named.named (F := Ideal) Cert.ReferenceIdeal.κ "inv_sqrt_d" (φ := .f32) 0x3DB504F3#32 = (((Real.sqrt 128)⁻¹ : ℝ) : EReal) :=
  IdealRules.named_const.ideal_named_scalar _ _ _ _ rfl

/-- The maximum's starting point. -/
theorem ofBits_neg_inf : Ideal.ofBits .f32 0xFF800000#32 = ⊥ := by
  unfold Ideal.ofBits Ideal.ieee
  dsimp only
  rw [if_pos (by decide), if_pos (by decide), if_pos (by decide)]

section Payloads

variable (q : Vec Ideal S16x4096x128 .fp8e4m3) (k : Vec Ideal S16x49152x128 .fp8e4m3) (qs : Vec Ideal S16x4096x1 .f32) (ks : Vec Ideal S16x1x49152 .f32)

/-- The score of row `a` of key-value head `i` against key `p`. -/
def scoreAt (i : Fin 16) (a : Fin 4096) (p : Fin 49152) : EReal :=
  (∑ d : Fin 128, q (ix3 i a d) * k (ix3 i p d)) * (qs (ix3 i a 0) * (((Real.sqrt 128)⁻¹ : ℝ) : EReal)) * ks (ix3 i 0 p)

theorem pay2_at (i : Fin 16) (a : Fin 4096) (p : Fin 49152) : k0_pay2 q k qs ks (ix3 i a p) = scoreAt q k qs ks i a p := by
  pointwise [k0_pay2]
  rw [inv_sqrt_d]; rfl

theorem pay3_at (i : Fin 16) (a : Fin 4096) : k0_pay3 q k qs ks (ix3 i a 0) = peak (scoreAt q k qs ks i a) := by
  pointwise [k0_pay3]
  rw [ofBits_neg_inf]; simp only [pay2_at]; rfl

theorem pay4_at (i : Fin 16) (a : Fin 4096) (p : Fin 49152) : k0_pay4 q k qs ks (ix3 i a p) = weight (scoreAt q k qs ks i a) p := by
  pointwise [k0_pay4]
  rw [pay2_at, pay3_at]; rfl

theorem pay5_at (i : Fin 16) (a : Fin 4096) : k0_pay5 q k qs ks (ix3 i a 0) = ∑ p, weight (scoreAt q k qs ks i a) p := by
  pointwise [k0_pay5]
  simp only [pay4_at]

/-- The row of query head `h`'s row `r` among its key-value head's. -/
def rowAt (h : Fin 32) (r : Fin 2048) : Fin 4096 := ⟨h.val % 2 * 2048 + r.val, by have := r.isLt; omega⟩

theorem pay6_at (vs : Vec Ideal S16x1x49152 .f32) (v : Vec Ideal S16x49152x128 .fp8e4m3) (h : Fin 32) (d : Fin 128) (r : Fin 2048) :
    k0_pay6 q k qs ks vs v (ix3 h d r)
      = Ideal.div (∑ p, weight (scoreAt q k qs ks (Cert.Attn.kv h) (rowAt h r)) p * vs (ix3 (Cert.Attn.kv h) 0 p) * v (ix3 (Cert.Attn.kv h) p d))
          (∑ p, weight (scoreAt q k qs ks (Cert.Attn.kv h) (rowAt h r)) p) := by
  pointwise [k0_pay6]
  refine congrArg₂ Ideal.div (Finset.sum_congr rfl fun p _ => ?_) (pay5_at q k qs ks _ _)
  exact congrArg (fun w => w * _ * _) (pay4_at q k qs ks _ _ p)

theorem pay1_at (a b : FVec Ideal S16x4096x1 .f32) (n : Fin 2) (i : Fin 1024) (h : Fin 32) :
    k0_pay1 a b (ix3 n i h) = a (ix3 (Cert.Attn.kv h) (rowAt h (join n i)) 0) + Ideal.log (b (ix3 (Cert.Attn.kv h) (rowAt h (join n i)) 0))
      - Ideal.ofBits .f32 0x412CD7BF#32 := by
  pointwise [k0_pay1]
  rfl

end Payloads

variable (m : (ℓ : Loc nD τ sig) → Buf (Elt Ideal) ℓ) (ρ : Dev nD → PrngReg) (c : Dev nD)

/-- Every window is its whole array. -/
theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] :=
  (by decide +kernel : ∀ t : Fin grid0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0])

theorem blk_q (t : Fin cfg0.N) (i : Fin 16) (a : Fin 4096) (d : Fin 128) :
    iblk m c 0 t (ix3 i a d) = m ((c.tc : Thread nD τ).loc main_arg0) (ix4 (hi (row a)) (lo (row a)) (head i a) d) := by
  refine Eq.trans ?_ (V_q m c i a d)
  blk_ext [iblk, idx t]

theorem blk_qs (t : Fin cfg0.N) (i : Fin 16) (a : Fin 4096) :
    iblk m c 1 t (ix3 i a 0) = m ((c.tc : Thread nD τ).loc main_arg1) (ix3 (hi (row a)) (lo (row a)) (head i a)) := by
  refine Eq.trans ?_ (V_qs m c i a)
  blk_ext [iblk, idx t]

theorem blk_k (t : Fin cfg0.N) (i : Fin 16) (p : Fin 49152) (d : Fin 128) :
    iblk m c 2 t (ix3 i p d) = m ((c.tc : Thread nD τ).loc main_arg2) (ix3 p i d) := by
  refine Eq.trans ?_ (V_k m c i p d)
  blk_ext [iblk, idx t]

theorem blk_v (t : Fin cfg0.N) (i : Fin 16) (p : Fin 49152) (d : Fin 128) :
    iblk m c 3 t (ix3 i p d) = m ((c.tc : Thread nD τ).loc main_arg3) (ix3 p i d) := by
  refine Eq.trans ?_ (V_v m c i p d)
  blk_ext [iblk, idx t]

theorem blk_ks (t : Fin cfg0.N) (i : Fin 16) (p : Fin 49152) :
    iblk m c 4 t (ix3 i 0 p) = m ((c.tc : Thread nD τ).loc main_arg4) (ix2 p i) := by
  refine Eq.trans ?_ (V_ks m c i p)
  blk_ext [iblk, idx t]

theorem blk_vs (t : Fin cfg0.N) (i : Fin 16) (p : Fin 49152) :
    iblk m c 5 t (ix3 i 0 p) = m ((c.tc : Thread nD τ).loc main_arg5) (ix2 p i) := by
  refine Eq.trans ?_ (V_vs m c i p)
  blk_ext [iblk, idx t]

theorem row_rowAt (h : Fin 32) (r : Fin 2048) : row (rowAt h r) = r :=
  Fin.ext (by have := r.isLt; show (h.val % 2 * 2048 + r.val) % 2048 = r.val; omega)

theorem head_rowAt (h : Fin 32) (r : Fin 2048) : head (Cert.Attn.kv h) (rowAt h r) = h :=
  Fin.ext (by have := r.isLt; show h.val / 2 * 2 + (h.val % 2 * 2048 + r.val) / 2048 = h.val; omega)

/-- The scores of the arguments. -/
def scoreOf (h : Fin 32) (r : Fin 2048) : Fin 49152 → EReal :=
  Cert.Attn.score (m ((c.tc : Thread nD τ).loc main_arg0)) (m ((c.tc : Thread nD τ).loc main_arg1)) (m ((c.tc : Thread nD τ).loc main_arg2)) (m ((c.tc : Thread nD τ).loc main_arg4)) h r

theorem score_args (t : Fin cfg0.N) (h : Fin 32) (r : Fin 2048) :
    scoreAt (iblk m c 0 t) (iblk m c 2 t) (iblk m c 1 t) (iblk m c 4 t) (Cert.Attn.kv h) (rowAt h r) = scoreOf m c h r := by
  funext p
  unfold scoreAt scoreOf Cert.Attn.score
  simp only [blk_q, blk_qs, blk_k, blk_ks, row_rowAt, head_rowAt]

/-- The attention output of the arguments. -/
def outOf : S32x128x2048.Idx → EReal :=
  Cert.Attn.out (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- The logarithm of the mean of the exponentials. -/
def logmeanOf : S2x1024x32.Idx → EReal :=
  Cert.Attn.logmean (m ((c.tc : Thread nD τ).loc main_arg0)) (m ((c.tc : Thread nD τ).loc main_arg1)) (m ((c.tc : Thread nD τ).loc main_arg2)) (m ((c.tc : Thread nD τ).loc main_arg4))

theorem out_point (t : Fin cfg0.N) (h : Fin 32) (d : Fin 128) (r : Fin 2048) :
    k0_pay6 (iblk m c 0 t) (iblk m c 2 t) (iblk m c 1 t) (iblk m c 4 t) (iblk m c 5 t) (iblk m c 3 t) (ix3 h d r) = outOf m c (ix3 h d r) := by
  refine (pay6_at _ _ _ _ _ _ h d r).trans ?_
  rw [score_args]
  have e : ∀ p : Fin 49152, weight (scoreOf m c h r) p * iblk m c 5 t (ix3 (Cert.Attn.kv h) 0 p) * iblk m c 3 t (ix3 (Cert.Attn.kv h) p d)
      = weight (scoreOf m c h r) p * Cert.Attn.value (m ((c.tc : Thread nD τ).loc main_arg3)) (m ((c.tc : Thread nD τ).loc main_arg5)) h d p := fun p => by
    rw [blk_vs, blk_v]
    unfold Cert.Attn.value
    generalize weight (scoreOf m c h r) p = w
    exact (mul_assoc _ _ _).trans (congrArg (fun a => w * a) (mul_comm _ _))
  rw [Finset.sum_congr rfl fun p _ => e p]
  rfl

theorem logmean_point (t : Fin cfg0.N) (n : Fin 2) (i : Fin 1024) (h : Fin 32) :
    k0_pay1 (k0_pay3 (iblk m c 0 t) (iblk m c 2 t) (iblk m c 1 t) (iblk m c 4 t)) (k0_pay5 (iblk m c 0 t) (iblk m c 2 t) (iblk m c 1 t) (iblk m c 4 t)) (ix3 n i h)
      = logmeanOf m c (ix3 n i h) := by
  rw [pay1_at, pay3_at, pay5_at, score_args]
  rfl

theorem arr_out : (dats m 0 c).arrAt 6 cfg0.N = outOf m c := by
  refine (dats m 0 c).arrAt_eq_of_covers 6 _ (by decide +kernel) fun t hf y => ?_
  blk_simp
  rw [after0_6]
  frame_out
  have e : ((View.whole main_v12_0).slice (win0_6.rect t)).emb y = ix3 (y 0) (y 1) (y 2) := by blk_ext [idx t]
  rw [e]
  exact (congrArg (k0_pay6 (iblk m c 0 t) (iblk m c 2 t) (iblk m c 1 t) (iblk m c 4 t) (iblk m c 5 t) (iblk m c 3 t)) (eq_ix3 (n0 := 32) (n1 := 128) (n2 := 2048) y)).trans
    (out_point m c t (y 0) (y 1) (y 2))

theorem arr_logmean : (dats m 0 c).arrAt 7 cfg0.N = logmeanOf m c := by
  refine (dats m 0 c).arrAt_eq_of_covers 7 _ (by decide +kernel) fun t hf y => ?_
  blk_simp
  rw [after0_7]
  frame_out
  have e : ((View.whole main_v12_1).slice (win0_7.rect t)).emb y = ix3 (y 0) (y 1) (y 2) := by blk_ext [idx t]
  rw [e]
  exact (congrArg (k0_pay1 (k0_pay3 (iblk m c 0 t) (iblk m c 2 t) (iblk m c 1 t) (iblk m c 4 t)) (k0_pay5 (iblk m c 0 t) (iblk m c 2 t) (iblk m c 1 t) (iblk m c 4 t))) (eq_ix3 (n0 := 2) (n1 := 1024) (n2 := 32) y)).trans
    (logmean_point m c t (y 0) (y 1) (y 2))

/-- The reference's run: both arrays are the arguments' attention, and the arguments are unchanged. -/
theorem run_value : θ_run defs (onTc (τ := τ) (main (F := Ideal))) ⟨m, fun _ => 0, ρ⟩ (fun r => ∀ c : Dev nD,
      r.2.mem ((c.tc : Thread nD τ).loc main_v12_0) = outOf m c
      ∧ r.2.mem ((c.tc : Thread nD τ).loc main_v12_1) = logmeanOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (arr_out m c), (h c).2.1.trans (arr_logmean m c), (h c).2.2⟩) (Value.run_blocks m ρ)

end Cert.ReferenceIdeal.Soft

end
-- ==== Proof.Algebraic.lean ====
module

public import proofs.«01_k».proof.Defs
public import proofs.«01_k».proof.Proof.KIValue
public import proofs.«01_k».proof.Proof.RIValue

@[expose] public section

noncomputable section

/-! Kernel and reference end with equal arrays: both are softmax attention of the arguments. -/

namespace Cert.Proof

open Idealize.ShloMosaic Idealize.SL.Sem

theorem algebraic : Cert.algebraic_KernelIdeal_ReferenceIdeal := by
  intro m ρ m' ρ' _ hagree
  refine ⟨_, _, Cert.KernelIdeal.Flash.run_value m ρ, ?_⟩
  refine (θ_run Cert.ReferenceIdeal.defs _ _).mono (fun _ h c => ⟨(h c).1.trans ?_, (h c).2.1.trans ?_, (h c).2.2⟩)
    (Cert.ReferenceIdeal.Soft.run_value m' ρ')
  · obtain ⟨e0, e1, e2, e3, e4, e5⟩ := hagree c
    unfold Cert.ReferenceIdeal.Soft.outOf Cert.KernelIdeal.Flash.outOf
    rw [e0, e1, e2, e3, e4, e5]
  · obtain ⟨e0, e1, e2, e3, e4, e5⟩ := hagree c
    unfold Cert.ReferenceIdeal.Soft.logmeanOf Cert.KernelIdeal.Flash.logmeanOf
    rw [e0, e1, e2, e4]

end Cert.Proof

end
-- ==== Proof.FModel.lean ====
module

public import proofs.«01_k».proof.Proof.Gen.Finish.Frame
public import proofs.«01_k».proof.Proof.Gen.Finish.Skeleton
public import Idealize.ShloMosaic.Lib.Exec
public import Idealize.ShloMosaic.Lib.VecWindow

@[expose] public section

noncomputable section

/-! What one grid point of the closing call does to its buffers, as plain functions of vectors. -/

namespace Cert.Finish.Close

open Cert.Finish.Gen
open Idealize.ShloMosaic Idealize.ShloMosaic.TcCoe
open Idealize.ShloMosaic.VecWindow (window put)

variable {F : FTy → Type} [FloatOps F]

/-- The blocks a grid point reads: queries, their scales, keys, values, their scales, the prompt's output and its log-sum. -/
structure Blocks (F : FTy → Type) where
  q : Vec F S2x128x256 .fp8e4m3
  qs : Vec F S2x1x256 .f32
  k : Vec F S1x1x1024x128 .fp8e4m3
  v : Vec F S1x1x128x1024 .fp8e4m3
  ks : Vec F S1x1x1x1024 .f32
  vs : Vec F S1x1x1x1024 .f32
  o : Vec F S2x128x256 .f32
  lse : Vec F S2x1x256 .f32

/-- The key scales spread over lanes. -/
def spread (b : Blocks F) : FVec F S1024x128 .f32 := k0_pay68 (window (s := S1x1x1x1024) b.ks ![0, 0, 0, 0] S1x1x1x1024.size inb_S1x1x1x1024_S1x1x1x1024_0_0_0_0)
def vals (b : Blocks F) : FVec F S128x1024 .fp8e4m3 := k0_pay69 (window (s := S1x1x128x1024) b.v ![0, 0, 0, 0] S1x1x128x1024.size inb_S1x1x128x1024_S1x1x128x1024_0_0_0_0)
def valScales (b : Blocks F) : Vec F S1x1x1x1024 .f32 := window (s := S1x1x1x1024) b.vs ![0, 0, 0, 0] S1x1x1x1024.size inb_S1x1x1x1024_S1x1x1x1024_0_0_0_0
def keys (b : Blocks F) : Vec F S1x1x1024x128 .fp8e4m3 := window (s := S1x1x1024x128) b.k ![0, 0, 0, 0] S1x1x1024x128.size inb_S1x1x1024x128_S1x1x1024x128_0_0_0_0

/-- The first head's peak, weight sum and attention output. -/
def peak0 (n : BitVec 32) (b : Blocks F) : FVec F S1x256 .f32 := k0_pay73 n (spread b) (keys b) (window (s := S2x128x256) b.q ![0, 0, 0] S1x128x256.size inb_S2x128x256_S1x128x256_0_0_0) (window (s := S2x1x256) b.qs ![0, 0, 0] S1x1x256.size inb_S2x1x256_S1x1x256_0_0_0)
def sum0 (n : BitVec 32) (b : Blocks F) : FVec F S1x256 .f32 := k0_pay75 n (spread b) (keys b) (window (s := S2x128x256) b.q ![0, 0, 0] S1x128x256.size inb_S2x128x256_S1x128x256_0_0_0) (window (s := S2x1x256) b.qs ![0, 0, 0] S1x1x256.size inb_S2x1x256_S1x1x256_0_0_0)
def att0 (n : BitVec 32) (b : Blocks F) : FVec F S128x256 .f32 := k0_pay76 n (spread b) (vals b) (valScales b) (keys b) (window (s := S2x128x256) b.q ![0, 0, 0] S1x128x256.size inb_S2x128x256_S1x128x256_0_0_0) (window (s := S2x1x256) b.qs ![0, 0, 0] S1x1x256.size inb_S2x1x256_S1x1x256_0_0_0)
def ln2 : F .f32 := Scalar.ofBits .f32 0x3F317218#32
/-- The second head's attention output and log-sum. -/
def att1 (n : BitVec 32) (b : Blocks F) : FVec F S128x256 .f32 := k0_pay86 (spread b) (k0_pay70 (vals b) (valScales b)) (iota .tc S1024x256 32 [0] iota_S1024x256_d0_w32) (k0_pay71 n) (keys b) (window (s := S2x128x256) b.q ![1, 0, 0] S1x128x256.size inb_S2x128x256_S1x128x256_1_0_0) (window (s := S2x1x256) b.qs ![1, 0, 0] S1x1x256.size inb_S2x1x256_S1x1x256_1_0_0)
def lse1 (n : BitVec 32) (b : Blocks F) : FVec F S1x256 .f32 := k0_pay87 (spread b) (iota .tc S1024x256 32 [0] iota_S1024x256_d0_w32) (k0_pay71 n) (keys b) (window (s := S2x128x256) b.q ![1, 0, 0] S1x128x256.size inb_S2x128x256_S1x128x256_1_0_0) (window (s := S2x1x256) b.qs ![1, 0, 0] S1x1x256.size inb_S2x1x256_S1x1x256_1_0_0)

/-- Each head's joined output, transposed. -/
def row0 (n : BitVec 32) (b : Blocks F) : FVec F S1x256x128 .f32 := k0_pay81 (k0_pay78 (peak0 n b) (sum0 n b) (att0 n b) ln2 (window (s := S2x1x256) b.lse ![0, 0, 0] S1x1x256.size inb_S2x1x256_S1x1x256_0_0_0) (window (s := S2x128x256) b.o ![0, 0, 0] S1x128x256.size inb_S2x128x256_S1x128x256_0_0_0))
def row1 (n : BitVec 32) (b : Blocks F) : FVec F S1x256x128 .f32 := k0_pay91 (att1 n b) (lse1 n b) (window (s := S2x1x256) b.lse ![1, 0, 0] S1x1x256.size inb_S2x1x256_S1x1x256_1_0_0) (window (s := S2x128x256) b.o ![1, 0, 0] S1x128x256.size inb_S2x128x256_S1x128x256_1_0_0)

/-- The log-sum block over whatever the buffer held. -/
def lseFrom (n : BitVec 32) (b : Blocks F) (a : Vec F S2x1x256 .f32) : Vec F S2x1x256 .f32 :=
  put (s := S2x1x256) (put (s := S2x1x256) a ![0, 0, 0] S1x1x256.size (k0_pay79 (peak0 n b) (sum0 n b) ln2)) ![1, 0, 0] S1x1x256.size (k0_pay89 (lse1 n b))

def lses (n : BitVec 32) (b : Blocks F) : Vec F S2x1x256 .f32 := lseFrom n b (constant S2x1x256 .f32 0x00000000#32)

/-- The running largest magnitudes. -/
def amaxHalf (i : grid0.Coords) (b : Blocks F) (a : Vec F S32x128 .f32) : Vec F S32x128 .f32 :=
  put (s := S32x128) a (k0_off1 i 0#32) S1x128.size (k0_pay80 (peak0 (BitVec.ofNat 32 (i 1).val) b) (sum0 (BitVec.ofNat 32 (i 1).val) b) (att0 (BitVec.ofNat 32 (i 1).val) b) ln2 (window (s := S2x1x256) b.lse ![0, 0, 0] S1x1x256.size inb_S2x1x256_S1x1x256_0_0_0) (window (s := S2x128x256) b.o ![0, 0, 0] S1x128x256.size inb_S2x128x256_S1x128x256_0_0_0) (window (s := S32x128) a (k0_off1 i 0#32) S1x128.size (k0_off1_inb i 0)))
def amaxStep (i : grid0.Coords) (b : Blocks F) (a : Vec F S32x128 .f32) : Vec F S32x128 .f32 :=
  put (s := S32x128) (amaxHalf i b a) (k0_off1 i 1#32) S1x128.size (k0_pay90 (att1 (BitVec.ofNat 32 (i 1).val) b) (lse1 (BitVec.ofNat 32 (i 1).val) b) (window (s := S2x1x256) b.lse ![1, 0, 0] S1x1x256.size inb_S2x1x256_S1x1x256_1_0_0) (window (s := S2x128x256) b.o ![1, 0, 0] S1x128x256.size inb_S2x128x256_S1x128x256_1_0_0) (window (s := S32x128) a (k0_off1 i 1#32) S1x128.size (k0_off1_inb i 1)))

/-- The kept rows. -/
def rowsStep (i : grid0.Coords) (b : Blocks F) (r : Vec F S32x256x128 .f32) : Vec F S32x256x128 .f32 :=
  put (s := S32x256x128) (put (s := S32x256x128) r (k0_off2 i 0#32) S1x256x128.size (row0 (BitVec.ofNat 32 (i 1).val) b)) (k0_off2 i 1#32) S1x256x128.size (row1 (BitVec.ofNat 32 (i 1).val) b)

/-- The rows' count of the powers of two, and where it is not needed. -/
def exponent (r : Vec F S32x256x128 .f32) : IVec S256x1 1 × IVec S256x1 32 :=
  let v208 := window (s := S32x256x128) r ![0, 0, 0] S1x256x128.size inb_S32x256x128_S1x256x128_0_0_0
  let v211 := window (s := S32x256x128) r ![1, 0, 0] S1x256x128.size inb_S32x256x128_S1x256x128_1_0_0
  let v215 := window (s := S32x256x128) r ![2, 0, 0] S1x256x128.size inb_S32x256x128_S1x256x128_2_0_0
  let v219 := window (s := S32x256x128) r ![3, 0, 0] S1x256x128.size inb_S32x256x128_S1x256x128_3_0_0
  let v223 := window (s := S32x256x128) r ![4, 0, 0] S1x256x128.size inb_S32x256x128_S1x256x128_4_0_0
  let v227 := window (s := S32x256x128) r ![5, 0, 0] S1x256x128.size inb_S32x256x128_S1x256x128_5_0_0
  let v231 := window (s := S32x256x128) r ![6, 0, 0] S1x256x128.size inb_S32x256x128_S1x256x128_6_0_0
  let v235 := window (s := S32x256x128) r ![7, 0, 0] S1x256x128.size inb_S32x256x128_S1x256x128_7_0_0
  let v239 := window (s := S32x256x128) r ![8, 0, 0] S1x256x128.size inb_S32x256x128_S1x256x128_8_0_0
  let v238 := k0_pay2 v208 v211 v215 v219 v223 v227 v231 v235
  let v240 := k0_pay3 v239
  let v243 := window (s := S32x256x128) r ![9, 0, 0] S1x256x128.size inb_S32x256x128_S1x256x128_9_0_0
  let v247 := window (s := S32x256x128) r ![10, 0, 0] S1x256x128.size inb_S32x256x128_S1x256x128_10_0_0
  let v251 := window (s := S32x256x128) r ![11, 0, 0] S1x256x128.size inb_S32x256x128_S1x256x128_11_0_0
  let v255 := window (s := S32x256x128) r ![12, 0, 0] S1x256x128.size inb_S32x256x128_S1x256x128_12_0_0
  let v259 := window (s := S32x256x128) r ![13, 0, 0] S1x256x128.size inb_S32x256x128_S1x256x128_13_0_0
  let v263 := window (s := S32x256x128) r ![14, 0, 0] S1x256x128.size inb_S32x256x128_S1x256x128_14_0_0
  let v267 := window (s := S32x256x128) r ![15, 0, 0] S1x256x128.size inb_S32x256x128_S1x256x128_15_0_0
  let v271 := window (s := S32x256x128) r ![16, 0, 0] S1x256x128.size inb_S32x256x128_S1x256x128_16_0_0
  let v274 := k0_pay4 v238 v240 v243 v247 v251 v255 v259 v263 v267 v271
  let v275 := window (s := S32x256x128) r ![17, 0, 0] S1x256x128.size inb_S32x256x128_S1x256x128_17_0_0
  let v279 := window (s := S32x256x128) r ![18, 0, 0] S1x256x128.size inb_S32x256x128_S1x256x128_18_0_0
  let v283 := window (s := S32x256x128) r ![19, 0, 0] S1x256x128.size inb_S32x256x128_S1x256x128_19_0_0
  let v287 := window (s := S32x256x128) r ![20, 0, 0] S1x256x128.size inb_S32x256x128_S1x256x128_20_0_0
  let v291 := window (s := S32x256x128) r ![21, 0, 0] S1x256x128.size inb_S32x256x128_S1x256x128_21_0_0
  let v295 := window (s := S32x256x128) r ![22, 0, 0] S1x256x128.size inb_S32x256x128_S1x256x128_22_0_0
  let v299 := window (s := S32x256x128) r ![23, 0, 0] S1x256x128.size inb_S32x256x128_S1x256x128_23_0_0
  let v303 := window (s := S32x256x128) r ![24, 0, 0] S1x256x128.size inb_S32x256x128_S1x256x128_24_0_0
  let v307 := window (s := S32x256x128) r ![25, 0, 0] S1x256x128.size inb_S32x256x128_S1x256x128_25_0_0
  let v306 := k0_pay5 v274 v275 v279 v283 v287 v291 v295 v299 v303
  let v309 := k0_pay6 v307
  let v311 := window (s := S32x256x128) r ![26, 0, 0] S1x256x128.size inb_S32x256x128_S1x256x128_26_0_0
  let v315 := window (s := S32x256x128) r ![27, 0, 0] S1x256x128.size inb_S32x256x128_S1x256x128_27_0_0
  let v319 := window (s := S32x256x128) r ![28, 0, 0] S1x256x128.size inb_S32x256x128_S1x256x128_28_0_0
  let v323 := window (s := S32x256x128) r ![29, 0, 0] S1x256x128.size inb_S32x256x128_S1x256x128_29_0_0
  let v327 := window (s := S32x256x128) r ![30, 0, 0] S1x256x128.size inb_S32x256x128_S1x256x128_30_0_0
  let v331 := window (s := S32x256x128) r ![31, 0, 0] S1x256x128.size inb_S32x256x128_S1x256x128_31_0_0
  let v343 : IVec S256x1 32 := Scf.fold (fun (k : Fin k0_t1_loop.trips) a => k0_pay10 v306 v309 v311 v315 v319 v323 v327 v331 k a) k0_pay9
  let v340 := k0_pay8 v306 v309 v311 v315 v319 v323 v327 v331
  (v340, v343)

/-- The scale block. -/
def scale (r : Vec F S32x256x128 .f32) : Vec F S1x256x1 .f32 := k0_pay12 (F := F) (exponent r).1 (exponent r).2

/-- The codes of one head. -/
def code0 (r : Vec F S32x256x128 .f32) : FVec F S1x256x128 .fp8e4m3 := k0_pay14 (exponent r).1 (exponent r).2 (window (s := S32x256x128) r ![0, 0, 0] S1x256x128.size inb_S32x256x128_S1x256x128_0_0_0)
def code1 (r : Vec F S32x256x128 .f32) : FVec F S1x256x128 .fp8e4m3 := k0_pay17 (k0_pay15 (exponent r).1 (exponent r).2 (window (s := S32x256x128) r ![1, 0, 0] S1x256x128.size inb_S32x256x128_S1x256x128_1_0_0)) (k0_pay16 (F := F))
def code2 (r : Vec F S32x256x128 .f32) : FVec F S1x256x128 .fp8e4m3 := k0_pay18 (k0_pay13 (F := F) (exponent r).1 (exponent r).2) (window (s := S32x256x128) r ![2, 0, 0] S1x256x128.size inb_S32x256x128_S1x256x128_2_0_0)
def code3 (r : Vec F S32x256x128 .f32) : FVec F S1x256x128 .fp8e4m3 := k0_pay19 (k0_pay13 (F := F) (exponent r).1 (exponent r).2) (window (s := S32x256x128) r ![3, 0, 0] S1x256x128.size inb_S32x256x128_S1x256x128_3_0_0)
def code4 (r : Vec F S32x256x128 .f32) : FVec F S1x256x128 .fp8e4m3 := k0_pay22 (k0_pay20 (k0_pay13 (F := F) (exponent r).1 (exponent r).2) (window (s := S32x256x128) r ![4, 0, 0] S1x256x128.size inb_S32x256x128_S1x256x128_4_0_0)) (k0_pay21 (F := F))
def code5 (r : Vec F S32x256x128 .f32) : FVec F S1x256x128 .fp8e4m3 := k0_pay23 (k0_pay13 (F := F) (exponent r).1 (exponent r).2) (window (s := S32x256x128) r ![5, 0, 0] S1x256x128.size inb_S32x256x128_S1x256x128_5_0_0)
def code6 (r : Vec F S32x256x128 .f32) : FVec F S1x256x128 .fp8e4m3 := k0_pay24 (k0_pay13 (F := F) (exponent r).1 (exponent r).2) (window (s := S32x256x128) r ![6, 0, 0] S1x256x128.size inb_S32x256x128_S1x256x128_6_0_0)
def code7 (r : Vec F S32x256x128 .f32) : FVec F S1x256x128 .fp8e4m3 := k0_pay27 (k0_pay25 (k0_pay13 (F := F) (exponent r).1 (exponent r).2) (window (s := S32x256x128) r ![7, 0, 0] S1x256x128.size inb_S32x256x128_S1x256x128_7_0_0)) (k0_pay26 (F := F))
def code8 (r : Vec F S32x256x128 .f32) : FVec F S1x256x128 .fp8e4m3 := k0_pay28 (k0_pay13 (F := F) (exponent r).1 (exponent r).2) (window (s := S32x256x128) r ![8, 0, 0] S1x256x128.size inb_S32x256x128_S1x256x128_8_0_0)
def code9 (r : Vec F S32x256x128 .f32) : FVec F S1x256x128 .fp8e4m3 := k0_pay29 (k0_pay13 (F := F) (exponent r).1 (exponent r).2) (window (s := S32x256x128) r ![9, 0, 0] S1x256x128.size inb_S32x256x128_S1x256x128_9_0_0)
def code10 (r : Vec F S32x256x128 .f32) : FVec F S1x256x128 .fp8e4m3 := k0_pay32 (k0_pay30 (k0_pay13 (F := F) (exponent r).1 (exponent r).2) (window (s := S32x256x128) r ![10, 0, 0] S1x256x128.size inb_S32x256x128_S1x256x128_10_0_0)) (k0_pay31 (F := F))
def code11 (r : Vec F S32x256x128 .f32) : FVec F S1x256x128 .fp8e4m3 := k0_pay33 (k0_pay13 (F := F) (exponent r).1 (exponent r).2) (window (s := S32x256x128) r ![11, 0, 0] S1x256x128.size inb_S32x256x128_S1x256x128_11_0_0)
def code12 (r : Vec F S32x256x128 .f32) : FVec F S1x256x128 .fp8e4m3 := k0_pay34 (k0_pay13 (F := F) (exponent r).1 (exponent r).2) (window (s := S32x256x128) r ![12, 0, 0] S1x256x128.size inb_S32x256x128_S1x256x128_12_0_0)
def code13 (r : Vec F S32x256x128 .f32) : FVec F S1x256x128 .fp8e4m3 := k0_pay37 (k0_pay35 (k0_pay13 (F := F) (exponent r).1 (exponent r).2) (window (s := S32x256x128) r ![13, 0, 0] S1x256x128.size inb_S32x256x128_S1x256x128_13_0_0)) (k0_pay36 (F := F))
def code14 (r : Vec F S32x256x128 .f32) : FVec F S1x256x128 .fp8e4m3 := k0_pay38 (k0_pay13 (F := F) (exponent r).1 (exponent r).2) (window (s := S32x256x128) r ![14, 0, 0] S1x256x128.size inb_S32x256x128_S1x256x128_14_0_0)
def code15 (r : Vec F S32x256x128 .f32) : FVec F S1x256x128 .fp8e4m3 := k0_pay39 (k0_pay13 (F := F) (exponent r).1 (exponent r).2) (window (s := S32x256x128) r ![15, 0, 0] S1x256x128.size inb_S32x256x128_S1x256x128_15_0_0)
def code16 (r : Vec F S32x256x128 .f32) : FVec F S1x256x128 .fp8e4m3 := k0_pay42 (k0_pay40 (k0_pay13 (F := F) (exponent r).1 (exponent r).2) (window (s := S32x256x128) r ![16, 0, 0] S1x256x128.size inb_S32x256x128_S1x256x128_16_0_0)) (k0_pay41 (F := F))
def code17 (r : Vec F S32x256x128 .f32) : FVec F S1x256x128 .fp8e4m3 := k0_pay43 (k0_pay13 (F := F) (exponent r).1 (exponent r).2) (window (s := S32x256x128) r ![17, 0, 0] S1x256x128.size inb_S32x256x128_S1x256x128_17_0_0)
def code18 (r : Vec F S32x256x128 .f32) : FVec F S1x256x128 .fp8e4m3 := k0_pay44 (k0_pay13 (F := F) (exponent r).1 (exponent r).2) (window (s := S32x256x128) r ![18, 0, 0] S1x256x128.size inb_S32x256x128_S1x256x128_18_0_0)
def code19 (r : Vec F S32x256x128 .f32) : FVec F S1x256x128 .fp8e4m3 := k0_pay47 (k0_pay45 (k0_pay13 (F := F) (exponent r).1 (exponent r).2) (window (s := S32x256x128) r ![19, 0, 0] S1x256x128.size inb_S32x256x128_S1x256x128_19_0_0)) (k0_pay46 (F := F))
def code20 (r : Vec F S32x256x128 .f32) : FVec F S1x256x128 .fp8e4m3 := k0_pay48 (k0_pay13 (F := F) (exponent r).1 (exponent r).2) (window (s := S32x256x128) r ![20, 0, 0] S1x256x128.size inb_S32x256x128_S1x256x128_20_0_0)
def code21 (r : Vec F S32x256x128 .f32) : FVec F S1x256x128 .fp8e4m3 := k0_pay49 (k0_pay13 (F := F) (exponent r).1 (exponent r).2) (window (s := S32x256x128) r ![21, 0, 0] S1x256x128.size inb_S32x256x128_S1x256x128_21_0_0)
def code22 (r : Vec F S32x256x128 .f32) : FVec F S1x256x128 .fp8e4m3 := k0_pay52 (k0_pay50 (k0_pay13 (F := F) (exponent r).1 (exponent r).2) (window (s := S32x256x128) r ![22, 0, 0] S1x256x128.size inb_S32x256x128_S1x256x128_22_0_0)) (k0_pay51 (F := F))
def code23 (r : Vec F S32x256x128 .f32) : FVec F S1x256x128 .fp8e4m3 := k0_pay53 (k0_pay13 (F := F) (exponent r).1 (exponent r).2) (window (s := S32x256x128) r ![23, 0, 0] S1x256x128.size inb_S32x256x128_S1x256x128_23_0_0)
def code24 (r : Vec F S32x256x128 .f32) : FVec F S1x256x128 .fp8e4m3 := k0_pay54 (k0_pay13 (F := F) (exponent r).1 (exponent r).2) (window (s := S32x256x128) r ![24, 0, 0] S1x256x128.size inb_S32x256x128_S1x256x128_24_0_0)
def code25 (r : Vec F S32x256x128 .f32) : FVec F S1x256x128 .fp8e4m3 := k0_pay57 (k0_pay55 (k0_pay13 (F := F) (exponent r).1 (exponent r).2) (window (s := S32x256x128) r ![25, 0, 0] S1x256x128.size inb_S32x256x128_S1x256x128_25_0_0)) (k0_pay56 (F := F))
def code26 (r : Vec F S32x256x128 .f32) : FVec F S1x256x128 .fp8e4m3 := k0_pay58 (k0_pay13 (F := F) (exponent r).1 (exponent r).2) (window (s := S32x256x128) r ![26, 0, 0] S1x256x128.size inb_S32x256x128_S1x256x128_26_0_0)
def code27 (r : Vec F S32x256x128 .f32) : FVec F S1x256x128 .fp8e4m3 := k0_pay59 (k0_pay13 (F := F) (exponent r).1 (exponent r).2) (window (s := S32x256x128) r ![27, 0, 0] S1x256x128.size inb_S32x256x128_S1x256x128_27_0_0)
def code28 (r : Vec F S32x256x128 .f32) : FVec F S1x256x128 .fp8e4m3 := k0_pay62 (k0_pay60 (k0_pay13 (F := F) (exponent r).1 (exponent r).2) (window (s := S32x256x128) r ![28, 0, 0] S1x256x128.size inb_S32x256x128_S1x256x128_28_0_0)) (k0_pay61 (F := F))
def code29 (r : Vec F S32x256x128 .f32) : FVec F S1x256x128 .fp8e4m3 := k0_pay63 (k0_pay13 (F := F) (exponent r).1 (exponent r).2) (window (s := S32x256x128) r ![29, 0, 0] S1x256x128.size inb_S32x256x128_S1x256x128_29_0_0)
def code30 (r : Vec F S32x256x128 .f32) : FVec F S1x256x128 .fp8e4m3 := k0_pay64 (k0_pay13 (F := F) (exponent r).1 (exponent r).2) (window (s := S32x256x128) r ![30, 0, 0] S1x256x128.size inb_S32x256x128_S1x256x128_30_0_0)
def code31 (r : Vec F S32x256x128 .f32) : FVec F S1x256x128 .fp8e4m3 := k0_pay1 (k0_pay65 (k0_pay13 (F := F) (exponent r).1 (exponent r).2) (window (s := S32x256x128) r ![31, 0, 0] S1x256x128.size inb_S32x256x128_S1x256x128_31_0_0)) (k0_pay66 (F := F))

/-- The code block over whatever the buffer held. -/
def codes0 (r : Vec F S32x256x128 .f32) (a : Vec F S1x256x4096 .fp8e4m3) : Vec F S1x256x4096 .fp8e4m3 := a
def codes1 (r : Vec F S32x256x128 .f32) (a : Vec F S1x256x4096 .fp8e4m3) : Vec F S1x256x4096 .fp8e4m3 := put (s := S1x256x4096) (codes0 r a) ![0, 0, 0] S1x256x128.size (code0 r)
def codes2 (r : Vec F S32x256x128 .f32) (a : Vec F S1x256x4096 .fp8e4m3) : Vec F S1x256x4096 .fp8e4m3 := put (s := S1x256x4096) (codes1 r a) ![0, 0, 128] S1x256x128.size (code1 r)
def codes3 (r : Vec F S32x256x128 .f32) (a : Vec F S1x256x4096 .fp8e4m3) : Vec F S1x256x4096 .fp8e4m3 := put (s := S1x256x4096) (codes2 r a) ![0, 0, 256] S1x256x128.size (code2 r)
def codes4 (r : Vec F S32x256x128 .f32) (a : Vec F S1x256x4096 .fp8e4m3) : Vec F S1x256x4096 .fp8e4m3 := put (s := S1x256x4096) (codes3 r a) ![0, 0, 384] S1x256x128.size (code3 r)
def codes5 (r : Vec F S32x256x128 .f32) (a : Vec F S1x256x4096 .fp8e4m3) : Vec F S1x256x4096 .fp8e4m3 := put (s := S1x256x4096) (codes4 r a) ![0, 0, 512] S1x256x128.size (code4 r)
def codes6 (r : Vec F S32x256x128 .f32) (a : Vec F S1x256x4096 .fp8e4m3) : Vec F S1x256x4096 .fp8e4m3 := put (s := S1x256x4096) (codes5 r a) ![0, 0, 640] S1x256x128.size (code5 r)
def codes7 (r : Vec F S32x256x128 .f32) (a : Vec F S1x256x4096 .fp8e4m3) : Vec F S1x256x4096 .fp8e4m3 := put (s := S1x256x4096) (codes6 r a) ![0, 0, 768] S1x256x128.size (code6 r)
def codes8 (r : Vec F S32x256x128 .f32) (a : Vec F S1x256x4096 .fp8e4m3) : Vec F S1x256x4096 .fp8e4m3 := put (s := S1x256x4096) (codes7 r a) ![0, 0, 896] S1x256x128.size (code7 r)
def codes9 (r : Vec F S32x256x128 .f32) (a : Vec F S1x256x4096 .fp8e4m3) : Vec F S1x256x4096 .fp8e4m3 := put (s := S1x256x4096) (codes8 r a) ![0, 0, 1024] S1x256x128.size (code8 r)
def codes10 (r : Vec F S32x256x128 .f32) (a : Vec F S1x256x4096 .fp8e4m3) : Vec F S1x256x4096 .fp8e4m3 := put (s := S1x256x4096) (codes9 r a) ![0, 0, 1152] S1x256x128.size (code9 r)
def codes11 (r : Vec F S32x256x128 .f32) (a : Vec F S1x256x4096 .fp8e4m3) : Vec F S1x256x4096 .fp8e4m3 := put (s := S1x256x4096) (codes10 r a) ![0, 0, 1280] S1x256x128.size (code10 r)
def codes12 (r : Vec F S32x256x128 .f32) (a : Vec F S1x256x4096 .fp8e4m3) : Vec F S1x256x4096 .fp8e4m3 := put (s := S1x256x4096) (codes11 r a) ![0, 0, 1408] S1x256x128.size (code11 r)
def codes13 (r : Vec F S32x256x128 .f32) (a : Vec F S1x256x4096 .fp8e4m3) : Vec F S1x256x4096 .fp8e4m3 := put (s := S1x256x4096) (codes12 r a) ![0, 0, 1536] S1x256x128.size (code12 r)
def codes14 (r : Vec F S32x256x128 .f32) (a : Vec F S1x256x4096 .fp8e4m3) : Vec F S1x256x4096 .fp8e4m3 := put (s := S1x256x4096) (codes13 r a) ![0, 0, 1664] S1x256x128.size (code13 r)
def codes15 (r : Vec F S32x256x128 .f32) (a : Vec F S1x256x4096 .fp8e4m3) : Vec F S1x256x4096 .fp8e4m3 := put (s := S1x256x4096) (codes14 r a) ![0, 0, 1792] S1x256x128.size (code14 r)
def codes16 (r : Vec F S32x256x128 .f32) (a : Vec F S1x256x4096 .fp8e4m3) : Vec F S1x256x4096 .fp8e4m3 := put (s := S1x256x4096) (codes15 r a) ![0, 0, 1920] S1x256x128.size (code15 r)
def codes17 (r : Vec F S32x256x128 .f32) (a : Vec F S1x256x4096 .fp8e4m3) : Vec F S1x256x4096 .fp8e4m3 := put (s := S1x256x4096) (codes16 r a) ![0, 0, 2048] S1x256x128.size (code16 r)
def codes18 (r : Vec F S32x256x128 .f32) (a : Vec F S1x256x4096 .fp8e4m3) : Vec F S1x256x4096 .fp8e4m3 := put (s := S1x256x4096) (codes17 r a) ![0, 0, 2176] S1x256x128.size (code17 r)
def codes19 (r : Vec F S32x256x128 .f32) (a : Vec F S1x256x4096 .fp8e4m3) : Vec F S1x256x4096 .fp8e4m3 := put (s := S1x256x4096) (codes18 r a) ![0, 0, 2304] S1x256x128.size (code18 r)
def codes20 (r : Vec F S32x256x128 .f32) (a : Vec F S1x256x4096 .fp8e4m3) : Vec F S1x256x4096 .fp8e4m3 := put (s := S1x256x4096) (codes19 r a) ![0, 0, 2432] S1x256x128.size (code19 r)
def codes21 (r : Vec F S32x256x128 .f32) (a : Vec F S1x256x4096 .fp8e4m3) : Vec F S1x256x4096 .fp8e4m3 := put (s := S1x256x4096) (codes20 r a) ![0, 0, 2560] S1x256x128.size (code20 r)
def codes22 (r : Vec F S32x256x128 .f32) (a : Vec F S1x256x4096 .fp8e4m3) : Vec F S1x256x4096 .fp8e4m3 := put (s := S1x256x4096) (codes21 r a) ![0, 0, 2688] S1x256x128.size (code21 r)
def codes23 (r : Vec F S32x256x128 .f32) (a : Vec F S1x256x4096 .fp8e4m3) : Vec F S1x256x4096 .fp8e4m3 := put (s := S1x256x4096) (codes22 r a) ![0, 0, 2816] S1x256x128.size (code22 r)
def codes24 (r : Vec F S32x256x128 .f32) (a : Vec F S1x256x4096 .fp8e4m3) : Vec F S1x256x4096 .fp8e4m3 := put (s := S1x256x4096) (codes23 r a) ![0, 0, 2944] S1x256x128.size (code23 r)
def codes25 (r : Vec F S32x256x128 .f32) (a : Vec F S1x256x4096 .fp8e4m3) : Vec F S1x256x4096 .fp8e4m3 := put (s := S1x256x4096) (codes24 r a) ![0, 0, 3072] S1x256x128.size (code24 r)
def codes26 (r : Vec F S32x256x128 .f32) (a : Vec F S1x256x4096 .fp8e4m3) : Vec F S1x256x4096 .fp8e4m3 := put (s := S1x256x4096) (codes25 r a) ![0, 0, 3200] S1x256x128.size (code25 r)
def codes27 (r : Vec F S32x256x128 .f32) (a : Vec F S1x256x4096 .fp8e4m3) : Vec F S1x256x4096 .fp8e4m3 := put (s := S1x256x4096) (codes26 r a) ![0, 0, 3328] S1x256x128.size (code26 r)
def codes28 (r : Vec F S32x256x128 .f32) (a : Vec F S1x256x4096 .fp8e4m3) : Vec F S1x256x4096 .fp8e4m3 := put (s := S1x256x4096) (codes27 r a) ![0, 0, 3456] S1x256x128.size (code27 r)
def codes29 (r : Vec F S32x256x128 .f32) (a : Vec F S1x256x4096 .fp8e4m3) : Vec F S1x256x4096 .fp8e4m3 := put (s := S1x256x4096) (codes28 r a) ![0, 0, 3584] S1x256x128.size (code28 r)
def codes30 (r : Vec F S32x256x128 .f32) (a : Vec F S1x256x4096 .fp8e4m3) : Vec F S1x256x4096 .fp8e4m3 := put (s := S1x256x4096) (codes29 r a) ![0, 0, 3712] S1x256x128.size (code29 r)
def codes31 (r : Vec F S32x256x128 .f32) (a : Vec F S1x256x4096 .fp8e4m3) : Vec F S1x256x4096 .fp8e4m3 := put (s := S1x256x4096) (codes30 r a) ![0, 0, 3840] S1x256x128.size (code30 r)
def codes32 (r : Vec F S32x256x128 .f32) (a : Vec F S1x256x4096 .fp8e4m3) : Vec F S1x256x4096 .fp8e4m3 := put (s := S1x256x4096) (codes31 r a) ![0, 0, 3968] S1x256x128.size (code31 r)

/-- Two arrays agreeing on the first lanes still agree, on 128 lanes more, after one store. -/
theorem agree_put (k : ℕ) (a a' : Vec F S1x256x4096 .fp8e4m3) (h : ∀ y : S1x256x4096.Idx, (y 2).val < k → a y = a' y) (v : FVec F S1x256x128 .fp8e4m3) :
    ∀ y : S1x256x4096.Idx, (y 2).val < k + 128 → put (s := S1x256x4096) a ![0, 0, k] S1x256x128.size v y = put (s := S1x256x4096) a' ![0, 0, k] S1x256x128.size v y := by
  intro y hy
  unfold put
  dsimp only
  split
  · rfl
  · rename_i hn
    apply h
    by_contra hc
    refine hn fun a => ?_
    have h0 : (y 0).val < 1 := (y 0).isLt
    have h1 : (y 1).val < 256 := (y 1).isLt
    fin_cases a
    · show 0 ≤ (y 0).val ∧ (y 0).val < 0 + 1
      omega
    · show 0 ≤ (y 1).val ∧ (y 1).val < 0 + 256
      omega
    · show k ≤ (y 2).val ∧ (y 2).val < k + 128
      omega

/-- The code block does not depend on what the buffer held. -/
theorem codes32_eq (r : Vec F S32x256x128 .f32) (a a' : Vec F S1x256x4096 .fp8e4m3) : codes32 r a = codes32 r a' := by
  have h0 : ∀ y : S1x256x4096.Idx, (y 2).val < 0 → codes0 r a y = codes0 r a' y := fun y h => absurd h (by omega)
  have h1 : ∀ y : S1x256x4096.Idx, (y 2).val < 128 → codes1 r a y = codes1 r a' y := agree_put 0 _ _ h0 _
  have h2 : ∀ y : S1x256x4096.Idx, (y 2).val < 256 → codes2 r a y = codes2 r a' y := agree_put 128 _ _ h1 _
  have h3 : ∀ y : S1x256x4096.Idx, (y 2).val < 384 → codes3 r a y = codes3 r a' y := agree_put 256 _ _ h2 _
  have h4 : ∀ y : S1x256x4096.Idx, (y 2).val < 512 → codes4 r a y = codes4 r a' y := agree_put 384 _ _ h3 _
  have h5 : ∀ y : S1x256x4096.Idx, (y 2).val < 640 → codes5 r a y = codes5 r a' y := agree_put 512 _ _ h4 _
  have h6 : ∀ y : S1x256x4096.Idx, (y 2).val < 768 → codes6 r a y = codes6 r a' y := agree_put 640 _ _ h5 _
  have h7 : ∀ y : S1x256x4096.Idx, (y 2).val < 896 → codes7 r a y = codes7 r a' y := agree_put 768 _ _ h6 _
  have h8 : ∀ y : S1x256x4096.Idx, (y 2).val < 1024 → codes8 r a y = codes8 r a' y := agree_put 896 _ _ h7 _
  have h9 : ∀ y : S1x256x4096.Idx, (y 2).val < 1152 → codes9 r a y = codes9 r a' y := agree_put 1024 _ _ h8 _
  have h10 : ∀ y : S1x256x4096.Idx, (y 2).val < 1280 → codes10 r a y = codes10 r a' y := agree_put 1152 _ _ h9 _
  have h11 : ∀ y : S1x256x4096.Idx, (y 2).val < 1408 → codes11 r a y = codes11 r a' y := agree_put 1280 _ _ h10 _
  have h12 : ∀ y : S1x256x4096.Idx, (y 2).val < 1536 → codes12 r a y = codes12 r a' y := agree_put 1408 _ _ h11 _
  have h13 : ∀ y : S1x256x4096.Idx, (y 2).val < 1664 → codes13 r a y = codes13 r a' y := agree_put 1536 _ _ h12 _
  have h14 : ∀ y : S1x256x4096.Idx, (y 2).val < 1792 → codes14 r a y = codes14 r a' y := agree_put 1664 _ _ h13 _
  have h15 : ∀ y : S1x256x4096.Idx, (y 2).val < 1920 → codes15 r a y = codes15 r a' y := agree_put 1792 _ _ h14 _
  have h16 : ∀ y : S1x256x4096.Idx, (y 2).val < 2048 → codes16 r a y = codes16 r a' y := agree_put 1920 _ _ h15 _
  have h17 : ∀ y : S1x256x4096.Idx, (y 2).val < 2176 → codes17 r a y = codes17 r a' y := agree_put 2048 _ _ h16 _
  have h18 : ∀ y : S1x256x4096.Idx, (y 2).val < 2304 → codes18 r a y = codes18 r a' y := agree_put 2176 _ _ h17 _
  have h19 : ∀ y : S1x256x4096.Idx, (y 2).val < 2432 → codes19 r a y = codes19 r a' y := agree_put 2304 _ _ h18 _
  have h20 : ∀ y : S1x256x4096.Idx, (y 2).val < 2560 → codes20 r a y = codes20 r a' y := agree_put 2432 _ _ h19 _
  have h21 : ∀ y : S1x256x4096.Idx, (y 2).val < 2688 → codes21 r a y = codes21 r a' y := agree_put 2560 _ _ h20 _
  have h22 : ∀ y : S1x256x4096.Idx, (y 2).val < 2816 → codes22 r a y = codes22 r a' y := agree_put 2688 _ _ h21 _
  have h23 : ∀ y : S1x256x4096.Idx, (y 2).val < 2944 → codes23 r a y = codes23 r a' y := agree_put 2816 _ _ h22 _
  have h24 : ∀ y : S1x256x4096.Idx, (y 2).val < 3072 → codes24 r a y = codes24 r a' y := agree_put 2944 _ _ h23 _
  have h25 : ∀ y : S1x256x4096.Idx, (y 2).val < 3200 → codes25 r a y = codes25 r a' y := agree_put 3072 _ _ h24 _
  have h26 : ∀ y : S1x256x4096.Idx, (y 2).val < 3328 → codes26 r a y = codes26 r a' y := agree_put 3200 _ _ h25 _
  have h27 : ∀ y : S1x256x4096.Idx, (y 2).val < 3456 → codes27 r a y = codes27 r a' y := agree_put 3328 _ _ h26 _
  have h28 : ∀ y : S1x256x4096.Idx, (y 2).val < 3584 → codes28 r a y = codes28 r a' y := agree_put 3456 _ _ h27 _
  have h29 : ∀ y : S1x256x4096.Idx, (y 2).val < 3712 → codes29 r a y = codes29 r a' y := agree_put 3584 _ _ h28 _
  have h30 : ∀ y : S1x256x4096.Idx, (y 2).val < 3840 → codes30 r a y = codes30 r a' y := agree_put 3712 _ _ h29 _
  have h31 : ∀ y : S1x256x4096.Idx, (y 2).val < 3968 → codes31 r a y = codes31 r a' y := agree_put 3840 _ _ h30 _
  have h32 : ∀ y : S1x256x4096.Idx, (y 2).val < 4096 → codes32 r a y = codes32 r a' y := agree_put 3968 _ _ h31 _
  funext y
  exact h32 y (y 2).isLt

def codes (r : Vec F S32x256x128 .f32) : Vec F S1x256x4096 .fp8e4m3 := codes32 r (constant S1x256x4096 .fp8e4m3 0x00#8)

/-- The log-sum block does not depend on what the buffer held. -/
theorem lseFrom_eq (n : BitVec 32) (b : Blocks F) (a a' : Vec F S2x1x256 .f32) : lseFrom n b a = lseFrom n b a' := by
  funext y
  unfold lseFrom put
  dsimp only
  split
  · rfl
  · rename_i h1
    split
    · rfl
    · rename_i h0
      exfalso
      have hy0 : (y 0).val < 2 := (y 0).isLt
      have hy1 : (y 1).val < 1 := (y 1).isLt
      have hy2 : (y 2).val < 256 := (y 2).isLt
      rcases Nat.lt_or_ge (y 0).val 1 with h | h
      · refine h0 fun a => ?_
        fin_cases a
        · show 0 ≤ (y 0).val ∧ (y 0).val < 0 + 1
          omega
        · show 0 ≤ (y 1).val ∧ (y 1).val < 0 + 1
          omega
        · show 0 ≤ (y 2).val ∧ (y 2).val < 0 + 256
          omega
      · refine h1 fun a => ?_
        fin_cases a
        · show 1 ≤ (y 0).val ∧ (y 0).val < 1 + 1
          omega
        · show 0 ≤ (y 1).val ∧ (y 1).val < 0 + 1
          omega
        · show 0 ≤ (y 2).val ∧ (y 2).val < 0 + 256
          omega

end Cert.Finish.Close

end
-- ==== Proof.FRuns.lean ====
module

public import proofs.«01_k».proof.Proof.Gen.Finish.Frame
public import proofs.«01_k».proof.Proof.Gen.Finish.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The first grid point's condition. -/
abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The last key-value head's condition. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## The heads a grid point writes -/

theorem off1_0 (i : grid0.Coords) : k0_off1 i 0#32 = ![2 * (i 2).val, 0] := by
  have h : ∀ j : Fin 16, (Scalar.indexCast (Scalar.addi (Scalar.muli (BitVec.ofNat 32 j.val) 2#32) 0#32)).toNat = 2 * j.val := by decide +kernel
  unfold k0_off1; funext a; match a with
  | 0 => exact h (i 2)
  | 1 => rfl
theorem off1_1 (i : grid0.Coords) : k0_off1 i 1#32 = ![2 * (i 2).val + 1, 0] := by
  have h : ∀ j : Fin 16, (Scalar.indexCast (Scalar.addi (Scalar.muli (BitVec.ofNat 32 j.val) 2#32) 1#32)).toNat = 2 * j.val + 1 := by decide +kernel
  unfold k0_off1; funext a; match a with
  | 0 => exact h (i 2)
  | 1 => rfl
theorem off2_0 (i : grid0.Coords) : k0_off2 i 0#32 = ![2 * (i 2).val, 0, 0] := by
  have h : ∀ j : Fin 16, (Scalar.indexCast (Scalar.addi (Scalar.muli (BitVec.ofNat 32 j.val) 2#32) 0#32)).toNat = 2 * j.val := by decide +kernel
  unfold k0_off2; funext a; match a with
  | 0 => exact h (i 2)
  | 1 => rfl
  | 2 => rfl
theorem off2_1 (i : grid0.Coords) : k0_off2 i 1#32 = ![2 * (i 2).val + 1, 0, 0] := by
  have h : ∀ j : Fin 16, (Scalar.indexCast (Scalar.addi (Scalar.muli (BitVec.ofNat 32 j.val) 2#32) 1#32)).toNat = 2 * j.val + 1 := by decide +kernel
  unfold k0_off2; funext a; match a with
  | 0 => exact h (i 2)
  | 1 => rfl
  | 2 => rfl

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-- Each window's current staging memref at a point, and its wholeness. -/
abbrev ms0_0 (t : Fin cfg0.N) : Memref sig .tc .vmem S2x128x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x4096 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x128 .f32 := win0_11.stage (cfg0.slots t 11)
abbrev hs0_11 (t : Fin cfg0.N) : (ms0_11 t).IsWhole := hstage0_11 ((cfg0.slots t 11).cast nbuf0_11)
/-- The scratch operand: the rows kept between points. -/
abbrev scM0_0 : Memref sig .tc .vmem S32x256x128 .f32 := Memref.whole cc0_scratch0

/-- The region's invariant with the scratch operand as a memref owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.Finish.Gen

end
-- ==== Proof.FBody1.lean ====
module

public import proofs.«01_k».proof.Proof.FModel
public import proofs.«01_k».proof.Proof.FRuns
public import proofs.«01_k».proof.Proof.Gen.Finish.Loops

@[expose] public section

set_option maxRecDepth 65536

noncomputable section

/-! One grid point of the closing call, run: the buffers it owns before and after, by the plain functions of `FModel`. -/

namespace Cert.Finish.Close

open Cert.Finish.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The resource algebra of the runs. -/
local notation "𝕄G" => MT nD τ sig Unit (Elt F) ℕ (UR sig nD τ) ℕ

/-- The last head's quantiser: the code block and the scale block stored. -/
theorem quantise (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc1 : cond0_1 i) (r : Vec F S32x256x128 .f32) (d11 : Vec F S1x256x4096 .fp8e4m3) (d12 : Vec F S1x256x1 .f32) (K : PUnit → sProp 𝕄G) :
    (iprop(owns (c : Thread nD τ) arg11 fullShare d11 ∗ owns (c : Thread nD τ) arg12 fullShare d12 ∗ owns (c : Thread nD τ) arg15 fullShare r ∗ (iprop(owns (c : Thread nD τ) arg11 fullShare (codes r) ∗ owns (c : Thread nD τ) arg12 fullShare (scale r) ∗ owns (c : Thread nD τ) arg15 fullShare r) -∗ K ⟨⟩)) : sProp 𝕄G)
      ⊢ wp frame (wpE (defs₀ (F := F)) 𝒱 (c : Thread nD τ) bd) E (do
        if k0_h2 : k0_cond2 i = 1#1 then do
          let ⟨v238, v240⟩ : Σ' (v238 : FVec F S256x128 .f32), FVec F S256x128 .f32 ← k0_part1 i arg3 harg3 arg4 harg4 arg5 harg5 arg6 harg6 arg7 harg7 arg8 harg8 arg9 harg9 arg10 harg10 arg11 harg11 arg12 harg12 arg13 harg13 arg14 harg14 arg15 harg15
          let v274 : FVec F S256x128 .f32 ← k0_part2 i arg3 harg3 arg4 harg4 arg5 harg5 arg6 harg6 arg7 harg7 arg8 harg8 arg9 harg9 arg10 harg10 arg11 harg11 arg12 harg12 arg13 harg13 arg14 harg14 arg15 harg15 v238 v240
          let ⟨v306, v309⟩ : Σ' (v306 : FVec F S256x128 .f32), FVec F S256x128 .f32 ← k0_part3 i arg3 harg3 arg4 harg4 arg5 harg5 arg6 harg6 arg7 harg7 arg8 harg8 arg9 harg9 arg10 harg10 arg11 harg11 arg12 harg12 arg13 harg13 arg14 harg14 arg15 harg15 v274
          let ⟨v340, v343⟩ : Σ' (v340 : IVec S256x1 1), IVec S256x1 32 ← k0_part4 i arg3 harg3 arg4 harg4 arg5 harg5 arg6 harg6 arg7 harg7 arg8 harg8 arg9 harg9 arg10 harg10 arg11 harg11 arg12 harg12 arg13 harg13 arg14 harg14 arg15 harg15 k0_h2 v306 v309
          let ⟨v362, v378, v379⟩ : Σ' (v362 : FVec F S256x128 .f32) (v378 : FVec F S256x128 .f32), FVec F S256x128 .f32 ← k0_part5 i arg3 harg3 arg4 harg4 arg5 harg5 arg6 harg6 arg7 harg7 arg8 harg8 arg9 harg9 arg10 harg10 arg11 harg11 arg12 harg12 arg13 harg13 arg14 harg14 arg15 harg15 v340 v343
          let ⟨v411, v412⟩ : Σ' (v411 : FVec F S256x128 .f32), FVec F S256x128 .f32 ← k0_part6 i arg3 harg3 arg4 harg4 arg5 harg5 arg6 harg6 arg7 harg7 arg8 harg8 arg9 harg9 arg10 harg10 arg11 harg11 arg12 harg12 arg13 harg13 arg14 harg14 arg15 harg15 v362 v378 v379
          let ⟨v444, v445⟩ : Σ' (v444 : FVec F S256x128 .f32), FVec F S256x128 .f32 ← k0_part7 i arg3 harg3 arg4 harg4 arg5 harg5 arg6 harg6 arg7 harg7 arg8 harg8 arg9 harg9 arg10 harg10 arg11 harg11 arg12 harg12 arg13 harg13 arg14 harg14 arg15 harg15 v362 v411 v412
          let ⟨v477, v478⟩ : Σ' (v477 : FVec F S256x128 .f32), FVec F S256x128 .f32 ← k0_part8 i arg3 harg3 arg4 harg4 arg5 harg5 arg6 harg6 arg7 harg7 arg8 harg8 arg9 harg9 arg10 harg10 arg11 harg11 arg12 harg12 arg13 harg13 arg14 harg14 arg15 harg15 v362 v444 v445
          let ⟨v510, v511⟩ : Σ' (v510 : FVec F S256x128 .f32), FVec F S256x128 .f32 ← k0_part9 i arg3 harg3 arg4 harg4 arg5 harg5 arg6 harg6 arg7 harg7 arg8 harg8 arg9 harg9 arg10 harg10 arg11 harg11 arg12 harg12 arg13 harg13 arg14 harg14 arg15 harg15 v362 v477 v478
          let ⟨v543, v544⟩ : Σ' (v543 : FVec F S256x128 .f32), FVec F S256x128 .f32 ← k0_part10 i arg3 harg3 arg4 harg4 arg5 harg5 arg6 harg6 arg7 harg7 arg8 harg8 arg9 harg9 arg10 harg10 arg11 harg11 arg12 harg12 arg13 harg13 arg14 harg14 arg15 harg15 v362 v510 v511
          let ⟨v576, v577⟩ : Σ' (v576 : FVec F S256x128 .f32), FVec F S256x128 .f32 ← k0_part11 i arg3 harg3 arg4 harg4 arg5 harg5 arg6 harg6 arg7 harg7 arg8 harg8 arg9 harg9 arg10 harg10 arg11 harg11 arg12 harg12 arg13 harg13 arg14 harg14 arg15 harg15 v362 v543 v544
          let ⟨v609, v610⟩ : Σ' (v609 : FVec F S256x128 .f32), FVec F S256x128 .f32 ← k0_part12 i arg3 harg3 arg4 harg4 arg5 harg5 arg6 harg6 arg7 harg7 arg8 harg8 arg9 harg9 arg10 harg10 arg11 harg11 arg12 harg12 arg13 harg13 arg14 harg14 arg15 harg15 v362 v576 v577
          let ⟨v642, v643⟩ : Σ' (v642 : FVec F S256x128 .f32), FVec F S256x128 .f32 ← k0_part13 i arg3 harg3 arg4 harg4 arg5 harg5 arg6 harg6 arg7 harg7 arg8 harg8 arg9 harg9 arg10 harg10 arg11 harg11 arg12 harg12 arg13 harg13 arg14 harg14 arg15 harg15 v362 v609 v610
          let ⟨v675, v676⟩ : Σ' (v675 : FVec F S256x128 .f32), FVec F S256x128 .f32 ← k0_part14 i arg3 harg3 arg4 harg4 arg5 harg5 arg6 harg6 arg7 harg7 arg8 harg8 arg9 harg9 arg10 harg10 arg11 harg11 arg12 harg12 arg13 harg13 arg14 harg14 arg15 harg15 v362 v642 v643
          let ⟨v708, v709⟩ : Σ' (v708 : FVec F S256x128 .f32), FVec F S256x128 .f32 ← k0_part15 i arg3 harg3 arg4 harg4 arg5 harg5 arg6 harg6 arg7 harg7 arg8 harg8 arg9 harg9 arg10 harg10 arg11 harg11 arg12 harg12 arg13 harg13 arg14 harg14 arg15 harg15 v362 v675 v676
          let v712 : Vec F S1x256x128 .fp8e4m3 ← Prog.lift (.load arg11 (Rect.unit (s := S1x256x4096) ![0, 0, 3968] S1x256x128.size inb_S1x256x4096_S1x256x128_0_0_3968).toLoadRect (View.loadsAt_vmem h_S1x256x128))

          Prog.lift (.store arg11 (Rect.unit (s := S1x256x4096) ![0, 0, 3968] S1x256x128.size inb_S1x256x4096_S1x256x128_0_0_3968) (k0_pay1 v708 v709) Finset.univ (View.stores_vmem h_S1x256x128 (harg11.storeExact_slice rfl _ packedfp8e4m3_S1x256x4096_S1x256x128_0_0_3968) (fun _ => rfl)) (.inl rfl))
          pure ⟨⟩
        else do
          pure ⟨⟩
        pure ⟨⟩) K := by
  have eq11 : codes r = codes32 r d11 := codes32_eq _ _ _
  rw [eq11]
  unfold owns
  iintro ⟨⟨%f11, %h11, H11⟩, ⟨%f12, %h12, H12⟩, ⟨%f15, %h15, H15⟩, Hk⟩
  subst h11
  subst h12
  subst h15
  sl_exec (disch := sl_exact hc1)
  sl_step
  iapply Hk
  isplitl [H11]
  · iexists _; isplitr
    swap; · iexact H11
    ipureintro
    refine (View.read_writes_cons_put _ _ _ _ _ rfl).trans ?_
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rfl
  isplitl [H12]
  · iexists _; isplitr
    swap; · iexact H12
    ipureintro; exact View.read_writes_full _ _ _ _ _
  iexists _; isplitr
  swap; · iexact H15
  ipureintro; rfl

end Cert.Finish.Close

end
-- ==== Proof.FBody2.lean ====
module

public import proofs.«01_k».proof.Proof.FBody1
public import proofs.«01_k».proof.Proof.FRuns
public import proofs.«01_k».proof.Proof.Gen.Finish.Loops

@[expose] public section

set_option maxRecDepth 65536

noncomputable section

/-! One grid point of the closing call, run: the buffers it owns before and after, by the plain functions of `FModel`. -/

namespace Cert.Finish.Close

open Cert.Finish.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The resource algebra of the runs. -/
local notation "𝕄G" => MT nD τ sig Unit (Elt F) ℕ (UR sig nD τ) ℕ

set_option maxHeartbeats 2000000 in
/-- The first grid point: the largest magnitudes start at zero. -/
theorem bodyA (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc0 : cond0_0 i) (hc1 : ¬cond0_1 i) (b : Blocks F) (d13 : Vec F S2x1x256 .f32) (d14 : Vec F S32x128 .f32) (d15 : Vec F S32x256x128 .f32) (K : PUnit → sProp 𝕄G) :
    (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare d13 ∗ owns (c : Thread nD τ) arg14 fullShare d14 ∗ owns (c : Thread nD τ) arg15 fullShare d15 ∗ (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare (lses (BitVec.ofNat 32 (i 1).val) b) ∗ owns (c : Thread nD τ) arg14 fullShare (amaxStep i b k0_pay67) ∗ owns (c : Thread nD τ) arg15 fullShare (rowsStep i b d15)) -∗ K ⟨⟩)) : sProp 𝕄G)
      ⊢ wp frame (wpE (defs₀ (F := F)) 𝒱 (c : Thread nD τ) bd) E (cc0_finish (F := F) i arg3 harg3 arg4 harg4 arg5 harg5 arg6 harg6 arg7 harg7 arg8 harg8 arg9 harg9 arg10 harg10 arg11 harg11 arg12 harg12 arg13 harg13 arg14 harg14 arg15 harg15) K := by
  simp only [cc0_finish_eq_skeleton]; unfold cc0_finish_skel
  obtain ⟨x0, x1, x2, x3, x4, x5, x6, x7⟩ := b
  have eq13 : ∀ n b, lses (F := F) n b = lseFrom n b d13 := fun n b => lseFrom_eq _ _ _ _
  rw [eq13]
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f13, %h13, H13⟩, ⟨%f14, %h14, H14⟩, ⟨%f15, %h15, H15⟩, Hk⟩
  subst h3
  subst h4
  subst h5
  subst h6
  subst h7
  subst h8
  subst h9
  subst h10
  subst h13
  subst h14
  subst h15
  sl_exec (disch := first | sl_exact hc0 | sl_exact hc1)
  sl_step
  iapply Hk
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H13]
  · iexists _; isplitr
    swap; · iexact H13
    ipureintro
    refine (View.read_writes_cons_put _ _ _ _ _ rfl).trans ?_
    rw [View.read_writes_cons_put _ _ _ _ _ rfl]
    rfl
  isplitl [H14]
  · iexists _; isplitr
    swap; · iexact H14
    ipureintro
    refine (View.read_writes_cons_put _ _ _ _ _ rfl).trans ?_
    refine (congrArg (fun w => put w _ _ _) (View.read_writes_cons_put _ _ _ _ _ rfl)).trans ?_
    refine (congrArg (fun w => put (put w _ _ _) _ _ _) (View.read_writes_full _ _ _ _ _)).trans ?_
    have e118 : bodyA.sl.v118 (F := F) c i arg14 = window (s := S32x128) (k0_pay67 : Vec F S32x128 .f32) (k0_off1 i 0#32) S1x128.size (k0_off1_inb i 0) :=
      (View.readAt_unit _ _ _ rfl _).trans (congrArg (fun w => window (s := S32x128) w (k0_off1 i 0#32) S1x128.size (k0_off1_inb i 0)) (View.read_writes_full _ _ _ _ _))
    have e193 : bodyA.sl.v193 c i arg3 arg4 arg5 arg6 arg7 arg8 arg9 arg10 arg14 f3 f4 f5 f6 f7 f8 f9 f10 = window (s := S32x128) (k0_pay67 : Vec F S32x128 .f32) (k0_off1 i 1#32) S1x128.size (k0_off1_inb i 1) :=
      (View.readAt_unit _ _ _ rfl _).trans ((congrArg (fun w => window (s := S32x128) w (k0_off1 i 1#32) S1x128.size (k0_off1_inb i 1))
        ((View.read_writes_cons_put _ _ _ _ _ rfl).trans (congrArg (fun w => put w _ _ _) (View.read_writes_full _ _ _ _ _)))).trans
        (VecWindow.window_put_of_disjoint _ _ _ _ _ _ _ 0 (.inr (by
          have e0 := congrFun (off1_0 i) 0; have e1 := congrFun (off1_1 i) 0
          have e2 : S1x128.size 0 = 1 := rfl
          have e3 : (![2 * (i 2).val, 0] : Fin 2 → ℕ) 0 = 2 * (i 2).val := rfl
          have e4 : (![2 * (i 2).val + 1, 0] : Fin 2 → ℕ) 0 = 2 * (i 2).val + 1 := rfl
          omega))))
    rw [e118, e193]
    rfl
  iexists _; isplitr
  swap; · iexact H15
  ipureintro
  refine (View.read_writes_cons_put _ _ _ _ _ rfl).trans ?_
  rw [View.read_writes_cons_put _ _ _ _ _ rfl]
  rfl

set_option maxHeartbeats 2000000 in
/-- A grid point in the middle. -/
theorem bodyB (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc0 : ¬cond0_0 i) (hc1 : ¬cond0_1 i) (b : Blocks F) (d13 : Vec F S2x1x256 .f32) (d14 : Vec F S32x128 .f32) (d15 : Vec F S32x256x128 .f32) (K : PUnit → sProp 𝕄G) :
    (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare d13 ∗ owns (c : Thread nD τ) arg14 fullShare d14 ∗ owns (c : Thread nD τ) arg15 fullShare d15 ∗ (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare (lses (BitVec.ofNat 32 (i 1).val) b) ∗ owns (c : Thread nD τ) arg14 fullShare (amaxStep i b d14) ∗ owns (c : Thread nD τ) arg15 fullShare (rowsStep i b d15)) -∗ K ⟨⟩)) : sProp 𝕄G)
      ⊢ wp frame (wpE (defs₀ (F := F)) 𝒱 (c : Thread nD τ) bd) E (cc0_finish (F := F) i arg3 harg3 arg4 harg4 arg5 harg5 arg6 harg6 arg7 harg7 arg8 harg8 arg9 harg9 arg10 harg10 arg11 harg11 arg12 harg12 arg13 harg13 arg14 harg14 arg15 harg15) K := by
  simp only [cc0_finish_eq_skeleton]; unfold cc0_finish_skel
  obtain ⟨x0, x1, x2, x3, x4, x5, x6, x7⟩ := b
  have eq13 : ∀ n b, lses (F := F) n b = lseFrom n b d13 := fun n b => lseFrom_eq _ _ _ _
  rw [eq13]
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f13, %h13, H13⟩, ⟨%f14, %h14, H14⟩, ⟨%f15, %h15, H15⟩, Hk⟩
  subst h3
  subst h4
  subst h5
  subst h6
  subst h7
  subst h8
  subst h9
  subst h10
  subst h13
  subst h14
  subst h15
  sl_exec (disch := first | sl_exact hc0 | sl_exact hc1)
  sl_step
  iapply Hk
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H13]
  · iexists _; isplitr
    swap; · iexact H13
    ipureintro
    refine (View.read_writes_cons_put _ _ _ _ _ rfl).trans ?_
    rw [View.read_writes_cons_put _ _ _ _ _ rfl]
    rfl
  isplitl [H14]
  · iexists _; isplitr
    swap; · iexact H14
    ipureintro
    refine (View.read_writes_cons_put _ _ _ _ _ rfl).trans ?_
    rw [View.read_writes_cons_put _ _ _ _ _ rfl]
    rfl
  iexists _; isplitr
  swap; · iexact H15
  ipureintro
  refine (View.read_writes_cons_put _ _ _ _ _ rfl).trans ?_
  rw [View.read_writes_cons_put _ _ _ _ _ rfl]
  rfl

end Cert.Finish.Close

end
-- ==== Proof.FBody3.lean ====
module

public import proofs.«01_k».proof.Proof.FBody1
public import proofs.«01_k».proof.Proof.FRuns
public import proofs.«01_k».proof.Proof.Gen.Finish.Loops

@[expose] public section

set_option maxRecDepth 65536

noncomputable section

/-! One grid point of the closing call, run: the buffers it owns before and after, by the plain functions of `FModel`. -/

namespace Cert.Finish.Close

open Cert.Finish.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

/-- The resource algebra of the runs. -/
local notation "𝕄G" => MT nD τ sig Unit (Elt F) ℕ (UR sig nD τ) ℕ

set_option maxHeartbeats 2000000 in
/-- A grid point of the last key-value head. -/
theorem bodyC (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc0 : ¬cond0_0 i) (hc1 : True ∧ cond0_1 i) (b : Blocks F) (d11 : Vec F S1x256x4096 .fp8e4m3) (d12 : Vec F S1x256x1 .f32) (d13 : Vec F S2x1x256 .f32) (d14 : Vec F S32x128 .f32) (d15 : Vec F S32x256x128 .f32) (K : PUnit → sProp 𝕄G) :
    (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg11 fullShare (codes (rowsStep i b d15)) ∗ owns (c : Thread nD τ) arg12 fullShare (scale (rowsStep i b d15)) ∗ owns (c : Thread nD τ) arg13 fullShare (lses (BitVec.ofNat 32 (i 1).val) b) ∗ owns (c : Thread nD τ) arg14 fullShare (amaxStep i b d14) ∗ owns (c : Thread nD τ) arg15 fullShare (rowsStep i b d15)) -∗ K ⟨⟩)) : sProp 𝕄G)
      ⊢ wp frame (wpE (defs₀ (F := F)) 𝒱 (c : Thread nD τ) bd) E (cc0_finish (F := F) i arg3 harg3 arg4 harg4 arg5 harg5 arg6 harg6 arg7 harg7 arg8 harg8 arg9 harg9 arg10 harg10 arg11 harg11 arg12 harg12 arg13 harg13 arg14 harg14 arg15 harg15) K := by
  simp only [cc0_finish_eq_skeleton]; unfold cc0_finish_skel
  obtain ⟨x0, x1, x2, x3, x4, x5, x6, x7⟩ := b
  have eq13 : ∀ n b, lses (F := F) n b = lseFrom n b d13 := fun n b => lseFrom_eq _ _ _ _
  rw [eq13]
  have e3 : (owns (c : Thread nD τ) arg3 fullShare x0 : sProp 𝕄G) = iprop(∃ f, ⌜arg3.view.read (Elt F) f = x0⌝ ∗ (arg3.view.loc (c : Thread nD τ) ↦[arg3.view.set]{fullShare} f)) := rfl
  have e4 : (owns (c : Thread nD τ) arg4 fullShare x1 : sProp 𝕄G) = iprop(∃ f, ⌜arg4.view.read (Elt F) f = x1⌝ ∗ (arg4.view.loc (c : Thread nD τ) ↦[arg4.view.set]{fullShare} f)) := rfl
  have e5 : (owns (c : Thread nD τ) arg5 fullShare x2 : sProp 𝕄G) = iprop(∃ f, ⌜arg5.view.read (Elt F) f = x2⌝ ∗ (arg5.view.loc (c : Thread nD τ) ↦[arg5.view.set]{fullShare} f)) := rfl
  have e6 : (owns (c : Thread nD τ) arg6 fullShare x3 : sProp 𝕄G) = iprop(∃ f, ⌜arg6.view.read (Elt F) f = x3⌝ ∗ (arg6.view.loc (c : Thread nD τ) ↦[arg6.view.set]{fullShare} f)) := rfl
  have e7 : (owns (c : Thread nD τ) arg7 fullShare x4 : sProp 𝕄G) = iprop(∃ f, ⌜arg7.view.read (Elt F) f = x4⌝ ∗ (arg7.view.loc (c : Thread nD τ) ↦[arg7.view.set]{fullShare} f)) := rfl
  have e8 : (owns (c : Thread nD τ) arg8 fullShare x5 : sProp 𝕄G) = iprop(∃ f, ⌜arg8.view.read (Elt F) f = x5⌝ ∗ (arg8.view.loc (c : Thread nD τ) ↦[arg8.view.set]{fullShare} f)) := rfl
  have e9 : (owns (c : Thread nD τ) arg9 fullShare x6 : sProp 𝕄G) = iprop(∃ f, ⌜arg9.view.read (Elt F) f = x6⌝ ∗ (arg9.view.loc (c : Thread nD τ) ↦[arg9.view.set]{fullShare} f)) := rfl
  have e10 : (owns (c : Thread nD τ) arg10 fullShare x7 : sProp 𝕄G) = iprop(∃ f, ⌜arg10.view.read (Elt F) f = x7⌝ ∗ (arg10.view.loc (c : Thread nD τ) ↦[arg10.view.set]{fullShare} f)) := rfl
  have e13 : (owns (c : Thread nD τ) arg13 fullShare d13 : sProp 𝕄G) = iprop(∃ f, ⌜arg13.view.read (Elt F) f = d13⌝ ∗ (arg13.view.loc (c : Thread nD τ) ↦[arg13.view.set]{fullShare} f)) := rfl
  have e14 : (owns (c : Thread nD τ) arg14 fullShare d14 : sProp 𝕄G) = iprop(∃ f, ⌜arg14.view.read (Elt F) f = d14⌝ ∗ (arg14.view.loc (c : Thread nD τ) ↦[arg14.view.set]{fullShare} f)) := rfl
  have e15 : (owns (c : Thread nD τ) arg15 fullShare d15 : sProp 𝕄G) = iprop(∃ f, ⌜arg15.view.read (Elt F) f = d15⌝ ∗ (arg15.view.loc (c : Thread nD τ) ↦[arg15.view.set]{fullShare} f)) := rfl
  rw [e3, e4, e5, e6, e7, e8, e9, e10, e13, e14, e15]
  clear e3 e4 e5 e6 e7 e8 e9 e10 e13 e14 e15
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, H11, H12, ⟨%f13, %h13, H13⟩, ⟨%f14, %h14, H14⟩, ⟨%f15, %h15, H15⟩, Hk⟩
  subst h3
  subst h4
  subst h5
  subst h6
  subst h7
  subst h8
  subst h9
  subst h10
  subst h13
  subst h14
  subst h15
  sl_exec (disch := first | sl_exact hc0)
  iapply (quantise 𝒱 c bd E i arg3 harg3 arg4 harg4 arg5 harg5 arg6 harg6 arg7 harg7 arg8 harg8 arg9 harg9 arg10 harg10 arg11 harg11 arg12 harg12 arg13 harg13 arg14 harg14 arg15 harg15 hc1.2 (rowsStep i ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩ (arg15.view.read (Elt F) f15)) d11 d12) $$ [-]
  isplitl [H11]; · iexact H11
  isplitl [H12]; · iexact H12
  isplitl [H15]
  · unfold owns
    iexists _; isplitr
    swap; · iexact H15
    ipureintro
    refine (View.read_writes_cons_put _ _ _ _ _ rfl).trans ?_
    rw [View.read_writes_cons_put _ _ _ _ _ rfl]
    rfl
  iintro ⟨H11, H12, H15⟩
  iapply Hk
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexact H11
  isplitl [H12]
  · iexact H12
  isplitl [H13]
  · unfold owns
    iexists _; isplitr
    swap; · iexact H13
    ipureintro
    refine (View.read_writes_cons_put _ _ _ _ _ rfl).trans ?_
    rw [View.read_writes_cons_put _ _ _ _ _ rfl]
    rfl
  isplitl [H14]
  · unfold owns
    iexists _; isplitr
    swap; · iexact H14
    ipureintro
    refine (View.read_writes_cons_put _ _ _ _ _ rfl).trans ?_
    rw [View.read_writes_cons_put _ _ _ _ _ rfl]
    rfl
  iexact H15

end Cert.Finish.Close

end
-- ==== Proof.FFrame.lean ====
module

public import proofs.«01_k».proof.Proof.FBody2
public import proofs.«01_k».proof.Proof.FBody3
public import Idealize.ShloMosaic.Lib.Claim

@[expose] public section

set_option maxRecDepth 16384

noncomputable section

/-! The pipeline's run: what every staging buffer and every carried scratch buffer holds after each grid point, the
    body's triple at a point, and the launch. -/

namespace Cert.Finish.Close

open Cert.Finish.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of grid point `t`. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- The running largest magnitudes after grid point `n`. -/
def amaxAt (c : Dev nD) : (n : ℕ) → n < cfg0.N → Vec F S32x128 .f32
  | 0, hn => amaxStep (grid0.coords ⟨0, hn⟩) (blocksAt m c ⟨0, hn⟩) k0_pay67
  | n + 1, hn => amaxStep (grid0.coords ⟨n + 1, hn⟩) (blocksAt m c ⟨n + 1, hn⟩) (amaxAt c n (Nat.lt_of_succ_lt hn))

theorem amaxAt_first (c : Dev nD) (t : Fin cfg0.N) (h0 : t.val = 0) :
    amaxAt m c t.val t.isLt = amaxStep (grid0.coords t) (blocksAt m c t) k0_pay67 := by
  obtain ⟨n, hn⟩ := t
  cases n with
  | zero => rfl
  | succ n => exact absurd h0 (Nat.succ_ne_zero n)

theorem amaxAt_next (c : Dev nD) (t : Fin cfg0.N) (h0 : ¬t.val = 0) :
    amaxAt m c t.val t.isLt = amaxStep (grid0.coords t) (blocksAt m c t) (amaxAt m c (t.val - 1) (Nat.lt_of_le_of_lt (Nat.sub_le _ _) t.isLt)) := by
  obtain ⟨n, hn⟩ := t
  cases n with
  | zero => exact absurd rfl h0
  | succ n => rfl

/-- The grid point of key-value head `j` among the `q`-th sixteen points. -/
def point (q j : ℕ) : Fin cfg0.N := ⟨min (16 * q + j) 127, by rw [show cfg0.N = 128 from N_0]; omega⟩

theorem point_self (t : Fin cfg0.N) : point (t.val / 16) (t.val % 16) = t := by
  have hN : t.val < 128 := lt_of_lt_of_eq t.isLt (show cfg0.N = 128 from N_0)
  refine Fin.ext ?_
  show min (16 * (t.val / 16) + t.val % 16) 127 = t.val
  omega

/-- A row's place among its head's. -/
def rowIdx (y : S32x256x128.Idx) : S1x256x128.Idx := fun a => match a with
  | 0 => (0 : Fin 1)
  | 1 => y 1
  | 2 => y 2

/-- The rows of all the heads, for the `q`-th block of rows: head `y 0` is computed at key-value head `y 0 / 2`. -/
def fullRows (c : Dev nD) (q : ℕ) : Vec F S32x256x128 .f32 := fun y =>
  let t := point q ((y 0).val / 2)
  if (y 0).val % 2 = 0 then row0 (BitVec.ofNat 32 (grid0.coords t 1).val) (blocksAt m c t) (rowIdx y)
  else row1 (BitVec.ofNat 32 (grid0.coords t 1).val) (blocksAt m c t) (rowIdx y)

/-- What the rows' buffer holds after point `n`: the heads up to that point's, whatever it held before. -/
def kept (c : Dev nD) (n : ℕ) (d : Vec F S32x256x128 .f32) : Prop :=
  ∀ y : S32x256x128.Idx, (y 0).val < 2 * (n % 16 + 1) → d y = fullRows m c (n / 16) y

theorem coords_2 : ∀ t : Fin cfg0.N, (grid0.coords t 2).val = t.val % 16 :=
  (by decide +kernel : ∀ t : Fin grid0.N, (grid0.coords t 2).val = t.val % 16)

/-- A point adds its two heads' rows. -/
theorem kept_step (c : Dev nD) (t : Fin cfg0.N) (d : Vec F S32x256x128 .f32) (h : t.val % 16 = 0 ∨ kept m c (t.val - 1) d) :
    kept m c t.val (rowsStep (grid0.coords t) (blocksAt m c t) d) := by
  intro y hy
  have hN : t.val < 128 := lt_of_lt_of_eq t.isLt (show cfg0.N = 128 from N_0)
  have k2 := coords_2 t
  have y1 : (y 1).val < 256 := (y 1).isLt
  have y2 : (y 2).val < 128 := (y 2).isLt
  unfold rowsStep
  rw [off2_0, off2_1, k2]
  by_cases e1 : (y 0).val = 2 * (t.val % 16) + 1
  · have hin : ∀ a, (![2 * (t.val % 16) + 1, 0, 0] : Fin 3 → ℕ) a ≤ (y a).val ∧ (y a).val < (![2 * (t.val % 16) + 1, 0, 0] : Fin 3 → ℕ) a + S1x256x128.size a := by
      intro a
      match a with
      | 0 => exact ⟨le_of_eq e1.symm, by show (y 0).val < 2 * (t.val % 16) + 1 + 1; omega⟩
      | 1 => exact ⟨Nat.zero_le _, by show (y 1).val < 0 + 256; omega⟩
      | 2 => exact ⟨Nat.zero_le _, by show (y 2).val < 0 + 128; omega⟩
    refine (dif_pos hin).trans ?_
    unfold fullRows
    rw [show (y 0).val / 2 = t.val % 16 by omega, point_self]
    dsimp only
    rw [if_neg (show ¬(y 0).val % 2 = 0 by omega)]
    refine congrArg (row1 (BitVec.ofNat 32 (grid0.coords t 1).val) (blocksAt m c t)) (funext fun a => Fin.ext ?_)
    match a with
    | 0 => show (y 0).val - (2 * (t.val % 16) + 1) = 0; omega
    | 1 => show (y 1).val - 0 = (y 1).val; omega
    | 2 => show (y 2).val - 0 = (y 2).val; omega
  · have hout : ¬∀ a, (![2 * (t.val % 16) + 1, 0, 0] : Fin 3 → ℕ) a ≤ (y a).val ∧ (y a).val < (![2 * (t.val % 16) + 1, 0, 0] : Fin 3 → ℕ) a + S1x256x128.size a := by
      intro hh
      have h0 : 2 * (t.val % 16) + 1 ≤ (y 0).val ∧ (y 0).val < 2 * (t.val % 16) + 1 + 1 := hh 0
      omega
    refine (dif_neg hout).trans ?_
    by_cases e0 : (y 0).val = 2 * (t.val % 16)
    · have hin : ∀ a, (![2 * (t.val % 16), 0, 0] : Fin 3 → ℕ) a ≤ (y a).val ∧ (y a).val < (![2 * (t.val % 16), 0, 0] : Fin 3 → ℕ) a + S1x256x128.size a := by
        intro a
        match a with
        | 0 => exact ⟨le_of_eq e0.symm, by show (y 0).val < 2 * (t.val % 16) + 1; omega⟩
        | 1 => exact ⟨Nat.zero_le _, by show (y 1).val < 0 + 256; omega⟩
        | 2 => exact ⟨Nat.zero_le _, by show (y 2).val < 0 + 128; omega⟩
      refine (dif_pos hin).trans ?_
      unfold fullRows
      rw [show (y 0).val / 2 = t.val % 16 by omega, point_self]
      dsimp only
      rw [if_pos (show (y 0).val % 2 = 0 by omega)]
      refine congrArg (row0 (BitVec.ofNat 32 (grid0.coords t 1).val) (blocksAt m c t)) (funext fun a => Fin.ext ?_)
      match a with
      | 0 => show (y 0).val - (2 * (t.val % 16)) = 0; omega
      | 1 => show (y 1).val - 0 = (y 1).val; omega
      | 2 => show (y 2).val - 0 = (y 2).val; omega
    · have hout2 : ¬∀ a, (![2 * (t.val % 16), 0, 0] : Fin 3 → ℕ) a ≤ (y a).val ∧ (y a).val < (![2 * (t.val % 16), 0, 0] : Fin 3 → ℕ) a + S1x256x128.size a := by
        intro hh
        have h0 : 2 * (t.val % 16) ≤ (y 0).val ∧ (y 0).val < 2 * (t.val % 16) + 1 := hh 0
        omega
      refine (dif_neg hout2).trans ?_
      rcases h with h | h
      · omega
      · by_cases hz : t.val % 16 = 0
        · omega
        · have := h y (by omega)
          rw [this, show (t.val - 1) / 16 = t.val / 16 by omega]

/-- After the last key-value head all rows are there. -/
theorem kept_full (c : Dev nD) (n : ℕ) (hn : n % 16 = 15) (d : Vec F S32x256x128 .f32) (h : kept m c n d) : d = fullRows m c (n / 16) := by
  funext y
  have y0 : (y 0).val < 32 := (y 0).isLt
  exact h y (by omega)

/-- The region's invariant before position `n`: the rows' buffer at the heads so far. -/
def PhiS (c : Dev nD) : (n : ℕ) → n ≤ cfg0.N → sProp 𝕄
  | 0, _ => Pipeline.ΦA spec0 c
  | n + 1, _ => iprop((∃ d, ⌜kept m c n d⌝ ∗ owns (c : Thread nD τ) scM0_0 fullShare d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((∃ d, ⌜kept m c n d⌝ ∗ owns (c : Thread nD τ) scM0_0 fullShare d) ∗ (∃ r, prngReg c r)) := rfl

theorem PhiS_pos (c : Dev nD) (n : ℕ) (h : n ≤ cfg0.N) (hz : n ≠ 0) :
    PhiS m c n h = iprop((∃ d, ⌜kept m c (n - 1) d⌝ ∗ owns (c : Thread nD τ) scM0_0 fullShare d) ∗ (∃ r, prngReg c r)) := by
  cases n with
  | zero => exact absurd rfl hz
  | succ n => rfl

/-! ## The pipeline's proof data -/

/-- The proof data: each input's buffer at its block, the log-sums at the point's, the largest magnitudes at the running ones, the
    codes and scales of the block of rows at those of all its heads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codes (fullRows m c (t.val / 16))
    | ⟨9, _⟩ => scale (fullRows m c (t.val / 16))
    | ⟨10, _⟩ => lses (BitVec.ofNat 32 (grid0.coords t 1).val) (blocksAt m c t)
    | ⟨11, _⟩ => amaxAt m c t.val t.isLt
  Φ t := PhiS m c t.val (Nat.le_of_lt_succ t.isLt)
  q _ := fullShare
  owed _ := 0

/-- The proof data's arrays are those the region is entered with. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = codes (fullRows m c (t.val / 16)) := by dsimp only [dats]
theorem after0_9 (c : Dev nD) (t : Fin cfg0.N) : (dats m 0 c).after 9 t = scale (fullRows m c (t.val / 16)) := by dsimp only [dats]
theorem after0_10 (c : Dev nD) (t : Fin cfg0.N) : (dats m 0 c).after 10 t = lses (BitVec.ofNat 32 (grid0.coords t 1).val) (blocksAt m c t) := by dsimp only [dats]
theorem after0_11 (c : Dev nD) (t : Fin cfg0.N) : (dats m 0 c).after 11 t = amaxAt m c t.val t.isLt := by dsimp only [dats]

/-- Each input's staging buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- The largest magnitudes are kept from point to point. -/
theorem before0_11 (c : Dev nD) (t : Fin cfg0.N) (h0 : ¬t.val = 0) (d) :
    (dats m 0 c).before 11 t d = amaxAt m c (t.val - 1) (Nat.lt_of_le_of_lt (Nat.sub_le _ _) t.isLt) := by
  have hN : t.val < 128 := lt_of_lt_of_eq t.isLt (show cfg0.N = 128 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2000000 in
/-- The body's triple at a point, case A. -/
theorem sound_body_A (c : Dev nD) (t : Fin cfg0.N) (h0 : t.val = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [amaxAt_first m c t h0]
  rw [PhiS_castSucc m c t, PhiS_zero m c _ _ h0, PhiA0_eq]
  iintro ⟨⟨⟨%ds0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hk' := kept_step m c t ds0 (.inl (by omega))
  iapply (bodyA Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (blocksAt m c t) ((dats m 0 c).before 10 t d10) ((dats m 0 c).before 11 t d11) ds0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [HS0]; · iexact HS0
  iintro ⟨H0, H1, H2, H3, H4, H5, H6, H7, H10, H11, HS0⟩
  isplitl [HS0 Hg]
  · isplitl [HS0]
    · iexists _; isplitr
      swap; · iexact HS0
      ipureintro; exact hk'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  iexact H11

set_option maxHeartbeats 2000000 in
/-- The body's triple at a point, case B. -/
theorem sound_body_B (c : Dev nD) (t : Fin cfg0.N) (h0 : ¬t.val = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [amaxAt_next m c t h0]
  rw [PhiS_castSucc m c t, PhiS_pos m c _ _ h0]
  simp only [before0_11 m c t h0]
  iintro ⟨⟨⟨%ds0, %hk, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hk' := kept_step m c t ds0 (.inr hk)
  iapply (bodyB Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (blocksAt m c t) ((dats m 0 c).before 10 t d10) (amaxAt m c (t.val - 1) (Nat.lt_of_le_of_lt (Nat.sub_le _ _) t.isLt)) ds0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [HS0]; · iexact HS0
  iintro ⟨H0, H1, H2, H3, H4, H5, H6, H7, H10, H11, HS0⟩
  isplitl [HS0 Hg]
  · isplitl [HS0]
    · iexists _; isplitr
      swap; · iexact HS0
      ipureintro; exact hk'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  iexact H11

set_option maxHeartbeats 2000000 in
/-- The body's triple at a point, case C. -/
theorem sound_body_C (c : Dev nD) (t : Fin cfg0.N) (h0 : ¬t.val = 0) (h1 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 8 t = owns (c : Thread nD τ) (ms0_8 t) fullShare ((dats m 0 c).after 8 t) from by
    unfold Dat.leavesExact; rw [liveAt0_8 t ((hcond0_1 t).mpr h1)], after0_8]
  rw [show (dats m 0 c).leavesExact 9 t = owns (c : Thread nD τ) (ms0_9 t) fullShare ((dats m 0 c).after 9 t) from by
    unfold Dat.leavesExact; rw [liveAt0_9 t ((hcond0_1 t).mpr h1)], after0_9]
  rw [amaxAt_next m c t h0]
  rw [PhiS_castSucc m c t, PhiS_pos m c _ _ h0]
  simp only [before0_11 m c t h0]
  iintro ⟨⟨⟨%ds0, %hk, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hk' := kept_step m c t ds0 (.inr hk)
  have hf := kept_full m c t.val h1 _ hk'
  iapply (bodyC Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ⟨trivial, (hcond0_1 t).mpr h1⟩ (blocksAt m c t) ((dats m 0 c).before 8 t d8) ((dats m 0 c).before 9 t d9) ((dats m 0 c).before 10 t d10) (amaxAt m c (t.val - 1) (Nat.lt_of_le_of_lt (Nat.sub_le _ _) t.isLt)) ds0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  rw [hf]
  iintro ⟨H0, H1, H2, H3, H4, H5, H6, H7, H8, H9, H10, H11, HS0⟩
  isplitl [HS0 Hg]
  · isplitl [HS0]
    · iexists _; isplitr
      swap; · iexact HS0
      ipureintro; exact hf ▸ hk'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_body_A m c t h0 (by omega)
  · by_cases h1 : t.val % 16 = 15
    · exact sound_body_C m c t h0 h1
    · exact sound_body_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%d, %hd, HS0⟩, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the host operations after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Finish`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Finish.Close

end
-- ==== Proof.FIModel.lean ====
module

public import proofs.«01_k».proof.Proof.Gen.FinishIdeal.Frame
public import proofs.«01_k».proof.Proof.Gen.FinishIdeal.Skeleton
public import Idealize.ShloMosaic.Lib.Exec
public import Idealize.ShloMosaic.Lib.VecWindow

@[expose] public section

noncomputable section

/-! What one grid point of the closing call does to its buffers, as plain functions of vectors. -/

namespace Cert.FinishIdeal.Close

open Cert.FinishIdeal.Gen
open Idealize.ShloMosaic Idealize.ShloMosaic.TcCoe
open Idealize.ShloMosaic.VecWindow (window put)

variable {F : FTy → Type} [FloatOps F] [Named F]

/-- The blocks a grid point reads: queries, their scales, keys, values, their scales, the prompt's output and its log-sum. -/
structure Blocks (F : FTy → Type) where
  q : Vec F S2x128x256 .fp8e4m3
  qs : Vec F S2x1x256 .f32
  k : Vec F S1x1x1024x128 .fp8e4m3
  v : Vec F S1x1x128x1024 .fp8e4m3
  ks : Vec F S1x1x1x1024 .f32
  vs : Vec F S1x1x1x1024 .f32
  o : Vec F S2x128x256 .f32
  lse : Vec F S2x1x256 .f32

/-- The key scales spread over lanes. -/
def spread (b : Blocks F) : FVec F S1024x128 .f32 := k0_pay68 (window (s := S1x1x1x1024) b.ks ![0, 0, 0, 0] S1x1x1x1024.size inb_S1x1x1x1024_S1x1x1x1024_0_0_0_0)
def vals (b : Blocks F) : FVec F S128x1024 .fp8e4m3 := k0_pay69 (window (s := S1x1x128x1024) b.v ![0, 0, 0, 0] S1x1x128x1024.size inb_S1x1x128x1024_S1x1x128x1024_0_0_0_0)
def valScales (b : Blocks F) : Vec F S1x1x1x1024 .f32 := window (s := S1x1x1x1024) b.vs ![0, 0, 0, 0] S1x1x1x1024.size inb_S1x1x1x1024_S1x1x1x1024_0_0_0_0
def keys (b : Blocks F) : Vec F S1x1x1024x128 .fp8e4m3 := window (s := S1x1x1024x128) b.k ![0, 0, 0, 0] S1x1x1024x128.size inb_S1x1x1024x128_S1x1x1024x128_0_0_0_0

/-- The first head's peak, weight sum and attention output. -/
def peak0 (n : BitVec 32) (b : Blocks F) : FVec F S1x256 .f32 := k0_pay73 n (spread b) (keys b) (window (s := S2x128x256) b.q ![0, 0, 0] S1x128x256.size inb_S2x128x256_S1x128x256_0_0_0) (window (s := S2x1x256) b.qs ![0, 0, 0] S1x1x256.size inb_S2x1x256_S1x1x256_0_0_0)
def sum0 (n : BitVec 32) (b : Blocks F) : FVec F S1x256 .f32 := k0_pay75 n (spread b) (keys b) (window (s := S2x128x256) b.q ![0, 0, 0] S1x128x256.size inb_S2x128x256_S1x128x256_0_0_0) (window (s := S2x1x256) b.qs ![0, 0, 0] S1x1x256.size inb_S2x1x256_S1x1x256_0_0_0)
def att0 (n : BitVec 32) (b : Blocks F) : FVec F S128x256 .f32 := k0_pay76 n (spread b) (vals b) (valScales b) (keys b) (window (s := S2x128x256) b.q ![0, 0, 0] S1x128x256.size inb_S2x128x256_S1x128x256_0_0_0) (window (s := S2x1x256) b.qs ![0, 0, 0] S1x1x256.size inb_S2x1x256_S1x1x256_0_0_0)
def ln2 : F .f32 := Named.named κ "ln2" 0x3F317218#32
/-- The second head's attention output and log-sum. -/
def att1 (n : BitVec 32) (b : Blocks F) : FVec F S128x256 .f32 := k0_pay86 (spread b) (k0_pay70 (vals b) (valScales b)) (iota .tc S1024x256 32 [0] iota_S1024x256_d0_w32) (k0_pay71 n) (keys b) (window (s := S2x128x256) b.q ![1, 0, 0] S1x128x256.size inb_S2x128x256_S1x128x256_1_0_0) (window (s := S2x1x256) b.qs ![1, 0, 0] S1x1x256.size inb_S2x1x256_S1x1x256_1_0_0)
def lse1 (n : BitVec 32) (b : Blocks F) : FVec F S1x256 .f32 := k0_pay87 (spread b) (iota .tc S1024x256 32 [0] iota_S1024x256_d0_w32) (k0_pay71 n) (keys b) (window (s := S2x128x256) b.q ![1, 0, 0] S1x128x256.size inb_S2x128x256_S1x128x256_1_0_0) (window (s := S2x1x256) b.qs ![1, 0, 0] S1x1x256.size inb_S2x1x256_S1x1x256_1_0_0)

/-- Each head's joined output, transposed. -/
def row0 (n : BitVec 32) (b : Blocks F) : FVec F S1x256x128 .f32 := k0_pay81 (k0_pay78 (peak0 n b) (sum0 n b) (att0 n b) ln2 (window (s := S2x1x256) b.lse ![0, 0, 0] S1x1x256.size inb_S2x1x256_S1x1x256_0_0_0) (window (s := S2x128x256) b.o ![0, 0, 0] S1x128x256.size inb_S2x128x256_S1x128x256_0_0_0))
def row1 (n : BitVec 32) (b : Blocks F) : FVec F S1x256x128 .f32 := k0_pay91 (att1 n b) (lse1 n b) (window (s := S2x1x256) b.lse ![1, 0, 0] S1x1x256.size inb_S2x1x256_S1x1x256_1_0_0) (window (s := S2x128x256) b.o ![1, 0, 0] S1x128x256.size inb_S2x128x256_S1x128x256_1_0_0)

/-- The log-sum block over whatever the buffer held. -/
def lseFrom (n : BitVec 32) (b : Blocks F) (a : Vec F S2x1x256 .f32) : Vec F S2x1x256 .f32 :=
  put (s := S2x1x256) (put (s := S2x1x256) a ![0, 0, 0] S1x1x256.size (k0_pay79 (peak0 n b) (sum0 n b) ln2)) ![1, 0, 0] S1x1x256.size (k0_pay89 (lse1 n b))

def lses (n : BitVec 32) (b : Blocks F) : Vec F S2x1x256 .f32 := lseFrom n b (constant S2x1x256 .f32 0x00000000#32)

/-- The running largest magnitudes. -/
def amaxHalf (i : grid0.Coords) (b : Blocks F) (a : Vec F S32x128 .f32) : Vec F S32x128 .f32 :=
  put (s := S32x128) a (k0_off1 i 0#32) S1x128.size (k0_pay80 (peak0 (BitVec.ofNat 32 (i 1).val) b) (sum0 (BitVec.ofNat 32 (i 1).val) b) (att0 (BitVec.ofNat 32 (i 1).val) b) ln2 (window (s := S2x1x256) b.lse ![0, 0, 0] S1x1x256.size inb_S2x1x256_S1x1x256_0_0_0) (window (s := S2x128x256) b.o ![0, 0, 0] S1x128x256.size inb_S2x128x256_S1x128x256_0_0_0) (window (s := S32x128) a (k0_off1 i 0#32) S1x128.size (k0_off1_inb i 0)))
def amaxStep (i : grid0.Coords) (b : Blocks F) (a : Vec F S32x128 .f32) : Vec F S32x128 .f32 :=
  put (s := S32x128) (amaxHalf i b a) (k0_off1 i 1#32) S1x128.size (k0_pay90 (att1 (BitVec.ofNat 32 (i 1).val) b) (lse1 (BitVec.ofNat 32 (i 1).val) b) (window (s := S2x1x256) b.lse ![1, 0, 0] S1x1x256.size inb_S2x1x256_S1x1x256_1_0_0) (window (s := S2x128x256) b.o ![1, 0, 0] S1x128x256.size inb_S2x128x256_S1x128x256_1_0_0) (window (s := S32x128) a (k0_off1 i 1#32) S1x128.size (k0_off1_inb i 1)))

/-- The kept rows. -/
def rowsStep (i : grid0.Coords) (b : Blocks F) (r : Vec F S32x256x128 .f32) : Vec F S32x256x128 .f32 :=
  put (s := S32x256x128) (put (s := S32x256x128) r (k0_off2 i 0#32) S1x256x128.size (row0 (BitVec.ofNat 32 (i 1).val) b)) (k0_off2 i 1#32) S1x256x128.size (row1 (BitVec.ofNat 32 (i 1).val) b)

/-- The rows' count of the powers of two, and where it is not needed. -/
def exponent (r : Vec F S32x256x128 .f32) : IVec S256x1 1 × IVec S256x1 32 :=
  let v208 := window (s := S32x256x128) r ![0, 0, 0] S1x256x128.size inb_S32x256x128_S1x256x128_0_0_0
  let v211 := window (s := S32x256x128) r ![1, 0, 0] S1x256x128.size inb_S32x256x128_S1x256x128_1_0_0
  let v215 := window (s := S32x256x128) r ![2, 0, 0] S1x256x128.size inb_S32x256x128_S1x256x128_2_0_0
  let v219 := window (s := S32x256x128) r ![3, 0, 0] S1x256x128.size inb_S32x256x128_S1x256x128_3_0_0
  let v223 := window (s := S32x256x128) r ![4, 0, 0] S1x256x128.size inb_S32x256x128_S1x256x128_4_0_0
  let v227 := window (s := S32x256x128) r ![5, 0, 0] S1x256x128.size inb_S32x256x128_S1x256x128_5_0_0
  let v231 := window (s := S32x256x128) r ![6, 0, 0] S1x256x128.size inb_S32x256x128_S1x256x128_6_0_0
  let v235 := window (s := S32x256x128) r ![7, 0, 0] S1x256x128.size inb_S32x256x128_S1x256x128_7_0_0
  let v239 := window (s := S32x256x128) r ![8, 0, 0] S1x256x128.size inb_S32x256x128_S1x256x128_8_0_0
  let v238 := k0_pay2 v208 v211 v215 v219 v223 v227 v231 v235
  let v240 := k0_pay3 v239
  let v243 := window (s := S32x256x128) r ![9, 0, 0] S1x256x128.size inb_S32x256x128_S1x256x128_9_0_0
  let v247 := window (s := S32x256x128) r ![10, 0, 0] S1x256x128.size inb_S32x256x128_S1x256x128_10_0_0
  let v251 := window (s := S32x256x128) r ![11, 0, 0] S1x256x128.size inb_S32x256x128_S1x256x128_11_0_0
  let v255 := window (s := S32x256x128) r ![12, 0, 0] S1x256x128.size inb_S32x256x128_S1x256x128_12_0_0
  let v259 := window (s := S32x256x128) r ![13, 0, 0] S1x256x128.size inb_S32x256x128_S1x256x128_13_0_0
  let v263 := window (s := S32x256x128) r ![14, 0, 0] S1x256x128.size inb_S32x256x128_S1x256x128_14_0_0
  let v267 := window (s := S32x256x128) r ![15, 0, 0] S1x256x128.size inb_S32x256x128_S1x256x128_15_0_0
  let v271 := window (s := S32x256x128) r ![16, 0, 0] S1x256x128.size inb_S32x256x128_S1x256x128_16_0_0
  let v274 := k0_pay4 v238 v240 v243 v247 v251 v255 v259 v263 v267 v271
  let v275 := window (s := S32x256x128) r ![17, 0, 0] S1x256x128.size inb_S32x256x128_S1x256x128_17_0_0
  let v279 := window (s := S32x256x128) r ![18, 0, 0] S1x256x128.size inb_S32x256x128_S1x256x128_18_0_0
  let v283 := window (s := S32x256x128) r ![19, 0, 0] S1x256x128.size inb_S32x256x128_S1x256x128_19_0_0
  let v287 := window (s := S32x256x128) r ![20, 0, 0] S1x256x128.size inb_S32x256x128_S1x256x128_20_0_0
  let v291 := window (s := S32x256x128) r ![21, 0, 0] S1x256x128.size inb_S32x256x128_S1x256x128_21_0_0
  let v295 := window (s := S32x256x128) r ![22, 0, 0] S1x256x128.size inb_S32x256x128_S1x256x128_22_0_0
  let v299 := window (s := S32x256x128) r ![23, 0, 0] S1x256x128.size inb_S32x256x128_S1x256x128_23_0_0
  let v303 := window (s := S32x256x128) r ![24, 0, 0] S1x256x128.size inb_S32x256x128_S1x256x128_24_0_0
  let v307 := window (s := S32x256x128) r ![25, 0, 0] S1x256x128.size inb_S32x256x128_S1x256x128_25_0_0
  let v306 := k0_pay5 v274 v275 v279 v283 v287 v291 v295 v299 v303
  let v309 := k0_pay6 v307
  let v311 := window (s := S32x256x128) r ![26, 0, 0] S1x256x128.size inb_S32x256x128_S1x256x128_26_0_0
  let v315 := window (s := S32x256x128) r ![27, 0, 0] S1x256x128.size inb_S32x256x128_S1x256x128_27_0_0
  let v319 := window (s := S32x256x128) r ![28, 0, 0] S1x256x128.size inb_S32x256x128_S1x256x128_28_0_0
  let v323 := window (s := S32x256x128) r ![29, 0, 0] S1x256x128.size inb_S32x256x128_S1x256x128_29_0_0
  let v327 := window (s := S32x256x128) r ![30, 0, 0] S1x256x128.size inb_S32x256x128_S1x256x128_30_0_0
  let v331 := window (s := S32x256x128) r ![31, 0, 0] S1x256x128.size inb_S32x256x128_S1x256x128_31_0_0
  let v343 : IVec S256x1 32 := Scf.fold (fun (k : Fin k0_t1_loop.trips) a => k0_pay10 v306 v309 v311 v315 v319 v323 v327 v331 k a) k0_pay9
  let v340 := k0_pay8 v306 v309 v311 v315 v319 v323 v327 v331
  (v340, v343)

/-- The scale block. -/
def scale (r : Vec F S32x256x128 .f32) : Vec F S1x256x1 .f32 := k0_pay12 (F := F) (exponent r).1 (exponent r).2

/-- The codes of one head. -/
def code0 (r : Vec F S32x256x128 .f32) : FVec F S1x256x128 .fp8e4m3 := k0_pay14 (exponent r).1 (exponent r).2 (window (s := S32x256x128) r ![0, 0, 0] S1x256x128.size inb_S32x256x128_S1x256x128_0_0_0)
def code1 (r : Vec F S32x256x128 .f32) : FVec F S1x256x128 .fp8e4m3 := k0_pay17 (k0_pay15 (exponent r).1 (exponent r).2 (window (s := S32x256x128) r ![1, 0, 0] S1x256x128.size inb_S32x256x128_S1x256x128_1_0_0)) (k0_pay16 (F := F))
def code2 (r : Vec F S32x256x128 .f32) : FVec F S1x256x128 .fp8e4m3 := k0_pay18 (k0_pay13 (F := F) (exponent r).1 (exponent r).2) (window (s := S32x256x128) r ![2, 0, 0] S1x256x128.size inb_S32x256x128_S1x256x128_2_0_0)
def code3 (r : Vec F S32x256x128 .f32) : FVec F S1x256x128 .fp8e4m3 := k0_pay19 (k0_pay13 (F := F) (exponent r).1 (exponent r).2) (window (s := S32x256x128) r ![3, 0, 0] S1x256x128.size inb_S32x256x128_S1x256x128_3_0_0)
def code4 (r : Vec F S32x256x128 .f32) : FVec F S1x256x128 .fp8e4m3 := k0_pay22 (k0_pay20 (k0_pay13 (F := F) (exponent r).1 (exponent r).2) (window (s := S32x256x128) r ![4, 0, 0] S1x256x128.size inb_S32x256x128_S1x256x128_4_0_0)) (k0_pay21 (F := F))
def code5 (r : Vec F S32x256x128 .f32) : FVec F S1x256x128 .fp8e4m3 := k0_pay23 (k0_pay13 (F := F) (exponent r).1 (exponent r).2) (window (s := S32x256x128) r ![5, 0, 0] S1x256x128.size inb_S32x256x128_S1x256x128_5_0_0)
def code6 (r : Vec F S32x256x128 .f32) : FVec F S1x256x128 .fp8e4m3 := k0_pay24 (k0_pay13 (F := F) (exponent r).1 (exponent r).2) (window (s := S32x256x128) r ![6, 0, 0] S1x256x128.size inb_S32x256x128_S1x256x128_6_0_0)
def code7 (r : Vec F S32x256x128 .f32) : FVec F S1x256x128 .fp8e4m3 := k0_pay27 (k0_pay25 (k0_pay13 (F := F) (exponent r).1 (exponent r).2) (window (s := S32x256x128) r ![7, 0, 0] S1x256x128.size inb_S32x256x128_S1x256x128_7_0_0)) (k0_pay26 (F := F))
def code8 (r : Vec F S32x256x128 .f32) : FVec F S1x256x128 .fp8e4m3 := k0_pay28 (k0_pay13 (F := F) (exponent r).1 (exponent r).2) (window (s := S32x256x128) r ![8, 0, 0] S1x256x128.size inb_S32x256x128_S1x256x128_8_0_0)
def code9 (r : Vec F S32x256x128 .f32) : FVec F S1x256x128 .fp8e4m3 := k0_pay29 (k0_pay13 (F := F) (exponent r).1 (exponent r).2) (window (s := S32x256x128) r ![9, 0, 0] S1x256x128.size inb_S32x256x128_S1x256x128_9_0_0)
def code10 (r : Vec F S32x256x128 .f32) : FVec F S1x256x128 .fp8e4m3 := k0_pay32 (k0_pay30 (k0_pay13 (F := F) (exponent r).1 (exponent r).2) (window (s := S32x256x128) r ![10, 0, 0] S1x256x128.size inb_S32x256x128_S1x256x128_10_0_0)) (k0_pay31 (F := F))
def code11 (r : Vec F S32x256x128 .f32) : FVec F S1x256x128 .fp8e4m3 := k0_pay33 (k0_pay13 (F := F) (exponent r).1 (exponent r).2) (window (s := S32x256x128) r ![11, 0, 0] S1x256x128.size inb_S32x256x128_S1x256x128_11_0_0)
def code12 (r : Vec F S32x256x128 .f32) : FVec F S1x256x128 .fp8e4m3 := k0_pay34 (k0_pay13 (F := F) (exponent r).1 (exponent r).2) (window (s := S32x256x128) r ![12, 0, 0] S1x256x128.size inb_S32x256x128_S1x256x128_12_0_0)
def code13 (r : Vec F S32x256x128 .f32) : FVec F S1x256x128 .fp8e4m3 := k0_pay37 (k0_pay35 (k0_pay13 (F := F) (exponent r).1 (exponent r).2) (window (s := S32x256x128) r ![13, 0, 0] S1x256x128.size inb_S32x256x128_S1x256x128_13_0_0)) (k0_pay36 (F := F))
def code14 (r : Vec F S32x256x128 .f32) : FVec F S1x256x128 .fp8e4m3 := k0_pay38 (k0_pay13 (F := F) (exponent r).1 (exponent r).2) (window (s := S32x256x128) r ![14, 0, 0] S1x256x128.size inb_S32x256x128_S1x256x128_14_0_0)
def code15 (r : Vec F S32x256x128 .f32) : FVec F S1x256x128 .fp8e4m3 := k0_pay39 (k0_pay13 (F := F) (exponent r).1 (exponent r).2) (window (s := S32x256x128) r ![15, 0, 0] S1x256x128.size inb_S32x256x128_S1x256x128_15_0_0)
def code16 (r : Vec F S32x256x128 .f32) : FVec F S1x256x128 .fp8e4m3 := k0_pay42 (k0_pay40 (k0_pay13 (F := F) (exponent r).1 (exponent r).2) (window (s := S32x256x128) r ![16, 0, 0] S1x256x128.size inb_S32x256x128_S1x256x128_16_0_0)) (k0_pay41 (F := F))
def code17 (r : Vec F S32x256x128 .f32) : FVec F S1x256x128 .fp8e4m3 := k0_pay43 (k0_pay13 (F := F) (exponent r).1 (exponent r).2) (window (s := S32x256x128) r ![17, 0, 0] S1x256x128.size inb_S32x256x128_S1x256x128_17_0_0)
def code18 (r : Vec F S32x256x128 .f32) : FVec F S1x256x128 .fp8e4m3 := k0_pay44 (k0_pay13 (F := F) (exponent r).1 (exponent r).2) (window (s := S32x256x128) r ![18, 0, 0] S1x256x128.size inb_S32x256x128_S1x256x128_18_0_0)
def code19 (r : Vec F S32x256x128 .f32) : FVec F S1x256x128 .fp8e4m3 := k0_pay47 (k0_pay45 (k0_pay13 (F := F) (exponent r).1 (exponent r).2) (window (s := S32x256x128) r ![19, 0, 0] S1x256x128.size inb_S32x256x128_S1x256x128_19_0_0)) (k0_pay46 (F := F))
def code20 (r : Vec F S32x256x128 .f32) : FVec F S1x256x128 .fp8e4m3 := k0_pay48 (k0_pay13 (F := F) (exponent r).1 (exponent r).2) (window (s := S32x256x128) r ![20, 0, 0] S1x256x128.size inb_S32x256x128_S1x256x128_20_0_0)
def code21 (r : Vec F S32x256x128 .f32) : FVec F S1x256x128 .fp8e4m3 := k0_pay49 (k0_pay13 (F := F) (exponent r).1 (exponent r).2) (window (s := S32x256x128) r ![21, 0, 0] S1x256x128.size inb_S32x256x128_S1x256x128_21_0_0)
def code22 (r : Vec F S32x256x128 .f32) : FVec F S1x256x128 .fp8e4m3 := k0_pay52 (k0_pay50 (k0_pay13 (F := F) (exponent r).1 (exponent r).2) (window (s := S32x256x128) r ![22, 0, 0] S1x256x128.size inb_S32x256x128_S1x256x128_22_0_0)) (k0_pay51 (F := F))
def code23 (r : Vec F S32x256x128 .f32) : FVec F S1x256x128 .fp8e4m3 := k0_pay53 (k0_pay13 (F := F) (exponent r).1 (exponent r).2) (window (s := S32x256x128) r ![23, 0, 0] S1x256x128.size inb_S32x256x128_S1x256x128_23_0_0)
def code24 (r : Vec F S32x256x128 .f32) : FVec F S1x256x128 .fp8e4m3 := k0_pay54 (k0_pay13 (F := F) (exponent r).1 (exponent r).2) (window (s := S32x256x128) r ![24, 0, 0] S1x256x128.size inb_S32x256x128_S1x256x128_24_0_0)
def code25 (r : Vec F S32x256x128 .f32) : FVec F S1x256x128 .fp8e4m3 := k0_pay57 (k0_pay55 (k0_pay13 (F := F) (exponent r).1 (exponent r).2) (window (s := S32x256x128) r ![25, 0, 0] S1x256x128.size inb_S32x256x128_S1x256x128_25_0_0)) (k0_pay56 (F := F))
def code26 (r : Vec F S32x256x128 .f32) : FVec F S1x256x128 .fp8e4m3 := k0_pay58 (k0_pay13 (F := F) (exponent r).1 (exponent r).2) (window (s := S32x256x128) r ![26, 0, 0] S1x256x128.size inb_S32x256x128_S1x256x128_26_0_0)
def code27 (r : Vec F S32x256x128 .f32) : FVec F S1x256x128 .fp8e4m3 := k0_pay59 (k0_pay13 (F := F) (exponent r).1 (exponent r).2) (window (s := S32x256x128) r ![27, 0, 0] S1x256x128.size inb_S32x256x128_S1x256x128_27_0_0)
def code28 (r : Vec F S32x256x128 .f32) : FVec F S1x256x128 .fp8e4m3 := k0_pay62 (k0_pay60 (k0_pay13 (F := F) (exponent r).1 (exponent r).2) (window (s := S32x256x128) r ![28, 0, 0] S1x256x128.size inb_S32x256x128_S1x256x128_28_0_0)) (k0_pay61 (F := F))
def code29 (r : Vec F S32x256x128 .f32) : FVec F S1x256x128 .fp8e4m3 := k0_pay63 (k0_pay13 (F := F) (exponent r).1 (exponent r).2) (window (s := S32x256x128) r ![29, 0, 0] S1x256x128.size inb_S32x256x128_S1x256x128_29_0_0)
def code30 (r : Vec F S32x256x128 .f32) : FVec F S1x256x128 .fp8e4m3 := k0_pay64 (k0_pay13 (F := F) (exponent r).1 (exponent r).2) (window (s := S32x256x128) r ![30, 0, 0] S1x256x128.size inb_S32x256x128_S1x256x128_30_0_0)
def code31 (r : Vec F S32x256x128 .f32) : FVec F S1x256x128 .fp8e4m3 := k0_pay1 (k0_pay65 (k0_pay13 (F := F) (exponent r).1 (exponent r).2) (window (s := S32x256x128) r ![31, 0, 0] S1x256x128.size inb_S32x256x128_S1x256x128_31_0_0)) (k0_pay66 (F := F))

/-- The code block over whatever the buffer held. -/
def codes0 (r : Vec F S32x256x128 .f32) (a : Vec F S1x256x4096 .fp8e4m3) : Vec F S1x256x4096 .fp8e4m3 := a
def codes1 (r : Vec F S32x256x128 .f32) (a : Vec F S1x256x4096 .fp8e4m3) : Vec F S1x256x4096 .fp8e4m3 := put (s := S1x256x4096) (codes0 r a) ![0, 0, 0] S1x256x128.size (code0 r)
def codes2 (r : Vec F S32x256x128 .f32) (a : Vec F S1x256x4096 .fp8e4m3) : Vec F S1x256x4096 .fp8e4m3 := put (s := S1x256x4096) (codes1 r a) ![0, 0, 128] S1x256x128.size (code1 r)
def codes3 (r : Vec F S32x256x128 .f32) (a : Vec F S1x256x4096 .fp8e4m3) : Vec F S1x256x4096 .fp8e4m3 := put (s := S1x256x4096) (codes2 r a) ![0, 0, 256] S1x256x128.size (code2 r)
def codes4 (r : Vec F S32x256x128 .f32) (a : Vec F S1x256x4096 .fp8e4m3) : Vec F S1x256x4096 .fp8e4m3 := put (s := S1x256x4096) (codes3 r a) ![0, 0, 384] S1x256x128.size (code3 r)
def codes5 (r : Vec F S32x256x128 .f32) (a : Vec F S1x256x4096 .fp8e4m3) : Vec F S1x256x4096 .fp8e4m3 := put (s := S1x256x4096) (codes4 r a) ![0, 0, 512] S1x256x128.size (code4 r)
def codes6 (r : Vec F S32x256x128 .f32) (a : Vec F S1x256x4096 .fp8e4m3) : Vec F S1x256x4096 .fp8e4m3 := put (s := S1x256x4096) (codes5 r a) ![0, 0, 640] S1x256x128.size (code5 r)
def codes7 (r : Vec F S32x256x128 .f32) (a : Vec F S1x256x4096 .fp8e4m3) : Vec F S1x256x4096 .fp8e4m3 := put (s := S1x256x4096) (codes6 r a) ![0, 0, 768] S1x256x128.size (code6 r)
def codes8 (r : Vec F S32x256x128 .f32) (a : Vec F S1x256x4096 .fp8e4m3) : Vec F S1x256x4096 .fp8e4m3 := put (s := S1x256x4096) (codes7 r a) ![0, 0, 896] S1x256x128.size (code7 r)
def codes9 (r : Vec F S32x256x128 .f32) (a : Vec F S1x256x4096 .fp8e4m3) : Vec F S1x256x4096 .fp8e4m3 := put (s := S1x256x4096) (codes8 r a) ![0, 0, 1024] S1x256x128.size (code8 r)
def codes10 (r : Vec F S32x256x128 .f32) (a : Vec F S1x256x4096 .fp8e4m3) : Vec F S1x256x4096 .fp8e4m3 := put (s := S1x256x4096) (codes9 r a) ![0, 0, 1152] S1x256x128.size (code9 r)
def codes11 (r : Vec F S32x256x128 .f32) (a : Vec F S1x256x4096 .fp8e4m3) : Vec F S1x256x4096 .fp8e4m3 := put (s := S1x256x4096) (codes10 r a) ![0, 0, 1280] S1x256x128.size (code10 r)
def codes12 (r : Vec F S32x256x128 .f32) (a : Vec F S1x256x4096 .fp8e4m3) : Vec F S1x256x4096 .fp8e4m3 := put (s := S1x256x4096) (codes11 r a) ![0, 0, 1408] S1x256x128.size (code11 r)
def codes13 (r : Vec F S32x256x128 .f32) (a : Vec F S1x256x4096 .fp8e4m3) : Vec F S1x256x4096 .fp8e4m3 := put (s := S1x256x4096) (codes12 r a) ![0, 0, 1536] S1x256x128.size (code12 r)
def codes14 (r : Vec F S32x256x128 .f32) (a : Vec F S1x256x4096 .fp8e4m3) : Vec F S1x256x4096 .fp8e4m3 := put (s := S1x256x4096) (codes13 r a) ![0, 0, 1664] S1x256x128.size (code13 r)
def codes15 (r : Vec F S32x256x128 .f32) (a : Vec F S1x256x4096 .fp8e4m3) : Vec F S1x256x4096 .fp8e4m3 := put (s := S1x256x4096) (codes14 r a) ![0, 0, 1792] S1x256x128.size (code14 r)
def codes16 (r : Vec F S32x256x128 .f32) (a : Vec F S1x256x4096 .fp8e4m3) : Vec F S1x256x4096 .fp8e4m3 := put (s := S1x256x4096) (codes15 r a) ![0, 0, 1920] S1x256x128.size (code15 r)
def codes17 (r : Vec F S32x256x128 .f32) (a : Vec F S1x256x4096 .fp8e4m3) : Vec F S1x256x4096 .fp8e4m3 := put (s := S1x256x4096) (codes16 r a) ![0, 0, 2048] S1x256x128.size (code16 r)
def codes18 (r : Vec F S32x256x128 .f32) (a : Vec F S1x256x4096 .fp8e4m3) : Vec F S1x256x4096 .fp8e4m3 := put (s := S1x256x4096) (codes17 r a) ![0, 0, 2176] S1x256x128.size (code17 r)
def codes19 (r : Vec F S32x256x128 .f32) (a : Vec F S1x256x4096 .fp8e4m3) : Vec F S1x256x4096 .fp8e4m3 := put (s := S1x256x4096) (codes18 r a) ![0, 0, 2304] S1x256x128.size (code18 r)
def codes20 (r : Vec F S32x256x128 .f32) (a : Vec F S1x256x4096 .fp8e4m3) : Vec F S1x256x4096 .fp8e4m3 := put (s := S1x256x4096) (codes19 r a) ![0, 0, 2432] S1x256x128.size (code19 r)
def codes21 (r : Vec F S32x256x128 .f32) (a : Vec F S1x256x4096 .fp8e4m3) : Vec F S1x256x4096 .fp8e4m3 := put (s := S1x256x4096) (codes20 r a) ![0, 0, 2560] S1x256x128.size (code20 r)
def codes22 (r : Vec F S32x256x128 .f32) (a : Vec F S1x256x4096 .fp8e4m3) : Vec F S1x256x4096 .fp8e4m3 := put (s := S1x256x4096) (codes21 r a) ![0, 0, 2688] S1x256x128.size (code21 r)
def codes23 (r : Vec F S32x256x128 .f32) (a : Vec F S1x256x4096 .fp8e4m3) : Vec F S1x256x4096 .fp8e4m3 := put (s := S1x256x4096) (codes22 r a) ![0, 0, 2816] S1x256x128.size (code22 r)
def codes24 (r : Vec F S32x256x128 .f32) (a : Vec F S1x256x4096 .fp8e4m3) : Vec F S1x256x4096 .fp8e4m3 := put (s := S1x256x4096) (codes23 r a) ![0, 0, 2944] S1x256x128.size (code23 r)
def codes25 (r : Vec F S32x256x128 .f32) (a : Vec F S1x256x4096 .fp8e4m3) : Vec F S1x256x4096 .fp8e4m3 := put (s := S1x256x4096) (codes24 r a) ![0, 0, 3072] S1x256x128.size (code24 r)
def codes26 (r : Vec F S32x256x128 .f32) (a : Vec F S1x256x4096 .fp8e4m3) : Vec F S1x256x4096 .fp8e4m3 := put (s := S1x256x4096) (codes25 r a) ![0, 0, 3200] S1x256x128.size (code25 r)
def codes27 (r : Vec F S32x256x128 .f32) (a : Vec F S1x256x4096 .fp8e4m3) : Vec F S1x256x4096 .fp8e4m3 := put (s := S1x256x4096) (codes26 r a) ![0, 0, 3328] S1x256x128.size (code26 r)
def codes28 (r : Vec F S32x256x128 .f32) (a : Vec F S1x256x4096 .fp8e4m3) : Vec F S1x256x4096 .fp8e4m3 := put (s := S1x256x4096) (codes27 r a) ![0, 0, 3456] S1x256x128.size (code27 r)
def codes29 (r : Vec F S32x256x128 .f32) (a : Vec F S1x256x4096 .fp8e4m3) : Vec F S1x256x4096 .fp8e4m3 := put (s := S1x256x4096) (codes28 r a) ![0, 0, 3584] S1x256x128.size (code28 r)
def codes30 (r : Vec F S32x256x128 .f32) (a : Vec F S1x256x4096 .fp8e4m3) : Vec F S1x256x4096 .fp8e4m3 := put (s := S1x256x4096) (codes29 r a) ![0, 0, 3712] S1x256x128.size (code29 r)
def codes31 (r : Vec F S32x256x128 .f32) (a : Vec F S1x256x4096 .fp8e4m3) : Vec F S1x256x4096 .fp8e4m3 := put (s := S1x256x4096) (codes30 r a) ![0, 0, 3840] S1x256x128.size (code30 r)
def codes32 (r : Vec F S32x256x128 .f32) (a : Vec F S1x256x4096 .fp8e4m3) : Vec F S1x256x4096 .fp8e4m3 := put (s := S1x256x4096) (codes31 r a) ![0, 0, 3968] S1x256x128.size (code31 r)

/-- Two arrays agreeing on the first lanes still agree, on 128 lanes more, after one store. -/
theorem agree_put (k : ℕ) (a a' : Vec F S1x256x4096 .fp8e4m3) (h : ∀ y : S1x256x4096.Idx, (y 2).val < k → a y = a' y) (v : FVec F S1x256x128 .fp8e4m3) :
    ∀ y : S1x256x4096.Idx, (y 2).val < k + 128 → put (s := S1x256x4096) a ![0, 0, k] S1x256x128.size v y = put (s := S1x256x4096) a' ![0, 0, k] S1x256x128.size v y := by
  intro y hy
  unfold put
  dsimp only
  split
  · rfl
  · rename_i hn
    apply h
    by_contra hc
    refine hn fun a => ?_
    have h0 : (y 0).val < 1 := (y 0).isLt
    have h1 : (y 1).val < 256 := (y 1).isLt
    fin_cases a
    · show 0 ≤ (y 0).val ∧ (y 0).val < 0 + 1
      omega
    · show 0 ≤ (y 1).val ∧ (y 1).val < 0 + 256
      omega
    · show k ≤ (y 2).val ∧ (y 2).val < k + 128
      omega

/-- The code block does not depend on what the buffer held. -/
theorem codes32_eq (r : Vec F S32x256x128 .f32) (a a' : Vec F S1x256x4096 .fp8e4m3) : codes32 r a = codes32 r a' := by
  have h0 : ∀ y : S1x256x4096.Idx, (y 2).val < 0 → codes0 r a y = codes0 r a' y := fun y h => absurd h (by omega)
  have h1 : ∀ y : S1x256x4096.Idx, (y 2).val < 128 → codes1 r a y = codes1 r a' y := agree_put 0 _ _ h0 _
  have h2 : ∀ y : S1x256x4096.Idx, (y 2).val < 256 → codes2 r a y = codes2 r a' y := agree_put 128 _ _ h1 _
  have h3 : ∀ y : S1x256x4096.Idx, (y 2).val < 384 → codes3 r a y = codes3 r a' y := agree_put 256 _ _ h2 _
  have h4 : ∀ y : S1x256x4096.Idx, (y 2).val < 512 → codes4 r a y = codes4 r a' y := agree_put 384 _ _ h3 _
  have h5 : ∀ y : S1x256x4096.Idx, (y 2).val < 640 → codes5 r a y = codes5 r a' y := agree_put 512 _ _ h4 _
  have h6 : ∀ y : S1x256x4096.Idx, (y 2).val < 768 → codes6 r a y = codes6 r a' y := agree_put 640 _ _ h5 _
  have h7 : ∀ y : S1x256x4096.Idx, (y 2).val < 896 → codes7 r a y = codes7 r a' y := agree_put 768 _ _ h6 _
  have h8 : ∀ y : S1x256x4096.Idx, (y 2).val < 1024 → codes8 r a y = codes8 r a' y := agree_put 896 _ _ h7 _
  have h9 : ∀ y : S1x256x4096.Idx, (y 2).val < 1152 → codes9 r a y = codes9 r a' y := agree_put 1024 _ _ h8 _
  have h10 : ∀ y : S1x256x4096.Idx, (y 2).val < 1280 → codes10 r a y = codes10 r a' y := agree_put 1152 _ _ h9 _
  have h11 : ∀ y : S1x256x4096.Idx, (y 2).val < 1408 → codes11 r a y = codes11 r a' y := agree_put 1280 _ _ h10 _
  have h12 : ∀ y : S1x256x4096.Idx, (y 2).val < 1536 → codes12 r a y = codes12 r a' y := agree_put 1408 _ _ h11 _
  have h13 : ∀ y : S1x256x4096.Idx, (y 2).val < 1664 → codes13 r a y = codes13 r a' y := agree_put 1536 _ _ h12 _
  have h14 : ∀ y : S1x256x4096.Idx, (y 2).val < 1792 → codes14 r a y = codes14 r a' y := agree_put 1664 _ _ h13 _
  have h15 : ∀ y : S1x256x4096.Idx, (y 2).val < 1920 → codes15 r a y = codes15 r a' y := agree_put 1792 _ _ h14 _
  have h16 : ∀ y : S1x256x4096.Idx, (y 2).val < 2048 → codes16 r a y = codes16 r a' y := agree_put 1920 _ _ h15 _
  have h17 : ∀ y : S1x256x4096.Idx, (y 2).val < 2176 → codes17 r a y = codes17 r a' y := agree_put 2048 _ _ h16 _
  have h18 : ∀ y : S1x256x4096.Idx, (y 2).val < 2304 → codes18 r a y = codes18 r a' y := agree_put 2176 _ _ h17 _
  have h19 : ∀ y : S1x256x4096.Idx, (y 2).val < 2432 → codes19 r a y = codes19 r a' y := agree_put 2304 _ _ h18 _
  have h20 : ∀ y : S1x256x4096.Idx, (y 2).val < 2560 → codes20 r a y = codes20 r a' y := agree_put 2432 _ _ h19 _
  have h21 : ∀ y : S1x256x4096.Idx, (y 2).val < 2688 → codes21 r a y = codes21 r a' y := agree_put 2560 _ _ h20 _
  have h22 : ∀ y : S1x256x4096.Idx, (y 2).val < 2816 → codes22 r a y = codes22 r a' y := agree_put 2688 _ _ h21 _
  have h23 : ∀ y : S1x256x4096.Idx, (y 2).val < 2944 → codes23 r a y = codes23 r a' y := agree_put 2816 _ _ h22 _
  have h24 : ∀ y : S1x256x4096.Idx, (y 2).val < 3072 → codes24 r a y = codes24 r a' y := agree_put 2944 _ _ h23 _
  have h25 : ∀ y : S1x256x4096.Idx, (y 2).val < 3200 → codes25 r a y = codes25 r a' y := agree_put 3072 _ _ h24 _
  have h26 : ∀ y : S1x256x4096.Idx, (y 2).val < 3328 → codes26 r a y = codes26 r a' y := agree_put 3200 _ _ h25 _
  have h27 : ∀ y : S1x256x4096.Idx, (y 2).val < 3456 → codes27 r a y = codes27 r a' y := agree_put 3328 _ _ h26 _
  have h28 : ∀ y : S1x256x4096.Idx, (y 2).val < 3584 → codes28 r a y = codes28 r a' y := agree_put 3456 _ _ h27 _
  have h29 : ∀ y : S1x256x4096.Idx, (y 2).val < 3712 → codes29 r a y = codes29 r a' y := agree_put 3584 _ _ h28 _
  have h30 : ∀ y : S1x256x4096.Idx, (y 2).val < 3840 → codes30 r a y = codes30 r a' y := agree_put 3712 _ _ h29 _
  have h31 : ∀ y : S1x256x4096.Idx, (y 2).val < 3968 → codes31 r a y = codes31 r a' y := agree_put 3840 _ _ h30 _
  have h32 : ∀ y : S1x256x4096.Idx, (y 2).val < 4096 → codes32 r a y = codes32 r a' y := agree_put 3968 _ _ h31 _
  funext y
  exact h32 y (y 2).isLt

def codes (r : Vec F S32x256x128 .f32) : Vec F S1x256x4096 .fp8e4m3 := codes32 r (constant S1x256x4096 .fp8e4m3 0x00#8)

/-- The log-sum block does not depend on what the buffer held. -/
theorem lseFrom_eq (n : BitVec 32) (b : Blocks F) (a a' : Vec F S2x1x256 .f32) : lseFrom n b a = lseFrom n b a' := by
  funext y
  unfold lseFrom put
  dsimp only
  split
  · rfl
  · rename_i h1
    split
    · rfl
    · rename_i h0
      exfalso
      have hy0 : (y 0).val < 2 := (y 0).isLt
      have hy1 : (y 1).val < 1 := (y 1).isLt
      have hy2 : (y 2).val < 256 := (y 2).isLt
      rcases Nat.lt_or_ge (y 0).val 1 with h | h
      · refine h0 fun a => ?_
        fin_cases a
        · show 0 ≤ (y 0).val ∧ (y 0).val < 0 + 1
          omega
        · show 0 ≤ (y 1).val ∧ (y 1).val < 0 + 1
          omega
        · show 0 ≤ (y 2).val ∧ (y 2).val < 0 + 256
          omega
      · refine h1 fun a => ?_
        fin_cases a
        · show 1 ≤ (y 0).val ∧ (y 0).val < 1 + 1
          omega
        · show 0 ≤ (y 1).val ∧ (y 1).val < 0 + 1
          omega
        · show 0 ≤ (y 2).val ∧ (y 2).val < 0 + 256
          omega

end Cert.FinishIdeal.Close

end
-- ==== Proof.FIRuns.lean ====
module

public import proofs.«01_k».proof.Proof.Gen.FinishIdeal.Frame
public import proofs.«01_k».proof.Proof.Gen.FinishIdeal.Loops
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The first grid point's condition. -/
abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The last key-value head's condition. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## The heads a grid point writes -/

theorem off1_0 (i : grid0.Coords) : k0_off1 i 0#32 = ![2 * (i 2).val, 0] := by
  have h : ∀ j : Fin 16, (Scalar.indexCast (Scalar.addi (Scalar.muli (BitVec.ofNat 32 j.val) 2#32) 0#32)).toNat = 2 * j.val := by decide +kernel
  unfold k0_off1; funext a; match a with
  | 0 => exact h (i 2)
  | 1 => rfl
theorem off1_1 (i : grid0.Coords) : k0_off1 i 1#32 = ![2 * (i 2).val + 1, 0] := by
  have h : ∀ j : Fin 16, (Scalar.indexCast (Scalar.addi (Scalar.muli (BitVec.ofNat 32 j.val) 2#32) 1#32)).toNat = 2 * j.val + 1 := by decide +kernel
  unfold k0_off1; funext a; match a with
  | 0 => exact h (i 2)
  | 1 => rfl
theorem off2_0 (i : grid0.Coords) : k0_off2 i 0#32 = ![2 * (i 2).val, 0, 0] := by
  have h : ∀ j : Fin 16, (Scalar.indexCast (Scalar.addi (Scalar.muli (BitVec.ofNat 32 j.val) 2#32) 0#32)).toNat = 2 * j.val := by decide +kernel
  unfold k0_off2; funext a; match a with
  | 0 => exact h (i 2)
  | 1 => rfl
  | 2 => rfl
theorem off2_1 (i : grid0.Coords) : k0_off2 i 1#32 = ![2 * (i 2).val + 1, 0, 0] := by
  have h : ∀ j : Fin 16, (Scalar.indexCast (Scalar.addi (Scalar.muli (BitVec.ofNat 32 j.val) 2#32) 1#32)).toNat = 2 * j.val + 1 := by decide +kernel
  unfold k0_off2; funext a; match a with
  | 0 => exact h (i 2)
  | 1 => rfl
  | 2 => rfl

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9 : ∀ t : Fin cfg0.N, cond0_1 (grid0.coords t) → cfg0.idle 9 (grid0.coords t) = false := by decide +kernel

/-- Each window's current staging memref at a point, and its wholeness. -/
abbrev ms0_0 (t : Fin cfg0.N) : Memref sig .tc .vmem S2x128x256 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x4096 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x128 .f32 := win0_11.stage (cfg0.slots t 11)
abbrev hs0_11 (t : Fin cfg0.N) : (ms0_11 t).IsWhole := hstage0_11 ((cfg0.slots t 11).cast nbuf0_11)
/-- The scratch operand: the rows kept between points. -/
abbrev scM0_0 : Memref sig .tc .vmem S32x256x128 .f32 := Memref.whole cc0_scratch0

/-- The region's invariant with the scratch operand as a memref owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.FinishIdeal.Gen

end
-- ==== Proof.FIBody1.lean ====
module

public import proofs.«01_k».proof.Proof.FIModel
public import proofs.«01_k».proof.Proof.FIRuns
public import proofs.«01_k».proof.Proof.Gen.FinishIdeal.Loops

@[expose] public section

set_option maxRecDepth 65536

noncomputable section

/-! One grid point of the closing call, run: the buffers it owns before and after, by the plain functions of `FIModel`. -/

namespace Cert.FinishIdeal.Close

open Cert.FinishIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

/-- The resource algebra of the runs. -/
local notation "𝕄G" => MT nD τ sig Unit (Elt F) ℕ (UR sig nD τ) ℕ

/-- The last head's quantiser: the code block and the scale block stored. -/
theorem quantise (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc1 : cond0_1 i) (r : Vec F S32x256x128 .f32) (d11 : Vec F S1x256x4096 .fp8e4m3) (d12 : Vec F S1x256x1 .f32) (K : PUnit → sProp 𝕄G) :
    (iprop(owns (c : Thread nD τ) arg11 fullShare d11 ∗ owns (c : Thread nD τ) arg12 fullShare d12 ∗ owns (c : Thread nD τ) arg15 fullShare r ∗ (iprop(owns (c : Thread nD τ) arg11 fullShare (codes r) ∗ owns (c : Thread nD τ) arg12 fullShare (scale r) ∗ owns (c : Thread nD τ) arg15 fullShare r) -∗ K ⟨⟩)) : sProp 𝕄G)
      ⊢ wp frame (wpE (defs₀ (F := F)) 𝒱 (c : Thread nD τ) bd) E (do
        if k0_h2 : k0_cond2 i = 1#1 then do
          let ⟨v238, v240⟩ : Σ' (v238 : FVec F S256x128 .f32), FVec F S256x128 .f32 ← k0_part1 i arg3 harg3 arg4 harg4 arg5 harg5 arg6 harg6 arg7 harg7 arg8 harg8 arg9 harg9 arg10 harg10 arg11 harg11 arg12 harg12 arg13 harg13 arg14 harg14 arg15 harg15
          let v274 : FVec F S256x128 .f32 ← k0_part2 i arg3 harg3 arg4 harg4 arg5 harg5 arg6 harg6 arg7 harg7 arg8 harg8 arg9 harg9 arg10 harg10 arg11 harg11 arg12 harg12 arg13 harg13 arg14 harg14 arg15 harg15 v238 v240
          let ⟨v306, v309⟩ : Σ' (v306 : FVec F S256x128 .f32), FVec F S256x128 .f32 ← k0_part3 i arg3 harg3 arg4 harg4 arg5 harg5 arg6 harg6 arg7 harg7 arg8 harg8 arg9 harg9 arg10 harg10 arg11 harg11 arg12 harg12 arg13 harg13 arg14 harg14 arg15 harg15 v274
          let ⟨v340, v343⟩ : Σ' (v340 : IVec S256x1 1), IVec S256x1 32 ← k0_part4 i arg3 harg3 arg4 harg4 arg5 harg5 arg6 harg6 arg7 harg7 arg8 harg8 arg9 harg9 arg10 harg10 arg11 harg11 arg12 harg12 arg13 harg13 arg14 harg14 arg15 harg15 k0_h2 v306 v309
          let ⟨v362, v378, v379⟩ : Σ' (v362 : FVec F S256x128 .f32) (v378 : FVec F S256x128 .f32), FVec F S256x128 .f32 ← k0_part5 i arg3 harg3 arg4 harg4 arg5 harg5 arg6 harg6 arg7 harg7 arg8 harg8 arg9 harg9 arg10 harg10 arg11 harg11 arg12 harg12 arg13 harg13 arg14 harg14 arg15 harg15 v340 v343
          let ⟨v411, v412⟩ : Σ' (v411 : FVec F S256x128 .f32), FVec F S256x128 .f32 ← k0_part6 i arg3 harg3 arg4 harg4 arg5 harg5 arg6 harg6 arg7 harg7 arg8 harg8 arg9 harg9 arg10 harg10 arg11 harg11 arg12 harg12 arg13 harg13 arg14 harg14 arg15 harg15 v362 v378 v379
          let ⟨v444, v445⟩ : Σ' (v444 : FVec F S256x128 .f32), FVec F S256x128 .f32 ← k0_part7 i arg3 harg3 arg4 harg4 arg5 harg5 arg6 harg6 arg7 harg7 arg8 harg8 arg9 harg9 arg10 harg10 arg11 harg11 arg12 harg12 arg13 harg13 arg14 harg14 arg15 harg15 v362 v411 v412
          let ⟨v477, v478⟩ : Σ' (v477 : FVec F S256x128 .f32), FVec F S256x128 .f32 ← k0_part8 i arg3 harg3 arg4 harg4 arg5 harg5 arg6 harg6 arg7 harg7 arg8 harg8 arg9 harg9 arg10 harg10 arg11 harg11 arg12 harg12 arg13 harg13 arg14 harg14 arg15 harg15 v362 v444 v445
          let ⟨v510, v511⟩ : Σ' (v510 : FVec F S256x128 .f32), FVec F S256x128 .f32 ← k0_part9 i arg3 harg3 arg4 harg4 arg5 harg5 arg6 harg6 arg7 harg7 arg8 harg8 arg9 harg9 arg10 harg10 arg11 harg11 arg12 harg12 arg13 harg13 arg14 harg14 arg15 harg15 v362 v477 v478
          let ⟨v543, v544⟩ : Σ' (v543 : FVec F S256x128 .f32), FVec F S256x128 .f32 ← k0_part10 i arg3 harg3 arg4 harg4 arg5 harg5 arg6 harg6 arg7 harg7 arg8 harg8 arg9 harg9 arg10 harg10 arg11 harg11 arg12 harg12 arg13 harg13 arg14 harg14 arg15 harg15 v362 v510 v511
          let ⟨v576, v577⟩ : Σ' (v576 : FVec F S256x128 .f32), FVec F S256x128 .f32 ← k0_part11 i arg3 harg3 arg4 harg4 arg5 harg5 arg6 harg6 arg7 harg7 arg8 harg8 arg9 harg9 arg10 harg10 arg11 harg11 arg12 harg12 arg13 harg13 arg14 harg14 arg15 harg15 v362 v543 v544
          let ⟨v609, v610⟩ : Σ' (v609 : FVec F S256x128 .f32), FVec F S256x128 .f32 ← k0_part12 i arg3 harg3 arg4 harg4 arg5 harg5 arg6 harg6 arg7 harg7 arg8 harg8 arg9 harg9 arg10 harg10 arg11 harg11 arg12 harg12 arg13 harg13 arg14 harg14 arg15 harg15 v362 v576 v577
          let ⟨v642, v643⟩ : Σ' (v642 : FVec F S256x128 .f32), FVec F S256x128 .f32 ← k0_part13 i arg3 harg3 arg4 harg4 arg5 harg5 arg6 harg6 arg7 harg7 arg8 harg8 arg9 harg9 arg10 harg10 arg11 harg11 arg12 harg12 arg13 harg13 arg14 harg14 arg15 harg15 v362 v609 v610
          let ⟨v675, v676⟩ : Σ' (v675 : FVec F S256x128 .f32), FVec F S256x128 .f32 ← k0_part14 i arg3 harg3 arg4 harg4 arg5 harg5 arg6 harg6 arg7 harg7 arg8 harg8 arg9 harg9 arg10 harg10 arg11 harg11 arg12 harg12 arg13 harg13 arg14 harg14 arg15 harg15 v362 v642 v643
          let ⟨v708, v709⟩ : Σ' (v708 : FVec F S256x128 .f32), FVec F S256x128 .f32 ← k0_part15 i arg3 harg3 arg4 harg4 arg5 harg5 arg6 harg6 arg7 harg7 arg8 harg8 arg9 harg9 arg10 harg10 arg11 harg11 arg12 harg12 arg13 harg13 arg14 harg14 arg15 harg15 v362 v675 v676
          let v712 : Vec F S1x256x128 .fp8e4m3 ← Prog.lift (.load arg11 (Rect.unit (s := S1x256x4096) ![0, 0, 3968] S1x256x128.size inb_S1x256x4096_S1x256x128_0_0_3968).toLoadRect (View.loadsAt_vmem h_S1x256x128))

          Prog.lift (.store arg11 (Rect.unit (s := S1x256x4096) ![0, 0, 3968] S1x256x128.size inb_S1x256x4096_S1x256x128_0_0_3968) (k0_pay1 v708 v709) Finset.univ (View.stores_vmem h_S1x256x128 (harg11.storeExact_slice rfl _ packedfp8e4m3_S1x256x4096_S1x256x128_0_0_3968) (fun _ => rfl)) (.inl rfl))
          pure ⟨⟩
        else do
          pure ⟨⟩
        pure ⟨⟩) K := by
  have eq11 : codes r = codes32 r d11 := codes32_eq _ _ _
  rw [eq11]
  unfold owns
  iintro ⟨⟨%f11, %h11, H11⟩, ⟨%f12, %h12, H12⟩, ⟨%f15, %h15, H15⟩, Hk⟩
  subst h11
  subst h12
  subst h15
  sl_exec (disch := sl_exact hc1)
  sl_step
  iapply Hk
  isplitl [H11]
  · iexists _; isplitr
    swap; · iexact H11
    ipureintro
    refine (View.read_writes_cons_put _ _ _ _ _ rfl).trans ?_
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rw [View.read_writes_cons_put _ _ _ _ _ rfl]
    rfl
  isplitl [H12]
  · iexists _; isplitr
    swap; · iexact H12
    ipureintro; exact View.read_writes_full _ _ _ _ _
  iexists _; isplitr
  swap; · iexact H15
  ipureintro; rfl

end Cert.FinishIdeal.Close

end
-- ==== Proof.FIBody2.lean ====
module

public import proofs.«01_k».proof.Proof.FIBody1
public import proofs.«01_k».proof.Proof.FIRuns
public import proofs.«01_k».proof.Proof.Gen.FinishIdeal.Loops

@[expose] public section

set_option maxRecDepth 65536

noncomputable section

/-! One grid point of the closing call, run: the buffers it owns before and after, by the plain functions of `FIModel`. -/

namespace Cert.FinishIdeal.Close

open Cert.FinishIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

/-- The resource algebra of the runs. -/
local notation "𝕄G" => MT nD τ sig Unit (Elt F) ℕ (UR sig nD τ) ℕ

set_option maxHeartbeats 2000000 in
/-- The first grid point: the largest magnitudes start at zero. -/
theorem bodyA (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc0 : cond0_0 i) (hc1 : ¬cond0_1 i) (b : Blocks F) (d13 : Vec F S2x1x256 .f32) (d14 : Vec F S32x128 .f32) (d15 : Vec F S32x256x128 .f32) (K : PUnit → sProp 𝕄G) :
    (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare d13 ∗ owns (c : Thread nD τ) arg14 fullShare d14 ∗ owns (c : Thread nD τ) arg15 fullShare d15 ∗ (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare (lses (BitVec.ofNat 32 (i 1).val) b) ∗ owns (c : Thread nD τ) arg14 fullShare (amaxStep i b k0_pay67) ∗ owns (c : Thread nD τ) arg15 fullShare (rowsStep i b d15)) -∗ K ⟨⟩)) : sProp 𝕄G)
      ⊢ wp frame (wpE (defs₀ (F := F)) 𝒱 (c : Thread nD τ) bd) E (cc0_finish (F := F) i arg3 harg3 arg4 harg4 arg5 harg5 arg6 harg6 arg7 harg7 arg8 harg8 arg9 harg9 arg10 harg10 arg11 harg11 arg12 harg12 arg13 harg13 arg14 harg14 arg15 harg15) K := by
  simp only [cc0_finish_eq_skeleton]; unfold cc0_finish_skel
  obtain ⟨x0, x1, x2, x3, x4, x5, x6, x7⟩ := b
  have eq13 : ∀ n b, lses (F := F) n b = lseFrom n b d13 := fun n b => lseFrom_eq _ _ _ _
  rw [eq13]
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f13, %h13, H13⟩, ⟨%f14, %h14, H14⟩, ⟨%f15, %h15, H15⟩, Hk⟩
  subst h3
  subst h4
  subst h5
  subst h6
  subst h7
  subst h8
  subst h9
  subst h10
  subst h13
  subst h14
  subst h15
  sl_exec (disch := first | sl_exact hc0 | sl_exact hc1)
  sl_step
  iapply Hk
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H13]
  · iexists _; isplitr
    swap; · iexact H13
    ipureintro
    refine (View.read_writes_cons_put _ _ _ _ _ rfl).trans ?_
    rw [View.read_writes_cons_put _ _ _ _ _ rfl]
    rfl
  isplitl [H14]
  · iexists _; isplitr
    swap; · iexact H14
    ipureintro
    refine (View.read_writes_cons_put _ _ _ _ _ rfl).trans ?_
    refine (congrArg (fun w => put w _ _ _) (View.read_writes_cons_put _ _ _ _ _ rfl)).trans ?_
    refine (congrArg (fun w => put (put w _ _ _) _ _ _) (View.read_writes_full _ _ _ _ _)).trans ?_
    have e118 : bodyA.sl.v118 (F := F) c i arg14 = window (s := S32x128) (k0_pay67 : Vec F S32x128 .f32) (k0_off1 i 0#32) S1x128.size (k0_off1_inb i 0) :=
      (View.readAt_unit _ _ _ rfl _).trans (congrArg (fun w => window (s := S32x128) w (k0_off1 i 0#32) S1x128.size (k0_off1_inb i 0)) (View.read_writes_full _ _ _ _ _))
    have e193 : bodyA.sl.v193 c i arg3 arg4 arg5 arg6 arg7 arg8 arg9 arg10 arg14 f3 f4 f5 f6 f7 f8 f9 f10 = window (s := S32x128) (k0_pay67 : Vec F S32x128 .f32) (k0_off1 i 1#32) S1x128.size (k0_off1_inb i 1) :=
      (View.readAt_unit _ _ _ rfl _).trans ((congrArg (fun w => window (s := S32x128) w (k0_off1 i 1#32) S1x128.size (k0_off1_inb i 1))
        ((View.read_writes_cons_put _ _ _ _ _ rfl).trans (congrArg (fun w => put w _ _ _) (View.read_writes_full _ _ _ _ _)))).trans
        (VecWindow.window_put_of_disjoint _ _ _ _ _ _ _ 0 (.inr (by
          have e0 := congrFun (off1_0 i) 0; have e1 := congrFun (off1_1 i) 0
          have e2 : S1x128.size 0 = 1 := rfl
          have e3 : (![2 * (i 2).val, 0] : Fin 2 → ℕ) 0 = 2 * (i 2).val := rfl
          have e4 : (![2 * (i 2).val + 1, 0] : Fin 2 → ℕ) 0 = 2 * (i 2).val + 1 := rfl
          omega))))
    unfold bodyA.sl.v197 bodyA.sl.v122 bodyA.sl.v194 bodyA.sl.v119
    rw [e118, e193]
    rfl
  iexists _; isplitr
  swap; · iexact H15
  ipureintro
  refine (View.read_writes_cons_put _ _ _ _ _ rfl).trans ?_
  rw [View.read_writes_cons_put _ _ _ _ _ rfl]
  rfl

set_option maxHeartbeats 2000000 in
/-- A grid point in the middle. -/
theorem bodyB (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc0 : ¬cond0_0 i) (hc1 : ¬cond0_1 i) (b : Blocks F) (d13 : Vec F S2x1x256 .f32) (d14 : Vec F S32x128 .f32) (d15 : Vec F S32x256x128 .f32) (K : PUnit → sProp 𝕄G) :
    (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare d13 ∗ owns (c : Thread nD τ) arg14 fullShare d14 ∗ owns (c : Thread nD τ) arg15 fullShare d15 ∗ (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg13 fullShare (lses (BitVec.ofNat 32 (i 1).val) b) ∗ owns (c : Thread nD τ) arg14 fullShare (amaxStep i b d14) ∗ owns (c : Thread nD τ) arg15 fullShare (rowsStep i b d15)) -∗ K ⟨⟩)) : sProp 𝕄G)
      ⊢ wp frame (wpE (defs₀ (F := F)) 𝒱 (c : Thread nD τ) bd) E (cc0_finish (F := F) i arg3 harg3 arg4 harg4 arg5 harg5 arg6 harg6 arg7 harg7 arg8 harg8 arg9 harg9 arg10 harg10 arg11 harg11 arg12 harg12 arg13 harg13 arg14 harg14 arg15 harg15) K := by
  simp only [cc0_finish_eq_skeleton]; unfold cc0_finish_skel
  obtain ⟨x0, x1, x2, x3, x4, x5, x6, x7⟩ := b
  have eq13 : ∀ n b, lses (F := F) n b = lseFrom n b d13 := fun n b => lseFrom_eq _ _ _ _
  rw [eq13]
  unfold owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f13, %h13, H13⟩, ⟨%f14, %h14, H14⟩, ⟨%f15, %h15, H15⟩, Hk⟩
  subst h3
  subst h4
  subst h5
  subst h6
  subst h7
  subst h8
  subst h9
  subst h10
  subst h13
  subst h14
  subst h15
  sl_exec (disch := first | sl_exact hc0 | sl_exact hc1)
  sl_step
  iapply Hk
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H13]
  · iexists _; isplitr
    swap; · iexact H13
    ipureintro
    refine (View.read_writes_cons_put _ _ _ _ _ rfl).trans ?_
    rw [View.read_writes_cons_put _ _ _ _ _ rfl]
    rfl
  isplitl [H14]
  · iexists _; isplitr
    swap; · iexact H14
    ipureintro
    refine (View.read_writes_cons_put _ _ _ _ _ rfl).trans ?_
    rw [View.read_writes_cons_put _ _ _ _ _ rfl]
    rfl
  iexists _; isplitr
  swap; · iexact H15
  ipureintro
  refine (View.read_writes_cons_put _ _ _ _ _ rfl).trans ?_
  rw [View.read_writes_cons_put _ _ _ _ _ rfl]
  rfl

end Cert.FinishIdeal.Close

end
-- ==== Proof.FIBody3.lean ====
module

public import proofs.«01_k».proof.Proof.FIBody1
public import proofs.«01_k».proof.Proof.FIRuns
public import proofs.«01_k».proof.Proof.Gen.FinishIdeal.Loops

@[expose] public section

set_option maxRecDepth 65536

noncomputable section

/-! One grid point of the closing call, run: the buffers it owns before and after, by the plain functions of `FIModel`. -/

namespace Cert.FinishIdeal.Close

open Cert.FinishIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

/-- The resource algebra of the runs. -/
local notation "𝕄G" => MT nD τ sig Unit (Elt F) ℕ (UR sig nD τ) ℕ

set_option maxHeartbeats 2000000 in
/-- A grid point of the last key-value head. -/
theorem bodyC (𝒱 : Variants) (c : Dev nD) (bd : Option 𝒱.V) (E : Set ℕ) (i : grid0.Coords) (arg3 : Memref sig .tc .vmem S2x128x256 .fp8e4m3) (harg3 : arg3.IsWhole) (arg4 : Memref sig .tc .vmem S2x1x256 .f32) (harg4 : arg4.IsWhole) (arg5 : Memref sig .tc .vmem S1x1x1024x128 .fp8e4m3) (harg5 : arg5.IsWhole) (arg6 : Memref sig .tc .vmem S1x1x128x1024 .fp8e4m3) (harg6 : arg6.IsWhole) (arg7 : Memref sig .tc .vmem S1x1x1x1024 .f32) (harg7 : arg7.IsWhole) (arg8 : Memref sig .tc .vmem S1x1x1x1024 .f32) (harg8 : arg8.IsWhole) (arg9 : Memref sig .tc .vmem S2x128x256 .f32) (harg9 : arg9.IsWhole) (arg10 : Memref sig .tc .vmem S2x1x256 .f32) (harg10 : arg10.IsWhole) (arg11 : Memref sig .tc .vmem S1x256x4096 .fp8e4m3) (harg11 : arg11.IsWhole) (arg12 : Memref sig .tc .vmem S1x256x1 .f32) (harg12 : arg12.IsWhole) (arg13 : Memref sig .tc .vmem S2x1x256 .f32) (harg13 : arg13.IsWhole) (arg14 : Memref sig .tc .vmem S32x128 .f32) (harg14 : arg14.IsWhole) (arg15 : Memref sig .tc .vmem S32x256x128 .f32) (harg15 : arg15.IsWhole) (hc0 : ¬cond0_0 i) (hc1 : True ∧ cond0_1 i) (b : Blocks F) (d11 : Vec F S1x256x4096 .fp8e4m3) (d12 : Vec F S1x256x1 .f32) (d13 : Vec F S2x1x256 .f32) (d14 : Vec F S32x128 .f32) (d15 : Vec F S32x256x128 .f32) (K : PUnit → sProp 𝕄G) :
    (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ (iprop(owns (c : Thread nD τ) arg3 fullShare b.q ∗ owns (c : Thread nD τ) arg4 fullShare b.qs ∗ owns (c : Thread nD τ) arg5 fullShare b.k ∗ owns (c : Thread nD τ) arg6 fullShare b.v ∗ owns (c : Thread nD τ) arg7 fullShare b.ks ∗ owns (c : Thread nD τ) arg8 fullShare b.vs ∗ owns (c : Thread nD τ) arg9 fullShare b.o ∗ owns (c : Thread nD τ) arg10 fullShare b.lse ∗ owns (c : Thread nD τ) arg11 fullShare (codes (rowsStep i b d15)) ∗ owns (c : Thread nD τ) arg12 fullShare (scale (rowsStep i b d15)) ∗ owns (c : Thread nD τ) arg13 fullShare (lses (BitVec.ofNat 32 (i 1).val) b) ∗ owns (c : Thread nD τ) arg14 fullShare (amaxStep i b d14) ∗ owns (c : Thread nD τ) arg15 fullShare (rowsStep i b d15)) -∗ K ⟨⟩)) : sProp 𝕄G)
      ⊢ wp frame (wpE (defs₀ (F := F)) 𝒱 (c : Thread nD τ) bd) E (cc0_finish (F := F) i arg3 harg3 arg4 harg4 arg5 harg5 arg6 harg6 arg7 harg7 arg8 harg8 arg9 harg9 arg10 harg10 arg11 harg11 arg12 harg12 arg13 harg13 arg14 harg14 arg15 harg15) K := by
  simp only [cc0_finish_eq_skeleton]; unfold cc0_finish_skel
  obtain ⟨x0, x1, x2, x3, x4, x5, x6, x7⟩ := b
  have eq13 : ∀ n b, lses (F := F) n b = lseFrom n b d13 := fun n b => lseFrom_eq _ _ _ _
  rw [eq13]
  have e3 : (owns (c : Thread nD τ) arg3 fullShare x0 : sProp 𝕄G) = iprop(∃ f, ⌜arg3.view.read (Elt F) f = x0⌝ ∗ (arg3.view.loc (c : Thread nD τ) ↦[arg3.view.set]{fullShare} f)) := rfl
  have e4 : (owns (c : Thread nD τ) arg4 fullShare x1 : sProp 𝕄G) = iprop(∃ f, ⌜arg4.view.read (Elt F) f = x1⌝ ∗ (arg4.view.loc (c : Thread nD τ) ↦[arg4.view.set]{fullShare} f)) := rfl
  have e5 : (owns (c : Thread nD τ) arg5 fullShare x2 : sProp 𝕄G) = iprop(∃ f, ⌜arg5.view.read (Elt F) f = x2⌝ ∗ (arg5.view.loc (c : Thread nD τ) ↦[arg5.view.set]{fullShare} f)) := rfl
  have e6 : (owns (c : Thread nD τ) arg6 fullShare x3 : sProp 𝕄G) = iprop(∃ f, ⌜arg6.view.read (Elt F) f = x3⌝ ∗ (arg6.view.loc (c : Thread nD τ) ↦[arg6.view.set]{fullShare} f)) := rfl
  have e7 : (owns (c : Thread nD τ) arg7 fullShare x4 : sProp 𝕄G) = iprop(∃ f, ⌜arg7.view.read (Elt F) f = x4⌝ ∗ (arg7.view.loc (c : Thread nD τ) ↦[arg7.view.set]{fullShare} f)) := rfl
  have e8 : (owns (c : Thread nD τ) arg8 fullShare x5 : sProp 𝕄G) = iprop(∃ f, ⌜arg8.view.read (Elt F) f = x5⌝ ∗ (arg8.view.loc (c : Thread nD τ) ↦[arg8.view.set]{fullShare} f)) := rfl
  have e9 : (owns (c : Thread nD τ) arg9 fullShare x6 : sProp 𝕄G) = iprop(∃ f, ⌜arg9.view.read (Elt F) f = x6⌝ ∗ (arg9.view.loc (c : Thread nD τ) ↦[arg9.view.set]{fullShare} f)) := rfl
  have e10 : (owns (c : Thread nD τ) arg10 fullShare x7 : sProp 𝕄G) = iprop(∃ f, ⌜arg10.view.read (Elt F) f = x7⌝ ∗ (arg10.view.loc (c : Thread nD τ) ↦[arg10.view.set]{fullShare} f)) := rfl
  have e13 : (owns (c : Thread nD τ) arg13 fullShare d13 : sProp 𝕄G) = iprop(∃ f, ⌜arg13.view.read (Elt F) f = d13⌝ ∗ (arg13.view.loc (c : Thread nD τ) ↦[arg13.view.set]{fullShare} f)) := rfl
  have e14 : (owns (c : Thread nD τ) arg14 fullShare d14 : sProp 𝕄G) = iprop(∃ f, ⌜arg14.view.read (Elt F) f = d14⌝ ∗ (arg14.view.loc (c : Thread nD τ) ↦[arg14.view.set]{fullShare} f)) := rfl
  have e15 : (owns (c : Thread nD τ) arg15 fullShare d15 : sProp 𝕄G) = iprop(∃ f, ⌜arg15.view.read (Elt F) f = d15⌝ ∗ (arg15.view.loc (c : Thread nD τ) ↦[arg15.view.set]{fullShare} f)) := rfl
  rw [e3, e4, e5, e6, e7, e8, e9, e10, e13, e14, e15]
  clear e3 e4 e5 e6 e7 e8 e9 e10 e13 e14 e15
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, H11, H12, ⟨%f13, %h13, H13⟩, ⟨%f14, %h14, H14⟩, ⟨%f15, %h15, H15⟩, Hk⟩
  subst h3
  subst h4
  subst h5
  subst h6
  subst h7
  subst h8
  subst h9
  subst h10
  subst h13
  subst h14
  subst h15
  sl_exec (disch := first | sl_exact hc0)
  iapply (quantise 𝒱 c bd E i arg3 harg3 arg4 harg4 arg5 harg5 arg6 harg6 arg7 harg7 arg8 harg8 arg9 harg9 arg10 harg10 arg11 harg11 arg12 harg12 arg13 harg13 arg14 harg14 arg15 harg15 hc1.2 (rowsStep i ⟨arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10⟩ (arg15.view.read (Elt F) f15)) d11 d12) $$ [-]
  isplitl [H11]; · iexact H11
  isplitl [H12]; · iexact H12
  isplitl [H15]
  · unfold owns
    iexists _; isplitr
    swap; · iexact H15
    ipureintro
    refine (View.read_writes_cons_put _ _ _ _ _ rfl).trans ?_
    rw [View.read_writes_cons_put _ _ _ _ _ rfl]
    rfl
  iintro ⟨H11, H12, H15⟩
  iapply Hk
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; rfl
  isplitl [H6]
  · iexists _; isplitr
    swap; · iexact H6
    ipureintro; rfl
  isplitl [H7]
  · iexists _; isplitr
    swap; · iexact H7
    ipureintro; rfl
  isplitl [H8]
  · iexists _; isplitr
    swap; · iexact H8
    ipureintro; rfl
  isplitl [H9]
  · iexists _; isplitr
    swap; · iexact H9
    ipureintro; rfl
  isplitl [H10]
  · iexists _; isplitr
    swap; · iexact H10
    ipureintro; rfl
  isplitl [H11]
  · iexact H11
  isplitl [H12]
  · iexact H12
  isplitl [H13]
  · unfold owns
    iexists _; isplitr
    swap; · iexact H13
    ipureintro
    refine (View.read_writes_cons_put _ _ _ _ _ rfl).trans ?_
    rw [View.read_writes_cons_put _ _ _ _ _ rfl]
    rfl
  isplitl [H14]
  · unfold owns
    iexists _; isplitr
    swap; · iexact H14
    ipureintro
    refine (View.read_writes_cons_put _ _ _ _ _ rfl).trans ?_
    rw [View.read_writes_cons_put _ _ _ _ _ rfl]
    rfl
  iexact H15

end Cert.FinishIdeal.Close

end
-- ==== Proof.FIFrame.lean ====
module

public import proofs.«01_k».proof.Proof.FIBody2
public import proofs.«01_k».proof.Proof.FIBody3
public import Idealize.ShloMosaic.Lib.Claim

@[expose] public section

set_option maxRecDepth 16384

noncomputable section

/-! The pipeline's run: what every staging buffer and every carried scratch buffer holds after each grid point, the
    body's triple at a point, and the launch. -/

namespace Cert.FinishIdeal.Close

open Cert.FinishIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks of grid point `t`. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- The running largest magnitudes after grid point `n`. -/
def amaxAt (c : Dev nD) : (n : ℕ) → n < cfg0.N → Vec F S32x128 .f32
  | 0, hn => amaxStep (grid0.coords ⟨0, hn⟩) (blocksAt m c ⟨0, hn⟩) k0_pay67
  | n + 1, hn => amaxStep (grid0.coords ⟨n + 1, hn⟩) (blocksAt m c ⟨n + 1, hn⟩) (amaxAt c n (Nat.lt_of_succ_lt hn))

theorem amaxAt_first (c : Dev nD) (t : Fin cfg0.N) (h0 : t.val = 0) :
    amaxAt m c t.val t.isLt = amaxStep (grid0.coords t) (blocksAt m c t) k0_pay67 := by
  obtain ⟨n, hn⟩ := t
  cases n with
  | zero => rfl
  | succ n => exact absurd h0 (Nat.succ_ne_zero n)

theorem amaxAt_next (c : Dev nD) (t : Fin cfg0.N) (h0 : ¬t.val = 0) :
    amaxAt m c t.val t.isLt = amaxStep (grid0.coords t) (blocksAt m c t) (amaxAt m c (t.val - 1) (Nat.lt_of_le_of_lt (Nat.sub_le _ _) t.isLt)) := by
  obtain ⟨n, hn⟩ := t
  cases n with
  | zero => exact absurd rfl h0
  | succ n => rfl

/-- The grid point of key-value head `j` among the `q`-th sixteen points. -/
def point (q j : ℕ) : Fin cfg0.N := ⟨min (16 * q + j) 127, by rw [show cfg0.N = 128 from N_0]; omega⟩

theorem point_self (t : Fin cfg0.N) : point (t.val / 16) (t.val % 16) = t := by
  have hN : t.val < 128 := lt_of_lt_of_eq t.isLt (show cfg0.N = 128 from N_0)
  refine Fin.ext ?_
  show min (16 * (t.val / 16) + t.val % 16) 127 = t.val
  omega

/-- A row's place among its head's. -/
def rowIdx (y : S32x256x128.Idx) : S1x256x128.Idx := fun a => match a with
  | 0 => (0 : Fin 1)
  | 1 => y 1
  | 2 => y 2

/-- The rows of all the heads, for the `q`-th block of rows: head `y 0` is computed at key-value head `y 0 / 2`. -/
def fullRows (c : Dev nD) (q : ℕ) : Vec F S32x256x128 .f32 := fun y =>
  let t := point q ((y 0).val / 2)
  if (y 0).val % 2 = 0 then row0 (BitVec.ofNat 32 (grid0.coords t 1).val) (blocksAt m c t) (rowIdx y)
  else row1 (BitVec.ofNat 32 (grid0.coords t 1).val) (blocksAt m c t) (rowIdx y)

/-- What the rows' buffer holds after point `n`: the heads up to that point's, whatever it held before. -/
def kept (c : Dev nD) (n : ℕ) (d : Vec F S32x256x128 .f32) : Prop :=
  ∀ y : S32x256x128.Idx, (y 0).val < 2 * (n % 16 + 1) → d y = fullRows m c (n / 16) y

theorem coords_2 : ∀ t : Fin cfg0.N, (grid0.coords t 2).val = t.val % 16 :=
  (by decide +kernel : ∀ t : Fin grid0.N, (grid0.coords t 2).val = t.val % 16)

/-- A point adds its two heads' rows. -/
theorem kept_step (c : Dev nD) (t : Fin cfg0.N) (d : Vec F S32x256x128 .f32) (h : t.val % 16 = 0 ∨ kept m c (t.val - 1) d) :
    kept m c t.val (rowsStep (grid0.coords t) (blocksAt m c t) d) := by
  intro y hy
  have hN : t.val < 128 := lt_of_lt_of_eq t.isLt (show cfg0.N = 128 from N_0)
  have k2 := coords_2 t
  have y1 : (y 1).val < 256 := (y 1).isLt
  have y2 : (y 2).val < 128 := (y 2).isLt
  unfold rowsStep
  rw [off2_0, off2_1, k2]
  by_cases e1 : (y 0).val = 2 * (t.val % 16) + 1
  · have hin : ∀ a, (![2 * (t.val % 16) + 1, 0, 0] : Fin 3 → ℕ) a ≤ (y a).val ∧ (y a).val < (![2 * (t.val % 16) + 1, 0, 0] : Fin 3 → ℕ) a + S1x256x128.size a := by
      intro a
      match a with
      | 0 => exact ⟨le_of_eq e1.symm, by show (y 0).val < 2 * (t.val % 16) + 1 + 1; omega⟩
      | 1 => exact ⟨Nat.zero_le _, by show (y 1).val < 0 + 256; omega⟩
      | 2 => exact ⟨Nat.zero_le _, by show (y 2).val < 0 + 128; omega⟩
    refine (dif_pos hin).trans ?_
    unfold fullRows
    rw [show (y 0).val / 2 = t.val % 16 by omega, point_self]
    dsimp only
    rw [if_neg (show ¬(y 0).val % 2 = 0 by omega)]
    refine congrArg (row1 (BitVec.ofNat 32 (grid0.coords t 1).val) (blocksAt m c t)) (funext fun a => Fin.ext ?_)
    match a with
    | 0 => show (y 0).val - (2 * (t.val % 16) + 1) = 0; omega
    | 1 => show (y 1).val - 0 = (y 1).val; omega
    | 2 => show (y 2).val - 0 = (y 2).val; omega
  · have hout : ¬∀ a, (![2 * (t.val % 16) + 1, 0, 0] : Fin 3 → ℕ) a ≤ (y a).val ∧ (y a).val < (![2 * (t.val % 16) + 1, 0, 0] : Fin 3 → ℕ) a + S1x256x128.size a := by
      intro hh
      have h0 : 2 * (t.val % 16) + 1 ≤ (y 0).val ∧ (y 0).val < 2 * (t.val % 16) + 1 + 1 := hh 0
      omega
    refine (dif_neg hout).trans ?_
    by_cases e0 : (y 0).val = 2 * (t.val % 16)
    · have hin : ∀ a, (![2 * (t.val % 16), 0, 0] : Fin 3 → ℕ) a ≤ (y a).val ∧ (y a).val < (![2 * (t.val % 16), 0, 0] : Fin 3 → ℕ) a + S1x256x128.size a := by
        intro a
        match a with
        | 0 => exact ⟨le_of_eq e0.symm, by show (y 0).val < 2 * (t.val % 16) + 1; omega⟩
        | 1 => exact ⟨Nat.zero_le _, by show (y 1).val < 0 + 256; omega⟩
        | 2 => exact ⟨Nat.zero_le _, by show (y 2).val < 0 + 128; omega⟩
      refine (dif_pos hin).trans ?_
      unfold fullRows
      rw [show (y 0).val / 2 = t.val % 16 by omega, point_self]
      dsimp only
      rw [if_pos (show (y 0).val % 2 = 0 by omega)]
      refine congrArg (row0 (BitVec.ofNat 32 (grid0.coords t 1).val) (blocksAt m c t)) (funext fun a => Fin.ext ?_)
      match a with
      | 0 => show (y 0).val - (2 * (t.val % 16)) = 0; omega
      | 1 => show (y 1).val - 0 = (y 1).val; omega
      | 2 => show (y 2).val - 0 = (y 2).val; omega
    · have hout2 : ¬∀ a, (![2 * (t.val % 16), 0, 0] : Fin 3 → ℕ) a ≤ (y a).val ∧ (y a).val < (![2 * (t.val % 16), 0, 0] : Fin 3 → ℕ) a + S1x256x128.size a := by
        intro hh
        have h0 : 2 * (t.val % 16) ≤ (y 0).val ∧ (y 0).val < 2 * (t.val % 16) + 1 := hh 0
        omega
      refine (dif_neg hout2).trans ?_
      rcases h with h | h
      · omega
      · by_cases hz : t.val % 16 = 0
        · omega
        · have := h y (by omega)
          rw [this, show (t.val - 1) / 16 = t.val / 16 by omega]

/-- After the last key-value head all rows are there. -/
theorem kept_full (c : Dev nD) (n : ℕ) (hn : n % 16 = 15) (d : Vec F S32x256x128 .f32) (h : kept m c n d) : d = fullRows m c (n / 16) := by
  funext y
  have y0 : (y 0).val < 32 := (y 0).isLt
  exact h y (by omega)

/-- The region's invariant before position `n`: the rows' buffer at the heads so far. -/
def PhiS (c : Dev nD) : (n : ℕ) → n ≤ cfg0.N → sProp 𝕄
  | 0, _ => Pipeline.ΦA spec0 c
  | n + 1, _ => iprop((∃ d, ⌜kept m c n d⌝ ∗ owns (c : Thread nD τ) scM0_0 fullShare d) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((∃ d, ⌜kept m c n d⌝ ∗ owns (c : Thread nD τ) scM0_0 fullShare d) ∗ (∃ r, prngReg c r)) := rfl

theorem PhiS_pos (c : Dev nD) (n : ℕ) (h : n ≤ cfg0.N) (hz : n ≠ 0) :
    PhiS m c n h = iprop((∃ d, ⌜kept m c (n - 1) d⌝ ∗ owns (c : Thread nD τ) scM0_0 fullShare d) ∗ (∃ r, prngReg c r)) := by
  cases n with
  | zero => exact absurd rfl hz
  | succ n => rfl

/-! ## The pipeline's proof data -/

/-- The proof data: each input's buffer at its block, the log-sums at the point's, the largest magnitudes at the running ones, the
    codes and scales of the block of rows at those of all its heads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => codes (fullRows m c (t.val / 16))
    | ⟨9, _⟩ => scale (fullRows m c (t.val / 16))
    | ⟨10, _⟩ => lses (BitVec.ofNat 32 (grid0.coords t 1).val) (blocksAt m c t)
    | ⟨11, _⟩ => amaxAt m c t.val t.isLt
  Φ t := PhiS m c t.val (Nat.le_of_lt_succ t.isLt)
  q _ := fullShare
  owed _ := 0

/-- The proof data's arrays are those the region is entered with. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = codes (fullRows m c (t.val / 16)) := by dsimp only [dats]
theorem after0_9 (c : Dev nD) (t : Fin cfg0.N) : (dats m 0 c).after 9 t = scale (fullRows m c (t.val / 16)) := by dsimp only [dats]
theorem after0_10 (c : Dev nD) (t : Fin cfg0.N) : (dats m 0 c).after 10 t = lses (BitVec.ofNat 32 (grid0.coords t 1).val) (blocksAt m c t) := by dsimp only [dats]
theorem after0_11 (c : Dev nD) (t : Fin cfg0.N) : (dats m 0 c).after 11 t = amaxAt m c t.val t.isLt := by dsimp only [dats]

/-- Each input's staging buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- The largest magnitudes are kept from point to point. -/
theorem before0_11 (c : Dev nD) (t : Fin cfg0.N) (h0 : ¬t.val = 0) (d) :
    (dats m 0 c).before 11 t d = amaxAt m c (t.val - 1) (Nat.lt_of_le_of_lt (Nat.sub_le _ _) t.isLt) := by
  have hN : t.val < 128 := lt_of_lt_of_eq t.isLt (show cfg0.N = 128 from N_0)
  rw [Dat.before_out_kept _ 11 rfl t (by omega) (Bool.eq_false_iff.mpr fun h => by have := (flush0_11 _).mp h; dsimp only at this; omega)
    (fun _ => rfl) (fun _ _ => rfl)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 2000000 in
/-- The body's triple at a point, case A. -/
theorem sound_body_A (c : Dev nD) (t : Fin cfg0.N) (h0 : t.val = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [amaxAt_first m c t h0]
  rw [PhiS_castSucc m c t, PhiS_zero m c _ _ h0, PhiA0_eq]
  iintro ⟨⟨⟨%ds0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hk' := kept_step m c t ds0 (.inl (by omega))
  iapply (bodyA Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (blocksAt m c t) ((dats m 0 c).before 10 t d10) ((dats m 0 c).before 11 t d11) ds0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [HS0]; · iexact HS0
  iintro ⟨H0, H1, H2, H3, H4, H5, H6, H7, H10, H11, HS0⟩
  isplitl [HS0 Hg]
  · isplitl [HS0]
    · iexists _; isplitr
      swap; · iexact HS0
      ipureintro; exact hk'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  iexact H11

set_option maxHeartbeats 2000000 in
/-- The body's triple at a point, case B. -/
theorem sound_body_B (c : Dev nD) (t : Fin cfg0.N) (h0 : ¬t.val = 0) (h1 : ¬t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [Dat.leavesExact_idle (dats m 0 c) 8 t (idleAt0_8 t (fun h => h1 ((hcond0_1 t).mp h))) (noFlush0_8 t (fun h => h1 ((hcond0_1 t).mp h)))]
  rw [Dat.leavesExact_idle (dats m 0 c) 9 t (idleAt0_9 t (fun h => h1 ((hcond0_1 t).mp h))) (noFlush0_9 t (fun h => h1 ((hcond0_1 t).mp h)))]
  rw [amaxAt_next m c t h0]
  rw [PhiS_castSucc m c t, PhiS_pos m c _ _ h0]
  simp only [before0_11 m c t h0]
  iintro ⟨⟨⟨%ds0, %hk, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hk' := kept_step m c t ds0 (.inr hk)
  iapply (bodyB Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (blocksAt m c t) ((dats m 0 c).before 10 t d10) (amaxAt m c (t.val - 1) (Nat.lt_of_le_of_lt (Nat.sub_le _ _) t.isLt)) ds0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [HS0]; · iexact HS0
  iintro ⟨H0, H1, H2, H3, H4, H5, H6, H7, H10, H11, HS0⟩
  isplitl [HS0 Hg]
  · isplitl [HS0]
    · iexists _; isplitr
      swap; · iexact HS0
      ipureintro; exact hk'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  iexact H11

set_option maxHeartbeats 2000000 in
/-- The body's triple at a point, case C. -/
theorem sound_body_C (c : Dev nD) (t : Fin cfg0.N) (h0 : ¬t.val = 0) (h1 : t.val % 16 = 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 8 t = owns (c : Thread nD τ) (ms0_8 t) fullShare ((dats m 0 c).after 8 t) from by
    unfold Dat.leavesExact; rw [liveAt0_8 t ((hcond0_1 t).mpr h1)], after0_8]
  rw [show (dats m 0 c).leavesExact 9 t = owns (c : Thread nD τ) (ms0_9 t) fullShare ((dats m 0 c).after 9 t) from by
    unfold Dat.leavesExact; rw [liveAt0_9 t ((hcond0_1 t).mpr h1)], after0_9]
  rw [amaxAt_next m c t h0]
  rw [PhiS_castSucc m c t, PhiS_pos m c _ _ h0]
  simp only [before0_11 m c t h0]
  iintro ⟨⟨⟨%ds0, %hk, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hk' := kept_step m c t ds0 (.inr hk)
  have hf := kept_full m c t.val h1 _ hk'
  iapply (bodyC Variants.none c none Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ⟨trivial, (hcond0_1 t).mpr h1⟩ (blocksAt m c t) ((dats m 0 c).before 8 t d8) ((dats m 0 c).before 9 t d9) ((dats m 0 c).before 10 t d10) (amaxAt m c (t.val - 1) (Nat.lt_of_le_of_lt (Nat.sub_le _ _) t.isLt)) ds0 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  rw [hf]
  iintro ⟨H0, H1, H2, H3, H4, H5, H6, H7, H8, H9, H10, H11, HS0⟩
  isplitl [HS0 Hg]
  · isplitl [HS0]
    · iexists _; isplitr
      swap; · iexact HS0
      ipureintro; exact hf ▸ hk'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's triple at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_body_A m c t h0 (by omega)
  · by_cases h1 : t.val % 16 = 15
    · exact sound_body_C m c t h0 h1
    · exact sound_body_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%d, %hd, HS0⟩, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_around_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the host operations after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_FinishIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FinishIdeal.Close

end
-- ==== Proof.Joined.lean ====
module

public import proofs.«01_k».proof.Proof.Attn

@[expose] public section

noncomputable section

/-! Attention of every query row over the keys of its own sequence up to its own position, joined with another share of the same
    softmax that is given by its output and its log-sum-exp. All are functions of the eight argument arrays. -/

namespace Cert.Joined

open Cert.Rows Cert.Online Cert.Attn
open Idealize.ShloMosaic

/-- Weights at base 2 of scores in units of the logarithm of 2 are weights at base `e`. -/
theorem exp2_scaled (x m : EReal) (hx : x ≤ m) : Ideal.exp2 (x * (((Real.log 2)⁻¹ : ℝ) : EReal) - m * (((Real.log 2)⁻¹ : ℝ) : EReal)) = Ideal.exp (x - m) := by
  have hl : 0 < Real.log 2 := Real.log_pos (by norm_num)
  have hr := inv_pos.2 hl
  induction m with
  | bot => rw [le_bot_iff] at hx; subst hx; rw [EReal.bot_mul_coe_of_pos hr, EReal.bot_sub, exp2_bot, exp_bot]
  | top => rw [EReal.top_mul_coe_of_pos hr, sub_top, sub_top, exp2_bot, exp_bot]
  | coe p =>
    induction x with
    | bot => rw [EReal.bot_mul_coe_of_pos hr, EReal.bot_sub, EReal.bot_sub, exp2_bot, exp_bot]
    | top => rw [top_le_iff] at hx; exact absurd hx (EReal.coe_ne_top p)
    | coe x =>
      rw [← EReal.coe_mul, ← EReal.coe_mul, ← EReal.coe_sub, ← EReal.coe_sub, exp_coe, exp2_coe]
      refine congrArg _ ?_
      show (2 : ℝ) ^ (x * (Real.log 2)⁻¹ - p * (Real.log 2)⁻¹) = _
      rw [Real.rpow_def_of_pos (by norm_num)]
      congr 1
      field_simp

theorem unscaled (x : EReal) : x * (((Real.log 2)⁻¹ : ℝ) : EReal) * ((Real.log 2 : ℝ) : EReal) = x := by
  have hl : 0 < Real.log 2 := Real.log_pos (by norm_num)
  rw [mul_assoc, ← EReal.coe_mul, inv_mul_cancel₀ hl.ne', EReal.coe_one, mul_one]

theorem peak_scaled {N : ℕ} (hN : 0 < N) (s : Fin N → EReal) : peak (fun i => s i * (((Real.log 2)⁻¹ : ℝ) : EReal)) = peak s * (((Real.log 2)⁻¹ : ℝ) : EReal) := by
  have hl : 0 < Real.log 2 := Real.log_pos (by norm_num)
  have h0 : (0 : EReal) ≤ (((Real.log 2)⁻¹ : ℝ) : EReal) := EReal.coe_nonneg.2 (inv_pos.2 hl).le
  apply le_antisymm
  · exact Finset.sup_le fun i _ => mul_le_mul_of_nonneg_right (Finset.le_sup (f := s) (Finset.mem_univ _)) h0
  · obtain ⟨i, _, hi⟩ := Finset.exists_mem_eq_sup (Finset.univ : Finset (Fin N)) ⟨⟨0, hN⟩, Finset.mem_univ _⟩ s
    rw [peak_eq_sup s, hi]
    exact Finset.le_sup (f := fun i => s i * (((Real.log 2)⁻¹ : ℝ) : EReal)) (Finset.mem_univ i)

theorem weight_scaled {N : ℕ} (hN : 0 < N) (s : Fin N → EReal) (i : Fin N) :
    Ideal.exp2 (s i * (((Real.log 2)⁻¹ : ℝ) : EReal) - peak (fun i => s i * (((Real.log 2)⁻¹ : ℝ) : EReal))) = weight s i := by
  rw [peak_scaled hN]; exact exp2_scaled _ _ (Finset.le_sup (f := s) (Finset.mem_univ i))

theorem peak_le {N : ℕ} (s : Fin N → EReal) (x : EReal) : peak s ≤ x ↔ ∀ i, s i ≤ x := by
  rw [peak_eq_sup, Finset.sup_le_iff]; exact ⟨fun h i => h i (Finset.mem_univ i), fun h i _ => h i⟩

/-- Comparing two small numbers as signed words. -/
theorem sle_small (a b : ℕ) (ha : a < 2 ^ 31) (hb : b < 2 ^ 31) : (BitVec.ofNat 32 a).sle (BitVec.ofNat 32 b) = decide (a ≤ b) := by
  have e : ∀ c : ℕ, c < 2 ^ 31 → (BitVec.ofNat 32 c).toInt = (c : ℤ) := fun c hc => by
    have h : (BitVec.ofNat 32 c).toNat = c := by rw [BitVec.toNat_ofNat]; exact Nat.mod_eq_of_lt (by omega)
    rw [BitVec.toInt_eq_toNat_of_lt (by rw [h]; omega), h]
  rw [BitVec.sle_eq_decide, e a ha, e b hb]
  exact decide_eq_decide.2 Int.ofNat_le

theorem select_sle (a b : ℕ) (ha : a < 2 ^ 31) (hb : b < 2 ^ 31) (x y : EReal) :
    Scalar.select (IntOp.cmpi CmpIPredicate.sle (BitVec.ofNat 32 a) (BitVec.ofNat 32 b)) x y = if a ≤ b then x else y := by
  show Scalar.select (BitVec.ofBool ((BitVec.ofNat 32 a).sle (BitVec.ofNat 32 b))) x y = _
  rw [sle_small a b ha hb]
  by_cases h : a ≤ b
  · rw [decide_eq_true h, if_pos h]; rfl
  · rw [decide_eq_false h, if_neg h]; rfl

/-- The logarithm of the sum of two numbers given by their logarithms. -/
def logadd (x y : EReal) : EReal := max x y + Ideal.log (Ideal.exp (x - max x y) + Ideal.exp (y - max x y))

/-- Two shares of one softmax put together: outputs `a`, `b` with log-sum-exps `x`, `y`. -/
def mix (x y a b : EReal) : EReal := Ideal.exp (x - logadd x y) * a + Ideal.exp (y - logadd x y) * b

variable (a0 : (⟨4, ![2, 1024, 32, 128]⟩ : Shape).Idx → EReal) (a1 : (⟨3, ![2, 1024, 32]⟩ : Shape).Idx → EReal)
  (a2 a3 : (⟨4, ![2, 1024, 16, 128]⟩ : Shape).Idx → EReal) (a4 a5 : (⟨3, ![2, 1024, 16]⟩ : Shape).Idx → EReal)
  (a6 : (⟨3, ![32, 128, 2048]⟩ : Shape).Idx → EReal) (a7 : (⟨3, ![32, 1, 2048]⟩ : Shape).Idx → EReal)

/-- The score of row `i` of batch `b` and head `h` against key `p`: none against a later key. -/
def score (b : Fin 2) (h : Fin 32) (i p : Fin 1024) : EReal :=
  if p.val ≤ i.val then (∑ d : Fin 128, a0 (ix4 b i h d) * a2 (ix4 b p (kv h) d)) * (a1 (ix3 b i h) * (((Real.sqrt 128)⁻¹ : ℝ) : EReal)) * a4 (ix3 b p (kv h)) else ⊥

/-- The logarithm of the sum of the exponentials of the scores. -/
def lse (b : Fin 2) (h : Fin 32) (i : Fin 1024) : EReal :=
  peak (score a0 a1 a2 a4 b h i) + Ideal.log (∑ p, weight (score a0 a1 a2 a4 b h i) p)

/-- The attention output. -/
def att (b : Fin 2) (h : Fin 32) (i : Fin 1024) (d : Fin 128) : EReal :=
  Ideal.div (∑ p, weight (score a0 a1 a2 a4 b h i) p * a5 (ix3 b p (kv h)) * a3 (ix4 b p (kv h) d)) (∑ p, weight (score a0 a1 a2 a4 b h i) p)

/-- The joined output. -/
def out (b : Fin 2) (h : Fin 32) (i : Fin 1024) (d : Fin 128) : EReal :=
  mix (a7 (ix3 h 0 (join b i))) (lse a0 a1 a2 a4 b h i) (a6 (ix3 h d (join b i))) (att a0 a1 a2 a3 a4 a5 b h i d)

/-- The largest magnitude of a head's joined output. -/
def largest (h : Fin 32) : EReal :=
  peak fun b : Fin 2 => peak fun i : Fin 1024 => peak fun d : Fin 128 => FloatOps.absf (F := Ideal) (φ := .f32) (out a0 a1 a2 a3 a4 a5 a6 a7 b h i d)

/-- The logarithm of the number of keys that row `i` sees. -/
def logSeen (i : Fin 1024) : EReal := Ideal.log (1 + FloatOps.sitofp (F := Ideal) FTy.f32 (BitVec.ofNat 32 i.val))

end Cert.Joined

end
-- ==== Proof.FIPay.lean ====
module

public import proofs.«01_k».proof.Proof.FIModel
public import proofs.«01_k».proof.Proof.Joined
public import Idealize.ShloMosaic.Lib.Pointwise
public import Idealize.ShloMosaic.Lib.Pipeline.Value

@[expose] public section

set_option maxRecDepth 16384

noncomputable section

/-! The closing call's pure values over the extended reals, each read at one index. -/

namespace Cert.FinishIdeal.Close

open Cert.FinishIdeal.Gen Cert.Online Cert.Joined
open Idealize.ShloMosaic Idealize.ShloMosaic.TcCoe

/-- One of the eight tiles: a stretch of 128 lanes, turned into rows. -/
def tile (v : Vec Ideal S1x1x1x1024 .f32) (k : ℕ) (h : S1x1024.Slices ![0, k] S1x128) : FVec Ideal S128x128 .f32 :=
  transpose S128x128 [1, 0] (broadcastTo S128x128 (shapeCast S1x128 (extractStridedSlice S1x128 ![0, k] (shapeCast S1x1024 v shapeCasts_S1x1x1x1024_S1x1024) h) shapeCasts_S1x128_S1x128) broadcasts_S1x128_S128x128) transposes_S128x128_p1_0_S128x128

theorem tile_at (v : Vec Ideal S1x1x1x1024 .f32) (k : ℕ) (hk : k + 128 ≤ 1024) (h : S1x1024.Slices ![0, k] S1x128) (a l : Fin 128) :
    tile v k h (ix2 a l) = v (ix4 0 0 0 ⟨k + a.val, by have := a.isLt; omega⟩) := by
  pointwise [tile]

def tiles (v : Vec Ideal S1x1x1x1024 .f32) : List ((s : Shape) × (s.Idx → EReal)) :=
  [⟨S128x128, tile v 0 slices_S1x1024_o0_0_S1x128⟩, ⟨S128x128, tile v 128 slices_S1x1024_o0_128_S1x128⟩, ⟨S128x128, tile v 256 slices_S1x1024_o0_256_S1x128⟩, ⟨S128x128, tile v 384 slices_S1x1024_o0_384_S1x128⟩, ⟨S128x128, tile v 512 slices_S1x1024_o0_512_S1x128⟩, ⟨S128x128, tile v 640 slices_S1x1024_o0_640_S1x128⟩, ⟨S128x128, tile v 768 slices_S1x1024_o0_768_S1x128⟩, ⟨S128x128, tile v 896 slices_S1x1024_o0_896_S1x128⟩]

/-- The eight tiles, one below the other. -/
theorem pay68_at (v : Vec Ideal S1x1x1x1024 .f32) (p : Fin 1024) (l : Fin 128) : k0_pay68 v (ix2 p l) = v (ix4 0 0 0 p) := by
  have hp := p.isLt
  have key : ∀ k (hk : k < 8) (x : FVec Ideal S128x128 .f32) (xs : List ((s : Shape) × (s.Idx → EReal))) (h : Shape.Concatenates (xs.map (·.1)) S1024x128 0)
      (hl : k < xs.length) (hx : xs[k] = ⟨S128x128, x⟩) (hpre : (((xs.take k).map (·.1)).map fun s => if h : s.rank = S1024x128.rank then s.size ((0 : Fin S1024x128.rank).cast h.symm) else 0).sum = 128 * k)
      (hq : p.val / 128 = k), concatenate S1024x128 0 xs h (ix2 p l) = x (ix2 ⟨p.val - 128 * k, by omega⟩ l) := by
    intro k hk x xs h hl hx hpre hq
    refine concatenate_apply_piece 0 xs h (ix2 p l) k hl S128x128 x hx rfl (128 * k) hpre (ix2 ⟨p.val - 128 * k, by omega⟩ l) (fun b hb => ?_) (show 128 * k + (p.val - 128 * k) = p.val by omega)
    match b with
    | 0 => exact absurd rfl hb
    | 1 => rfl
  have e : k0_pay68 v = concatenate S1024x128 0 (tiles v) concatenates_S128x128_S128x128_S128x128_S128x128_S128x128_S128x128_S128x128_S128x128_S1024x128_d0 := rfl
  rw [e]
  have hq : p.val / 128 < 8 := by omega
  obtain ⟨k, hk⟩ : ∃ k, p.val / 128 = k := ⟨_, rfl⟩
  rw [hk] at hq
  by_cases e0 : k = 0
  · subst e0
    refine (key 0 (by decide) (tile v 0 slices_S1x1024_o0_0_S1x128) (tiles v) concatenates_S128x128_S128x128_S128x128_S128x128_S128x128_S128x128_S128x128_S128x128_S1024x128_d0 (show _ < 8 by decide) rfl rfl hk).trans ?_
    rw [tile_at v 0 (by decide)]
    exact congrArg (fun a => v (ix4 0 0 0 a)) (Fin.ext (by show 0 + (p.val - 128 * 0) = p.val; omega))
  by_cases e1 : k = 1
  · subst e1
    refine (key 1 (by decide) (tile v 128 slices_S1x1024_o0_128_S1x128) (tiles v) concatenates_S128x128_S128x128_S128x128_S128x128_S128x128_S128x128_S128x128_S128x128_S1024x128_d0 (show _ < 8 by decide) rfl rfl hk).trans ?_
    rw [tile_at v 128 (by decide)]
    exact congrArg (fun a => v (ix4 0 0 0 a)) (Fin.ext (by show 128 + (p.val - 128 * 1) = p.val; omega))
  by_cases e2 : k = 2
  · subst e2
    refine (key 2 (by decide) (tile v 256 slices_S1x1024_o0_256_S1x128) (tiles v) concatenates_S128x128_S128x128_S128x128_S128x128_S128x128_S128x128_S128x128_S128x128_S1024x128_d0 (show _ < 8 by decide) rfl rfl hk).trans ?_
    rw [tile_at v 256 (by decide)]
    exact congrArg (fun a => v (ix4 0 0 0 a)) (Fin.ext (by show 256 + (p.val - 128 * 2) = p.val; omega))
  by_cases e3 : k = 3
  · subst e3
    refine (key 3 (by decide) (tile v 384 slices_S1x1024_o0_384_S1x128) (tiles v) concatenates_S128x128_S128x128_S128x128_S128x128_S128x128_S128x128_S128x128_S128x128_S1024x128_d0 (show _ < 8 by decide) rfl rfl hk).trans ?_
    rw [tile_at v 384 (by decide)]
    exact congrArg (fun a => v (ix4 0 0 0 a)) (Fin.ext (by show 384 + (p.val - 128 * 3) = p.val; omega))
  by_cases e4 : k = 4
  · subst e4
    refine (key 4 (by decide) (tile v 512 slices_S1x1024_o0_512_S1x128) (tiles v) concatenates_S128x128_S128x128_S128x128_S128x128_S128x128_S128x128_S128x128_S128x128_S1024x128_d0 (show _ < 8 by decide) rfl rfl hk).trans ?_
    rw [tile_at v 512 (by decide)]
    exact congrArg (fun a => v (ix4 0 0 0 a)) (Fin.ext (by show 512 + (p.val - 128 * 4) = p.val; omega))
  by_cases e5 : k = 5
  · subst e5
    refine (key 5 (by decide) (tile v 640 slices_S1x1024_o0_640_S1x128) (tiles v) concatenates_S128x128_S128x128_S128x128_S128x128_S128x128_S128x128_S128x128_S128x128_S1024x128_d0 (show _ < 8 by decide) rfl rfl hk).trans ?_
    rw [tile_at v 640 (by decide)]
    exact congrArg (fun a => v (ix4 0 0 0 a)) (Fin.ext (by show 640 + (p.val - 128 * 5) = p.val; omega))
  by_cases e6 : k = 6
  · subst e6
    refine (key 6 (by decide) (tile v 768 slices_S1x1024_o0_768_S1x128) (tiles v) concatenates_S128x128_S128x128_S128x128_S128x128_S128x128_S128x128_S128x128_S128x128_S1024x128_d0 (show _ < 8 by decide) rfl rfl hk).trans ?_
    rw [tile_at v 768 (by decide)]
    exact congrArg (fun a => v (ix4 0 0 0 a)) (Fin.ext (by show 768 + (p.val - 128 * 6) = p.val; omega))
  by_cases e7 : k = 7
  · subst e7
    refine (key 7 (by decide) (tile v 896 slices_S1x1024_o0_896_S1x128) (tiles v) concatenates_S128x128_S128x128_S128x128_S128x128_S128x128_S128x128_S128x128_S128x128_S1024x128_d0 (show _ < 8 by decide) rfl rfl hk).trans ?_
    rw [tile_at v 896 (by decide)]
    exact congrArg (fun a => v (ix4 0 0 0 a)) (Fin.ext (by show 896 + (p.val - 128 * 7) = p.val; omega))
  omega

theorem score_scale : Named.named (F := Ideal) Cert.FinishIdeal.κ "score_scale" (φ := .f32) 0x3E0293EE#32 = (((Real.sqrt 128)⁻¹ * (Real.log 2)⁻¹ : ℝ) : EReal) :=
  IdealRules.named_const.ideal_named_scalar _ _ _ _ rfl
theorem ln2_eq : ln2 (F := Ideal) = ((Real.log 2 : ℝ) : EReal) :=
  IdealRules.named_const.ideal_named_scalar _ _ _ _ rfl

/-- The maximum's starting point. -/
theorem ofBits_neg_inf : Ideal.ofBits .f32 0xFF800000#32 = ⊥ := by
  unfold Ideal.ofBits Ideal.ieee
  dsimp only
  rw [if_pos (by decide), if_pos (by decide), if_pos (by decide)]

theorem pay70_at (v : FVec Ideal S128x1024 .fp8e4m3) (w : Vec Ideal S1x1x1x1024 .f32) (d : Fin 128) (p : Fin 1024) :
    k0_pay70 v w (ix2 d p) = v (ix2 d p) * w (ix4 0 0 0 p) := by
  pointwise [k0_pay70]

theorem pay69_at (v : Vec Ideal S1x1x128x1024 .fp8e4m3) (d : Fin 128) (p : Fin 1024) : k0_pay69 v (ix2 d p) = v (ix4 0 0 d p) := by
  pointwise [k0_pay69]

/-- The scores' scale, in units of the logarithm of 2. -/
def kappa : EReal := (((Real.sqrt 128)⁻¹ * (Real.log 2)⁻¹ : ℝ) : EReal)

/-- A score of the kernel: query row `r` of block `n`, key `p`. -/
def scoreOn (n : ℕ) (k : Vec Ideal S1x1x1024x128 .fp8e4m3) (q : Vec Ideal S1x128x256 .fp8e4m3) (qs : Vec Ideal S1x1x256 .f32) (ks : Fin 1024 → EReal)
    (r : Fin 256) (p : Fin 1024) : EReal :=
  if p.val ≤ r.val + n * 256 then (∑ d : Fin 128, k (ix4 0 0 p d) * q (ix3 0 d r)) * ks p * (qs (ix3 0 0 r) * kappa) else ⊥

theorem row_word (n r : ℕ) : IntOp.addi (BitVec.ofNat 32 r) (Scalar.muli (BitVec.ofNat 32 n) 256#32) = BitVec.ofNat 32 (r + n * 256) := by
  rw [BitVec.ofNat_add, BitVec.ofNat_mul]; rfl

section
variable (n : ℕ) (hn : n < 4) (s : FVec Ideal S1024x128 .f32) (k : Vec Ideal S1x1x1024x128 .fp8e4m3) (q : Vec Ideal S1x128x256 .fp8e4m3) (qs : Vec Ideal S1x1x256 .f32)
  (ks : Fin 1024 → EReal) (hs : ∀ p l, s (ix2 p l) = ks p)
include hn hs

theorem pay72_at (p : Fin 1024) (r : Fin 256) : k0_pay72 (BitVec.ofNat 32 n) s k q qs (ix2 p r) = scoreOn n k q qs ks r p := by
  have hp := p.isLt
  have hr := r.isLt
  pointwise [k0_pay72, k0_pay71]
  rw [row_word, select_sle _ _ (by omega) (by omega), ofBits_neg_inf, score_scale]
  unfold scoreOn kappa
  simp only [hs]
  split_ifs <;> rfl

theorem pay82_at (p : Fin 1024) (r : Fin 256) :
    k0_pay82 s (iota .tc S1024x256 32 [0] iota_S1024x256_d0_w32) (k0_pay71 (BitVec.ofNat 32 n)) k q qs (ix2 p r) = scoreOn n k q qs ks r p := by
  have hp := p.isLt
  have hr := r.isLt
  pointwise [k0_pay82, k0_pay71]
  rw [row_word, select_sle _ _ (by omega) (by omega), ofBits_neg_inf, score_scale]
  unfold scoreOn kappa
  simp only [hs]
  split_ifs <;> rfl

theorem pay73_at (r : Fin 256) : k0_pay73 (BitVec.ofNat 32 n) s k q qs (ix2 0 r) = peak (scoreOn n k q qs ks r) := by
  pointwise [k0_pay73]
  rw [ofBits_neg_inf]; simp only [pay72_at n hn s k q qs ks hs]; rfl

theorem pay83_at (r : Fin 256) : k0_pay83 s (iota .tc S1024x256 32 [0] iota_S1024x256_d0_w32) (k0_pay71 (BitVec.ofNat 32 n)) k q qs (ix2 0 r) = peak (scoreOn n k q qs ks r) := by
  pointwise [k0_pay83]
  rw [ofBits_neg_inf]; simp only [pay82_at n hn s k q qs ks hs]; rfl

theorem pay74_at (p : Fin 1024) (r : Fin 256) : k0_pay74 (BitVec.ofNat 32 n) s k q qs (ix2 p r) = Ideal.exp2 (scoreOn n k q qs ks r p - peak (scoreOn n k q qs ks r)) := by
  pointwise [k0_pay74]
  rw [pay72_at n hn s k q qs ks hs, pay73_at n hn s k q qs ks hs]
  rfl

theorem pay84_at (p : Fin 1024) (r : Fin 256) : k0_pay84 s (iota .tc S1024x256 32 [0] iota_S1024x256_d0_w32) (k0_pay71 (BitVec.ofNat 32 n)) k q qs (ix2 p r) = Ideal.exp2 (scoreOn n k q qs ks r p - peak (scoreOn n k q qs ks r)) := by
  pointwise [k0_pay84]
  rw [pay82_at n hn s k q qs ks hs, pay83_at n hn s k q qs ks hs]
  rfl

theorem pay75_at (r : Fin 256) : k0_pay75 (BitVec.ofNat 32 n) s k q qs (ix2 0 r) = ∑ p, Ideal.exp2 (scoreOn n k q qs ks r p - peak (scoreOn n k q qs ks r)) := by
  pointwise [k0_pay75]
  simp only [pay74_at n hn s k q qs ks hs]

theorem pay85_at (r : Fin 256) : k0_pay85 s (iota .tc S1024x256 32 [0] iota_S1024x256_d0_w32) (k0_pay71 (BitVec.ofNat 32 n)) k q qs (ix2 0 r) = ∑ p, Ideal.exp2 (scoreOn n k q qs ks r p - peak (scoreOn n k q qs ks r)) := by
  pointwise [k0_pay85]
  simp only [pay84_at n hn s k q qs ks hs]

theorem pay76_at (v : FVec Ideal S128x1024 .fp8e4m3) (vs : Vec Ideal S1x1x1x1024 .f32) (d : Fin 128) (r : Fin 256) :
    k0_pay76 (BitVec.ofNat 32 n) s v vs k q qs (ix2 d r)
      = Ideal.div (∑ p, v (ix2 d p) * vs (ix4 0 0 0 p) * Ideal.exp2 (scoreOn n k q qs ks r p - peak (scoreOn n k q qs ks r)))
          (∑ p, Ideal.exp2 (scoreOn n k q qs ks r p - peak (scoreOn n k q qs ks r))) := by
  pointwise [k0_pay76]
  simp only [pay74_at n hn s k q qs ks hs, pay75_at n hn s k q qs ks hs, pay70_at]

theorem pay86_at (v : FVec Ideal S128x1024 .fp8e4m3) (vs : Vec Ideal S1x1x1x1024 .f32) (d : Fin 128) (r : Fin 256) :
    k0_pay86 s (k0_pay70 v vs) (iota .tc S1024x256 32 [0] iota_S1024x256_d0_w32) (k0_pay71 (BitVec.ofNat 32 n)) k q qs (ix2 d r)
      = Ideal.div (∑ p, v (ix2 d p) * vs (ix4 0 0 0 p) * Ideal.exp2 (scoreOn n k q qs ks r p - peak (scoreOn n k q qs ks r)))
          (∑ p, Ideal.exp2 (scoreOn n k q qs ks r p - peak (scoreOn n k q qs ks r))) := by
  pointwise [k0_pay86]
  simp only [pay84_at n hn s k q qs ks hs, pay85_at n hn s k q qs ks hs, pay70_at]

theorem pay87_at (r : Fin 256) : k0_pay87 s (iota .tc S1024x256 32 [0] iota_S1024x256_d0_w32) (k0_pay71 (BitVec.ofNat 32 n)) k q qs (ix2 0 r)
      = peak (scoreOn n k q qs ks r) * ((Real.log 2 : ℝ) : EReal) + Ideal.log (∑ p, Ideal.exp2 (scoreOn n k q qs ks r p - peak (scoreOn n k q qs ks r))) := by
  pointwise [k0_pay87]
  rw [pay83_at n hn s k q qs ks hs, pay85_at n hn s k q qs ks hs]
  exact congrArg (fun x => peak (scoreOn n k q qs ks r) * x + _) ln2_eq

end

theorem pay77_at (m l : FVec Ideal S1x256 .f32) (r : Fin 256) : k0_pay77 m l ln2 (ix2 0 r) = m (ix2 0 r) * ((Real.log 2 : ℝ) : EReal) + Ideal.log (l (ix2 0 r)) := by
  pointwise [k0_pay77]
  rw [ln2_eq]

theorem pay79_at (m l : FVec Ideal S1x256 .f32) (r : Fin 256) : k0_pay79 m l ln2 (ix3 0 0 r) = m (ix2 0 r) * ((Real.log 2 : ℝ) : EReal) + Ideal.log (l (ix2 0 r)) := by
  pointwise [k0_pay79]
  exact pay77_at m l r

theorem pay89_at (x : FVec Ideal S1x256 .f32) (r : Fin 256) : k0_pay89 x (ix3 0 0 r) = x (ix2 0 r) := by
  pointwise [k0_pay89]

theorem pay78_at (m l : FVec Ideal S1x256 .f32) (a : FVec Ideal S128x256 .f32) (lp : Vec Ideal S1x1x256 .f32) (o : Vec Ideal S1x128x256 .f32) (d : Fin 128) (r : Fin 256) :
    k0_pay78 m l a ln2 lp o (ix2 d r) = mix (lp (ix3 0 0 r)) (k0_pay77 m l ln2 (ix2 0 r)) (o (ix3 0 d r)) (a (ix2 d r)) := by
  pointwise [k0_pay78]
  rfl

theorem pay88_at (a : FVec Ideal S128x256 .f32) (x : FVec Ideal S1x256 .f32) (lp : Vec Ideal S1x1x256 .f32) (o : Vec Ideal S1x128x256 .f32) (d : Fin 128) (r : Fin 256) :
    k0_pay88 a x lp o (ix2 d r) = mix (lp (ix3 0 0 r)) (x (ix2 0 r)) (o (ix3 0 d r)) (a (ix2 d r)) := by
  pointwise [k0_pay88]
  rfl

theorem pay80_at (m l : FVec Ideal S1x256 .f32) (a : FVec Ideal S128x256 .f32) (lp : Vec Ideal S1x1x256 .f32) (o : Vec Ideal S1x128x256 .f32) (v : Vec Ideal S1x128 .f32) (j : Fin 128) :
    k0_pay80 m l a ln2 lp o v (ix2 0 j) = max (v (ix2 0 j)) (peak fun r : Fin 256 => peak fun d : Fin 128 => FloatOps.absf (F := Ideal) (φ := .f32) (k0_pay78 m l a ln2 lp o (ix2 d r))) := by
  pointwise [k0_pay80]
  rw [ofBits_neg_inf]
  rfl

theorem pay90_at (a : FVec Ideal S128x256 .f32) (x : FVec Ideal S1x256 .f32) (lp : Vec Ideal S1x1x256 .f32) (o : Vec Ideal S1x128x256 .f32) (v : Vec Ideal S1x128 .f32) (j : Fin 128) :
    k0_pay90 a x lp o v (ix2 0 j) = max (v (ix2 0 j)) (peak fun r : Fin 256 => peak fun d : Fin 128 => FloatOps.absf (F := Ideal) (φ := .f32) (k0_pay88 a x lp o (ix2 d r))) := by
  pointwise [k0_pay90]
  rw [ofBits_neg_inf]
  rfl

end Cert.FinishIdeal.Close

end
-- ==== Proof.FIHost.lean ====
module

public import proofs.«01_k».proof.Proof.FIFrame
public import proofs.«01_k».proof.Proof.FIPay
public import Idealize.ShloMosaic.Lib.StableHlo.ReadAt
public import Idealize.ShloMosaic.Lib.Pipeline.ValueKit

@[expose] public section

set_option maxRecDepth 16384

noncomputable section

/-! What the closing call's grid points read, at an index of the arguments. -/

namespace Cert.FinishIdeal.Close

open Cert.FinishIdeal.Gen Cert.Online Cert.Rows Cert.Attn
open Idealize.ShloMosaic Idealize.ShloMosaic.TcCoe Idealize.SL.Sem
open Idealize.ShloMosaic.VecWindow (window put)

theorem hi_join (b : Fin 2) (i : Fin 1024) : hi (join b i) = b := Fin.ext (by have := i.isLt; show (b.val * 1024 + i.val) / 1024 = b.val; omega)
theorem lo_join (b : Fin 2) (i : Fin 1024) : lo (join b i) = i := Fin.ext (by have := i.isLt; show (b.val * 1024 + i.val) % 1024 = i.val; omega)

variable (m : (ℓ : Loc nD τ sig) → Buf (Elt Ideal) ℓ) (ρ : Dev nD → PrngReg) (c : Dev nD)

theorem V_q (h : Fin 32) (d : Fin 128) (b : Fin 2) (i : Fin 1024) : V m c main_v1 (ix3 h d (join b i)) = (m ((c.tc : Thread nD τ).loc main_arg0)) (ix4 b i h d) := by
  have h : V m c main_v1 (ix3 h d (join b i)) = (m ((c.tc : Thread nD τ).loc main_arg0)) (ix4 (hi (join b i)) (lo (join b i)) h d) := by
    unfold V
    after_reads_at
    rfl
  rw [h, hi_join, lo_join]

theorem V_qs (h : Fin 32) (b : Fin 2) (i : Fin 1024) : V m c main_v4 (ix3 h 0 (join b i)) = (m ((c.tc : Thread nD τ).loc main_arg1)) (ix3 b i h) := by
  have h : V m c main_v4 (ix3 h 0 (join b i)) = (m ((c.tc : Thread nD τ).loc main_arg1)) (ix3 (hi (join b i)) (lo (join b i)) h) := by
    unfold V
    after_reads_at
    rfl
  rw [h, hi_join, lo_join]

theorem V_k (b : Fin 2) (j : Fin 16) (p : Fin 1024) (d : Fin 128) : V m c main_v5 (ix4 b j p d) = (m ((c.tc : Thread nD τ).loc main_arg2)) (ix4 b p j d) := by
  unfold V
  after_reads_at

theorem V_v (b : Fin 2) (j : Fin 16) (d : Fin 128) (p : Fin 1024) : V m c main_v6 (ix4 b j d p) = (m ((c.tc : Thread nD τ).loc main_arg3)) (ix4 b p j d) := by
  unfold V
  after_reads_at

theorem V_ks (b : Fin 2) (j : Fin 16) (p : Fin 1024) : V m c main_v8 (ix4 b j 0 p) = (m ((c.tc : Thread nD τ).loc main_arg4)) (ix3 b p j) := by
  unfold V
  after_reads_at

theorem V_vs (b : Fin 2) (j : Fin 16) (p : Fin 1024) : V m c main_v10 (ix4 b j 0 p) = (m ((c.tc : Thread nD τ).loc main_arg5)) (ix3 b p j) := by
  unfold V
  after_reads_at

/-- The windows' block indices at a grid point. -/
theorem idx : ∀ t : Fin cfg0.N, win0_0.index t = ![t.val % 16, 0, t.val / 16] ∧ win0_1.index t = ![t.val % 16, 0, t.val / 16] ∧ win0_6.index t = ![t.val % 16, 0, t.val / 16] ∧ win0_7.index t = ![t.val % 16, 0, t.val / 16] ∧ win0_10.index t = ![t.val % 16, 0, t.val / 16] ∧ win0_2.index t = ![t.val / 64, t.val % 16, 0, 0] ∧ win0_3.index t = ![t.val / 64, t.val % 16, 0, 0] ∧ win0_4.index t = ![t.val / 64, t.val % 16, 0, 0] ∧ win0_5.index t = ![t.val / 64, t.val % 16, 0, 0] ∧ win0_11.index t = ![0, 0] ∧ (grid0.coords t 1).val = t.val / 16 % 4 :=
  (by decide +kernel : ∀ t : Fin grid0.N, win0_0.index t = ![t.val % 16, 0, t.val / 16] ∧ win0_1.index t = ![t.val % 16, 0, t.val / 16] ∧ win0_6.index t = ![t.val % 16, 0, t.val / 16] ∧ win0_7.index t = ![t.val % 16, 0, t.val / 16] ∧ win0_10.index t = ![t.val % 16, 0, t.val / 16] ∧ win0_2.index t = ![t.val / 64, t.val % 16, 0, 0] ∧ win0_3.index t = ![t.val / 64, t.val % 16, 0, 0] ∧ win0_4.index t = ![t.val / 64, t.val % 16, 0, 0] ∧ win0_5.index t = ![t.val / 64, t.val % 16, 0, 0] ∧ win0_11.index t = ![0, 0] ∧ (grid0.coords t 1).val = t.val / 16 % 4)

theorem lt128 (t : Fin cfg0.N) : t.val < 128 := lt_of_lt_of_eq t.isLt N_0

/-- The batch of a grid point, its key-value head, a query head of the two, and the position of row `r` of its block. -/
def batchAt (t : Fin cfg0.N) : Fin 2 := ⟨t.val / 64, by have := lt128 t; omega⟩
def kvAt (t : Fin cfg0.N) : Fin 16 := ⟨t.val % 16, Nat.mod_lt _ (by decide)⟩
def headAt (t : Fin cfg0.N) (g : Fin 2) : Fin 32 := ⟨2 * (t.val % 16) + g.val, by have := g.isLt; omega⟩
def posAt (t : Fin cfg0.N) (r : Fin 256) : Fin 1024 := ⟨t.val / 16 % 4 * 256 + r.val, by have := r.isLt; omega⟩

theorem kv_headAt (t : Fin cfg0.N) (g : Fin 2) : Cert.Attn.kv (headAt t g) = kvAt t :=
  Fin.ext (by have := g.isLt; show (2 * (t.val % 16) + g.val) / 2 = t.val % 16; omega)

theorem blk_q (t : Fin cfg0.N) (g : Fin 2) (d : Fin 128) (r : Fin 256) : iblk m c 0 t (ix3 g d r) = (m ((c.tc : Thread nD τ).loc main_arg0)) (ix4 (batchAt t) (posAt t r) (headAt t g) d) := by
  refine Eq.trans ?_ (V_q m c (headAt t g) d (batchAt t) (posAt t r))
  have := lt128 t
  blk_ext [iblk, headAt, kvAt, batchAt, posAt, join, idx t]

theorem blk_qs (t : Fin cfg0.N) (g : Fin 2) (r : Fin 256) : iblk m c 1 t (ix3 g 0 r) = (m ((c.tc : Thread nD τ).loc main_arg1)) (ix3 (batchAt t) (posAt t r) (headAt t g)) := by
  refine Eq.trans ?_ (V_qs m c (headAt t g) (batchAt t) (posAt t r))
  have := lt128 t
  blk_ext [iblk, headAt, kvAt, batchAt, posAt, join, idx t]

theorem blk_k (t : Fin cfg0.N) (p : Fin 1024) (d : Fin 128) : iblk m c 2 t (ix4 0 0 p d) = (m ((c.tc : Thread nD τ).loc main_arg2)) (ix4 (batchAt t) p (kvAt t) d) := by
  refine Eq.trans ?_ (V_k m c (batchAt t) (kvAt t) p d)
  have := lt128 t
  blk_ext [iblk, headAt, kvAt, batchAt, posAt, join, idx t]

theorem blk_v (t : Fin cfg0.N) (d : Fin 128) (p : Fin 1024) : iblk m c 3 t (ix4 0 0 d p) = (m ((c.tc : Thread nD τ).loc main_arg3)) (ix4 (batchAt t) p (kvAt t) d) := by
  refine Eq.trans ?_ (V_v m c (batchAt t) (kvAt t) d p)
  have := lt128 t
  blk_ext [iblk, headAt, kvAt, batchAt, posAt, join, idx t]

theorem blk_ks (t : Fin cfg0.N) (p : Fin 1024) : iblk m c 4 t (ix4 0 0 0 p) = (m ((c.tc : Thread nD τ).loc main_arg4)) (ix3 (batchAt t) p (kvAt t)) := by
  refine Eq.trans ?_ (V_ks m c (batchAt t) (kvAt t) p)
  have := lt128 t
  blk_ext [iblk, headAt, kvAt, batchAt, posAt, join, idx t]

theorem blk_vs (t : Fin cfg0.N) (p : Fin 1024) : iblk m c 5 t (ix4 0 0 0 p) = (m ((c.tc : Thread nD τ).loc main_arg5)) (ix3 (batchAt t) p (kvAt t)) := by
  refine Eq.trans ?_ (V_vs m c (batchAt t) (kvAt t) p)
  have := lt128 t
  blk_ext [iblk, headAt, kvAt, batchAt, posAt, join, idx t]

theorem blk_o (t : Fin cfg0.N) (g : Fin 2) (d : Fin 128) (r : Fin 256) : iblk m c 6 t (ix3 g d r) = (m ((c.tc : Thread nD τ).loc main_arg6)) (ix3 (headAt t g) d (join (batchAt t) (posAt t r))) := by
  refine Eq.trans ?_ (congrFun (V_main_arg6 m c) (ix3 (headAt t g) d (join (batchAt t) (posAt t r))))
  have := lt128 t
  blk_ext [iblk, headAt, kvAt, batchAt, posAt, join, idx t]

theorem blk_lse (t : Fin cfg0.N) (g : Fin 2) (r : Fin 256) : iblk m c 7 t (ix3 g 0 r) = (m ((c.tc : Thread nD τ).loc main_arg7)) (ix3 (headAt t g) 0 (join (batchAt t) (posAt t r))) := by
  refine Eq.trans ?_ (congrFun (V_main_arg7 m c) (ix3 (headAt t g) 0 (join (batchAt t) (posAt t r))))
  have := lt128 t
  blk_ext [iblk, headAt, kvAt, batchAt, posAt, join, idx t]

/-! Windows of a block: one of its two heads. -/

theorem window_rows0 {e : EltTy} (x : Vec Ideal S2x128x256 e) (d : Fin 128) (r : Fin 256) :
    window (s := S2x128x256) x ![0, 0, 0] S1x128x256.size inb_S2x128x256_S1x128x256_0_0_0 (ix3 0 d r) = x (ix3 0 d r) := by
  unfold window
  blk_ext
theorem window_rows1 {e : EltTy} (x : Vec Ideal S2x128x256 e) (d : Fin 128) (r : Fin 256) :
    window (s := S2x128x256) x ![1, 0, 0] S1x128x256.size inb_S2x128x256_S1x128x256_1_0_0 (ix3 0 d r) = x (ix3 1 d r) := by
  unfold window
  blk_ext
theorem window_row0 {e : EltTy} (x : Vec Ideal S2x1x256 e) (r : Fin 256) :
    window (s := S2x1x256) x ![0, 0, 0] S1x1x256.size inb_S2x1x256_S1x1x256_0_0_0 (ix3 0 0 r) = x (ix3 0 0 r) := by
  unfold window
  blk_ext
theorem window_row1 {e : EltTy} (x : Vec Ideal S2x1x256 e) (r : Fin 256) :
    window (s := S2x1x256) x ![1, 0, 0] S1x1x256.size inb_S2x1x256_S1x1x256_1_0_0 (ix3 0 0 r) = x (ix3 1 0 r) := by
  unfold window
  blk_ext

variable (b : Blocks Ideal)

theorem keys_eq : keys b = b.k := by
  unfold keys window
  funext y
  blk_ext
theorem valScales_eq : valScales b = b.vs := by
  unfold valScales window
  funext y
  blk_ext
theorem spread_at (p : Fin 1024) (l : Fin 128) : spread b (ix2 p l) = b.ks (ix4 0 0 0 p) := by
  unfold spread
  rw [pay68_at]
  unfold window
  blk_ext
theorem vals_at (d : Fin 128) (p : Fin 1024) : vals b (ix2 d p) = b.v (ix4 0 0 d p) := by
  unfold vals
  rw [pay69_at]
  unfold window
  blk_ext

end Cert.FinishIdeal.Close

end
-- ==== Proof.FIBlock.lean ====
module

public import proofs.«01_k».proof.Proof.FIHost
public import Idealize.ShloMosaic.Lib.StableHlo.ReadAt
public import Idealize.ShloMosaic.Lib.Pipeline.ValueKit

@[expose] public section

set_option maxRecDepth 16384

noncomputable section

/-! The closing call's log-sum-exps and largest magnitudes after its run, over the extended reals, as functions of the arguments. -/

namespace Cert.FinishIdeal.Close

open Cert.FinishIdeal.Gen Cert.Online Cert.Rows Cert.Attn
open Idealize.ShloMosaic Idealize.ShloMosaic.TcCoe Idealize.SL.Sem
open Idealize.ShloMosaic.VecWindow (window put)

variable (m : (ℓ : Loc nD τ sig) → Buf (Elt Ideal) ℓ) (ρ : Dev nD → PrngReg) (c : Dev nD)

/-- The scores of row `r` of grid point `t`'s block, of head `g` of the two. -/
def scoresOf (t : Fin cfg0.N) (g : Fin 2) (r : Fin 256) : Fin 1024 → EReal :=
  Cert.Joined.score (m ((c.tc : Thread nD τ).loc main_arg0)) (m ((c.tc : Thread nD τ).loc main_arg1)) (m ((c.tc : Thread nD τ).loc main_arg2)) (m ((c.tc : Thread nD τ).loc main_arg4)) (batchAt t) (headAt t g) (posAt t r)

theorem score_block (t : Fin cfg0.N) (g : Fin 2) (q : Vec Ideal S1x128x256 .fp8e4m3) (qs : Vec Ideal S1x1x256 .f32)
    (hq : ∀ d r, q (ix3 0 d r) = iblk m c 0 t (ix3 g d r)) (hqs : ∀ r, qs (ix3 0 0 r) = iblk m c 1 t (ix3 g 0 r)) (r : Fin 256) :
    scoreOn (grid0.coords t 1).val (iblk m c 2 t) q qs (fun p => iblk m c 4 t (ix4 0 0 0 p)) r = fun p => scoresOf m c t g r p * (((Real.log 2)⁻¹ : ℝ) : EReal) := by
  funext p
  have en : (grid0.coords t 1).val = t.val / 16 % 4 := (idx t).2.2.2.2.2.2.2.2.2.2
  unfold scoreOn scoresOf Cert.Joined.score kappa
  rw [en, kv_headAt, EReal.coe_mul]
  simp only [hq, hqs, blk_q, blk_qs, blk_k, blk_ks]
  by_cases h : p.val ≤ r.val + t.val / 16 % 4 * 256
  · rw [if_pos h, if_pos (show p.val ≤ (posAt t r).val from by show p.val ≤ t.val / 16 % 4 * 256 + r.val; omega)]
    rw [Finset.sum_congr rfl fun d _ => mul_comm _ _]
    ac_rfl
  · rw [if_neg h, if_neg (show ¬p.val ≤ (posAt t r).val from by show ¬p.val ≤ t.val / 16 % 4 * 256 + r.val; omega)]
    exact (EReal.bot_mul_coe_of_pos (inv_pos.mpr (Real.log_pos one_lt_two))).symm

/-- The log-sum of scores given in units of the logarithm of 2. -/
theorem lse_of (s : Fin 1024 → EReal) :
    peak (fun p => s p * (((Real.log 2)⁻¹ : ℝ) : EReal)) * ((Real.log 2 : ℝ) : EReal)
        + Ideal.log (∑ p, Ideal.exp2 (s p * (((Real.log 2)⁻¹ : ℝ) : EReal) - peak (fun p => s p * (((Real.log 2)⁻¹ : ℝ) : EReal))))
      = peak s + Ideal.log (∑ p, weight s p) := by
  rw [Finset.sum_congr rfl fun p _ => Cert.Joined.weight_scaled (by decide) s p, Cert.Joined.peak_scaled (by decide), Cert.Joined.unscaled]

theorem att_of (s v vs : Fin 1024 → EReal) :
    Ideal.div (∑ p, v p * vs p * Ideal.exp2 (s p * (((Real.log 2)⁻¹ : ℝ) : EReal) - peak (fun p => s p * (((Real.log 2)⁻¹ : ℝ) : EReal))))
        (∑ p, Ideal.exp2 (s p * (((Real.log 2)⁻¹ : ℝ) : EReal) - peak (fun p => s p * (((Real.log 2)⁻¹ : ℝ) : EReal))))
      = Ideal.div (∑ p, weight s p * vs p * v p) (∑ p, weight s p) := by
  rw [Finset.sum_congr rfl fun p _ => Cert.Joined.weight_scaled (by decide) s p]
  refine congrArg (fun x => Ideal.div x _) (Finset.sum_congr rfl fun p _ => ?_)
  rw [Cert.Joined.weight_scaled (by decide) s p]
  generalize weight s p = w
  ac_rfl

/-- The arguments' log-sum-exp and attention output at row `r` of a grid point's block. -/
def lseAt (t : Fin cfg0.N) (g : Fin 2) (r : Fin 256) : EReal := Cert.Joined.lse (m ((c.tc : Thread nD τ).loc main_arg0)) (m ((c.tc : Thread nD τ).loc main_arg1)) (m ((c.tc : Thread nD τ).loc main_arg2)) (m ((c.tc : Thread nD τ).loc main_arg4)) (batchAt t) (headAt t g) (posAt t r)
def attAt (t : Fin cfg0.N) (g : Fin 2) (r : Fin 256) (d : Fin 128) : EReal := Cert.Joined.att (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batchAt t) (headAt t g) (posAt t r) d
def outAt (t : Fin cfg0.N) (h : Fin 32) (r : Fin 256) (d : Fin 128) : EReal := Cert.Joined.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (batchAt t) h (posAt t r) d

section Block

variable (t : Fin cfg0.N)

theorem coord1_lt : (grid0.coords t 1).val < 4 := (grid0.coords t 1).isLt

theorem block_score0 (r : Fin 256) :
    scoreOn (grid0.coords t 1).val (blocksAt m c t).k (window (s := S2x128x256) (blocksAt m c t).q ![0, 0, 0] S1x128x256.size inb_S2x128x256_S1x128x256_0_0_0)
      (window (s := S2x1x256) (blocksAt m c t).qs ![0, 0, 0] S1x1x256.size inb_S2x1x256_S1x1x256_0_0_0) (fun p => (blocksAt m c t).ks (ix4 0 0 0 p)) r = fun p => scoresOf m c t 0 r p * (((Real.log 2)⁻¹ : ℝ) : EReal) :=
  score_block m c t 0 _ _ (fun d r => window_rows0 (iblk m c 0 t) d r) (fun r => window_row0 (iblk m c 1 t) r) r

theorem block_score1 (r : Fin 256) :
    scoreOn (grid0.coords t 1).val (blocksAt m c t).k (window (s := S2x128x256) (blocksAt m c t).q ![1, 0, 0] S1x128x256.size inb_S2x128x256_S1x128x256_1_0_0)
      (window (s := S2x1x256) (blocksAt m c t).qs ![1, 0, 0] S1x1x256.size inb_S2x1x256_S1x1x256_1_0_0) (fun p => (blocksAt m c t).ks (ix4 0 0 0 p)) r = fun p => scoresOf m c t 1 r p * (((Real.log 2)⁻¹ : ℝ) : EReal) :=
  score_block m c t 1 _ _ (fun d r => window_rows1 (iblk m c 0 t) d r) (fun r => window_row1 (iblk m c 1 t) r) r

theorem peak0_at (r : Fin 256) : peak0 (BitVec.ofNat 32 (grid0.coords t 1).val) (blocksAt m c t) (ix2 0 r) = peak fun p => scoresOf m c t 0 r p * (((Real.log 2)⁻¹ : ℝ) : EReal) := by
  unfold peak0
  rw [keys_eq, pay73_at _ (coord1_lt t) _ _ _ _ _ (spread_at (blocksAt m c t))]
  rw [block_score0]

theorem sum0_at (r : Fin 256) : sum0 (BitVec.ofNat 32 (grid0.coords t 1).val) (blocksAt m c t) (ix2 0 r)
    = ∑ p, Ideal.exp2 (scoresOf m c t 0 r p * (((Real.log 2)⁻¹ : ℝ) : EReal) - peak fun p => scoresOf m c t 0 r p * (((Real.log 2)⁻¹ : ℝ) : EReal)) := by
  unfold sum0
  rw [keys_eq, pay75_at _ (coord1_lt t) _ _ _ _ _ (spread_at (blocksAt m c t))]
  rw [block_score0]

/-- The values and their scales. -/
def valOf (d : Fin 128) (p : Fin 1024) : EReal := (m ((c.tc : Thread nD τ).loc main_arg3)) (ix4 (batchAt t) p (kvAt t) d)
def valScaleOf (p : Fin 1024) : EReal := (m ((c.tc : Thread nD τ).loc main_arg5)) (ix3 (batchAt t) p (kvAt t))

theorem vals_args (d : Fin 128) (p : Fin 1024) : vals (blocksAt m c t) (ix2 d p) = valOf m c t d p :=
  (vals_at (blocksAt m c t) d p).trans (blk_v m c t d p)

theorem scales_args (p : Fin 1024) : valScales (blocksAt m c t) (ix4 0 0 0 p) = valScaleOf m c t p :=
  (congrFun (valScales_eq (blocksAt m c t)) _).trans (blk_vs m c t p)

theorem att0_at (d : Fin 128) (r : Fin 256) : att0 (BitVec.ofNat 32 (grid0.coords t 1).val) (blocksAt m c t) (ix2 d r) = attAt m c t 0 r d := by
  unfold att0
  rw [keys_eq, pay76_at _ (coord1_lt t) _ _ _ _ _ (spread_at (blocksAt m c t)), block_score0]
  simp only [vals_args, scales_args]
  rw [att_of]
  unfold attAt Cert.Joined.att scoresOf valOf valScaleOf
  rw [kv_headAt]

theorem lse0_at (r : Fin 256) : k0_pay77 (peak0 (BitVec.ofNat 32 (grid0.coords t 1).val) (blocksAt m c t)) (sum0 (BitVec.ofNat 32 (grid0.coords t 1).val) (blocksAt m c t)) ln2 (ix2 0 r) = lseAt m c t 0 r := by
  rw [pay77_at, peak0_at, sum0_at]
  exact lse_of _

theorem att1_at (d : Fin 128) (r : Fin 256) : att1 (BitVec.ofNat 32 (grid0.coords t 1).val) (blocksAt m c t) (ix2 d r) = attAt m c t 1 r d := by
  unfold att1
  rw [keys_eq, pay86_at _ (coord1_lt t) _ _ _ _ _ (spread_at (blocksAt m c t)), block_score1]
  simp only [vals_args, scales_args]
  rw [att_of]
  unfold attAt Cert.Joined.att scoresOf valOf valScaleOf
  rw [kv_headAt]

theorem lse1_at (r : Fin 256) : lse1 (BitVec.ofNat 32 (grid0.coords t 1).val) (blocksAt m c t) (ix2 0 r) = lseAt m c t 1 r := by
  unfold lse1
  rw [keys_eq, pay87_at _ (coord1_lt t) _ _ _ _ _ (spread_at (blocksAt m c t))]
  rw [block_score1]
  exact lse_of _

theorem out0_at (d : Fin 128) (r : Fin 256) :
    k0_pay78 (peak0 (BitVec.ofNat 32 (grid0.coords t 1).val) (blocksAt m c t)) (sum0 (BitVec.ofNat 32 (grid0.coords t 1).val) (blocksAt m c t)) (att0 (BitVec.ofNat 32 (grid0.coords t 1).val) (blocksAt m c t)) ln2
      (window (s := S2x1x256) (blocksAt m c t).lse ![0, 0, 0] S1x1x256.size inb_S2x1x256_S1x1x256_0_0_0) (window (s := S2x128x256) (blocksAt m c t).o ![0, 0, 0] S1x128x256.size inb_S2x128x256_S1x128x256_0_0_0) (ix2 d r)
      = outAt m c t (headAt t 0) r d := by
  rw [pay78_at, lse0_at, att0_at]
  unfold outAt Cert.Joined.out
  exact congrArg₂ (fun x y => Cert.Joined.mix x _ y _) ((window_row0 (iblk m c 7 t) r).trans (blk_lse m c t 0 r)) ((window_rows0 (iblk m c 6 t) d r).trans (blk_o m c t 0 d r))

theorem out1_at (d : Fin 128) (r : Fin 256) :
    k0_pay88 (att1 (BitVec.ofNat 32 (grid0.coords t 1).val) (blocksAt m c t)) (lse1 (BitVec.ofNat 32 (grid0.coords t 1).val) (blocksAt m c t))
      (window (s := S2x1x256) (blocksAt m c t).lse ![1, 0, 0] S1x1x256.size inb_S2x1x256_S1x1x256_1_0_0) (window (s := S2x128x256) (blocksAt m c t).o ![1, 0, 0] S1x128x256.size inb_S2x128x256_S1x128x256_1_0_0) (ix2 d r)
      = outAt m c t (headAt t 1) r d := by
  rw [pay88_at, lse1_at, att1_at]
  unfold outAt Cert.Joined.out
  exact congrArg₂ (fun x y => Cert.Joined.mix x _ y _) ((window_row1 (iblk m c 7 t) r).trans (blk_lse m c t 1 r)) ((window_rows1 (iblk m c 6 t) d r).trans (blk_o m c t 1 d r))

theorem put_rows (a : Vec Ideal S2x1x256 .f32) (w0 w1 : Vec Ideal S1x1x256 .f32) (r : Fin 256) :
    put (s := S2x1x256) (put (s := S2x1x256) a ![0, 0, 0] S1x1x256.size w0) ![1, 0, 0] S1x1x256.size w1 (ix3 0 0 r) = w0 (ix3 0 0 r)
    ∧ put (s := S2x1x256) (put (s := S2x1x256) a ![0, 0, 0] S1x1x256.size w0) ![1, 0, 0] S1x1x256.size w1 (ix3 1 0 r) = w1 (ix3 0 0 r) := by
  have hr := r.isLt
  have no : ¬∀ a : Fin 3, (![1, 0, 0] : Fin 3 → ℕ) a ≤ (ix3 (n0 := 2) (n1 := 1) (n2 := 256) 0 0 r a).val ∧ (ix3 (n0 := 2) (n1 := 1) (n2 := 256) 0 0 r a).val < (![1, 0, 0] : Fin 3 → ℕ) a + S1x1x256.size a :=
    fun h => absurd (show 1 ≤ 0 from (h 0).1) (by decide)
  have in0 : ∀ a : Fin 3, (![0, 0, 0] : Fin 3 → ℕ) a ≤ (ix3 (n0 := 2) (n1 := 1) (n2 := 256) 0 0 r a).val ∧ (ix3 (n0 := 2) (n1 := 1) (n2 := 256) 0 0 r a).val < (![0, 0, 0] : Fin 3 → ℕ) a + S1x1x256.size a := fun a =>
    match a with
    | 0 => (⟨le_refl 0, Nat.zero_lt_one⟩ : 0 ≤ 0 ∧ 0 < 0 + 1)
    | 1 => (⟨le_refl 0, Nat.zero_lt_one⟩ : 0 ≤ 0 ∧ 0 < 0 + 1)
    | 2 => (⟨Nat.zero_le _, by omega⟩ : 0 ≤ r.val ∧ r.val < 0 + 256)
  have in1 : ∀ a : Fin 3, (![1, 0, 0] : Fin 3 → ℕ) a ≤ (ix3 (n0 := 2) (n1 := 1) (n2 := 256) 1 0 r a).val ∧ (ix3 (n0 := 2) (n1 := 1) (n2 := 256) 1 0 r a).val < (![1, 0, 0] : Fin 3 → ℕ) a + S1x1x256.size a := fun a =>
    match a with
    | 0 => (⟨le_refl 1, Nat.lt_succ_self 1⟩ : 1 ≤ 1 ∧ 1 < 1 + 1)
    | 1 => (⟨le_refl 0, Nat.zero_lt_one⟩ : 0 ≤ 0 ∧ 0 < 0 + 1)
    | 2 => (⟨Nat.zero_le _, by omega⟩ : 0 ≤ r.val ∧ r.val < 0 + 256)
  constructor
  · refine (dif_neg no).trans ((dif_pos in0).trans (congrArg w0 (funext fun a => ?_)))
    match a with
    | 0 => exact Fin.ext rfl
    | 1 => exact Fin.ext rfl
    | 2 => exact Fin.ext (Nat.sub_zero r.val)
  · refine (dif_pos in1).trans (congrArg w1 (funext fun a => ?_))
    match a with
    | 0 => exact Fin.ext rfl
    | 1 => exact Fin.ext rfl
    | 2 => exact Fin.ext (Nat.sub_zero r.val)

theorem lses_at (g : Fin 2) (r : Fin 256) : lses (BitVec.ofNat 32 (grid0.coords t 1).val) (blocksAt m c t) (ix3 g 0 r) = lseAt m c t g r := by
  unfold lses lseFrom
  match g with
  | 0 =>
    refine (put_rows _ _ _ r).1.trans ?_
    rw [pay79_at, ← pay77_at]
    exact lse0_at m c t r
  | 1 =>
    refine (put_rows _ _ _ r).2.trans ?_
    rw [pay89_at]
    exact lse1_at m c t r

/-- One row of the running maxima stored. -/
theorem put_head (a : Vec Ideal S32x128 .f32) (off : Fin 2 → ℕ) (H : ℕ) (ho : off = ![H, 0]) (w : Vec Ideal S1x128 .f32) (h : Fin 32) (j : Fin 128) :
    put (s := S32x128) a off S1x128.size w (ix2 h j) = if h.val = H then w (ix2 0 j) else a (ix2 h j) := by
  subst ho
  have hj := j.isLt
  by_cases e : h.val = H
  · have h0 : ∀ a : Fin 2, (![H, 0] : Fin 2 → ℕ) a ≤ (ix2 h j a).val ∧ (ix2 h j a).val < (![H, 0] : Fin 2 → ℕ) a + S1x128.size a := fun a =>
      match a with
      | 0 => (⟨by omega, by omega⟩ : H ≤ h.val ∧ h.val < H + 1)
      | 1 => (⟨Nat.zero_le _, by omega⟩ : 0 ≤ j.val ∧ j.val < 0 + 128)
    rw [if_pos e]
    refine (dif_pos h0).trans (congrArg w (funext fun a => ?_))
    match a with
    | 0 => exact Fin.ext (show h.val - H = 0 by omega)
    | 1 => exact Fin.ext (Nat.sub_zero j.val)
  · rw [if_neg e]
    refine dif_neg fun h0 => e ?_
    have h1 : H ≤ h.val ∧ h.val < H + 1 := h0 0
    omega

theorem window_head (a : Vec Ideal S32x128 .f32) (off : Fin 2 → ℕ) (h : Fin 32) (ho : off = ![h.val, 0]) (inb) (j : Fin 128) :
    window (s := S32x128) a off S1x128.size inb (ix2 0 j) = a (ix2 h j) := by
  subst ho
  unfold window
  refine congrArg a (funext fun x => ?_)
  match x with
  | 0 => exact Fin.ext (show h.val + 1 * 0 = h.val by omega)
  | 1 => exact Fin.ext (show 0 + 1 * j.val = j.val by omega)

/-- The largest magnitude of a head's joined output over a block's rows. -/
def magAt (h : Fin 32) : EReal := peak fun r : Fin 256 => peak fun d : Fin 128 => FloatOps.absf (F := Ideal) (φ := .f32) (outAt m c t h r d)

theorem amaxStep_at (a : Vec Ideal S32x128 .f32) (h : Fin 32) (j : Fin 128) :
    amaxStep (grid0.coords t) (blocksAt m c t) a (ix2 h j) = if h.val / 2 = t.val % 16 then max (a (ix2 h j)) (magAt m c t h) else a (ix2 h j) := by
  have o0 : k0_off1 (grid0.coords t) 0#32 = ![2 * (t.val % 16), 0] := (off1_0 _).trans (by rw [coords_2])
  have o1 : k0_off1 (grid0.coords t) 1#32 = ![2 * (t.val % 16) + 1, 0] := (off1_1 _).trans (by rw [coords_2])
  unfold amaxStep amaxHalf
  rw [put_head _ _ _ o1, put_head _ _ _ o0]
  by_cases h1 : h.val = 2 * (t.val % 16) + 1
  · have e : h = headAt t 1 := Fin.ext h1
    rw [if_pos h1, if_pos (by omega), pay90_at, window_head _ _ h (by rw [o1, h1])]
    unfold magAt
    rw [e]
    exact congrArg (fun x => max (a (ix2 (headAt t 1) j)) x) (congrArg peak (funext fun r => congrArg peak (funext fun d => congrArg _ (out1_at m c t d r))))
  · rw [if_neg h1]
    by_cases h0 : h.val = 2 * (t.val % 16)
    · have e : h = headAt t 0 := Fin.ext h0
      rw [if_pos h0, if_pos (by omega), pay80_at, window_head _ _ h (by rw [o0, h0])]
      unfold magAt
      rw [e]
      exact congrArg (fun x => max (a (ix2 (headAt t 0) j)) x) (congrArg peak (funext fun r => congrArg peak (funext fun d => congrArg _ (out0_at m c t d r))))
    · rw [if_neg h0, if_neg (by omega)]

end Block

end Cert.FinishIdeal.Close

end
-- ==== Proof.FIValue.lean ====
module

public import proofs.«01_k».proof.Proof.FIBlock
public import Idealize.ShloMosaic.Lib.StableHlo.ReadAt
public import Idealize.ShloMosaic.Lib.Pipeline.ValueKit

@[expose] public section

set_option maxRecDepth 16384

noncomputable section

/-! The closing call's two results after its run, over the extended reals, as functions of the arguments. -/

namespace Cert.FinishIdeal.Close

open Cert.FinishIdeal.Gen Cert.Online Cert.Rows Cert.Attn
open Idealize.ShloMosaic Idealize.ShloMosaic.TcCoe Idealize.SL.Sem
open Idealize.ShloMosaic.VecWindow (window put)

variable (m : (ℓ : Loc nD τ sig) → Buf (Elt Ideal) ℓ) (ρ : Dev nD → PrngReg) (c : Dev nD)

/-! ## The running maxima -/

theorem absf_nonneg (x : EReal) : 0 ≤ FloatOps.absf (F := Ideal) (φ := .f32) x := by
  show (0 : EReal) ≤ max x (-x)
  rcases le_total 0 x with h | h
  · exact le_max_of_le_left h
  · exact le_max_of_le_right (EReal.neg_nonneg.mpr h)

theorem zero_at (h : Fin 32) (j : Fin 128) : k0_pay67 (F := Ideal) (ix2 h j) = 0 := by
  pointwise [k0_pay67]

/-- The maxima after grid point `n` are the largest among the points passed that write the row, and 0. -/
theorem amaxAt_le (h : Fin 32) (j : Fin 128) (x : EReal) : ∀ (n : ℕ) (hn : n < cfg0.N),
    amaxAt m c n hn (ix2 h j) ≤ x ↔ 0 ≤ x ∧ ∀ t : Fin cfg0.N, t.val ≤ n → h.val / 2 = t.val % 16 → magAt m c t h ≤ x := by
  intro n
  induction n with
  | zero =>
    intro hn
    rw [show amaxAt m c 0 hn = amaxStep (grid0.coords ⟨0, hn⟩) (blocksAt m c ⟨0, hn⟩) (k0_pay67 (F := Ideal)) from amaxAt_first m c ⟨0, hn⟩ rfl, amaxStep_at, zero_at]
    by_cases e : h.val / 2 = (⟨0, hn⟩ : Fin cfg0.N).val % 16
    · rw [if_pos e, max_le_iff]
      refine and_congr_right fun _ => ⟨fun hx t ht _ => ?_, fun hx => hx _ (le_refl 0) e⟩
      rw [show t = ⟨0, hn⟩ from Fin.ext (Nat.le_zero.mp ht)]
      exact hx
    · rw [if_neg e]
      refine ⟨fun hx => ⟨hx, fun t ht et => ?_⟩, fun hx => hx.1⟩
      rw [show t = ⟨0, hn⟩ from Fin.ext (Nat.le_zero.mp ht)] at et
      exact absurd et e
  | succ n ih =>
    intro hn
    rw [show amaxAt m c (n + 1) hn = amaxStep (grid0.coords ⟨n + 1, hn⟩) (blocksAt m c ⟨n + 1, hn⟩) (amaxAt m c n (Nat.lt_of_succ_lt hn)) from rfl, amaxStep_at]
    by_cases e : h.val / 2 = (⟨n + 1, hn⟩ : Fin cfg0.N).val % 16
    · rw [if_pos e, max_le_iff, ih]
      refine ⟨fun hx => ⟨hx.1.1, fun t ht et => ?_⟩, fun hx => ⟨⟨hx.1, fun t ht et => hx.2 t (by omega) et⟩, hx.2 _ (le_refl _) e⟩⟩
      rcases Nat.lt_or_ge n t.val with h1 | h1
      · rw [show t = ⟨n + 1, hn⟩ from Fin.ext (by show t.val = n + 1; omega)]
        exact hx.2
      · exact hx.1.2 t h1 et
    · rw [if_neg e, ih]
      refine and_congr_right fun _ => ⟨fun hx t ht et => ?_, fun hx t ht et => hx t (by omega) et⟩
      rcases Nat.lt_or_ge n t.val with h1 | h1
      · rw [show t = ⟨n + 1, hn⟩ from Fin.ext (by show t.val = n + 1; omega)] at et
        exact absurd et e
      · exact hx t h1 et

/-- The largest magnitudes of the arguments. -/
def largest (h : Fin 32) : EReal := Cert.Joined.largest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) h

theorem largest_le (h : Fin 32) (x : EReal) :
    largest m c h ≤ x ↔ ∀ (b : Fin 2) (i : Fin 1024) (d : Fin 128), FloatOps.absf (F := Ideal) (φ := .f32) (Cert.Joined.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b h i d) ≤ x := by
  unfold largest Cert.Joined.largest
  rw [Cert.Joined.peak_le]
  refine forall_congr' fun b => ?_
  rw [Cert.Joined.peak_le]
  exact forall_congr' fun i => Cert.Joined.peak_le _ _

theorem magAt_le (t : Fin cfg0.N) (h : Fin 32) (x : EReal) :
    magAt m c t h ≤ x ↔ ∀ (r : Fin 256) (d : Fin 128), FloatOps.absf (F := Ideal) (φ := .f32) (Cert.Joined.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (batchAt t) h (posAt t r) d) ≤ x := by
  unfold magAt
  rw [Cert.Joined.peak_le]
  exact forall_congr' fun r => Cert.Joined.peak_le _ _

theorem amaxAt_last (h : Fin 32) (j : Fin 128) (n : ℕ) (hn : n < cfg0.N) (e : n = 127) : amaxAt m c n hn (ix2 h j) = largest m c h := by
  refine eq_of_forall_ge_iff fun x => ?_
  rw [amaxAt_le, largest_le]
  constructor
  · rintro ⟨_, hx⟩ b i d
    have hb := b.isLt
    have hi := i.isLt
    have hh := h.isLt
    have ht : 64 * b.val + 16 * (i.val / 256) + h.val / 2 < 128 := by omega
    let t : Fin cfg0.N := ⟨64 * b.val + 16 * (i.val / 256) + h.val / 2, lt_of_lt_of_eq ht N_0.symm⟩
    have tv : t.val = 64 * b.val + 16 * (i.val / 256) + h.val / 2 := rfl
    have key := (magAt_le m c t h x).mp (hx t (by omega) (by omega)) ⟨i.val % 256, Nat.mod_lt _ (by decide)⟩ d
    have eb : batchAt t = b := Fin.ext (by show t.val / 64 = b.val; omega)
    have ei : posAt t ⟨i.val % 256, Nat.mod_lt _ (by decide)⟩ = i := Fin.ext (by show t.val / 16 % 4 * 256 + i.val % 256 = i.val; omega)
    rw [eb, ei] at key
    exact key
  · intro hx
    exact ⟨(absf_nonneg _).trans (hx 0 0 0), fun t _ _ => (magAt_le m c t h x).mpr fun r d => hx _ _ d⟩

/-! ## The arrays after the run -/

/-- The log-sum-exps of the arguments. -/
def lseOf : S32x1x2048.Idx → EReal := fun y => Cert.Joined.lse (m ((c.tc : Thread nD τ).loc main_arg0)) (m ((c.tc : Thread nD τ).loc main_arg1)) (m ((c.tc : Thread nD τ).loc main_arg2)) (m ((c.tc : Thread nD τ).loc main_arg4)) (hi (y 2)) (y 0) (lo (y 2))

/-- The largest magnitudes, on every lane. -/
def largestOf : S32x128.Idx → EReal := fun y => largest m c (y 0)

theorem lse_point (t : Fin cfg0.N) (g : Fin 2) (r : Fin 256) :
    lses (BitVec.ofNat 32 (grid0.coords t 1).val) (blocksAt m c t) (ix3 g 0 r) = lseOf m c (ix3 (headAt t g) 0 (join (batchAt t) (posAt t r))) := by
  rw [lses_at]
  unfold lseAt lseOf
  show _ = Cert.Joined.lse _ _ _ _ (hi (join (batchAt t) (posAt t r))) (headAt t g) (lo (join (batchAt t) (posAt t r)))
  rw [hi_join, lo_join]

theorem arr_lse : (dats m 0 c).arrAt 10 cfg0.N = lseOf m c := by
  refine (dats m 0 c).arrAt_eq_of_covers 10 _ (by decide +kernel) fun t hf y => ?_
  blk_simp
  rw [after0_10]
  have e : (win0_10.blk t).view.emb y = ix3 (headAt t (y 0)) 0 (join (batchAt t) (posAt t (y 2))) := by
    have := lt128 t
    blk_ext [headAt, batchAt, posAt, join, idx t]
  have e' : y = ix3 (n0 := 2) (n1 := 1) (n2 := 256) (y 0) 0 (y 2) := by blk_ext
  rw [e]
  exact (congrArg (lses (BitVec.ofNat 32 (grid0.coords t 1).val) (blocksAt m c t)) e').trans (lse_point m c t (y 0) (y 2))

theorem arr_largest : (dats m 0 c).arrAt 11 cfg0.N = largestOf m c := by
  refine (dats m 0 c).arrAt_eq_of_covers 11 _ (by decide +kernel) fun t hf y => ?_
  have h := (flush0_11 t).mp hf
  have h' := lt128 t
  blk_simp
  rw [after0_11]
  have e : (win0_11.blk t).view.emb y = ix2 (y 0) (y 1) := by blk_ext [idx t]
  have e' : y = ix2 (n0 := 32) (n1 := 128) (y 0) (y 1) := by blk_ext
  rw [e]
  exact (congrArg (amaxAt m c t.val t.isLt) e').trans (amaxAt_last m c (y 0) (y 1) t.val t.isLt (by omega))

theorem tail_lse_at (b : Fin 2) (i : Fin 1024) (h : Fin 32) :
    Pipeline.afterTail₀ cfgs (dats m) 0 (V0 m) [hostOps1] c main_v21 (ix3 b i h) = Cert.Joined.lse (m ((c.tc : Thread nD τ).loc main_arg0)) (m ((c.tc : Thread nD τ).loc main_arg1)) (m ((c.tc : Thread nD τ).loc main_arg2)) (m ((c.tc : Thread nD τ).loc main_arg4)) b h i - Cert.Joined.logSeen i := by
  have hj : lseOf m c (ix3 h 0 (join b i)) = Cert.Joined.lse (m ((c.tc : Thread nD τ).loc main_arg0)) (m ((c.tc : Thread nD τ).loc main_arg1)) (m ((c.tc : Thread nD τ).loc main_arg2)) (m ((c.tc : Thread nD τ).loc main_arg4)) b h i := by
    unfold lseOf
    show Cert.Joined.lse _ _ _ _ (hi (join b i)) h (lo (join b i)) = _
    rw [hi_join, lo_join]
  rw [← hj]
  unfold Pipeline.afterTail₀
  after_reads_at
  erw [Pipeline.withArrays_arr spec0 launch0.win.arr_inj c (V0 m c) _ 10]
  have e := arr_lse m c
  erw [e]
  unfold Cert.Joined.logSeen
  rfl

theorem tail_largest_at (h : Fin 32) :
    Pipeline.afterTail₀ cfgs (dats m) 0 (V0 m) [hostOps1] c main_v23 (ix1 h) = largest m c h := by
  unfold Pipeline.afterTail₀
  after_reads_at
  erw [Pipeline.withArrays_arr spec0 launch0.win.arr_inj c (V0 m c) _ 11]
  have e := arr_largest m c
  erw [e]
  unfold largestOf
  rfl

/-- The first result: the log-sum-exps less the logarithms of the numbers of keys. -/
def result0 : S2x1024x32.Idx → EReal := fun j => Cert.Joined.lse (m ((c.tc : Thread nD τ).loc main_arg0)) (m ((c.tc : Thread nD τ).loc main_arg1)) (m ((c.tc : Thread nD τ).loc main_arg2)) (m ((c.tc : Thread nD τ).loc main_arg4)) (j 0) (j 2) (j 1) - Cert.Joined.logSeen (j 1)

/-- The second result: every head's largest magnitude. -/
def result1 : S32.Idx → EReal := fun j => Cert.Joined.largest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (j 0)

theorem tail_lse : Pipeline.afterTail₀ cfgs (dats m) 0 (V0 m) [hostOps1] c main_v21 = result0 m c := by
  funext j
  rw [eq_ix3 (n0 := 2) (n1 := 1024) (n2 := 32) j]
  exact tail_lse_at m c _ _ _

theorem tail_largest : Pipeline.afterTail₀ cfgs (dats m) 0 (V0 m) [hostOps1] c main_v23 = result1 m c := by
  funext j
  have e : j = ix1 (n0 := 32) (j 0) := by blk_ext
  rw [e]
  exact tail_largest_at m c _

/-- The call's run: both results, and the arguments unchanged. -/
theorem run_value : θ_run defs (onTc (τ := τ) (main (F := Ideal))) ⟨m, fun _ => 0, ρ⟩ (fun r => ∀ c : Dev nD,
      r.2.mem ((c.tc : Thread nD τ).loc main_v21) = result0 m c
      ∧ r.2.mem ((c.tc : Thread nD τ).loc main_v23) = result1 m c
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))) :=
  (θ_run defs _ _).mono (fun _ h c => ⟨((h c).2 main_v21 (Pipeline.mem_restRefs_of main_v21 (by decide) (by decide))).trans (tail_lse m c),
      ((h c).2 main_v23 (Pipeline.mem_restRefs_of main_v23 (by decide) (by decide))).trans (tail_largest m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.FinishIdeal.Close

end
-- ==== Proof.MIValue.lean ====
module

public import proofs.«01_k».proof.Proof.Gen.MergeIdeal.Frame
public import proofs.«01_k».proof.Proof.Joined
public import Idealize.ShloMosaic.Lib.StableHlo.ReadAt
public import Idealize.ShloMosaic.Lib.Pointwise
public import Idealize.ShloMosaic.Lib.Pipeline.ValueKit

@[expose] public section

set_option maxRecDepth 16384

noncomputable section

/-! The second reference's two results after its run, over the extended reals. -/

namespace Cert.MergeIdeal.Soft

open Cert.MergeIdeal.Gen Cert.Online Cert.Rows Cert.Attn
open Idealize.ShloMosaic Idealize.ShloMosaic.TcCoe Idealize.SL.Sem

theorem inv_sqrt_d : Named.named (F := Ideal) Cert.MergeIdeal.κ "inv_sqrt_d" (φ := .f32) 0x3DB504F3#32 = (((Real.sqrt 128)⁻¹ : ℝ) : EReal) :=
  IdealRules.named_const.ideal_named_scalar _ _ _ _ rfl

/-- The maximum's starting point. -/
theorem ofBits_neg_inf : Ideal.ofBits .f32 0xFF800000#32 = ⊥ := by
  unfold Ideal.ofBits Ideal.ieee
  dsimp only
  rw [if_pos (by decide), if_pos (by decide), if_pos (by decide)]

section Payloads

variable (q k : Vec Ideal S2x32x1024x128 .fp8e4m3) (qs : Vec Ideal S2x32x1024x1 .f32) (ks : Vec Ideal S2x32x1x1024 .f32)

/-- The score of row `i` against key `p`. -/
def scoreAt (b : Fin 2) (h : Fin 32) (i p : Fin 1024) : EReal :=
  if p.val ≤ i.val then (∑ d : Fin 128, q (ix4 b h i d) * k (ix4 b h p d)) * (qs (ix4 b h i 0) * (((Real.sqrt 128)⁻¹ : ℝ) : EReal)) * ks (ix4 b h 0 p) else ⊥

theorem pay1_at (b : Fin 2) (h : Fin 32) (i p : Fin 1024) : k0_pay1 q k qs ks (ix4 b h i p) = scoreAt q k qs ks b h i p := by
  have hp := p.isLt
  have hi := i.isLt
  pointwise [k0_pay1]
  rw [inv_sqrt_d, Cert.Joined.select_sle _ _ (by omega) (by omega), ofBits_neg_inf]; rfl

theorem pay2_at (b : Fin 2) (h : Fin 32) (i : Fin 1024) : k0_pay2 q k qs ks (ix4 b h i 0) = peak (scoreAt q k qs ks b h i) := by
  pointwise [k0_pay2]
  rw [ofBits_neg_inf]; simp only [pay1_at]; rfl

theorem pay3_at (b : Fin 2) (h : Fin 32) (i p : Fin 1024) : k0_pay3 q k qs ks (ix4 b h i p) = weight (scoreAt q k qs ks b h i) p := by
  pointwise [k0_pay3]
  rw [pay1_at, pay2_at]; rfl

theorem pay4_at (b : Fin 2) (h : Fin 32) (i : Fin 1024) : k0_pay4 q k qs ks (ix4 b h i 0) = ∑ p, weight (scoreAt q k qs ks b h i) p := by
  pointwise [k0_pay4]
  simp only [pay3_at]

theorem pay5_at (vs : Vec Ideal S2x32x1x1024 .f32) (b : Fin 2) (h : Fin 32) (i p : Fin 1024) : k0_pay5 q k qs ks vs (ix4 b h i p) = weight (scoreAt q k qs ks b h i) p * vs (ix4 b h 0 p) := by
  pointwise [k0_pay5]
  rw [pay3_at]

theorem pay6_at (m l : FVec Ideal S2x32x1024x1 .f32) (b : Fin 2) (h : Fin 32) (i : Fin 1024) : k0_pay6 m l (ix4 b h i 0) = m (ix4 b h i 0) + Ideal.log (l (ix4 b h i 0)) := by
  pointwise [k0_pay6]

theorem pay7_at (m l : FVec Ideal S2x32x1024x1 .f32) (w : FVec Ideal S2x32x1024x1024 .bf16) (v : Vec Ideal S2x32x1024x128 .fp8e4m3) (lp : Vec Ideal S2x32x1024x1 .f32) (o : Vec Ideal S2x32x1024x128 .f32) (h : Fin 32) :
    k0_pay7 m l w v lp o (ix4 0 h 0 0)
      = peak fun b : Fin 2 => peak fun i : Fin 1024 => peak fun d : Fin 128 => FloatOps.absf (F := Ideal) (φ := .f32)
          (Cert.Joined.mix (lp (ix4 b h i 0)) (k0_pay6 m l (ix4 b h i 0)) (o (ix4 b h i d)) (Ideal.div (∑ p : Fin 1024, w (ix4 b h i p) * v (ix4 b h p d)) (l (ix4 b h i 0)))) := by
  pointwise [k0_pay7]
  rw [ofBits_neg_inf]
  rfl

end Payloads

variable (m : (ℓ : Loc nD τ sig) → Buf (Elt Ideal) ℓ) (ρ : Dev nD → PrngReg) (c : Dev nD)

theorem V_q (b : Fin 2) (h : Fin 32) (i : Fin 1024) (d : Fin 128) : V m c main_v0 (ix4 b h i d) = m ((c.tc : Thread nD τ).loc main_arg0) (ix4 b i h d) := by
  unfold V
  after_reads_at

theorem V_qs (b : Fin 2) (h : Fin 32) (i : Fin 1024) : V m c main_v2 (ix4 b h i 0) = m ((c.tc : Thread nD τ).loc main_arg1) (ix3 b i h) := by
  unfold V
  after_reads_at

theorem V_k (b : Fin 2) (h : Fin 32) (p : Fin 1024) (d : Fin 128) : V m c main_v6 (ix4 b h p d) = m ((c.tc : Thread nD τ).loc main_arg2) (ix4 b p (kv h) d) := by
  unfold V
  after_reads_at
  rfl

theorem V_v (b : Fin 2) (h : Fin 32) (p : Fin 1024) (d : Fin 128) : V m c main_v10 (ix4 b h p d) = m ((c.tc : Thread nD τ).loc main_arg3) (ix4 b p (kv h) d) := by
  unfold V
  after_reads_at
  rfl

theorem V_ks (b : Fin 2) (h : Fin 32) (p : Fin 1024) : V m c main_v15 (ix4 b h 0 p) = m ((c.tc : Thread nD τ).loc main_arg4) (ix3 b p (kv h)) := by
  unfold V
  after_reads_at
  rfl

theorem V_vs (b : Fin 2) (h : Fin 32) (p : Fin 1024) : V m c main_v20 (ix4 b h 0 p) = m ((c.tc : Thread nD τ).loc main_arg5) (ix3 b p (kv h)) := by
  unfold V
  after_reads_at
  rfl

theorem V_o (b : Fin 2) (h : Fin 32) (i : Fin 1024) (d : Fin 128) : V m c main_v22 (ix4 b h i d) = m ((c.tc : Thread nD τ).loc main_arg6) (ix3 h d (join b i)) := by
  unfold V
  after_reads_at
  rfl

theorem V_lse (b : Fin 2) (h : Fin 32) (i : Fin 1024) : V m c main_v25 (ix4 b h i 0) = m ((c.tc : Thread nD τ).loc main_arg7) (ix3 h 0 (join b i)) := by
  unfold V
  after_reads_at
  rfl

/-- Every window is its whole array. -/
theorem idx : ∀ t : Fin cfg0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0] ∧ win0_8.index t = ![0, 0, 0, 0] ∧ win0_9.index t = ![0, 0, 0, 0] :=
  (by decide +kernel : ∀ t : Fin grid0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0] ∧ win0_8.index t = ![0, 0, 0, 0] ∧ win0_9.index t = ![0, 0, 0, 0])

theorem blk_q (t : Fin cfg0.N) (b : Fin 2) (h : Fin 32) (i : Fin 1024) (d : Fin 128) : iblk m c 0 t (ix4 b h i d) = m ((c.tc : Thread nD τ).loc main_arg0) (ix4 b i h d) := by
  refine Eq.trans ?_ (V_q m c b h i d)
  blk_ext [iblk, idx t]

theorem blk_qs (t : Fin cfg0.N) (b : Fin 2) (h : Fin 32) (i : Fin 1024) : iblk m c 1 t (ix4 b h i 0) = m ((c.tc : Thread nD τ).loc main_arg1) (ix3 b i h) := by
  refine Eq.trans ?_ (V_qs m c b h i)
  blk_ext [iblk, idx t]

theorem blk_k (t : Fin cfg0.N) (b : Fin 2) (h : Fin 32) (p : Fin 1024) (d : Fin 128) : iblk m c 2 t (ix4 b h p d) = m ((c.tc : Thread nD τ).loc main_arg2) (ix4 b p (kv h) d) := by
  refine Eq.trans ?_ (V_k m c b h p d)
  blk_ext [iblk, idx t]

theorem blk_v (t : Fin cfg0.N) (b : Fin 2) (h : Fin 32) (p : Fin 1024) (d : Fin 128) : iblk m c 3 t (ix4 b h p d) = m ((c.tc : Thread nD τ).loc main_arg3) (ix4 b p (kv h) d) := by
  refine Eq.trans ?_ (V_v m c b h p d)
  blk_ext [iblk, idx t]

theorem blk_ks (t : Fin cfg0.N) (b : Fin 2) (h : Fin 32) (p : Fin 1024) : iblk m c 4 t (ix4 b h 0 p) = m ((c.tc : Thread nD τ).loc main_arg4) (ix3 b p (kv h)) := by
  refine Eq.trans ?_ (V_ks m c b h p)
  blk_ext [iblk, idx t]

theorem blk_vs (t : Fin cfg0.N) (b : Fin 2) (h : Fin 32) (p : Fin 1024) : iblk m c 5 t (ix4 b h 0 p) = m ((c.tc : Thread nD τ).loc main_arg5) (ix3 b p (kv h)) := by
  refine Eq.trans ?_ (V_vs m c b h p)
  blk_ext [iblk, idx t]

theorem blk_o (t : Fin cfg0.N) (b : Fin 2) (h : Fin 32) (i : Fin 1024) (d : Fin 128) : iblk m c 6 t (ix4 b h i d) = m ((c.tc : Thread nD τ).loc main_arg6) (ix3 h d (join b i)) := by
  refine Eq.trans ?_ (V_o m c b h i d)
  blk_ext [iblk, idx t]

theorem blk_lse (t : Fin cfg0.N) (b : Fin 2) (h : Fin 32) (i : Fin 1024) : iblk m c 7 t (ix4 b h i 0) = m ((c.tc : Thread nD τ).loc main_arg7) (ix3 h 0 (join b i)) := by
  refine Eq.trans ?_ (V_lse m c b h i)
  blk_ext [iblk, idx t]

theorem score_args (t : Fin cfg0.N) (b : Fin 2) (h : Fin 32) (i : Fin 1024) :
    scoreAt (iblk m c 0 t) (iblk m c 2 t) (iblk m c 1 t) (iblk m c 4 t) b h i = Cert.Joined.score (m ((c.tc : Thread nD τ).loc main_arg0)) (m ((c.tc : Thread nD τ).loc main_arg1)) (m ((c.tc : Thread nD τ).loc main_arg2)) (m ((c.tc : Thread nD τ).loc main_arg4)) b h i := by
  funext p
  unfold scoreAt Cert.Joined.score
  simp only [blk_q, blk_qs, blk_k, blk_ks]

/-- The log-sum-exps of the arguments. -/
def lseOf : S2x32x1024x1.Idx → EReal := fun y => Cert.Joined.lse (m ((c.tc : Thread nD τ).loc main_arg0)) (m ((c.tc : Thread nD τ).loc main_arg1)) (m ((c.tc : Thread nD τ).loc main_arg2)) (m ((c.tc : Thread nD τ).loc main_arg4)) (y 0) (y 1) (y 2)

/-- The largest magnitudes. -/
def largestOf : S1x32x1x1.Idx → EReal := fun y => Cert.Joined.largest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (y 1)

theorem lse_point (t : Fin cfg0.N) (b : Fin 2) (h : Fin 32) (i : Fin 1024) :
    k0_pay6 (k0_pay2 (iblk m c 0 t) (iblk m c 2 t) (iblk m c 1 t) (iblk m c 4 t)) (k0_pay4 (iblk m c 0 t) (iblk m c 2 t) (iblk m c 1 t) (iblk m c 4 t)) (ix4 b h i 0)
      = Cert.Joined.lse (m ((c.tc : Thread nD τ).loc main_arg0)) (m ((c.tc : Thread nD τ).loc main_arg1)) (m ((c.tc : Thread nD τ).loc main_arg2)) (m ((c.tc : Thread nD τ).loc main_arg4)) b h i := by
  rw [pay6_at, pay2_at, pay4_at, score_args]
  rfl

theorem att_point (t : Fin cfg0.N) (b : Fin 2) (h : Fin 32) (i : Fin 1024) (d : Fin 128) :
    Ideal.div (∑ p : Fin 1024, k0_pay5 (iblk m c 0 t) (iblk m c 2 t) (iblk m c 1 t) (iblk m c 4 t) (iblk m c 5 t) (ix4 b h i p) * iblk m c 3 t (ix4 b h p d)) (k0_pay4 (iblk m c 0 t) (iblk m c 2 t) (iblk m c 1 t) (iblk m c 4 t) (ix4 b h i 0))
      = Cert.Joined.att (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b h i d := by
  rw [pay4_at, score_args]
  unfold Cert.Joined.att
  refine congrArg (fun x => Ideal.div x _) (Finset.sum_congr rfl fun p _ => ?_)
  rw [pay5_at, score_args, blk_vs, blk_v]

theorem largest_point (t : Fin cfg0.N) (h : Fin 32) :
    k0_pay7 (k0_pay2 (iblk m c 0 t) (iblk m c 2 t) (iblk m c 1 t) (iblk m c 4 t)) (k0_pay4 (iblk m c 0 t) (iblk m c 2 t) (iblk m c 1 t) (iblk m c 4 t))
        (k0_pay5 (iblk m c 0 t) (iblk m c 2 t) (iblk m c 1 t) (iblk m c 4 t) (iblk m c 5 t)) (iblk m c 3 t) (iblk m c 7 t) (iblk m c 6 t) (ix4 0 h 0 0)
      = Cert.Joined.largest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) h := by
  refine (pay7_at _ _ _ _ _ _ h).trans ?_
  unfold Cert.Joined.largest
  refine congrArg peak (funext fun b => congrArg peak (funext fun i => congrArg peak (funext fun d => congrArg _ ?_)))
  unfold Cert.Joined.out
  rw [lse_point, blk_lse, blk_o, att_point]

theorem arr_lse : (dats m 0 c).arrAt 8 cfg0.N = lseOf m c := by
  refine (dats m 0 c).arrAt_eq_of_covers 8 _ (by decide +kernel) fun t hf y => ?_
  blk_simp
  rw [after0_8]
  unfold out0_8 k0_pay9 k0_pay8
  frame_out
  have e : ((View.whole main_v26_0).slice (win0_8.rect t)).emb y = ix4 (y 0) (y 1) (y 2) 0 := by blk_ext [idx t]
  have e' : y = ix4 (n0 := 2) (n1 := 32) (n2 := 1024) (n3 := 1) (y 0) (y 1) (y 2) 0 := by blk_ext
  rw [e]
  exact (congrArg (k0_pay6 (k0_pay2 (iblk m c 0 t) (iblk m c 2 t) (iblk m c 1 t) (iblk m c 4 t)) (k0_pay4 (iblk m c 0 t) (iblk m c 2 t) (iblk m c 1 t) (iblk m c 4 t))) e').trans
    (lse_point m c t (y 0) (y 1) (y 2))

theorem arr_largest : (dats m 0 c).arrAt 9 cfg0.N = largestOf m c := by
  refine (dats m 0 c).arrAt_eq_of_covers 9 _ (by decide +kernel) fun t hf y => ?_
  blk_simp
  rw [after0_9]
  unfold out0_9 k0_pay9 k0_pay8
  frame_out
  have e : ((View.whole main_v26_1).slice (win0_9.rect t)).emb y = ix4 0 (y 1) 0 0 := by blk_ext [idx t]
  have e' : y = ix4 (n0 := 1) (n1 := 32) (n2 := 1) (n3 := 1) 0 (y 1) 0 0 := by blk_ext
  rw [e]
  exact (congrArg (k0_pay7 (k0_pay2 (iblk m c 0 t) (iblk m c 2 t) (iblk m c 1 t) (iblk m c 4 t)) (k0_pay4 (iblk m c 0 t) (iblk m c 2 t) (iblk m c 1 t) (iblk m c 4 t))
    (k0_pay5 (iblk m c 0 t) (iblk m c 2 t) (iblk m c 1 t) (iblk m c 4 t) (iblk m c 5 t)) (iblk m c 3 t) (iblk m c 7 t) (iblk m c 6 t)) e').trans (largest_point m c t (y 1))

theorem tail_lse_at (b : Fin 2) (i : Fin 1024) (h : Fin 32) :
    Pipeline.afterTail₀ cfgs (dats m) 0 (V0 m) [hostOps1] c main_v35 (ix3 b i h) = Cert.Joined.lse (m ((c.tc : Thread nD τ).loc main_arg0)) (m ((c.tc : Thread nD τ).loc main_arg1)) (m ((c.tc : Thread nD τ).loc main_arg2)) (m ((c.tc : Thread nD τ).loc main_arg4)) b h i - Cert.Joined.logSeen i := by
  unfold Pipeline.afterTail₀
  after_reads_at
  erw [Pipeline.withArrays_arr spec0 launch0.win.arr_inj c (V0 m c) _ 8]
  have e := arr_lse m c
  erw [e]
  unfold lseOf Cert.Joined.logSeen
  rfl

theorem tail_largest_at (h : Fin 32) :
    Pipeline.afterTail₀ cfgs (dats m) 0 (V0 m) [hostOps1] c main_v36 (ix1 h) = Cert.Joined.largest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) h := by
  unfold Pipeline.afterTail₀
  after_reads_at
  erw [Pipeline.withArrays_arr spec0 launch0.win.arr_inj c (V0 m c) _ 9]
  have e := arr_largest m c
  erw [e]
  unfold largestOf
  rfl

/-- The first result: the log-sum-exps less the logarithms of the numbers of keys. -/
def result0 : S2x1024x32.Idx → EReal := fun j => Cert.Joined.lse (m ((c.tc : Thread nD τ).loc main_arg0)) (m ((c.tc : Thread nD τ).loc main_arg1)) (m ((c.tc : Thread nD τ).loc main_arg2)) (m ((c.tc : Thread nD τ).loc main_arg4)) (j 0) (j 2) (j 1) - Cert.Joined.logSeen (j 1)

/-- The second result: every head's largest magnitude. -/
def result1 : S32.Idx → EReal := fun j => Cert.Joined.largest (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (j 0)

theorem tail_lse : Pipeline.afterTail₀ cfgs (dats m) 0 (V0 m) [hostOps1] c main_v35 = result0 m c := by
  funext j
  rw [eq_ix3 (n0 := 2) (n1 := 1024) (n2 := 32) j]
  exact tail_lse_at m c _ _ _

theorem tail_largest : Pipeline.afterTail₀ cfgs (dats m) 0 (V0 m) [hostOps1] c main_v36 = result1 m c := by
  funext j
  have e : j = ix1 (n0 := 32) (j 0) := by blk_ext
  rw [e]
  exact tail_largest_at m c _

/-- The reference's run: both results, and the arguments unchanged. -/
theorem run_value : θ_run defs (onTc (τ := τ) (main (F := Ideal))) ⟨m, fun _ => 0, ρ⟩ (fun r => ∀ c : Dev nD,
      r.2.mem ((c.tc : Thread nD τ).loc main_v35) = result0 m c
      ∧ r.2.mem ((c.tc : Thread nD τ).loc main_v36) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v35 (Pipeline.mem_restRefs_of main_v35 (by decide) (by decide))).trans (tail_lse m c),
      ((h c).2 main_v36 (Pipeline.mem_restRefs_of main_v36 (by decide) (by decide))).trans (tail_largest m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.MergeIdeal.Soft

end
-- ==== Proof.FinishAlgebraic.lean ====
module

public import proofs.«01_k».proof.Defs
public import proofs.«01_k».proof.Proof.FIValue
public import proofs.«01_k».proof.Proof.MIValue

@[expose] public section

noncomputable section

/-! The closing call and its reference end with equal results: both are the same functions of the arguments. -/

namespace Cert.Proof

open Idealize.ShloMosaic Idealize.SL.Sem

theorem algebraic_finish : Cert.algebraic_FinishIdeal_MergeIdeal := by
  intro m ρ m' ρ' _ hagree
  refine ⟨_, _, Cert.FinishIdeal.Close.run_value m ρ, ?_⟩
  refine (θ_run Cert.MergeIdeal.defs _ _).mono (fun _ h c => ⟨(h c).1.trans ?_, (h c).2.1.trans ?_, (h c).2.2⟩)
    (Cert.MergeIdeal.Soft.run_value m' ρ')
  · obtain ⟨e0, e1, e2, e3, e4, e5, e6, e7⟩ := hagree c
    unfold Cert.MergeIdeal.Soft.result0 Cert.FinishIdeal.Close.result0
    rw [e0, e1, e2, e4]
  · obtain ⟨e0, e1, e2, e3, e4, e5, e6, e7⟩ := hagree c
    unfold Cert.MergeIdeal.Soft.result1 Cert.FinishIdeal.Close.result1
    rw [e0, e1, e2, e3, e4, e5, e6, e7]

end Cert.Proof

end
-- ==== Proof.lean ====
module

public import proofs.«01_k».proof.Defs
public import proofs.«01_k».proof.Proof.KFrame
public import proofs.«01_k».proof.Proof.KIFrame
public import proofs.«01_k».proof.Proof.Algebraic
public import proofs.«01_k».proof.Proof.FFrame
public import proofs.«01_k».proof.Proof.FIFrame
public import proofs.«01_k».proof.Proof.FinishAlgebraic
public import proofs.«01_k».proof.Proof.Gen.ReferenceIdeal.Frame
public import proofs.«01_k».proof.Proof.Gen.ReferenceIdeal.Value
public import proofs.«01_k».proof.Proof.Gen.MergeIdeal.Frame
public import proofs.«01_k».proof.Proof.Gen.Kernel
public import proofs.«01_k».proof.Proof.Gen.KernelIdeal
public import proofs.«01_k».proof.Proof.Gen.ReferenceIdeal
public import proofs.«01_k».proof.Proof.Gen.Finish
public import proofs.«01_k».proof.Proof.Gen.FinishIdeal
public import proofs.«01_k».proof.Proof.Gen.MergeIdeal
public import Idealize.ShloMosaic.Adequacy
public import Idealize.ShloMosaic.Init

@[expose] public section

noncomputable section

namespace Cert.Proof

open Idealize.ShloMosaic Idealize.SL.Sem

/-- The two named constants are the reals they were computed from. -/
theorem preserves : Cert.preserves_Kernel_KernelIdeal :=
  ⟨IdealRules.named_const.statement Cert.KernelIdeal.κ "score_scale" .f32 0x3E0293EE#32 (((Real.sqrt 128)⁻¹ * (Real.log 2)⁻¹ : ℝ) : EReal) rfl,
    IdealRules.named_const.statement Cert.KernelIdeal.κ "ln2" .f32 0x3F317218#32 ((Real.log 2 : ℝ) : EReal) rfl⟩

/-- The closing call's two named constants are the reals they were computed from. -/
theorem preserves_finish : Cert.preserves_Finish_FinishIdeal :=
  ⟨IdealRules.named_const.statement Cert.FinishIdeal.κ "score_scale" .f32 0x3E0293EE#32 (((Real.sqrt 128)⁻¹ * (Real.log 2)⁻¹ : ℝ) : EReal) rfl,
    IdealRules.named_const.statement Cert.FinishIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts, Cert.Finish.Gen.facts, Cert.FinishIdeal.Gen.facts, Cert.MergeIdeal.Gen.facts,
    fun m ρ _ => Cert.Kernel.Flash.frame m ρ, fun m ρ _ => Cert.KernelIdeal.Flash.frame m ρ,
    fun m ρ _ => Cert.ReferenceIdeal.Gen.frame m ρ, fun m ρ _ => Cert.Finish.Close.frame m ρ, fun m ρ _ => Cert.FinishIdeal.Close.frame m ρ,
    fun m ρ _ => Cert.MergeIdeal.Gen.frame m ρ, preserves, algebraic, preserves_finish, algebraic_finish⟩

end Cert.Proof

end
